-- ==== Defs.lean ====
def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneIdeal_finite_gate1 [hPre_finite_gate1 : Cert.Pre_finite_gate1.Facts] (m : (ℓ : Loc Cert.FfnOneIdeal.nD Cert.FfnOneIdeal.τ Cert.FfnOneIdeal.sig) → Buf (Elt Ideal) ℓ) : Prop :=
  ∀ c : Dev Cert.FfnOneIdeal.nD,
    (Cert.Pre_finite_gate1.fn (F := Ideal) (m ((c.tc : Thread Cert.FfnOneIdeal.nD Cert.FfnOneIdeal.τ).loc Cert.FfnOneIdeal.main_arg0)) (m ((c.tc : Thread Cert.FfnOneIdeal.nD Cert.FfnOneIdeal.τ).loc Cert.FfnOneIdeal.main_arg1)) (m ((c.tc : Thread Cert.FfnOneIdeal.nD Cert.FfnOneIdeal.τ).loc Cert.FfnOneIdeal.main_arg2)) (m ((c.tc : Thread Cert.FfnOneIdeal.nD Cert.FfnOneIdeal.τ).loc Cert.FfnOneIdeal.main_arg3)) (m ((c.tc : Thread Cert.FfnOneIdeal.nD Cert.FfnOneIdeal.τ).loc Cert.FfnOneIdeal.main_arg4))) = (fun _ => 1#1)

def Pre_FfnOneRefIdeal (m : (ℓ : Loc Cert.FfnOneRefIdeal.nD Cert.FfnOneRefIdeal.τ Cert.FfnOneRefIdeal.sig) → Buf (Elt Ideal) ℓ) : Prop :=
  True

def Pre_FfnOneRefIdeal_finite_gate1 [hPre_finite_gate1 : Cert.Pre_finite_gate1.Facts] (m : (ℓ : Loc Cert.FfnOneRefIdeal.nD Cert.FfnOneRefIdeal.τ Cert.FfnOneRefIdeal.sig) → Buf (Elt Ideal) ℓ) : Prop :=
  ∀ c : Dev Cert.FfnOneRefIdeal.nD,
    (Cert.Pre_finite_gate1.fn (F := Ideal) (m ((c.tc : Thread Cert.FfnOneRefIdeal.nD Cert.FfnOneRefIdeal.τ).loc Cert.FfnOneRefIdeal.main_arg0)) (m ((c.tc : Thread Cert.FfnOneRefIdeal.nD Cert.FfnOneRefIdeal.τ).loc Cert.FfnOneRefIdeal.main_arg1)) (m ((c.tc : Thread Cert.FfnOneRefIdeal.nD Cert.FfnOneRefIdeal.τ).loc Cert.FfnOneRefIdeal.main_arg2)) (m ((c.tc : Thread Cert.FfnOneRefIdeal.nD Cert.FfnOneRefIdeal.τ).loc Cert.FfnOneRefIdeal.main_arg3)) (m ((c.tc : Thread Cert.FfnOneRefIdeal.nD Cert.FfnOneRefIdeal.τ).loc Cert.FfnOneRefIdeal.main_arg4))) = (fun _ => 1#1)

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoIdeal_finite_gate2 [hPre_finite_gate2 : Cert.Pre_finite_gate2.Facts] (m : (ℓ : Loc Cert.FfnTwoIdeal.nD Cert.FfnTwoIdeal.τ Cert.FfnTwoIdeal.sig) → Buf (Elt Ideal) ℓ) : Prop :=
  ∀ c : Dev Cert.FfnTwoIdeal.nD,
    (Cert.Pre_finite_gate2.fn (F := Ideal) (m ((c.tc : Thread Cert.FfnTwoIdeal.nD Cert.FfnTwoIdeal.τ).loc Cert.FfnTwoIdeal.main_arg0)) (m ((c.tc : Thread Cert.FfnTwoIdeal.nD Cert.FfnTwoIdeal.τ).loc Cert.FfnTwoIdeal.main_arg1)) (m ((c.tc : Thread Cert.FfnTwoIdeal.nD Cert.FfnTwoIdeal.τ).loc Cert.FfnTwoIdeal.main_arg2)) (m ((c.tc : Thread Cert.FfnTwoIdeal.nD Cert.FfnTwoIdeal.τ).loc Cert.FfnTwoIdeal.main_arg3)) (m ((c.tc : Thread Cert.FfnTwoIdeal.nD Cert.FfnTwoIdeal.τ).loc Cert.FfnTwoIdeal.main_arg4)) (m ((c.tc : Thread Cert.FfnTwoIdeal.nD Cert.FfnTwoIdeal.τ).loc Cert.FfnTwoIdeal.main_arg5)) (m ((c.tc : Thread Cert.FfnTwoIdeal.nD Cert.FfnTwoIdeal.τ).loc Cert.FfnTwoIdeal.main_arg6)) (m ((c.tc : Thread Cert.FfnTwoIdeal.nD Cert.FfnTwoIdeal.τ).loc Cert.FfnTwoIdeal.main_arg7)) (m ((c.tc : Thread Cert.FfnTwoIdeal.nD Cert.FfnTwoIdeal.τ).loc Cert.FfnTwoIdeal.main_arg8)) (m ((c.tc : Thread Cert.FfnTwoIdeal.nD Cert.FfnTwoIdeal.τ).loc Cert.FfnTwoIdeal.main_arg9))) = (fun _ => 1#1)

def Pre_FfnTwoRefIdeal (m : (ℓ : Loc Cert.FfnTwoRefIdeal.nD Cert.FfnTwoRefIdeal.τ Cert.FfnTwoRefIdeal.sig) → Buf (Elt Ideal) ℓ) : Prop :=
  True

def Pre_FfnTwoRefIdeal_finite_gate2 [hPre_finite_gate2 : Cert.Pre_finite_gate2.Facts] (m : (ℓ : Loc Cert.FfnTwoRefIdeal.nD Cert.FfnTwoRefIdeal.τ Cert.FfnTwoRefIdeal.sig) → Buf (Elt Ideal) ℓ) : Prop :=
  ∀ c : Dev Cert.FfnTwoRefIdeal.nD,
    (Cert.Pre_finite_gate2.fn (F := Ideal) (m ((c.tc : Thread Cert.FfnTwoRefIdeal.nD Cert.FfnTwoRefIdeal.τ).loc Cert.FfnTwoRefIdeal.main_arg0)) (m ((c.tc : Thread Cert.FfnTwoRefIdeal.nD Cert.FfnTwoRefIdeal.τ).loc Cert.FfnTwoRefIdeal.main_arg1)) (m ((c.tc : Thread Cert.FfnTwoRefIdeal.nD Cert.FfnTwoRefIdeal.τ).loc Cert.FfnTwoRefIdeal.main_arg2)) (m ((c.tc : Thread Cert.FfnTwoRefIdeal.nD Cert.FfnTwoRefIdeal.τ).loc Cert.FfnTwoRefIdeal.main_arg3)) (m ((c.tc : Thread Cert.FfnTwoRefIdeal.nD Cert.FfnTwoRefIdeal.τ).loc Cert.FfnTwoRefIdeal.main_arg4)) (m ((c.tc : Thread Cert.FfnTwoRefIdeal.nD Cert.FfnTwoRefIdeal.τ).loc Cert.FfnTwoRefIdeal.main_arg5)) (m ((c.tc : Thread Cert.FfnTwoRefIdeal.nD Cert.FfnTwoRefIdeal.τ).loc Cert.FfnTwoRefIdeal.main_arg6)) (m ((c.tc : Thread Cert.FfnTwoRefIdeal.nD Cert.FfnTwoRefIdeal.τ).loc Cert.FfnTwoRefIdeal.main_arg7)) (m ((c.tc : Thread Cert.FfnTwoRefIdeal.nD Cert.FfnTwoRefIdeal.τ).loc Cert.FfnTwoRefIdeal.main_arg8)) (m ((c.tc : Thread Cert.FfnTwoRefIdeal.nD Cert.FfnTwoRefIdeal.τ).loc Cert.FfnTwoRefIdeal.main_arg9))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_pool [hPre_finite_pool : Cert.Pre_finite_pool.Facts] (m : (ℓ : Loc Cert.MergeIdeal.nD Cert.MergeIdeal.τ Cert.MergeIdeal.sig) → Buf (Elt Ideal) ℓ) : Prop :=
  ∀ c : Dev Cert.MergeIdeal.nD,
    (Cert.Pre_finite_pool.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_pool [hPre_finite_pool : Cert.Pre_finite_pool.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_pool.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdIdeal_finite_ssd [hPre_finite_ssd : Cert.Pre_finite_ssd.Facts] (m : (ℓ : Loc Cert.SsdIdeal.nD Cert.SsdIdeal.τ Cert.SsdIdeal.sig) → Buf (Elt Ideal) ℓ) : Prop :=
  ∀ c : Dev Cert.SsdIdeal.nD,
    (Cert.Pre_finite_ssd.fn (F := Ideal) (m ((c.tc : Thread Cert.SsdIdeal.nD Cert.SsdIdeal.τ).loc Cert.SsdIdeal.main_arg0)) (m ((c.tc : Thread Cert.SsdIdeal.nD Cert.SsdIdeal.τ).loc Cert.SsdIdeal.main_arg1)) (m ((c.tc : Thread Cert.SsdIdeal.nD Cert.SsdIdeal.τ).loc Cert.SsdIdeal.main_arg2)) (m ((c.tc : Thread Cert.SsdIdeal.nD Cert.SsdIdeal.τ).loc Cert.SsdIdeal.main_arg3)) (m ((c.tc : Thread Cert.SsdIdeal.nD Cert.SsdIdeal.τ).loc Cert.SsdIdeal.main_arg4)) (m ((c.tc : Thread Cert.SsdIdeal.nD Cert.SsdIdeal.τ).loc Cert.SsdIdeal.main_arg5)) (m ((c.tc : Thread Cert.SsdIdeal.nD Cert.SsdIdeal.τ).loc Cert.SsdIdeal.main_arg6)) (m ((c.tc : Thread Cert.SsdIdeal.nD Cert.SsdIdeal.τ).loc Cert.SsdIdeal.main_arg7)) (m ((c.tc : Thread Cert.SsdIdeal.nD Cert.SsdIdeal.τ).loc Cert.SsdIdeal.main_arg8))) = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_finite_ssd [hPre_finite_ssd : Cert.Pre_finite_ssd.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_finite_ssd.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5)) (m ((c.tc : Thread Cert.SsdRefIdeal.nD Cert.SsdRefIdeal.τ).loc Cert.SsdRefIdeal.main_arg6)) (m ((c.tc : Thread Cert.SsdRefIdeal.nD Cert.SsdRefIdeal.τ).loc Cert.SsdRefIdeal.main_arg7)) (m ((c.tc : Thread Cert.SsdRefIdeal.nD Cert.SsdRefIdeal.τ).loc Cert.SsdRefIdeal.main_arg8))) = (fun _ => 1#1)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ r.2.sem = fun _ => 0)

def quiescent_FfnOneIdeal_pre_finite_gate1 [hFfnOneIdeal : Cert.FfnOneIdeal.Facts] [hPre_finite_gate1 : Cert.Pre_finite_gate1.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal_finite_gate1 m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4))
      ∧ r.2.sem = fun _ => 0)

def quiescent_FfnOneRefIdeal_pre_finite_gate1 [hFfnOneRefIdeal : Cert.FfnOneRefIdeal.Facts] [hPre_finite_gate1 : Cert.Pre_finite_gate1.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal_finite_gate1 m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5)
      ∧ r.2.mem ((c.tc : Thread Cert.FfnTwo.nD Cert.FfnTwo.τ).loc Cert.FfnTwo.main_arg6) = m ((c.tc : Thread Cert.FfnTwo.nD Cert.FfnTwo.τ).loc Cert.FfnTwo.main_arg6)
      ∧ r.2.mem ((c.tc : Thread Cert.FfnTwo.nD Cert.FfnTwo.τ).loc Cert.FfnTwo.main_arg7) = m ((c.tc : Thread Cert.FfnTwo.nD Cert.FfnTwo.τ).loc Cert.FfnTwo.main_arg7)
      ∧ r.2.mem ((c.tc : Thread Cert.FfnTwo.nD Cert.FfnTwo.τ).loc Cert.FfnTwo.main_arg8) = m ((c.tc : Thread Cert.FfnTwo.nD Cert.FfnTwo.τ).loc Cert.FfnTwo.main_arg8)
      ∧ r.2.mem ((c.tc : Thread Cert.FfnTwo.nD Cert.FfnTwo.τ).loc Cert.FfnTwo.main_arg9) = m ((c.tc : Thread Cert.FfnTwo.nD Cert.FfnTwo.τ).loc Cert.FfnTwo.main_arg9))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
      ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
      ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
      ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8)
      ∧ r.2.mem ((c.tc : Thread Cert.FfnTwoIdeal.nD Cert.FfnTwoIdeal.τ).loc Cert.FfnTwoIdeal.main_arg9) = m ((c.tc : Thread Cert.FfnTwoIdeal.nD Cert.FfnTwoIdeal.τ).loc Cert.FfnTwoIdeal.main_arg9))
      ∧ r.2.sem = fun _ => 0)

def quiescent_FfnTwoIdeal_pre_finite_gate2 [hFfnTwoIdeal : Cert.FfnTwoIdeal.Facts] [hPre_finite_gate2 : Cert.Pre_finite_gate2.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal_finite_gate2 m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
      ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
      ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
      ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8)
      ∧ r.2.mem ((c.tc : Thread Cert.FfnTwoIdeal.nD Cert.FfnTwoIdeal.τ).loc Cert.FfnTwoIdeal.main_arg9) = m ((c.tc : Thread Cert.FfnTwoIdeal.nD Cert.FfnTwoIdeal.τ).loc Cert.FfnTwoIdeal.main_arg9))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5)
      ∧ r.2.mem ((c.tc : Thread Cert.FfnTwoRefIdeal.nD Cert.FfnTwoRefIdeal.τ).loc Cert.FfnTwoRefIdeal.main_arg6) = m ((c.tc : Thread Cert.FfnTwoRefIdeal.nD Cert.FfnTwoRefIdeal.τ).loc Cert.FfnTwoRefIdeal.main_arg6)
      ∧ r.2.mem ((c.tc : Thread Cert.FfnTwoRefIdeal.nD Cert.FfnTwoRefIdeal.τ).loc Cert.FfnTwoRefIdeal.main_arg7) = m ((c.tc : Thread Cert.FfnTwoRefIdeal.nD Cert.FfnTwoRefIdeal.τ).loc Cert.FfnTwoRefIdeal.main_arg7)
      ∧ r.2.mem ((c.tc : Thread Cert.FfnTwoRefIdeal.nD Cert.FfnTwoRefIdeal.τ).loc Cert.FfnTwoRefIdeal.main_arg8) = m ((c.tc : Thread Cert.FfnTwoRefIdeal.nD Cert.FfnTwoRefIdeal.τ).loc Cert.FfnTwoRefIdeal.main_arg8)
      ∧ r.2.mem ((c.tc : Thread Cert.FfnTwoRefIdeal.nD Cert.FfnTwoRefIdeal.τ).loc Cert.FfnTwoRefIdeal.main_arg9) = m ((c.tc : Thread Cert.FfnTwoRefIdeal.nD Cert.FfnTwoRefIdeal.τ).loc Cert.FfnTwoRefIdeal.main_arg9))
      ∧ r.2.sem = fun _ => 0)

def quiescent_FfnTwoRefIdeal_pre_finite_gate2 [hFfnTwoRefIdeal : Cert.FfnTwoRefIdeal.Facts] [hPre_finite_gate2 : Cert.Pre_finite_gate2.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal_finite_gate2 m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5)
      ∧ r.2.mem ((c.tc : Thread Cert.FfnTwoRefIdeal.nD Cert.FfnTwoRefIdeal.τ).loc Cert.FfnTwoRefIdeal.main_arg6) = m ((c.tc : Thread Cert.FfnTwoRefIdeal.nD Cert.FfnTwoRefIdeal.τ).loc Cert.FfnTwoRefIdeal.main_arg6)
      ∧ r.2.mem ((c.tc : Thread Cert.FfnTwoRefIdeal.nD Cert.FfnTwoRefIdeal.τ).loc Cert.FfnTwoRefIdeal.main_arg7) = m ((c.tc : Thread Cert.FfnTwoRefIdeal.nD Cert.FfnTwoRefIdeal.τ).loc Cert.FfnTwoRefIdeal.main_arg7)
      ∧ r.2.mem ((c.tc : Thread Cert.FfnTwoRefIdeal.nD Cert.FfnTwoRefIdeal.τ).loc Cert.FfnTwoRefIdeal.main_arg8) = m ((c.tc : Thread Cert.FfnTwoRefIdeal.nD Cert.FfnTwoRefIdeal.τ).loc Cert.FfnTwoRefIdeal.main_arg8)
      ∧ r.2.mem ((c.tc : Thread Cert.FfnTwoRefIdeal.nD Cert.FfnTwoRefIdeal.τ).loc Cert.FfnTwoRefIdeal.main_arg9) = m ((c.tc : Thread Cert.FfnTwoRefIdeal.nD Cert.FfnTwoRefIdeal.τ).loc Cert.FfnTwoRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_pool [hMergeIdeal : Cert.MergeIdeal.Facts] [hPre_finite_pool : Cert.Pre_finite_pool.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_pool m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_pool [hMergeRefIdeal : Cert.MergeRefIdeal.Facts] [hPre_finite_pool : Cert.Pre_finite_pool.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_pool m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdIdeal_pre_finite_ssd [hSsdIdeal : Cert.SsdIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal_finite_ssd m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def quiescent_SsdRefIdeal_pre_finite_ssd [hSsdRefIdeal : Cert.SsdRefIdeal.Facts] [hPre_finite_ssd : Cert.Pre_finite_ssd.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_finite_ssd m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def preserves_FfnOne_FfnOneIdeal : Prop :=
  True

def algebraic_FfnOneIdeal_FfnOneRefIdeal_pre_finite_gate1 [hFfnOneIdeal : Cert.FfnOneIdeal.Facts] [hFfnOneRefIdeal : Cert.FfnOneRefIdeal.Facts] [hPre_finite_gate1 : Cert.Pre_finite_gate1.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal_finite_gate1 m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)) →
    ∃ (v0 : (c : Dev Cert.FfnOneIdeal.nD) → Buf (Elt Ideal) ((c.tc : Thread Cert.FfnOneIdeal.nD Cert.FfnOneIdeal.τ).loc Cert.FfnOneIdeal.main_v5)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v5) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v21) = v0 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4))

def preserves_FfnTwo_FfnTwoIdeal : Prop :=
  True

def algebraic_FfnTwoIdeal_FfnTwoRefIdeal_pre_finite_gate2 [hFfnTwoIdeal : Cert.FfnTwoIdeal.Facts] [hFfnTwoRefIdeal : Cert.FfnTwoRefIdeal.Facts] [hPre_finite_gate2 : Cert.Pre_finite_gate2.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal_finite_gate2 m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)
      ∧ m' ((c.tc : Thread Cert.FfnTwoRefIdeal.nD Cert.FfnTwoRefIdeal.τ).loc Cert.FfnTwoRefIdeal.main_arg6) = m ((c.tc : Thread Cert.FfnTwoIdeal.nD Cert.FfnTwoIdeal.τ).loc Cert.FfnTwoIdeal.main_arg6)
      ∧ m' ((c.tc : Thread Cert.FfnTwoRefIdeal.nD Cert.FfnTwoRefIdeal.τ).loc Cert.FfnTwoRefIdeal.main_arg7) = m ((c.tc : Thread Cert.FfnTwoIdeal.nD Cert.FfnTwoIdeal.τ).loc Cert.FfnTwoIdeal.main_arg7)
      ∧ m' ((c.tc : Thread Cert.FfnTwoRefIdeal.nD Cert.FfnTwoRefIdeal.τ).loc Cert.FfnTwoRefIdeal.main_arg8) = m ((c.tc : Thread Cert.FfnTwoIdeal.nD Cert.FfnTwoIdeal.τ).loc Cert.FfnTwoIdeal.main_arg8)
      ∧ m' ((c.tc : Thread Cert.FfnTwoRefIdeal.nD Cert.FfnTwoRefIdeal.τ).loc Cert.FfnTwoRefIdeal.main_arg9) = m ((c.tc : Thread Cert.FfnTwoIdeal.nD Cert.FfnTwoIdeal.τ).loc Cert.FfnTwoIdeal.main_arg9)) →
    ∃ (v0 : (c : Dev Cert.FfnTwoIdeal.nD) → Buf (Elt Ideal) ((c.tc : Thread Cert.FfnTwoIdeal.nD Cert.FfnTwoIdeal.τ).loc Cert.FfnTwoIdeal.main_v10)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v10) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
          ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
          ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
          ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8)
          ∧ r.2.mem ((c.tc : Thread Cert.FfnTwoIdeal.nD Cert.FfnTwoIdeal.τ).loc Cert.FfnTwoIdeal.main_arg9) = m ((c.tc : Thread Cert.FfnTwoIdeal.nD Cert.FfnTwoIdeal.τ).loc Cert.FfnTwoIdeal.main_arg9))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v57) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5)
          ∧ r.2.mem ((c.tc : Thread Cert.FfnTwoRefIdeal.nD Cert.FfnTwoRefIdeal.τ).loc Cert.FfnTwoRefIdeal.main_arg6) = m' ((c.tc : Thread Cert.FfnTwoRefIdeal.nD Cert.FfnTwoRefIdeal.τ).loc Cert.FfnTwoRefIdeal.main_arg6)
          ∧ r.2.mem ((c.tc : Thread Cert.FfnTwoRefIdeal.nD Cert.FfnTwoRefIdeal.τ).loc Cert.FfnTwoRefIdeal.main_arg7) = m' ((c.tc : Thread Cert.FfnTwoRefIdeal.nD Cert.FfnTwoRefIdeal.τ).loc Cert.FfnTwoRefIdeal.main_arg7)
          ∧ r.2.mem ((c.tc : Thread Cert.FfnTwoRefIdeal.nD Cert.FfnTwoRefIdeal.τ).loc Cert.FfnTwoRefIdeal.main_arg8) = m' ((c.tc : Thread Cert.FfnTwoRefIdeal.nD Cert.FfnTwoRefIdeal.τ).loc Cert.FfnTwoRefIdeal.main_arg8)
          ∧ r.2.mem ((c.tc : Thread Cert.FfnTwoRefIdeal.nD Cert.FfnTwoRefIdeal.τ).loc Cert.FfnTwoRefIdeal.main_arg9) = m' ((c.tc : Thread Cert.FfnTwoRefIdeal.nD Cert.FfnTwoRefIdeal.τ).loc Cert.FfnTwoRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v20_0)) (v1 : (c : Dev Cert.InprojIdeal.nD) → Buf (Elt Ideal) ((c.tc : Thread Cert.InprojIdeal.nD Cert.InprojIdeal.τ).loc Cert.InprojIdeal.main_v20_1)) (v2 : (c : Dev Cert.InprojIdeal.nD) → Buf (Elt Ideal) ((c.tc : Thread Cert.InprojIdeal.nD Cert.InprojIdeal.τ).loc Cert.InprojIdeal.main_v20_2)) (v3 : (c : Dev Cert.InprojIdeal.nD) → Buf (Elt Ideal) ((c.tc : Thread Cert.InprojIdeal.nD Cert.InprojIdeal.τ).loc Cert.InprojIdeal.main_v20_3)) (v4 : (c : Dev Cert.InprojIdeal.nD) → Buf (Elt Ideal) ((c.tc : Thread Cert.InprojIdeal.nD Cert.InprojIdeal.τ).loc Cert.InprojIdeal.main_v20_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v20_0) = v0 c
          ∧ r.2.mem ((c.tc : Thread Cert.InprojIdeal.nD Cert.InprojIdeal.τ).loc Cert.InprojIdeal.main_v20_1) = v1 c
          ∧ r.2.mem ((c.tc : Thread Cert.InprojIdeal.nD Cert.InprojIdeal.τ).loc Cert.InprojIdeal.main_v20_2) = v2 c
          ∧ r.2.mem ((c.tc : Thread Cert.InprojIdeal.nD Cert.InprojIdeal.τ).loc Cert.InprojIdeal.main_v20_3) = v3 c
          ∧ r.2.mem ((c.tc : Thread Cert.InprojIdeal.nD Cert.InprojIdeal.τ).loc Cert.InprojIdeal.main_v20_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v46) = v0 c
          ∧ r.2.mem ((c.tc : Thread Cert.InprojRefIdeal.nD Cert.InprojRefIdeal.τ).loc Cert.InprojRefIdeal.main_v47) = v1 c
          ∧ r.2.mem ((c.tc : Thread Cert.InprojRefIdeal.nD Cert.InprojRefIdeal.τ).loc Cert.InprojRefIdeal.main_v48) = v2 c
          ∧ r.2.mem ((c.tc : Thread Cert.InprojRefIdeal.nD Cert.InprojRefIdeal.τ).loc Cert.InprojRefIdeal.main_v49) = v3 c
          ∧ r.2.mem ((c.tc : Thread Cert.InprojRefIdeal.nD Cert.InprojRefIdeal.τ).loc Cert.InprojRefIdeal.main_v63) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal_pre_finite_pool [hMergeIdeal : Cert.MergeIdeal.Facts] [hMergeRefIdeal : Cert.MergeRefIdeal.Facts] [hPre_finite_pool : Cert.Pre_finite_pool.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_pool m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v142) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ssd_SsdIdeal : Prop :=
  True

def algebraic_SsdIdeal_SsdRefIdeal_pre_finite_ssd [hSsdIdeal : Cert.SsdIdeal.Facts] [hSsdRefIdeal : Cert.SsdRefIdeal.Facts] [hPre_finite_ssd : Cert.Pre_finite_ssd.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal_finite_ssd m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v30)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v30) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v122) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def Claim : Prop :=
  ∃ (hFfnOne : Cert.FfnOne.Facts) (hFfnOneIdeal : Cert.FfnOneIdeal.Facts) (hFfnOneRefIdeal : Cert.FfnOneRefIdeal.Facts) (hFfnTwo : Cert.FfnTwo.Facts) (hFfnTwoIdeal : Cert.FfnTwoIdeal.Facts) (hFfnTwoRefIdeal : Cert.FfnTwoRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hSsd : Cert.Ssd.Facts) (hSsdIdeal : Cert.SsdIdeal.Facts) (hSsdRefIdeal : Cert.SsdRefIdeal.Facts) (hPre_finite_gate1 : Cert.Pre_finite_gate1.Facts) (hPre_finite_gate2 : Cert.Pre_finite_gate2.Facts) (hPre_finite_pool : Cert.Pre_finite_pool.Facts) (hPre_finite_ssd : Cert.Pre_finite_ssd.Facts),
    quiescent_FfnOne (hFfnOne := hFfnOne)
    ∧ quiescent_FfnOneIdeal (hFfnOneIdeal := hFfnOneIdeal)
    ∧ quiescent_FfnOneIdeal_pre_finite_gate1 (hFfnOneIdeal := hFfnOneIdeal) (hPre_finite_gate1 := hPre_finite_gate1)
    ∧ quiescent_FfnOneRefIdeal (hFfnOneRefIdeal := hFfnOneRefIdeal)
    ∧ quiescent_FfnOneRefIdeal_pre_finite_gate1 (hFfnOneRefIdeal := hFfnOneRefIdeal) (hPre_finite_gate1 := hPre_finite_gate1)
    ∧ quiescent_FfnTwo (hFfnTwo := hFfnTwo)
    ∧ quiescent_FfnTwoIdeal (hFfnTwoIdeal := hFfnTwoIdeal)
    ∧ quiescent_FfnTwoIdeal_pre_finite_gate2 (hFfnTwoIdeal := hFfnTwoIdeal) (hPre_finite_gate2 := hPre_finite_gate2)
    ∧ quiescent_FfnTwoRefIdeal (hFfnTwoRefIdeal := hFfnTwoRefIdeal)
    ∧ quiescent_FfnTwoRefIdeal_pre_finite_gate2 (hFfnTwoRefIdeal := hFfnTwoRefIdeal) (hPre_finite_gate2 := hPre_finite_gate2)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeIdeal_pre_finite_pool (hMergeIdeal := hMergeIdeal) (hPre_finite_pool := hPre_finite_pool)
    ∧ quiescent_MergeRefIdeal (hMergeRefIdeal := hMergeRefIdeal)
    ∧ quiescent_MergeRefIdeal_pre_finite_pool (hMergeRefIdeal := hMergeRefIdeal) (hPre_finite_pool := hPre_finite_pool)
    ∧ quiescent_Ssd (hSsd := hSsd)
    ∧ quiescent_SsdIdeal (hSsdIdeal := hSsdIdeal)
    ∧ quiescent_SsdIdeal_pre_finite_ssd (hSsdIdeal := hSsdIdeal) (hPre_finite_ssd := hPre_finite_ssd)
    ∧ quiescent_SsdRefIdeal (hSsdRefIdeal := hSsdRefIdeal)
    ∧ quiescent_SsdRefIdeal_pre_finite_ssd (hSsdRefIdeal := hSsdRefIdeal) (hPre_finite_ssd := hPre_finite_ssd)
    ∧ preserves_FfnOne_FfnOneIdeal
    ∧ algebraic_FfnOneIdeal_FfnOneRefIdeal_pre_finite_gate1 (hFfnOneIdeal := hFfnOneIdeal) (hFfnOneRefIdeal := hFfnOneRefIdeal) (hPre_finite_gate1 := hPre_finite_gate1)
    ∧ preserves_FfnTwo_FfnTwoIdeal
    ∧ algebraic_FfnTwoIdeal_FfnTwoRefIdeal_pre_finite_gate2 (hFfnTwoIdeal := hFfnTwoIdeal) (hFfnTwoRefIdeal := hFfnTwoRefIdeal) (hPre_finite_gate2 := hPre_finite_gate2)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal_pre_finite_pool (hMergeIdeal := hMergeIdeal) (hMergeRefIdeal := hMergeRefIdeal) (hPre_finite_pool := hPre_finite_pool)
    ∧ preserves_Ssd_SsdIdeal
    ∧ algebraic_SsdIdeal_SsdRefIdeal_pre_finite_ssd (hSsdIdeal := hSsdIdeal) (hSsdRefIdeal := hSsdRefIdeal) (hPre_finite_ssd := hPre_finite_ssd)
-- ==== Pre_finite_gate1.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x2816 : S_.BroadcastsInDim S1024x2816 (![] : Fin 0 → Fin S1024x2816.rank)
  bcast_S1024x1_S1024x2816_0_1 : S1024x1.BroadcastsInDim S1024x2816 (![0, 1] : Fin 2 → Fin S1024x2816.rank)

variable [Facts]

def fn {F : FTy → Type} [FloatOps F] (main_arg0 : FVec F S8x4096x1024 .f32) (main_arg1 : FVec F S1024 .f32) (main_arg2 : FVec F S1024x2816 .f32) (main_arg3 : FVec F S1024x2816 .f32) (main_arg4 : FVec F S2816x1024 .f32) : IVec S1024x2816 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : IVec S1024x2816 1 := broadcastInDim S1024x2816 ![0, 1] bcast_S1024x1_S1024x2816_0_1 main_v3
  let main_v8 : IVec S1024x2816 1 := andi main_v7 main_v6
  main_v8
-- ==== Pre_finite_gate2.lean ====
abbrev S8x4096x1024 : Shape := ⟨3, ![8, 4096, 1024]⟩
abbrev S8x4096x256 : Shape := ⟨3, ![8, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x2816 : S_.BroadcastsInDim S1024x2816 (![] : Fin 0 → Fin S1024x2816.rank)
  bcast_S1024x1_S1024x2816_0_1 : S1024x1.BroadcastsInDim S1024x2816 (![0, 1] : Fin 2 → Fin S1024x2816.rank)

variable [Facts]

def fn {F : FTy → Type} [FloatOps F] (main_arg0 : FVec F S8x4096x1024 .f32) (main_arg1 : FVec F S8x4096x256 .f32) (main_arg2 : FVec F S1024 .f32) (main_arg3 : FVec F S1024x2816 .f32) (main_arg4 : FVec F S1024x2816 .f32) (main_arg5 : FVec F S2816x1024 .f32) (main_arg6 : FVec F S1024 .f32) (main_arg7 : FVec F S1024x1024 .f32) (main_arg8 : FVec F S256x1024 .f32) (main_arg9 : FVec F S1024 .f32) : IVec S1024x2816 1 :=
  let main_v0 : FVec F S1024 .f32 := Host.absf main_arg2
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : IVec S1024x2816 1 := broadcastInDim S1024x2816 ![0, 1] bcast_S1024x1_S1024x2816_0_1 main_v3
  let main_v8 : IVec S1024x2816 1 := andi main_v7 main_v6
  main_v8
-- ==== Pre_finite_pool.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S_ : Shape := ⟨0, ![]⟩

class Facts : Prop where
  bcast_S_S8x4096x512 : S_.BroadcastsInDim S8x4096x512 (![] : Fin 0 → Fin S8x4096x512.rank)

variable [Facts]

def fn {F : FTy → Type} [FloatOps F] (main_arg0 : FVec F S8x4096x1024 .f32) (main_arg1 : FVec F S8x4096x512 .f32) (main_arg2 : FVec F S8x4096x1024 .f32) (main_arg3 : FVec F S8x4096x512 .f32) (main_arg4 : FVec F S8x4096x3072 .f32) (main_arg5 : FVec F S4x128x128 .f32) (main_arg6 : FVec F S512 .f32) (main_arg7 : FVec F S512x1024 .f32) (main_arg8 : FVec F S512x1024 .f32) (main_arg9 : FVec F S1024x1024 .f32) (main_arg10 : FVec F S1024x1024 .f32) : IVec S8x4096x512 1 :=
  let main_v0 : FVec F S8x4096x512 .f32 := Host.absf main_arg3
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  main_v2
-- ==== Pre_finite_ssd.lean ====
abbrev S8x4096x1024 : Shape := ⟨3, ![8, 4096, 1024]⟩
abbrev S8x4096x1536 : Shape := ⟨3, ![8, 4096, 1536]⟩
abbrev S8x4096x16 : Shape := ⟨3, ![8, 4096, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S1x1x1536 : Shape := ⟨3, ![1, 1, 1536]⟩
abbrev S1x1536 : Shape := ⟨2, ![1, 1536]⟩
abbrev S1x1x16 : Shape := ⟨3, ![1, 1, 16]⟩
abbrev S8x4096x2576 : Shape := ⟨3, ![8, 4096, 2576]⟩

class Facts : Prop where
  bcast_S_S8x4096x1536 : S_.BroadcastsInDim S8x4096x1536 (![] : Fin 0 → Fin S8x4096x1536.rank)
  bcast_S_S1536 : S_.BroadcastsInDim S1536 (![] : Fin 0 → Fin S1536.rank)
  bcast_S1536_S1x1x1536_2 : S1536.BroadcastsInDim S1x1x1536 (![2] : Fin 1 → Fin S1x1x1536.rank)
  bcast_S1x1x1536_S8x4096x1536_0_1_2 : S1x1x1536.BroadcastsInDim S8x4096x1536 (![0, 1, 2] : Fin 3 → Fin S8x4096x1536.rank)
  slices_S4x1536_S1x1536_0_0 : S4x1536.Slices ![0, 0] S1x1536
  shapeCasts_S1x1536_S1536 : S1x1536.ShapeCasts S1536
  slices_S4x1536_S1x1536_1_0 : S4x1536.Slices ![1, 0] S1x1536
  slices_S4x1536_S1x1536_2_0 : S4x1536.Slices ![2, 0] S1x1536
  slices_S4x1536_S1x1536_3_0 : S4x1536.Slices ![3, 0] S1x1536
  bcast_S_S8x4096x1024 : S_.BroadcastsInDim S8x4096x1024 (![] : Fin 0 → Fin S8x4096x1024.rank)
  bcast_S_S8x4096x16 : S_.BroadcastsInDim S8x4096x16 (![] : Fin 0 → Fin S8x4096x16.rank)
  bcast_S_S16 : S_.BroadcastsInDim S16 (![] : Fin 0 → Fin S16.rank)
  bcast_S16_S1x1x16_2 : S16.BroadcastsInDim S1x1x16 (![2] : Fin 1 → Fin S1x1x16.rank)
  bcast_S1x1x16_S8x4096x16_0_1_2 : S1x1x16.BroadcastsInDim S8x4096x16 (![0, 1, 2] : Fin 3 → Fin S8x4096x16.rank)
  concatenates_S8x4096x1024_S8x4096x1536_S8x4096x16_S8x4096x2576_d2 : Shape.Concatenates [S8x4096x1024, S8x4096x1536, S8x4096x16] S8x4096x2576 2

variable [Facts]

def fn_part2 {F : FTy → Type} [FloatOps F] (main_arg2 : FVec F S8x4096x16 .f32) (main_arg5 : FVec F S16 .f32) (main_arg6 : FVec F S16 .f32) (main_v40 : IVec S8x4096x1536 1) (main_v41 : FVec F S8x4096x1024 .f32) : IVec S8x4096x2576 1 :=
  let main_cst_5 : FVec F S_ .f32 := constant S_ .f32 0x7F800000#32
  let main_v42 : FVec F S8x4096x1024 .f32 := broadcastInDim S8x4096x1024 ![] bcast_S_S8x4096x1024 main_cst_5
  let main_v43 : IVec S8x4096x1024 1 := cmpf .olt main_v41 main_v42
  let main_v44 : FVec F S8x4096x16 .f32 := Host.absf main_arg2
  let main_cst_6 : FVec F S_ .f32 := constant S_ .f32 0x7F800000#32
  let main_v45 : FVec F S8x4096x16 .f32 := broadcastInDim S8x4096x16 ![] bcast_S_S8x4096x16 main_cst_6
  let main_v46 : IVec S8x4096x16 1 := cmpf .olt main_v44 main_v45
  let main_v47 : FVec F S16 .f32 := Host.absf main_arg5
  let main_cst_7 : FVec F S_ .f32 := constant S_ .f32 0x7F800000#32
  let main_v48 : FVec F S16 .f32 := broadcastInDim S16 ![] bcast_S_S16 main_cst_7
  let main_v49 : IVec S16 1 := cmpf .olt main_v47 main_v48
  let main_v50 : IVec S1x1x16 1 := broadcastInDim S1x1x16 ![2] bcast_S16_S1x1x16_2 main_v49
  let main_v51 : IVec S8x4096x16 1 := broadcastInDim S8x4096x16 ![0, 1, 2] bcast_S1x1x16_S8x4096x16_0_1_2 main_v50
  let main_v52 : IVec S8x4096x16 1 := andi main_v46 main_v51
  let main_v53 : FVec F S16 .f32 := Host.absf main_arg6
  let main_cst_8 : FVec F S_ .f32 := constant S_ .f32 0x7F800000#32
  let main_v54 : FVec F S16 .f32 := broadcastInDim S16 ![] bcast_S_S16 main_cst_8
  let main_v55 : IVec S16 1 := cmpf .olt main_v53 main_v54
  let main_v56 : IVec S1x1x16 1 := broadcastInDim S1x1x16 ![2] bcast_S16_S1x1x16_2 main_v55
  let main_v57 : IVec S8x4096x16 1 := broadcastInDim S8x4096x16 ![0, 1, 2] bcast_S1x1x16_S8x4096x16_0_1_2 main_v56
  let main_v58 : IVec S8x4096x16 1 := andi main_v52 main_v57
  let main_v59 : IVec S8x4096x2576 1 := concatenate S8x4096x2576 2 [⟨S8x4096x1024, main_v43⟩, ⟨S8x4096x1536, main_v40⟩, ⟨S8x4096x16, main_v58⟩] concatenates_S8x4096x1024_S8x4096x1536_S8x4096x16_S8x4096x2576_d2
  main_v59

def fn_part1 {F : FTy → Type} [FloatOps F] (main_arg0 : FVec F S8x4096x1024 .f32) (main_arg2 : FVec F S8x4096x16 .f32) (main_arg3 : FVec F S4x1536 .f32) (main_arg5 : FVec F S16 .f32) (main_arg6 : FVec F S16 .f32) (main_v16 : IVec S8x4096x1536 1) (main_v19 : FVec F S1536 .f32) (main_cst_2 : FVec F S_ .f32) : IVec S8x4096x2576 1 :=
  let main_v20 : FVec F S1536 .f32 := broadcastInDim S1536 ![] bcast_S_S1536 main_cst_2
  let main_v21 : IVec S1536 1 := cmpf .olt main_v19 main_v20
  let main_v22 : IVec S1x1x1536 1 := broadcastInDim S1x1x1536 ![2] bcast_S1536_S1x1x1536_2 main_v21
  let main_v23 : IVec S8x4096x1536 1 := broadcastInDim S8x4096x1536 ![0, 1, 2] bcast_S1x1x1536_S8x4096x1536_0_1_2 main_v22
  let main_v24 : IVec S8x4096x1536 1 := andi main_v16 main_v23
  let main_v25 : FVec F S1x1536 .f32 := (extractStridedSlice S1x1536 ![2, 0] · slices_S4x1536_S1x1536_2_0) main_arg3
  let main_v26 : FVec F S1536 .f32 := shapeCast S1536 main_v25 shapeCasts_S1x1536_S1536
  let main_v27 : FVec F S1536 .f32 := Host.absf main_v26
  let main_cst_3 : FVec F S_ .f32 := constant S_ .f32 0x7F800000#32
  let main_v28 : FVec F S1536 .f32 := broadcastInDim S1536 ![] bcast_S_S1536 main_cst_3
  let main_v29 : IVec S1536 1 := cmpf .olt main_v27 main_v28
  let main_v30 : IVec S1x1x1536 1 := broadcastInDim S1x1x1536 ![2] bcast_S1536_S1x1x1536_2 main_v29
  let main_v31 : IVec S8x4096x1536 1 := broadcastInDim S8x4096x1536 ![0, 1, 2] bcast_S1x1x1536_S8x4096x1536_0_1_2 main_v30
  let main_v32 : IVec S8x4096x1536 1 := andi main_v24 main_v31
  let main_v33 : FVec F S1x1536 .f32 := (extractStridedSlice S1x1536 ![3, 0] · slices_S4x1536_S1x1536_3_0) main_arg3
  let main_v34 : FVec F S1536 .f32 := shapeCast S1536 main_v33 shapeCasts_S1x1536_S1536
  let main_v35 : FVec F S1536 .f32 := Host.absf main_v34
  let main_cst_4 : FVec F S_ .f32 := constant S_ .f32 0x7F800000#32
  let main_v36 : FVec F S1536 .f32 := broadcastInDim S1536 ![] bcast_S_S1536 main_cst_4
  let main_v37 : IVec S1536 1 := cmpf .olt main_v35 main_v36
  let main_v38 : IVec S1x1x1536 1 := broadcastInDim S1x1x1536 ![2] bcast_S1536_S1x1x1536_2 main_v37
  let main_v39 : IVec S8x4096x1536 1 := broadcastInDim S8x4096x1536 ![0, 1, 2] bcast_S1x1x1536_S8x4096x1536_0_1_2 main_v38
  let main_v40 : IVec S8x4096x1536 1 := andi main_v32 main_v39
  let main_v41 : FVec F S8x4096x1024 .f32 := Host.absf main_arg0
  fn_part2 (F := F) main_arg2 main_arg5 main_arg6 main_v40 main_v41

def fn {F : FTy → Type} [FloatOps F] (main_arg0 : FVec F S8x4096x1024 .f32) (main_arg1 : FVec F S8x4096x1536 .f32) (main_arg2 : FVec F S8x4096x16 .f32) (main_arg3 : FVec F S4x1536 .f32) (main_arg4 : FVec F S1536 .f32) (main_arg5 : FVec F S16 .f32) (main_arg6 : FVec F S16 .f32) (main_arg7 : FVec F S16 .f32) (main_arg8 : FVec F S1024 .f32) : IVec S8x4096x2576 1 :=
  let main_v0 : FVec F S8x4096x1536 .f32 := Host.absf main_arg1
  let main_cst : FVec F S_ .f32 := constant S_ .f32 0x7F800000#32
  let main_v1 : FVec F S8x4096x1536 .f32 := broadcastInDim S8x4096x1536 ![] bcast_S_S8x4096x1536 main_cst
  let main_v2 : IVec S8x4096x1536 1 := cmpf .olt main_v0 main_v1
  let main_v3 : FVec F S1536 .f32 := Host.absf main_arg4
  let main_cst_0 : FVec F S_ .f32 := constant S_ .f32 0x7F800000#32
  let main_v4 : FVec F S1536 .f32 := broadcastInDim S1536 ![] bcast_S_S1536 main_cst_0
  let main_v5 : IVec S1536 1 := cmpf .olt main_v3 main_v4
  let main_v6 : IVec S1x1x1536 1 := broadcastInDim S1x1x1536 ![2] bcast_S1536_S1x1x1536_2 main_v5
  let main_v7 : IVec S8x4096x1536 1 := broadcastInDim S8x4096x1536 ![0, 1, 2] bcast_S1x1x1536_S8x4096x1536_0_1_2 main_v6
  let main_v8 : IVec S8x4096x1536 1 := andi main_v2 main_v7
  let main_v9 : FVec F S1x1536 .f32 := (extractStridedSlice S1x1536 ![0, 0] · slices_S4x1536_S1x1536_0_0) main_arg3
  let main_v10 : FVec F S1536 .f32 := shapeCast S1536 main_v9 shapeCasts_S1x1536_S1536
  let main_v11 : FVec F S1536 .f32 := Host.absf main_v10
  let main_cst_1 : FVec F S_ .f32 := constant S_ .f32 0x7F800000#32
  let main_v12 : FVec F S1536 .f32 := broadcastInDim S1536 ![] bcast_S_S1536 main_cst_1
  let main_v13 : IVec S1536 1 := cmpf .olt main_v11 main_v12
  let main_v14 : IVec S1x1x1536 1 := broadcastInDim S1x1x1536 ![2] bcast_S1536_S1x1x1536_2 main_v13
  let main_v15 : IVec S8x4096x1536 1 := broadcastInDim S8x4096x1536 ![0, 1, 2] bcast_S1x1x1536_S8x4096x1536_0_1_2 main_v14
  let main_v16 : IVec S8x4096x1536 1 := andi main_v8 main_v15
  let main_v17 : FVec F S1x1536 .f32 := (extractStridedSlice S1x1536 ![1, 0] · slices_S4x1536_S1x1536_1_0) main_arg3
  let main_v18 : FVec F S1536 .f32 := shapeCast S1536 main_v17 shapeCasts_S1x1536_S1536
  let main_v19 : FVec F S1536 .f32 := Host.absf main_v18
  let main_cst_2 : FVec F S_ .f32 := constant S_ .f32 0x7F800000#32
  fn_part1 (F := F) main_arg0 main_arg2 main_arg3 main_arg5 main_arg6 main_v16 main_v19 main_cst_2
-- ==== FfnOne.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOneRefIdeal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== FfnTwo.lean ====
abbrev S8x4096x1024 : Shape := ⟨3, ![8, 4096, 1024]⟩
abbrev S8x4096x256 : Shape := ⟨3, ![8, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S32768x256 : Shape := ⟨2, ![32768, 256]⟩
abbrev S1x1024 : Shape := ⟨2, ![1, 1024]⟩
abbrev S32768x1024 : Shape := ⟨2, ![32768, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩

abbrev nBuf : Space → Nat
  | .hbm => 21
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S32768x256, .f32⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S32768x1024, .f32⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnTwoRefIdeal.lean ====
abbrev S8x4096x1024 : Shape := ⟨3, ![8, 4096, 1024]⟩
abbrev S8x4096x256 : Shape := ⟨3, ![8, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S_, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096x1024, .f32⟩
  | .hbm, ⟨64, _⟩ => ⟨S8x4096x1024, .f32⟩
  | .hbm, ⟨65, _⟩ => ⟨S_, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Inproj.lean ====
abbrev S8x4096x1024 : Shape := ⟨3, ![8, 4096, 1024]⟩
abbrev S1024 : Shape := ⟨1, ![1024]⟩
abbrev S1024x7512 : Shape := ⟨2, ![1024, 7512]⟩
abbrev S256 : Shape := ⟨1, ![256]⟩
abbrev S64 : Shape := ⟨1, ![64]⟩
abbrev S1024x64 : Shape := ⟨2, ![1024, 64]⟩
abbrev S1024x8 : Shape := ⟨2, ![1024, 8]⟩
abbrev S1024x16 : Shape := ⟨2, ![1024, 16]⟩
abbrev S_ : Shape := ⟨0, ![]⟩
abbrev S1024x40 : Shape := ⟨2, ![1024, 40]⟩
abbrev S1024x128 : Shape := ⟨2, ![1024, 128]⟩
abbrev S1024x1536 : Shape := ⟨2, ![1024, 1536]⟩
abbrev S1024x512 : Shape := ⟨2, ![1024, 512]⟩
abbrev S1024x1024 : Shape := ⟨2, ![1024, 1024]⟩
abbrev S1024x3072 : Shape := ⟨2, ![1024, 3072]⟩
abbrev S1024x256 : Shape := ⟨2, ![1024, 256]⟩
abbrev S1024x7680 : Shape := ⟨2, ![1024, 7680]⟩
abbrev S32768x1024 : Shape := ⟨2, ![32768, 1024]⟩
abbrev S1x1024 : Shape := ⟨2, ![1, 1024]⟩
abbrev S1x256 : Shape := ⟨2, ![1, 256]⟩
abbrev S1x64 : Shape := ⟨2, ![1, 64]⟩
abbrev S32768x7680 : Shape := ⟨2, ![32768, 7680]⟩
abbrev S32768x128 : Shape := ⟨2, ![32768, 128]⟩
abbrev S8x4096x256 : Shape := ⟨3, ![8, 4096, 256]⟩
abbrev S8x8x272x512 : Shape := ⟨4, ![8, 8, 272, 512]⟩
abbrev S8x4096x64 : Shape := ⟨3, ![8, 4096, 64]⟩
abbrev S512x1024 : Shape := ⟨2, ![512, 1024]⟩
abbrev S512x7680 : Shape := ⟨2, ![512, 7680]⟩
abbrev S512x128 : Shape := ⟨2, ![512, 128]⟩
abbrev S1x512x256 : Shape := ⟨3, ![1, 512, 256]⟩
abbrev S1x1x272x512 : Shape := ⟨4, ![1, 1, 272, 512]⟩
abbrev S1x512x64 : Shape := ⟨3, ![1, 512, 64]⟩
abbrev S512 : Shape := ⟨1, ![512]⟩
abbrev S512x1 : Shape := ⟨2, ![512, 1]⟩
abbrev S1024x2560 : Shape := ⟨2, ![1024, 2560]⟩
abbrev S512x2560 : Shape := ⟨2, ![512, 2560]⟩
abbrev S512x256 : Shape := ⟨2, ![512, 256]⟩
abbrev S16x512 : Shape := ⟨2, ![16, 512]⟩
abbrev S256x512 : Shape := ⟨2, ![256, 512]⟩
abbrev S272x512 : Shape := ⟨2, ![272, 512]⟩
abbrev S512x64 : Shape := ⟨2, ![512, 64]⟩

abbrev nBuf : Space → Nat
  | .hbm => 32
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7512, .f32⟩
  | .hbm, ⟨3, _⟩ => ⟨S256, .f32⟩
  | .hbm, ⟨4, _⟩ => ⟨S64, .f32⟩
  | .hbm, ⟨5, _⟩ => ⟨S1024x64, .f32⟩
  | .hbm, ⟨6, _⟩ => ⟨S1024x8, .f32⟩
  | .hbm, ⟨7, _⟩ => ⟨S1024x16, .f32⟩
  | .hbm, ⟨8, _⟩ => ⟨S_, .f32⟩
  | .hbm, ⟨9, _⟩ => ⟨S1024x40, .f32⟩
  | .hbm, ⟨10, _⟩ => ⟨S1024x128, .f32⟩
  | .hbm, ⟨11, _⟩ => ⟨S1024x7512, .bf16⟩
  | .hbm, ⟨12, _⟩ => ⟨S1024x1536, .bf16⟩
  | .hbm, ⟨13, _⟩ => ⟨S1024x512, .bf16⟩
  | .hbm, ⟨14, _⟩ => ⟨S1024x1024, .bf16⟩
  | .hbm, ⟨15, _⟩ => ⟨S1024x3072, .bf16⟩
  | .hbm, ⟨16, _⟩ => ⟨S1024x512, .bf16⟩
  | .hbm, ⟨17, _⟩ => ⟨S1024x512, .bf16⟩
  | .hbm, ⟨18, _⟩ => ⟨S1024x256, .bf16⟩
  | .hbm, ⟨19, _⟩ => ⟨S_, .bf16⟩
  | .hbm, ⟨20, _⟩ => ⟨S1024x256, .bf16⟩
  | .hbm, ⟨21, _⟩ => ⟨S1024x7680, .bf16⟩
  | .hbm, ⟨22, _⟩ => ⟨S1024x128, .bf16⟩
  | .hbm, ⟨23, _⟩ => ⟨S32768x1024, .f32⟩
  | .hbm, ⟨24, _⟩ => ⟨S1x1024, .f32⟩
  | .hbm, ⟨25, _⟩ => ⟨S1x256, .f32⟩
  | .hbm, ⟨26, _⟩ => ⟨S1x64, .f32⟩
  | .hbm, ⟨27, _⟩ => ⟨S32768x7680, .bf16⟩
  | .hbm, ⟨28, _⟩ => ⟨S32768x128, .f32⟩
  | .hbm, ⟨29, _⟩ => ⟨S8x4096x256, .bf16⟩
  | .hbm, ⟨30, _⟩ => ⟨S8x8x272x512, .bf16⟩
  | .hbm, ⟨31, _⟩ => ⟨S8x4096x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7680, .bf16⟩
  | .local _ .vmem, ⟨4, _⟩ => ⟨S1024x128, .bf16⟩
  | .local _ .vmem, ⟨5, _⟩ => ⟨S1x256, .f32⟩
  | .local _ .vmem, ⟨6, _⟩ => ⟨S1x64, .f32⟩
  | .local _ .vmem, ⟨7, _⟩ => ⟨S512x7680, .bf16⟩
  | .local _ .vmem, ⟨8, _⟩ => ⟨S512x7680, .bf16⟩
  | .local _ .vmem, ⟨9, _⟩ => ⟨S512x128, .f32⟩
  | .local _ .vmem, ⟨10, _⟩ => ⟨S512x128, .f32⟩
  | .local _ .vmem, ⟨11, _⟩ => ⟨S1x512x256, .bf16⟩
  | .local _ .vmem, ⟨12, _⟩ => ⟨S1x512x256, .bf16⟩
  | .local _ .vmem, ⟨13, _⟩ => ⟨S1x1x272x512, .bf16⟩
  | .local _ .vmem, ⟨14, _⟩ => ⟨S1x1x272x512, .bf16⟩
  | .local _ .vmem, ⟨15, _⟩ => ⟨S1x512x64, .bf16⟩
  | .local _ .vmem, ⟨16, _⟩ => ⟨S1x512x64, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev main_v20_3 : Ref sig .tc := ⟨.hbm, 30, rfl⟩
abbrev main_v20_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x7680 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x272x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S8x4096x1024 : Shape := ⟨3, ![8, 4096, 1024]⟩
abbrev S1024 : Shape := ⟨1, ![1024]⟩
abbrev S1024x7512 : Shape := ⟨2, ![1024, 7512]⟩
abbrev S256 : Shape := ⟨1, ![256]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7512 : Shape := ⟨3, ![8, 4096, 7512]⟩
abbrev S8x4096x512 : Shape := ⟨3, ![8, 4096, 512]⟩
abbrev S8x4096x256 : Shape := ⟨3, ![8, 4096, 256]⟩
abbrev S8x4096x8 : Shape := ⟨3, ![8, 4096, 8]⟩
abbrev S8x4096x64 : Shape := ⟨3, ![8, 4096, 64]⟩
abbrev S8x4096x1536 : Shape := ⟨3, ![8, 4096, 1536]⟩
abbrev S8x4096x16 : Shape := ⟨3, ![8, 4096, 16]⟩
abbrev S8x4096x3072 : Shape := ⟨3, ![8, 4096, 3072]⟩
abbrev S8x4096x7680 : Shape := ⟨3, ![8, 4096, 7680]⟩
abbrev S8x4096x40 : Shape := ⟨3, ![8, 4096, 40]⟩
abbrev S8x4096x128 : Shape := ⟨3, ![8, 4096, 128]⟩
abbrev S1x1x256 : Shape := ⟨3, ![1, 1, 256]⟩
abbrev S8x8x512x256 : Shape := ⟨4, ![8, 8, 512, 256]⟩
abbrev S8x8x256x512 : Shape := ⟨4, ![8, 8, 256, 512]⟩
abbrev S8x8x16x512 : Shape := ⟨4, ![8, 8, 16, 512]⟩
abbrev S8x8x272x512 : Shape := ⟨4, ![8, 8, 272, 512]⟩
abbrev S32768x7680 : Shape := ⟨2, ![32768, 7680]⟩
abbrev S32768x128 : Shape := ⟨2, ![32768, 128]⟩
abbrev S1x1x64 : Shape := ⟨3, ![1, 1, 64]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x7512, .f32⟩
  | .hbm, ⟨3, _⟩ => ⟨S256, .f32⟩
  | .hbm, ⟨4, _⟩ => ⟨S64, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x7512, .f32⟩
  | .hbm, ⟨22, _⟩ => ⟨S8x4096x512, .f32⟩
  | .hbm, ⟨23, _⟩ => ⟨S8x4096x256, .f32⟩
  | .hbm, ⟨24, _⟩ => ⟨S8x4096x512, .f32⟩
  | .hbm, ⟨25, _⟩ => ⟨S8x4096x8, .f32⟩
  | .hbm, ⟨26, _⟩ => ⟨S8x4096x64, .f32⟩
  | .hbm, ⟨27, _⟩ => ⟨S8x4096x512, .f32⟩
  | .hbm, ⟨28, _⟩ => ⟨S8x4096x1024, .f32⟩
  | .hbm, ⟨29, _⟩ => ⟨S8x4096x1536, .f32⟩
  | .hbm, ⟨30, _⟩ => ⟨S8x4096x16, .f32⟩
  | .hbm, ⟨31, _⟩ => ⟨S8x4096x3072, .f32⟩
  | .hbm, ⟨32, _⟩ => ⟨S_, .f32⟩
  | .hbm, ⟨33, _⟩ => ⟨S8x4096x256, .f32⟩
  | .hbm, ⟨34, _⟩ => ⟨S8x4096x7680, .f32⟩
  | .hbm, ⟨35, _⟩ => ⟨S_, .f32⟩
  | .hbm, ⟨36, _⟩ => ⟨S8x4096x40, .f32⟩
  | .hbm, ⟨37, _⟩ => ⟨S8x4096x128, .f32⟩
  | .hbm, ⟨38, _⟩ => ⟨S8x4096x256, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x256, .f32⟩
  | .hbm, ⟨50, _⟩ => ⟨S8x4096x256, .f32⟩
  | .hbm, ⟨51, _⟩ => ⟨S1x1x256, .f32⟩
  | .hbm, ⟨52, _⟩ => ⟨S8x4096x256, .f32⟩
  | .hbm, ⟨53, _⟩ => ⟨S8x4096x256, .f32⟩
  | .hbm, ⟨54, _⟩ => ⟨S8x8x512x256, .f32⟩
  | .hbm, ⟨55, _⟩ => ⟨S8x8x256x512, .f32⟩
  | .hbm, ⟨56, _⟩ => ⟨S_, .f32⟩
  | .hbm, ⟨57, _⟩ => ⟨S8x8x16x512, .f32⟩
  | .hbm, ⟨58, _⟩ => ⟨S8x8x272x512, .f32⟩
  | .hbm, ⟨59, _⟩ => ⟨S32768x7680, .f32⟩
  | .hbm, ⟨60, _⟩ => ⟨S32768x7680, .bf16⟩
  | .hbm, ⟨61, _⟩ => ⟨S32768x128, .f32⟩
  | .hbm, ⟨62, _⟩ => ⟨S8x4096x256, .bf16⟩
  | .hbm, ⟨63, _⟩ => ⟨S8x8x272x512, .bf16⟩
  | .hbm, ⟨64, _⟩ => ⟨S8x4096x64, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x64, .f32⟩
  | .hbm, ⟨76, _⟩ => ⟨S8x4096x64, .f32⟩
  | .hbm, ⟨77, _⟩ => ⟨S1x1x64, .f32⟩
  | .hbm, ⟨78, _⟩ => ⟨S8x4096x64, .f32⟩
  | .hbm, ⟨79, _⟩ => ⟨S8x4096x64, .f32⟩
  | .hbm, ⟨80, _⟩ => ⟨S8x4096x64, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S32768x3072 : Shape := ⟨2, ![32768, 3072]⟩
abbrev S32768x512 : Shape := ⟨2, ![32768, 512]⟩
abbrev S32768x7680 : Shape := ⟨2, ![32768, 7680]⟩
abbrev S32768x1024 : Shape := ⟨2, ![32768, 1024]⟩
abbrev S1x512 : Shape := ⟨2, ![1, 512]⟩
abbrev S512x512 : Shape := ⟨2, ![512, 512]⟩
abbrev S16x512 : Shape := ⟨2, ![16, 512]⟩
abbrev S512x128 : Shape := ⟨2, ![512, 128]⟩
abbrev S528x512 : Shape := ⟨2, ![528, 512]⟩
abbrev S528x128 : Shape := ⟨2, ![528, 128]⟩
abbrev S527x128 : Shape := ⟨2, ![527, 128]⟩
abbrev S1x128x128 : Shape := ⟨3, ![1, 128, 128]⟩
abbrev S128x128 : Shape := ⟨2, ![128, 128]⟩
abbrev S525x128 : Shape := ⟨2, ![525, 128]⟩
abbrev S521x128 : Shape := ⟨2, ![521, 128]⟩
abbrev S513x128 : Shape := ⟨2, ![513, 128]⟩

abbrev nBuf : Space → Nat
  | .hbm => 32
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x1024, .f32⟩
  | .hbm, ⟨3, _⟩ => ⟨S8x4096x512, .f32⟩
  | .hbm, ⟨4, _⟩ => ⟨S8x4096x3072, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S_, .bf16⟩
  | .hbm, ⟨12, _⟩ => ⟨S32768x3072, .bf16⟩
  | .hbm, ⟨13, _⟩ => ⟨S32768x3072, .f32⟩
  | .hbm, ⟨14, _⟩ => ⟨S32768x3072, .bf16⟩
  | .hbm, ⟨15, _⟩ => ⟨S_, .bf16⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S_, .bf16⟩
  | .hbm, ⟨20, _⟩ => ⟨S32768x512, .bf16⟩
  | .hbm, ⟨21, _⟩ => ⟨S32768x7680, .bf16⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S4x128x128, .bf16⟩
  | .hbm, ⟨26, _⟩ => ⟨S1x512, .f32⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S1024x1024, .bf16⟩
  | .hbm, ⟨31, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S4x128x128, .bf16⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![v2.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S_ : Shape := ⟨0, ![]⟩
abbrev S8x1x512 : Shape := ⟨3, ![8, 1, 512]⟩
abbrev S8x4097x512 : Shape := ⟨3, ![8, 4097, 512]⟩
abbrev S4096 : Shape := ⟨1, ![4096]⟩
abbrev S8x4096x128 : Shape := ⟨3, ![8, 4096, 128]⟩
abbrev S4096x1 : Shape := ⟨2, ![4096, 1]⟩
abbrev S4096x2 : Shape := ⟨2, ![4096, 2]⟩
abbrev S1x4096x1 : Shape := ⟨3, ![1, 4096, 1]⟩
abbrev S8x4096x1x128 : Shape := ⟨4, ![8, 4096, 1, 128]⟩
abbrev S8x4096x4x128 : Shape := ⟨4, ![8, 4096, 4, 128]⟩
abbrev S4x128x8x4096 : Shape := ⟨4, ![4, 128, 8, 4096]⟩
abbrev S1x1x512 : Shape := ⟨3, ![1, 1, 512]⟩
abbrev S32768x1024 : Shape := ⟨2, ![32768, 1024]⟩

abbrev nBuf : Space → Nat
  | .hbm => 191
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x1024, .f32⟩
  | 3 => ⟨S8x4096x512, .f32⟩
  | 4 => ⟨S8x4096x3072, .f32⟩
  | 5 => ⟨S4x128x128, .f32⟩
  | 6 => ⟨S512, .f32⟩
  | 7 => ⟨S512x1024, .f32⟩
  | 8 => ⟨S512x1024, .f32⟩
  | 9 => ⟨S1024x1024, .f32⟩
  | 10 => ⟨S1024x1024, .f32⟩
  | 11 => ⟨S_, .f32⟩
  | 12 => ⟨S8x1x512, .f32⟩
  | 13 => ⟨S_, .f32⟩
  | 14 => ⟨S_, .f32⟩
  | 15 => ⟨S8x4096x512, .f32⟩
  | 16 => ⟨S8x4097x512, .f32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S8x4096x128, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S_, .i32⟩
  | 37 => ⟨S4096x1, .i32⟩
  | 38 => ⟨S4096x2, .i32⟩
  | 39 => ⟨S8x4096x128, .f32⟩
  | 40 => ⟨S8x4096x128, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S1x4096x1, .f32⟩
  | 49 => ⟨S8x4096x128, .f32⟩
  | 50 => ⟨S8x4096x128, .f32⟩
  | 51 => ⟨S8x4096x128, .f32⟩
  | 52 => ⟨S8x4096x128, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S8x4096x128, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S_, .i32⟩
  | 72 => ⟨S4096x1, .i32⟩
  | 73 => ⟨S4096x2, .i32⟩
  | 74 => ⟨S8x4096x128, .f32⟩
  | 75 => ⟨S8x4096x128, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S1x4096x1, .f32⟩
  | 84 => ⟨S8x4096x128, .f32⟩
  | 85 => ⟨S8x4096x128, .f32⟩
  | 86 => ⟨S8x4096x128, .f32⟩
  | 87 => ⟨S8x4096x128, .f32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S8x4096x128, .f32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S_, .i32⟩
  | 107 => ⟨S4096x1, .i32⟩
  | 108 => ⟨S4096x2, .i32⟩
  | 109 => ⟨S8x4096x128, .f32⟩
  | 110 => ⟨S8x4096x128, .f32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S4096, .f32⟩
  | 118 => ⟨S1x4096x1, .f32⟩
  | 119 => ⟨S8x4096x128, .f32⟩
  | 120 => ⟨S8x4096x128, .f32⟩
  | 121 => ⟨S8x4096x128, .f32⟩
  | 122 => ⟨S8x4096x128, .f32⟩
  | 123 => ⟨S_, .i32⟩
  | 124 => ⟨S4096, .i32⟩
  | 125 => ⟨S4096, .i32⟩
  | 126 => ⟨S_, .i32⟩
  | 127 => ⟨S4096, .i32⟩
  | _ => ⟨S8x4096x1024, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S8x4096x128, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S_, .i32⟩
  | 14 => ⟨S4096x1, .i32⟩
  | 15 => ⟨S4096x2, .i32⟩
  | 16 => ⟨S8x4096x128, .f32⟩
  | 17 => ⟨S8x4096x128, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S1x4096x1, .f32⟩
  | 26 => ⟨S8x4096x128, .f32⟩
  | 27 => ⟨S8x4096x128, .f32⟩
  | 28 => ⟨S8x4096x128, .f32⟩
  | 29 => ⟨S8x4096x128, .f32⟩
  | 30 => ⟨S8x4096x1x128, .f32⟩
  | 31 => ⟨S8x4096x1x128, .f32⟩
  | 32 => ⟨S8x4096x1x128, .f32⟩
  | 33 => ⟨S8x4096x1x128, .f32⟩
  | 34 => ⟨S8x4096x4x128, .f32⟩
  | 35 => ⟨S4x128x8x4096, .f32⟩
  | 36 => ⟨S8x4096x4x128, .f32⟩
  | 37 => ⟨S8x4096x512, .f32⟩
  | 38 => ⟨S1x1x512, .f32⟩
  | 39 => ⟨S8x4096x512, .f32⟩
  | 40 => ⟨S8x4096x512, .f32⟩
  | 41 => ⟨S8x4096x3072, .f32⟩
  | 42 => ⟨S8x4096x3072, .f32⟩
  | 43 => ⟨S_, .f32⟩
  | 44 => ⟨S8x4096x3072, .f32⟩
  | 45 => ⟨S8x4096x3072, .f32⟩
  | 46 => ⟨S_, .f32⟩
  | 47 => ⟨S8x4096x3072, .f32⟩
  | 48 => ⟨S8x4096x3072, .f32⟩
  | 49 => ⟨S8x4096x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_18 : Ref sig .tc := ⟨.hbm, 98, rfl⟩
abbrev main_v65 : Ref sig .tc := ⟨.hbm, 99, rfl⟩
abbrev main_v66 : Ref sig .tc := ⟨.hbm, 100, rfl⟩
abbrev main_c_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_21 : Ref sig .tc := ⟨.hbm, 111, rfl⟩
abbrev main_v75 : Ref sig .tc := ⟨.hbm, 112, rfl⟩
abbrev main_v76 : Ref sig .tc := ⟨.hbm, 113, rfl⟩
abbrev main_c_22 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_23 : Ref sig .tc := ⟨.hbm, 123, rfl⟩
abbrev main_v85 : Ref sig .tc := ⟨.hbm, 124, rfl⟩
abbrev main_v86 : Ref sig .tc := ⟨.hbm, 125, rfl⟩
abbrev main_c_24 : Ref sig .tc := ⟨.hbm, 126, rfl⟩
abbrev main_v87 : Ref sig .tc := ⟨.hbm, 127, rfl⟩
abbrev main_v88 : Ref sig .tc := ⟨.hbm, 128, rfl⟩
abbrev main_c_25 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_26 : Ref sig .tc := ⟨.hbm, 133, rfl⟩
abbrev main_v92 : Ref sig .tc := ⟨.hbm, 134, rfl⟩
abbrev main_v93 : Ref sig .tc := ⟨.hbm, 135, rfl⟩
abbrev main_c_27 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_28 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_29 : Ref sig .tc := ⟨.hbm, 146, rfl⟩
abbrev main_v102 : Ref sig .tc := ⟨.hbm, 147, rfl⟩
abbrev main_v103 : Ref sig .tc := ⟨.hbm, 148, rfl⟩
abbrev main_c_30 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_31 : Ref sig .tc := ⟨.hbm, 171, rfl⟩
abbrev main_v125 : Ref sig .tc := ⟨.hbm, 172, rfl⟩
abbrev main_v126 : Ref sig .tc := ⟨.hbm, 173, rfl⟩
abbrev main_cst_32 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩

abbrev nD : Nat := 1
abbrev τ : Topo := Topo.v7x

variable {F : FTy → Type} [FloatOps F]
-- ==== Ssd.lean ====
abbrev S8x4096x1024 : Shape := ⟨3, ![8, 4096, 1024]⟩
abbrev S8x4096x1536 : Shape := ⟨3, ![8, 4096, 1536]⟩
abbrev S8x4096x16 : Shape := ⟨3, ![8, 4096, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S32768x1536 : Shape := ⟨2, ![32768, 1536]⟩
abbrev S_ : Shape := ⟨0, ![]⟩
abbrev S32768x512 : Shape := ⟨2, ![32768, 512]⟩
abbrev S32768x1024 : Shape := ⟨2, ![32768, 1024]⟩
abbrev S32768x4608 : Shape := ⟨2, ![32768, 4608]⟩
abbrev S32768x7680 : Shape := ⟨2, ![32768, 7680]⟩
abbrev S32768x72 : Shape := ⟨2, ![32768, 72]⟩
abbrev S32768x16 : Shape := ⟨2, ![32768, 16]⟩
abbrev S32768x40 : Shape := ⟨2, ![32768, 40]⟩
abbrev S32768x128 : Shape := ⟨2, ![32768, 128]⟩
abbrev S16x16 : Shape := ⟨2, ![16, 16]⟩
abbrev S16x16x64 : Shape := ⟨3, ![16, 16, 64]⟩
abbrev S16x1024 : Shape := ⟨2, ![16, 1024]⟩
abbrev S1x1536 : Shape := ⟨2, ![1, 1536]⟩
abbrev S1x16 : Shape := ⟨2, ![1, 16]⟩
abbrev S16x1 : Shape := ⟨2, ![16, 1]⟩
abbrev S16x64 : Shape := ⟨2, ![16, 64]⟩
abbrev S1x1024 : Shape := ⟨2, ![1, 1024]⟩
abbrev S1024x1536 : Shape := ⟨2, ![1024, 1536]⟩
abbrev S16x1536 : Shape := ⟨2, ![16, 1536]⟩
abbrev S1024x1024 : Shape := ⟨2, ![1024, 1024]⟩
abbrev S1024x128 : Shape := ⟨2, ![1024, 128]⟩
abbrev S128x1024 : Shape := ⟨2, ![128, 1024]⟩
abbrev S128x1536 : Shape := ⟨2, ![128, 1536]⟩
abbrev S128x128 : Shape := ⟨2, ![128, 128]⟩
abbrev S144x1536 : Shape := ⟨2, ![144, 1536]⟩
abbrev S128x144 : Shape := ⟨2, ![128, 144]⟩
abbrev S128x256 : Shape := ⟨2, ![128, 256]⟩
abbrev S128x16 : Shape := ⟨2, ![128, 16]⟩
abbrev S16x128 : Shape := ⟨2, ![16, 128]⟩
abbrev S128x512 : Shape := ⟨2, ![128, 512]⟩
abbrev S1x512 : Shape := ⟨2, ![1, 512]⟩
abbrev S128x1 : Shape := ⟨2, ![128, 1]⟩
abbrev S1x128 : Shape := ⟨2, ![1, 128]⟩
abbrev S128x64 : Shape := ⟨2, ![128, 64]⟩
abbrev S128 : Shape := ⟨1, ![128]⟩

abbrev nBuf : Space → Nat
  | .hbm => 45
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1536, .f32⟩
  | .hbm, ⟨2, _⟩ => ⟨S8x4096x16, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S32768x1536, .f32⟩
  | .hbm, ⟨10, _⟩ => ⟨S32768x1536, .bf16⟩
  | .hbm, ⟨11, _⟩ => ⟨S_, .bf16⟩
  | .hbm, ⟨12, _⟩ => ⟨S32768x512, .bf16⟩
  | .hbm, ⟨13, _⟩ => ⟨S32768x1024, .f32⟩
  | .hbm, ⟨14, _⟩ => ⟨S32768x1024, .bf16⟩
  | .hbm, ⟨15, _⟩ => ⟨S_, .bf16⟩
  | .hbm, ⟨16, _⟩ => ⟨S32768x4608, .bf16⟩
  | .hbm, ⟨17, _⟩ => ⟨S32768x7680, .bf16⟩
  | .hbm, ⟨18, _⟩ => ⟨S_, .f32⟩
  | .hbm, ⟨19, _⟩ => ⟨S32768x72, .f32⟩
  | .hbm, ⟨20, _⟩ => ⟨S32768x16, .f32⟩
  | .hbm, ⟨21, _⟩ => ⟨S_, .f32⟩
  | .hbm, ⟨22, _⟩ => ⟨S32768x40, .f32⟩
  | .hbm, ⟨23, _⟩ => ⟨S32768x128, .f32⟩
  | .hbm, ⟨24, _⟩ => ⟨S16, .f32⟩
  | .hbm, ⟨25, _⟩ => ⟨S16, .f32⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .f32⟩
  | .hbm, ⟨33, _⟩ => ⟨S16x16x64, .f32⟩
  | .hbm, ⟨34, _⟩ => ⟨S16x1024, .f32⟩
  | .hbm, ⟨35, _⟩ => ⟨S1x1536, .f32⟩
  | .hbm, ⟨36, _⟩ => ⟨S1x16, .f32⟩
  | .hbm, ⟨37, _⟩ => ⟨S16x1, .f32⟩
  | .hbm, ⟨38, _⟩ => ⟨S1x16, .f32⟩
  | .hbm, ⟨39, _⟩ => ⟨S16x1, .f32⟩
  | .hbm, ⟨40, _⟩ => ⟨S16x64, .f32⟩
  | .hbm, ⟨41, _⟩ => ⟨S1024, .f32⟩
  | .hbm, ⟨42, _⟩ => ⟨S1x1024, .f32⟩
  | .hbm, ⟨43, _⟩ => ⟨S1x1024, .f32⟩
  | .hbm, ⟨44, _⟩ => ⟨S32768x1024, .f32⟩
  | .local _ .vmem, ⟨0, _⟩ => ⟨S1024x1536, .bf16⟩
  | .local _ .vmem, ⟨1, _⟩ => ⟨S1024x1536, .bf16⟩
  | .local _ .vmem, ⟨2, _⟩ => ⟨S16x1536, .bf16⟩
  | .local _ .vmem, ⟨3, _⟩ => ⟨S16x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S4x1536, .f32⟩
  | .local _ .vmem, ⟨9, _⟩ => ⟨S1x1536, .f32⟩
  | .local _ .vmem, ⟨10, _⟩ => ⟨S1x16, .f32⟩
  | .local _ .vmem, ⟨11, _⟩ => ⟨S16x1, .f32⟩
  | .local _ .vmem, ⟨12, _⟩ => ⟨S1x16, .f32⟩
  | .local _ .vmem, ⟨13, _⟩ => ⟨S16x1, .f32⟩
  | .local _ .vmem, ⟨14, _⟩ => ⟨S1x1024, .f32⟩
  | .local _ .vmem, ⟨15, _⟩ => ⟨S16x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S128x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== SsdRefIdeal.lean ====
abbrev S8x4096x1024 : Shape := ⟨3, ![8, 4096, 1024]⟩
abbrev S8x4096x1536 : Shape := ⟨3, ![8, 4096, 1536]⟩
abbrev S8x4096x16 : Shape := ⟨3, ![8, 4096, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x4099x1536 : Shape := ⟨3, ![8, 4099, 1536]⟩
abbrev S1x1536 : Shape := ⟨2, ![1, 1536]⟩
abbrev S1x1x1536 : Shape := ⟨3, ![1, 1, 1536]⟩
abbrev S8x4096x256 : Shape := ⟨3, ![8, 4096, 256]⟩
abbrev S8x4096x16x64 : Shape := ⟨4, ![8, 4096, 16, 64]⟩
abbrev S8x4096x2x128 : Shape := ⟨4, ![8, 4096, 2, 128]⟩
abbrev S1x1x16 : Shape := ⟨3, ![1, 1, 16]⟩
abbrev S8x4096x16x1 : Shape := ⟨4, ![8, 4096, 16, 1]⟩
abbrev S8x32x128x2x8x64 : Shape := ⟨6, ![8, 32, 128, 2, 8, 64]⟩
abbrev S8x32x128x2x8 : Shape := ⟨5, ![8, 32, 128, 2, 8]⟩
abbrev S8x2x8x32x128 : Shape := ⟨5, ![8, 2, 8, 32, 128]⟩
abbrev S8x32x128x2x128 : Shape := ⟨5, ![8, 32, 128, 2, 128]⟩
abbrev S8x2x8x32x128x1 : Shape := ⟨6, ![8, 2, 8, 32, 128, 1]⟩
abbrev S8x2x8x32x128x128 : Shape := ⟨6, ![8, 2, 8, 32, 128, 128]⟩
abbrev S128x128 : Shape := ⟨2, ![128, 128]⟩
abbrev S8x2x32x128x128 : Shape := ⟨5, ![8, 2, 32, 128, 128]⟩
abbrev S8x2x1x32x128x128 : Shape := ⟨6, ![8, 2, 1, 32, 128, 128]⟩
abbrev S8x32x2x8x64x128 : Shape := ⟨6, ![8, 32, 2, 8, 64, 128]⟩
abbrev S8x2x8x32x1 : Shape := ⟨5, ![8, 2, 8, 32, 1]⟩
abbrev S8x32x128x2x8x1 : Shape := ⟨6, ![8, 32, 128, 2, 8, 1]⟩
abbrev S8x2x8x32 : Shape := ⟨4, ![8, 2, 8, 32]⟩
abbrev S8x2x8x64x128 : Shape := ⟨5, ![8, 2, 8, 64, 128]⟩
abbrev S32x8x2x8x64x128 : Shape := ⟨6, ![32, 8, 2, 8, 64, 128]⟩
abbrev S32x8x2x8 : Shape := ⟨4, ![32, 8, 2, 8]⟩
abbrev S1x8x2x8x64x128 : Shape := ⟨6, ![1, 8, 2, 8, 64, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S16x1 : Shape := ⟨2, ![16, 1]⟩
abbrev S1x1x16x1 : Shape := ⟨4, ![1, 1, 16, 1]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 231
  | .vmem => 0
  | .smem => 0
  | _ => 0

abbrev hbmTy0_0 (i : Nat) : BufTy := match i % 128 with
  | 0 => ⟨S8x4096x1024, .f32⟩
  | 1 => ⟨S8x4096x1536, .f32⟩
  | 2 => ⟨S8x4096x16, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S_, .i32⟩
  | 10 => ⟨S_, .f32⟩
  | 11 => ⟨S8x4099x1536, .f32⟩
  | 12 => ⟨S8x4096x1536, .f32⟩
  | 13 => ⟨S1x1536, .f32⟩
  | 14 => ⟨S1536, .f32⟩
  | 15 => ⟨S1x1x1536, .f32⟩
  | 16 => ⟨S8x4096x1536, .f32⟩
  | 17 => ⟨S8x4096x1536, .f32⟩
  | 18 => ⟨S_, .f32⟩
  | 19 => ⟨S8x4096x1536, .f32⟩
  | 20 => ⟨S8x4096x1536, .f32⟩
  | 21 => ⟨S8x4096x1536, .f32⟩
  | 22 => ⟨S1x1536, .f32⟩
  | 23 => ⟨S1536, .f32⟩
  | 24 => ⟨S1x1x1536, .f32⟩
  | 25 => ⟨S8x4096x1536, .f32⟩
  | 26 => ⟨S8x4096x1536, .f32⟩
  | 27 => ⟨S8x4096x1536, .f32⟩
  | 28 => ⟨S8x4096x1536, .f32⟩
  | 29 => ⟨S1x1536, .f32⟩
  | 30 => ⟨S1536, .f32⟩
  | 31 => ⟨S1x1x1536, .f32⟩
  | 32 => ⟨S8x4096x1536, .f32⟩
  | 33 => ⟨S8x4096x1536, .f32⟩
  | 34 => ⟨S8x4096x1536, .f32⟩
  | 35 => ⟨S8x4096x1536, .f32⟩
  | 36 => ⟨S1x1536, .f32⟩
  | 37 => ⟨S1536, .f32⟩
  | 38 => ⟨S1x1x1536, .f32⟩
  | 39 => ⟨S8x4096x1536, .f32⟩
  | 40 => ⟨S8x4096x1536, .f32⟩
  | 41 => ⟨S8x4096x1536, .f32⟩
  | 42 => ⟨S1x1x1536, .f32⟩
  | 43 => ⟨S8x4096x1536, .f32⟩
  | 44 => ⟨S8x4096x1536, .f32⟩
  | 45 => ⟨S8x4096x1536, .f32⟩
  | 46 => ⟨S8x4096x1536, .f32⟩
  | 47 => ⟨S_, .f32⟩
  | 48 => ⟨S8x4096x1536, .f32⟩
  | 49 => ⟨S8x4096x1536, .f32⟩
  | 50 => ⟨S_, .f32⟩
  | 51 => ⟨S8x4096x1536, .f32⟩
  | 52 => ⟨S8x4096x1536, .f32⟩
  | 53 => ⟨S8x4096x1536, .f32⟩
  | 54 => ⟨S8x4096x1024, .f32⟩
  | 55 => ⟨S8x4096x256, .f32⟩
  | 56 => ⟨S8x4096x256, .f32⟩
  | 57 => ⟨S8x4096x16x64, .f32⟩
  | 58 => ⟨S8x4096x2x128, .f32⟩
  | 59 => ⟨S8x4096x2x128, .f32⟩
  | 60 => ⟨S1x1x16, .f32⟩
  | 61 => ⟨S8x4096x16, .f32⟩
  | 62 => ⟨S8x4096x16, .f32⟩
  | 63 => ⟨S_, .f32⟩
  | 64 => ⟨S8x4096x16, .f32⟩
  | 65 => ⟨S8x4096x16, .f32⟩
  | 66 => ⟨S8x4096x16, .f32⟩
  | 67 => ⟨S8x4096x16, .f32⟩
  | 68 => ⟨S8x4096x16, .i1⟩
  | 69 => ⟨S8x4096x16, .f32⟩
  | 70 => ⟨S8x4096x16, .f32⟩
  | 71 => ⟨S8x4096x16, .f32⟩
  | 72 => ⟨S8x4096x16, .f32⟩
  | 73 => ⟨S8x4096x16, .f32⟩
  | 74 => ⟨S8x4096x16, .f32⟩
  | 75 => ⟨S8x4096x16, .f32⟩
  | 76 => ⟨S8x4096x16, .f32⟩
  | 77 => ⟨S16, .f32⟩
  | 78 => ⟨S16, .f32⟩
  | 79 => ⟨S1x1x16, .f32⟩
  | 80 => ⟨S8x4096x16, .f32⟩
  | 81 => ⟨S8x4096x16, .f32⟩
  | 82 => ⟨S8x4096x16x1, .f32⟩
  | 83 => ⟨S8x4096x16x64, .f32⟩
  | 84 => ⟨S8x4096x16x64, .f32⟩
  | 85 => ⟨S8x32x128x2x8x64, .f32⟩
  | 86 => ⟨S8x32x128x2x8, .f32⟩
  | 87 => ⟨S8x2x8x32x128, .f32⟩
  | 88 => ⟨S8x32x128x2x128, .f32⟩
  | 89 => ⟨S8x32x128x2x128, .f32⟩
  | 90 => ⟨S_, .f32⟩
  | 91 => ⟨S_, .f32⟩
  | 92 => ⟨S8x2x8x32x128, .f32⟩
  | 93 => ⟨S8x2x8x32x128x1, .f32⟩
  | 94 => ⟨S8x2x8x32x128x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S_, .f32⟩
  | 107 => ⟨S_, .f32⟩
  | 108 => ⟨S8x2x8x32x128x128, .i1⟩
  | 109 => ⟨S8x2x8x32x128x128, .f32⟩
  | 110 => ⟨S8x2x8x32x128x128, .f32⟩
  | 111 => ⟨S_, .f32⟩
  | 112 => ⟨S_, .f32⟩
  | 113 => ⟨S8x2x8x32x128x128, .f32⟩
  | 114 => ⟨S_, .i1⟩
  | 115 => ⟨S128x128, .i1⟩
  | 116 => ⟨S128x128, .i32⟩
  | 117 => ⟨S_, .i32⟩
  | 118 => ⟨S128x128, .i32⟩
  | 119 => ⟨S128x128, .i32⟩
  | 120 => ⟨S128x128, .i32⟩
  | 121 => ⟨S128x128, .i1⟩
  | 122 => ⟨S_, .i1⟩
  | 123 => ⟨S128x128, .i1⟩
  | 124 => ⟨S128x128, .i1⟩
  | 125 => ⟨S_, .f32⟩
  | 126 => ⟨S_, .f32⟩
  | 127 => ⟨S8x2x8x32x128x128, .i1⟩
  | _ => ⟨S8x4096x1024, .f32⟩

abbrev hbmTy0_1 (i : Nat) : BufTy := match i % 128 with
  | 0 => ⟨S8x2x8x32x128x128, .f32⟩
  | 1 => ⟨S8x2x8x32x128x128, .f32⟩
  | 2 => ⟨S8x2x8x32x128x128, .f32⟩
  | 3 => ⟨S8x2x32x128x128, .f32⟩
  | 4 => ⟨S8x2x1x32x128x128, .f32⟩
  | 5 => ⟨S8x2x8x32x128x128, .f32⟩
  | 6 => ⟨S8x2x8x32x128x128, .f32⟩
  | 7 => ⟨S8x32x2x8x64x128, .f32⟩
  | 8 => ⟨S8x32x128x2x8x64, .f32⟩
  | 9 => ⟨S8x2x8x32x1, .f32⟩
  | 10 => ⟨S8x2x8x32x128, .f32⟩
  | 11 => ⟨S8x2x8x32x128, .f32⟩
  | 12 => ⟨S8x2x8x32x128, .f32⟩
  | 13 => ⟨S8x32x128x2x8, .f32⟩
  | 14 => ⟨S8x32x128x2x8x1, .f32⟩
  | 15 => ⟨S8x32x128x2x8x64, .f32⟩
  | 16 => ⟨S8x32x128x2x8x64, .f32⟩
  | 17 => ⟨S8x32x2x8x64x128, .f32⟩
  | 18 => ⟨S8x2x8x32x1, .f32⟩
  | 19 => ⟨S8x2x8x32, .f32⟩
  | 20 => ⟨S8x2x8x32, .f32⟩
  | 21 => ⟨S_, .f32⟩
  | 22 => ⟨S8x2x8x64x128, .f32⟩
  | 23 => ⟨S32x8x2x8x64x128, .f32⟩
  | 24 => ⟨S32x8x2x8, .f32⟩
  | 25 => ⟨S_, .f32⟩
  | 26 => ⟨S32x8x2x8x64x128, .f32⟩
  | 27 => ⟨S_, .i32⟩
  | 28 => ⟨S32x8x2x8x64x128, .f32⟩
  | 29 => ⟨S32x8x2x8, .f32⟩
  | 30 => ⟨S_, .i32⟩
  | 31 => ⟨S8x2x8x64x128, .f32⟩
  | 32 => ⟨S32x8x2x8x64x128, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x8x2x8x64x128, .f32⟩
  | 41 => ⟨S8x2x8x64x128, .f32⟩
  | 42 => ⟨S_, .i32⟩
  | 43 => ⟨S_, .i32⟩
  | 44 => ⟨S_, .i32⟩
  | 45 => ⟨S1x8x2x8, .f32⟩
  | 46 => ⟨S8x2x8, .f32⟩
  | 47 => ⟨S8x2x8x1x1, .f32⟩
  | 48 => ⟨S8x2x8x64x128, .f32⟩
  | 49 => ⟨S8x2x8x64x128, .f32⟩
  | 50 => ⟨S8x2x8x64x128, .f32⟩
  | 51 => ⟨S1x8x2x8x64x128, .f32⟩
  | 52 => ⟨S_, .i32⟩
  | 53 => ⟨S_, .i32⟩
  | 54 => ⟨S_, .i32⟩
  | 55 => ⟨S_, .i32⟩
  | 56 => ⟨S_, .i32⟩
  | 57 => ⟨S32x8x2x8x64x128, .f32⟩
  | 58 => ⟨S_, .i32⟩
  | 59 => ⟨S_, .i32⟩
  | 60 => ⟨S8x32x2x8x64x128, .f32⟩
  | 61 => ⟨S8x32x2x8x64x128, .f32⟩
  | 62 => ⟨S8x32x128x2x8x64, .f32⟩
  | 63 => ⟨S8x2x8x32x128, .f32⟩
  | 64 => ⟨S8x32x128x2x8, .f32⟩
  | 65 => ⟨S8x32x128x2x8x1, .f32⟩
  | 66 => ⟨S8x32x128x2x8x64, .f32⟩
  | 67 => ⟨S8x32x128x2x8x64, .f32⟩
  | 68 => ⟨S8x32x128x2x8x64, .f32⟩
  | 69 => ⟨S8x4096x16x64, .f32⟩
  | 70 => ⟨S16x1, .f32⟩
  | 71 => ⟨S1x1x16x1, .f32⟩
  | 72 => ⟨S8x4096x16x64, .f32⟩
  | 73 => ⟨S8x4096x16x64, .f32⟩
  | 74 => ⟨S8x4096x16x64, .f32⟩
  | 75 => ⟨S8x4096x1024, .f32⟩
  | 76 => ⟨S8x4096x1024, .f32⟩
  | 77 => ⟨S8x4096x1024, .f32⟩
  | 78 => ⟨S_, .f32⟩
  | 79 => ⟨S8x4096x1024, .f32⟩
  | 80 => ⟨S8x4096x1024, .f32⟩
  | 81 => ⟨S_, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S_, .f32⟩
  | 88 => ⟨S8x4096, .f32⟩
  | 89 => ⟨S8x4096x1, .f32⟩
  | 90 => ⟨S_, .f32⟩
  | 91 => ⟨S8x4096x1, .f32⟩
  | 92 => ⟨S8x4096x1, .f32⟩
  | 93 => ⟨S_, .f32⟩
  | 94 => ⟨S8x4096x1, .f32⟩
  | 95 => ⟨S8x4096x1, .f32⟩
  | 96 => ⟨S8x4096x1, .f32⟩
  | 97 => ⟨S8x4096x1024, .f32⟩
  | 98 => ⟨S8x4096x1024, .f32⟩
  | 99 => ⟨S1x1x1024, .f32⟩
  | 100 => ⟨S8x4096x1024, .f32⟩
  | 101 => ⟨S8x4096x1024, .f32⟩
  | 102 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_call0_cst : Ref sig .tc := ⟨.hbm, 90, rfl⟩
abbrev main_call3_call0_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_0 : Ref sig .tc := ⟨.hbm, 95, rfl⟩
abbrev main_v60 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_c_0 : Ref sig .tc := ⟨.hbm, 103, rfl⟩
abbrev main_call4_v5 : Ref sig .tc := ⟨.hbm, 104, rfl⟩
abbrev main_v61 : Ref sig .tc := ⟨.hbm, 105, rfl⟩
abbrev main_cst_1 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v62 : Ref sig .tc := ⟨.hbm, 110, rfl⟩
abbrev main_call6_call0_cst : Ref sig .tc := ⟨.hbm, 111, rfl⟩
abbrev main_call6_call0_v0 : Ref sig .tc := ⟨.hbm, 112, rfl⟩
abbrev main_v63 : Ref sig .tc := ⟨.hbm, 113, rfl⟩
abbrev main_c_2 : Ref sig .tc := ⟨.hbm, 114, rfl⟩
abbrev main_v64 : Ref sig .tc := ⟨.hbm, 115, rfl⟩
abbrev main_call7_v0 : Ref sig .tc := ⟨.hbm, 116, rfl⟩
abbrev main_call7_c : Ref sig .tc := ⟨.hbm, 117, rfl⟩
abbrev main_call7_v1 : Ref sig .tc := ⟨.hbm, 118, rfl⟩
abbrev main_call7_v2 : Ref sig .tc := ⟨.hbm, 119, rfl⟩
abbrev main_call7_v3 : Ref sig .tc := ⟨.hbm, 120, rfl⟩
abbrev main_call7_v4 : Ref sig .tc := ⟨.hbm, 121, rfl⟩
abbrev main_call7_c_0 : Ref sig .tc := ⟨.hbm, 122, rfl⟩
abbrev main_call7_v5 : Ref sig .tc := ⟨.hbm, 123, rfl⟩
abbrev main_v65 : Ref sig .tc := ⟨.hbm, 124, rfl⟩
abbrev main_cst_3 : Ref sig .tc := ⟨.hbm, 125, rfl⟩
abbrev main_call8_v0 : Ref sig .tc := ⟨.hbm, 126, rfl⟩
abbrev main_call8_v1 : Ref sig .tc := ⟨.hbm, 127, rfl⟩
abbrev main_call8_v2 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_4 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_5 : Ref sig .tc := ⟨.hbm, 153, rfl⟩
abbrev main_v89 : Ref sig .tc := ⟨.hbm, 154, rfl⟩
abbrev main_c_6 : Ref sig .tc := ⟨.hbm, 155, rfl⟩
abbrev main_v90_0 : Ref sig .tc := ⟨.hbm, 156, rfl⟩
abbrev main_v90_1 : Ref sig .tc := ⟨.hbm, 157, rfl⟩
abbrev main_v90_2 : Ref sig .tc := ⟨.hbm, 158, rfl⟩
abbrev main_v90_3 : Ref sig .tc := ⟨.hbm, 159, rfl⟩
abbrev main_v90_4 : Ref sig .tc := ⟨.hbm, 160, rfl⟩
abbrev main_while0c_c_14 : Ref sig .tc := ⟨.hbm, 161, rfl⟩
abbrev main_while0c_v123 : Ref sig .tc := ⟨.hbm, 162, rfl⟩
abbrev main_while0b_call9_c : Ref sig .tc := ⟨.hbm, 163, rfl⟩
abbrev main_while0b_call9_c_0 : Ref sig .tc := ⟨.hbm, 164, rfl⟩
abbrev main_while0b_call9_c_1 : Ref sig .tc := ⟨.hbm, 165, rfl⟩
abbrev main_while0b_call9_c_2 : Ref sig .tc := ⟨.hbm, 166, rfl⟩
abbrev main_while0b_call9_c_3 : Ref sig .tc := ⟨.hbm, 167, rfl⟩
abbrev main_while0b_call9_v0 : Ref sig .tc := ⟨.hbm, 168, rfl⟩
abbrev main_while0b_v123 : Ref sig .tc := ⟨.hbm, 169, rfl⟩
abbrev main_while0b_call10_c : Ref sig .tc := ⟨.hbm, 170, rfl⟩
abbrev main_while0b_call10_c_0 : Ref sig .tc := ⟨.hbm, 171, rfl⟩
abbrev main_while0b_call10_c_1 : Ref sig .tc := ⟨.hbm, 172, rfl⟩
abbrev main_while0b_call10_v0 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_call11_v0 : Ref sig .tc := ⟨.hbm, 179, rfl⟩
abbrev main_while0b_call11_c : Ref sig .tc := ⟨.hbm, 180, rfl⟩
abbrev main_while0b_call11_c_0 : Ref sig .tc := ⟨.hbm, 181, rfl⟩
abbrev main_while0b_call11_c_1 : Ref sig .tc := ⟨.hbm, 182, rfl⟩
abbrev main_while0b_call11_c_2 : Ref sig .tc := ⟨.hbm, 183, rfl⟩
abbrev main_while0b_call11_c_3 : Ref sig .tc := ⟨.hbm, 184, rfl⟩
abbrev main_while0b_v129 : Ref sig .tc := ⟨.hbm, 185, rfl⟩
abbrev main_while0b_c_14 : Ref sig .tc := ⟨.hbm, 186, rfl⟩
abbrev main_while0b_v130 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_call12_v0 : Ref sig .tc := ⟨.hbm, 204, rfl⟩
abbrev main_call12_v1 : Ref sig .tc := ⟨.hbm, 205, rfl⟩
abbrev main_call12_cst : Ref sig .tc := ⟨.hbm, 206, rfl⟩
abbrev main_call12_v2 : Ref sig .tc := ⟨.hbm, 207, rfl⟩
abbrev main_call12_v3 : Ref sig .tc := ⟨.hbm, 208, rfl⟩
abbrev main_call12_cst_0 : Ref sig .tc := ⟨.hbm, 209, rfl⟩
abbrev main_call12_v4 : Ref sig .tc := ⟨.hbm, 210, rfl⟩
abbrev main_call12_v5 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_cst_7 : Ref sig .tc := ⟨.hbm, 215, rfl⟩
abbrev main_v110 : Ref sig .tc := ⟨.hbm, 216, rfl⟩
abbrev main_v111 : Ref sig .tc := ⟨.hbm, 217, rfl⟩
abbrev main_cst_8 : Ref sig .tc := ⟨.hbm, 218, rfl⟩
abbrev main_v112 : Ref sig .tc := ⟨.hbm, 219, rfl⟩
abbrev main_v113 : Ref sig .tc := ⟨.hbm, 220, rfl⟩
abbrev main_cst_9 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_v122 : Ref sig .tc := ⟨.hbm, 230, rfl⟩

abbrev nD : Nat := 1
abbrev τ : Topo := Topo.v7x

variable {F : FTy → Type} [FloatOps F]

abbrev main_while0_count : Scf.Loop 32 := ⟨0#32, 32#32, 1#32⟩
-- ==== Proof.Rows.lean ====
/-
  The layer's row functions on the extended reals, and the one fact by which the kernel's forms and the
  reference's forms of them differ: silu by tanh and silu by the logistic function agree on the finite.
-/
module

public import Idealize.ShloMosaic.Adequacy
public import Idealize.ShloMosaic.Init
public import Idealize.ShloMosaic.Lib.Pointwise

@[expose] public section

noncomputable section

namespace Cert.Rows

open Idealize.ShloMosaic

/-- One half, as both programs spell it. -/
abbrev half : EReal := Ideal.ofBits .f32 0x3F000000#32

/-- The root mean square norm of a row of 1024, with gains. -/
def rms (x g : Fin 1024 → EReal) (k : Fin 1024) : EReal :=
  x k * Ideal.rsqrt (Ideal.div (∑ l, x l * x l) (Ideal.ofBits .f32 0x44800000#32)
    + Ideal.ofBits .f32 0x358637BD#32) * g k

/-- silu by the hyperbolic tangent, as the kernel has it. -/
def siluT (x : EReal) : EReal := half * x * Ideal.tanh (half * x) + half * x

/-- silu by the logistic function, as the reference has it. -/
def siluL (x : EReal) : EReal := x * Ideal.div 1 (1 + Ideal.exp (-x))

/-- The logistic function by the hyperbolic tangent. -/
def sigT (x : EReal) : EReal := half * Ideal.tanh (half * x) + half

/-- The logistic function by the exponential. -/
def sigL (x : EReal) : EReal := Ideal.div 1 (1 + Ideal.exp (-x))

/-- The gate's argument of a row at hidden unit `f`. -/
def gateArg (h g : Fin 1024 → EReal) (wg : Fin 1024 → Fin 2816 → EReal) (f : Fin 2816) : EReal :=
  ∑ k, rms h g k * wg k f

/-- Half a gated feed-forward step of a row, for a given activation. -/
def ffn (act : EReal → EReal) (h g : Fin 1024 → EReal) (wg wu : Fin 1024 → Fin 2816 → EReal)
    (wd : Fin 2816 → Fin 1024 → EReal) (j : Fin 1024) : EReal :=
  h j + half * ∑ f, act (gateArg h g wg f) * (∑ k, rms h g k * wu k f) * wd f j

/-- A row with its gated per-layer embedding `p` added, for a given form of the logistic function. -/
def ple (sig : EReal → EReal) (h g : Fin 1024 → EReal) (wg : Fin 1024 → Fin 1024 → EReal) (p : Fin 256 → EReal)
    (wp : Fin 256 → Fin 1024 → EReal) (j : Fin 1024) : EReal :=
  h j + sig (∑ k, rms h g k * wg k j) * ∑ k, p k * wp k j

end Cert.Rows

end
-- ==== Proof.Finite.lean ====
/-
  Finite extended reals: they are closed under the operations the programs use, a root mean square norm of any
  row with finite gains is finite, and on the finite the two forms of silu agree; the two forms of the logistic
  function agree everywhere.
-/
module

public import proofs.«01_k».proof.Proof.Rows

@[expose] public section

noncomputable section

namespace Cert.Rows

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.exp {x : EReal} (hx : IsReal x) : IsReal (Ideal.exp x) := by
  obtain ⟨r, rfl⟩ := hx; exact ⟨Real.exp r, rfl⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A finite sum of real numbers, as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem half_eq : half = ((1 / 2 : ℝ) : EReal) := by
  simp [half, Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

theorem eps_eq : ∃ e : ℝ, 0 < e ∧ Ideal.ofBits .f32 0x358637BD#32 = (e : EReal) := by
  refine ⟨_, ?_, by simp only [Ideal.ofBits, Ideal.ieee]; simp [-EReal.coe_mul]; rfl⟩
  norm_num

/-- A square is not negative. -/
theorem mul_self_nonneg' (x : EReal) : 0 ≤ x * x := by
  induction x with
  | bot => simp
  | top => simp
  | coe r => rw [← EReal.coe_mul]; exact_mod_cast mul_self_nonneg r

/-- The reciprocal root of a mean of squares and the small constant is zero where an entry is infinite, else real. -/
theorem rms_real (x g : Fin 1024 → EReal) (hg : ∀ k, IsReal (g k)) (k : Fin 1024) : IsReal (rms x g k) := by
  obtain ⟨e, he, hE⟩ := eps_eq
  unfold rms
  rw [hE, width_eq]
  by_cases h : ∀ l, IsReal (x l)
  · choose r hr using h
    obtain ⟨a, ha⟩ := hg k
    simp only [hr, ← EReal.coe_mul, coe_sum]
    have h0 : (0 : ℝ) ≤ ∑ l, r l * r l := Finset.sum_nonneg fun l _ => mul_self_nonneg _
    have hd : Ideal.div ((∑ l, r l * r l : ℝ) : EReal) ((1024 : ℝ) : EReal) = (((∑ l, r l * r l) * (1024 : ℝ)⁻¹ : ℝ) : EReal) := by
      unfold Ideal.div
      rw [if_neg (by exact_mod_cast (by norm_num : (1024 : ℝ) ≠ 0)), ← EReal.coe_inv, ← EReal.coe_mul]
    rw [hd, ← EReal.coe_add, ha]
    have hp : 0 < (∑ l, r l * r l) * (1024 : ℝ)⁻¹ + e := by positivity
    have : Ideal.rsqrt (((∑ l, r l * r l) * (1024 : ℝ)⁻¹ + e : ℝ) : EReal)
        = ((Real.sqrt ((∑ l, r l * r l) * (1024 : ℝ)⁻¹ + e))⁻¹ : ℝ) := by
      show (if _ < 0 then _ else if _ = 0 then _ else _) = _
      rw [if_neg (not_lt.2 hp.le), if_neg hp.ne']
    rw [this]
    exact ((IsReal.coe _).mul (IsReal.coe _)).mul (IsReal.coe _)
  · push Not at h
    obtain ⟨l, hl⟩ := h
    have ht : x l * x l = ⊤ := by
      induction hx : x l with
      | bot => simp
      | top => simp
      | coe r => exact absurd ⟨r, hx⟩ hl
    have hs : ∑ l, x l * x l = ⊤ := by
      refine top_le_iff.1 ?_
      rw [← ht]
      exact Finset.single_le_sum (f := fun l => x l * x l) (fun i _ => mul_self_nonneg' (x i)) (Finset.mem_univ l)
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [hs, hd, EReal.top_add_coe]
    show IsReal (x k * 0 * g k)
    simp only [mul_zero, zero_mul]
    exact IsReal.zero

/-- The hyperbolic tangent and the exponential: `(tanh (x/2) + 1) / 2 = 1 / (1 + exp (-x))`. -/
theorem half_tanh (r : ℝ) : 1 / 2 * Real.tanh (1 / 2 * r) + 1 / 2 = (1 + Real.exp (-r))⁻¹ := by
  have hp : 0 < 1 + Real.exp (-r) := by positivity
  have hc : 0 < Real.exp (1 / 2 * r) + Real.exp (-(1 / 2 * r)) := by positivity
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq]
  rw [h1] at hp ⊢
  generalize Real.exp (1 / 2 * r) = a at *
  generalize Real.exp (-(1 / 2 * r)) = b at *
  field_simp
  nlinarith [h2]

/-- The logistic function by the exponential, on the reals. -/
theorem sigL_coe (r : ℝ) : sigL (r : EReal) = (((1 + Real.exp (-r))⁻¹ : ℝ) : EReal) := by
  unfold sigL
  rw [← EReal.coe_neg]
  show Ideal.div 1 (1 + ((Real.exp (-r) : ℝ) : EReal)) = _
  have hp : 0 < 1 + Real.exp (-r) := by positivity
  rw [← EReal.coe_one, ← EReal.coe_add]
  unfold Ideal.div
  rw [if_neg (by exact_mod_cast hp.ne'), ← EReal.coe_inv, ← EReal.coe_mul, one_mul]

/-- The two forms of the logistic function agree. -/
theorem sig_eq (x : EReal) : sigT x = sigL x := by
  induction x with
  | bot =>
    unfold sigT sigL
    rw [half_eq, EReal.coe_mul_bot_of_pos (by norm_num)]
    show ((1 / 2 : ℝ) : EReal) * (-1) + _ = Ideal.div 1 (1 + Ideal.exp (- ⊥))
    rw [EReal.neg_bot]
    show ((1 / 2 : ℝ) : EReal) * (-1) + _ = Ideal.div 1 (1 + ⊤)
    rw [← EReal.coe_one, EReal.coe_add_top]
    unfold Ideal.div
    rw [if_neg (by simp), EReal.inv_top, mul_zero, ← EReal.coe_neg, ← EReal.coe_mul, ← EReal.coe_add]
    norm_num
  | top =>
    unfold sigT sigL
    rw [half_eq, EReal.coe_mul_top_of_pos (by norm_num)]
    show ((1 / 2 : ℝ) : EReal) * 1 + _ = Ideal.div 1 (1 + Ideal.exp (- ⊤))
    rw [EReal.neg_top]
    show ((1 / 2 : ℝ) : EReal) * 1 + _ = Ideal.div 1 (1 + 0)
    unfold Ideal.div
    rw [add_zero, if_neg one_ne_zero, mul_one, ← EReal.coe_add, ← EReal.coe_one, ← EReal.coe_inv, ← EReal.coe_mul]
    norm_num
  | coe r =>
    rw [sigL_coe]
    unfold sigT
    rw [half_eq, ← EReal.coe_mul]
    show ((1 / 2 : ℝ) : EReal) * ((Real.tanh (1 / 2 * r) : ℝ) : EReal) + _ = _
    rw [← EReal.coe_mul, ← EReal.coe_add, half_tanh]

/-- On the reals the two forms of silu agree. -/
theorem silu_eq {x : EReal} (hx : IsReal x) : siluT x = siluL x := by
  obtain ⟨r, rfl⟩ := hx
  show half * (r : EReal) * Ideal.tanh (half * r) + half * r = (r : EReal) * sigL r
  rw [sigL_coe, half_eq, ← EReal.coe_mul]
  show _ * ((Real.tanh (1 / 2 * r) : ℝ) : EReal) + _ = _
  rw [← EReal.coe_mul, ← EReal.coe_add, ← EReal.coe_mul, ← half_tanh]
  congr 1
  ring

/-- With finite gains and gate weights the feed-forward step does not see which form of silu it takes. -/
theorem ffn_eq (h g : Fin 1024 → EReal) (wg wu : Fin 1024 → Fin 2816 → EReal) (wd : Fin 2816 → Fin 1024 → EReal)
    (hg : ∀ k, IsReal (g k)) (hw : ∀ k f, IsReal (wg k f)) (j : Fin 1024) :
    ffn siluT h g wg wu wd j = ffn siluL h g wg wu wd j := by
  unfold ffn
  congr 2
  refine Finset.sum_congr rfl fun f _ => ?_
  rw [silu_eq]
  exact IsReal.sum _ _ fun k _ => (rms_real h g hg k).mul (hw k f)

/-- Finite by the absolute value's comparison with infinity, as a precondition says it. -/
theorem real_of_abs_lt {x : EReal} (h : max x (-x) < ⊤) : IsReal x := by
  induction x with
  | bot => simp at h
  | top => simp at h
  | coe r => exact ⟨r, rfl⟩

/-- The conjunction of two truth values as bits. -/
theorem and_bits {p q : Bool} (h : IntOp.andi (BitVec.ofBool p) (BitVec.ofBool q) = 1#1) :
    BitVec.ofBool p = 1#1 ∧ BitVec.ofBool q = 1#1 := by
  revert h; cases p <;> cases q <;> decide

theorem inf_eq : Ideal.ofBits .f32 0x7F800000#32 = ⊤ := by
  simp [Ideal.ofBits, Ideal.ieee]

/-- The bit of a finiteness test, read back. -/
theorem real_of_bit {x : EReal} (h : BitVec.ofBool (decide (FloatOps.absf (F := Ideal) (φ := .f32) x
    < Ideal.ofBits .f32 0x7F800000#32)) = 1#1) : IsReal x := by
  rw [inf_eq] at h
  by_cases hx : max x (-x) < ⊤
  · exact real_of_abs_lt hx
  · have : decide (FloatOps.absf (F := Ideal) (φ := .f32) x < (⊤ : EReal)) = false := decide_eq_false hx
    rw [this] at h
    exact absurd h (by decide)

end Cert.Rows

end
-- ==== Proof.FfnOneRefValue.lean ====
/-
  The reference of the first feed-forward half step, read at an index: a row function of its arguments.
-/
module

public import proofs.«01_k».proof.Proof.Gen.FfnOneRefIdeal.Run
public import proofs.«01_k».proof.Proof.Finite

@[expose] public section

set_option maxRecDepth 16384

noncomputable section

namespace Cert.FfnOneRefIdeal.Hand

open Cert.FfnOneRefIdeal Cert.FfnOneRefIdeal.Gen Idealize.ShloMosaic
open Cert.Rows

/-- The reference's result as one function of its five arguments. -/
def ref (x0 : FVec Ideal S8x4096x1024 .f32) (x1 : FVec Ideal S1024 .f32) (x2 x3 : FVec Ideal S1024x2816 .f32)
    (x4 : FVec Ideal S2816x1024 .f32) : FVec Ideal S32768x1024 .f32 :=
  shapeCast _ (addf x0 (mulf (broadcastInDim S8x4096x1024 ![] bcast_S_S8x4096x1024 (constant S_ .f32 0x3F000000#32)) (Host.dotGeneral dot_S8x4096x2816_S2816x1024_S8x4096x1024_2_0_01_1_n_n none (mulf (mulf (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x1))) x2) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x1))) x2)))))) (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x1))) x3)) x4))) shapeCasts_S8x4096x1024_S32768x1024

/-- The reference at an index of its result: the row's feed-forward step. -/
theorem ref_apply (x0 : FVec Ideal S8x4096x1024 .f32) (x1 : FVec Ideal S1024 .f32) (x2 x3 : FVec Ideal S1024x2816 .f32)
    (x4 : FVec Ideal S2816x1024 .f32) (r : Fin 32768) (j : Fin 1024) :
    ref x0 x1 x2 x3 x4 (ix2 r j) = ffn siluL (fun k => x0 (ix3 (⟨r.val / 4096, by omega⟩ : Fin 8) (⟨r.val % 4096, Nat.mod_lt _ (by decide)⟩ : Fin 4096) k))
      (fun k => x1 (ix1 k)) (fun k f => x2 (ix2 k f)) (fun k f => x3 (ix2 k f)) (fun f k => x4 (ix2 f k)) j := by
  unfold ffn gateArg rms siluL
  pointwise [ref]

end Cert.FfnOneRefIdeal.Hand

end
-- ==== Proof.FfnOneValue.lean ====
/-
  The first feed-forward half step's value: the pipelined kernel's result array, row by row, is the reference's.
-/
module

public import proofs.«01_k».proof.Proof.Gen.FfnOneIdeal.Value
public import proofs.«01_k».proof.Proof.FfnOneRefValue
public import proofs.«01_k».proof.Defs
public import proofs.«01_k».proof.Proof.Gen.Pre_finite_gate1
public import proofs.«01_k».proof.Proof.Finite
public import Idealize.ShloMosaic.Lib.Pipeline.ValueKit
public import Idealize.ShloMosaic.Lib.Claim

@[expose] public section

set_option maxRecDepth 16384

noncomputable section

namespace Cert.FfnOneIdeal.Hand

open Cert.FfnOneIdeal Cert.FfnOneIdeal.Gen Idealize.ShloMosaic Idealize.ShloMosaic.TcCoe Idealize.SL.Sem
open Cert Cert.Rows

variable (m : (ℓ : Loc nD τ sig) → Buf (Elt Ideal) ℓ)

/-- What the body stores, at an index of its block: the row's feed-forward step. -/
theorem pay_apply (x0 : Vec Ideal S512x1024 .f32) (x1 : Vec Ideal S1x1024 .f32) (x2 x3 : Vec Ideal S1024x2816 .bf16)
    (x4 : Vec Ideal S2816x1024 .bf16) (i : Fin 512) (j : Fin 1024) :
    k0_pay1 x0 x1 x2 x3 x4 (ix2 i j)
      = ffn siluT (fun k => x0 (ix2 i k)) (fun k => x1 (ix2 0 k)) (fun k f => x2 (ix2 k f)) (fun k f => x3 (ix2 k f))
          (fun f k => x4 (ix2 f k)) j := by
  unfold ffn gateArg rms siluT
  pointwise [k0_pay1]

/-- The row of 4096 that row `r` of the flattened array is, in its batch. -/
abbrev bat (r : Fin 32768) : Fin 8 := ⟨r.val / 4096, by omega⟩

/-- Its position. -/
abbrev pos (r : Fin 32768) : Fin 4096 := ⟨r.val % 4096, Nat.mod_lt _ (by decide)⟩

/-- The result array: every row's feed-forward step. -/
def G (c : Dev nD) : Buf (Elt Ideal) ((c : Thread nD τ).loc main_v5) := fun i =>
  (ffn siluT (fun k => m ((c : Thread nD τ).loc main_arg0) (ix3 (bat (i 0)) (pos (i 0)) k))
    (fun k => m ((c : Thread nD τ).loc main_arg1) (ix1 k))
    (fun k f => m ((c : Thread nD τ).loc main_arg2) (ix2 k f))
    (fun k f => m ((c : Thread nD τ).loc main_arg3) (ix2 k f))
    (fun f k => m ((c : Thread nD τ).loc main_arg4) (ix2 f k)) (i 1) : EReal)

/-- Where each window's block stands, at every grid point. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0]) t

/-- Each input block at an index is the launch's argument there. -/
theorem read0 (c : Dev nD) (t : Fin cfg0.N) (i : Fin 512) (k : Fin 1024) (r : Fin 32768) (hr : r.val = t.val * 512 + i.val) :
    iblk m c 0 t (ix2 i k) = (m ((c : Thread nD τ).loc main_arg0) (ix3 (bat r) (pos r) k) : EReal) := by
  blk_simp [iblk, (idx t).1]
  entry_read
  pointwise
  blk_ext [(idx t).1]

theorem read1 (c : Dev nD) (t : Fin cfg0.N) (k : Fin 1024) :
    iblk m c 1 t (ix2 0 k) = (m ((c : Thread nD τ).loc main_arg1) (ix1 k) : EReal) := by
  blk_simp [iblk, (idx t).2.1]
  entry_read
  pointwise
  blk_ext [(idx t).2.1]

theorem read2 (c : Dev nD) (t : Fin cfg0.N) (k : Fin 1024) (f : Fin 2816) :
    iblk m c 2 t (ix2 k f) = (m ((c : Thread nD τ).loc main_arg2) (ix2 k f) : EReal) := by
  blk_simp [iblk, (idx t).2.2.1]
  entry_read
  pointwise
  blk_ext [(idx t).2.2.1]

theorem read3 (c : Dev nD) (t : Fin cfg0.N) (k : Fin 1024) (f : Fin 2816) :
    iblk m c 3 t (ix2 k f) = (m ((c : Thread nD τ).loc main_arg3) (ix2 k f) : EReal) := by
  blk_simp [iblk, (idx t).2.2.2.1]
  entry_read
  pointwise
  blk_ext [(idx t).2.2.2.1]

theorem read4 (c : Dev nD) (t : Fin cfg0.N) (f : Fin 2816) (k : Fin 1024) :
    iblk m c 4 t (ix2 f k) = (m ((c : Thread nD τ).loc main_arg4) (ix2 f k) : EReal) := by
  blk_simp [iblk, (idx t).2.2.2.2.1]
  entry_read
  pointwise
  blk_ext [(idx t).2.2.2.2.1]

/-- After the run the result array is `G`. -/
theorem final (c : Dev nD) : (dats m 0 c).arrAt 5 cfg0.N = G m c := by
  refine (dats m 0 c).arrAt_eq_of_covers 5 _ (by decide +kernel) fun t hf y => ?_
  blk_simp
  rw [after0_5]
  frame_out
  idx_vars y
  rw [pay_apply]
  have h0 : ((((View.whole main_v5).slice (win0_5.rect t)).emb (ix2 y0 y1)) 0).val = t.val * 512 + y0.val := by
    blk_simp [(idx t).2.2.2.2.2]
  have h1 : (((View.whole main_v5).slice (win0_5.rect t)).emb (ix2 y0 y1)) 1 = y1 := by
    apply Fin.ext
    blk_simp [(idx t).2.2.2.2.2]
  unfold G
  simp only [read0 m c t y0 _ _ h0, read1, read2, read3, read4]
  rw [h1]

/-- The precondition: the norm's gains are finite, -/
theorem gains_real (hp : Pre_FfnOneIdeal_finite_gate1 m) (c : Dev nD) (k : Fin 1024) :
    IsReal (m ((c : Thread nD τ).loc main_arg1) (ix1 k)) := by
  have h := congrFun (hp c) (ix2 k (0 : Fin 2816))
  pointwise [Cert.Pre_finite_gate1.fn] at h
  exact real_of_bit (and_bits h).1

/-- and so are the gate's weights. -/
theorem gate_real (hp : Pre_FfnOneIdeal_finite_gate1 m) (c : Dev nD) (k : Fin 1024) (f : Fin 2816) :
    IsReal (m ((c : Thread nD τ).loc main_arg2) (ix2 k f)) := by
  have h := congrFun (hp c) (ix2 k f)
  pointwise [Cert.Pre_finite_gate1.fn] at h
  exact real_of_bit (and_bits h).2

/-- The result at an index, by the logistic form of silu. -/
theorem G_apply (hp : Pre_FfnOneIdeal_finite_gate1 m) (c : Dev nD) (r : Fin 32768) (j : Fin 1024) :
    G m c (ix2 r j) = ffn siluL (fun k => m ((c : Thread nD τ).loc main_arg0) (ix3 (bat r) (pos r) k))
      (fun k => m ((c : Thread nD τ).loc main_arg1) (ix1 k)) (fun k f => m ((c : Thread nD τ).loc main_arg2) (ix2 k f))
      (fun k f => m ((c : Thread nD τ).loc main_arg3) (ix2 k f)) (fun f k => m ((c : Thread nD τ).loc main_arg4) (ix2 f k)) j :=
  ffn_eq _ _ _ _ _ (gains_real m hp c) (gate_real m hp c) j

/-- The kernel computes the reference's function. -/
theorem algebraic : algebraic_FfnOneIdeal_FfnOneRefIdeal_pre_finite_gate1 := by
  intro m g m' g' hpre hagree
  refine ⟨fun c => G m c, ?_, ?_⟩
  · exact (θ_run defs _ _).mono (fun r h c => ⟨(h c).1.trans (final m c), (h c).2⟩) (Value.run_blocks m g)
  · refine (θ_run Cert.FfnOneRefIdeal.defs _ _).mono (fun r h c => ⟨(h c).1.trans ?_, (h c).2⟩) (Cert.FfnOneRefIdeal.Value.run m' g')
    obtain ⟨h0, h1, h2, h3, h4⟩ := hagree c
    rw [h0, h1, h2, h3, h4]
    funext i
    idx_vars i
    refine Eq.trans ?_ (G_apply m hpre c i0 i1).symm
    exact Cert.FfnOneRefIdeal.Hand.ref_apply _ _ _ _ _ i0 i1

end Cert.FfnOneIdeal.Hand

end
-- ==== Proof.FfnTwoRefValue.lean ====
/-
  The reference of the second feed-forward half step with the per-layer embedding and the final norm, read at an
  index: a row function of its arguments.
-/
module

public import proofs.«01_k».proof.Proof.Gen.FfnTwoRefIdeal.Run
public import proofs.«01_k».proof.Proof.Finite

@[expose] public section

set_option maxRecDepth 16384

noncomputable section

namespace Cert.FfnTwoRefIdeal.Hand

open Cert.FfnTwoRefIdeal Cert.FfnTwoRefIdeal.Gen Idealize.ShloMosaic Cert.Rows

/-- The feed-forward half step of the reference. -/
def refF (x0 : FVec Ideal S8x4096x1024 .f32) (x2 : FVec Ideal S1024 .f32) (x3 x4 : FVec Ideal S1024x2816 .f32) (x5 : FVec Ideal S2816x1024 .f32) :
    FVec Ideal S8x4096x1024 .f32 :=
  addf x0 (mulf (broadcastInDim S8x4096x1024 ![] bcast_S_S8x4096x1024 (constant S_ .f32 0x3F000000#32)) (Host.dotGeneral dot_S8x4096x2816_S2816x1024_S8x4096x1024_2_0_01_1_n_n none (mulf (mulf (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x2))) x3) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x2))) x3)))))) (Host.dotGeneral dot_S8x4096x1024_S1024x2816_S8x4096x2816_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x2))) x4)) x5))

/-- The per-layer embedding added to `h`. -/
def refP (h : FVec Ideal S8x4096x1024 .f32) (x1 : FVec Ideal S8x4096x256 .f32) (x6 : FVec Ideal S1024 .f32)
    (x7 : FVec Ideal S1024x1024 .f32) (x8 : FVec Ideal S256x1024 .f32) : FVec Ideal S8x4096x1024 .f32 :=
  addf h (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Host.dotGeneral dot_S8x4096x1024_S1024x1024_S8x4096x1024_2_0_01_1_n_n none (mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf h h) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x6))) x7))))) (Host.dotGeneral dot_S8x4096x256_S256x1024_S8x4096x1024_2_0_01_1_n_n none x1 x8))

/-- The final norm of `h`, its rows flattened. -/
def refN (h : FVec Ideal S8x4096x1024 .f32) (x9 : FVec Ideal S1024 .f32) : FVec Ideal S32768x1024 .f32 :=
  shapeCast _ (mulf (mulf h (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf h h) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x9))) shapeCasts_S8x4096x1024_S32768x1024

theorem refF_apply (x0 : FVec Ideal S8x4096x1024 .f32) (x2 : FVec Ideal S1024 .f32) (x3 x4 : FVec Ideal S1024x2816 .f32) (x5 : FVec Ideal S2816x1024 .f32)
    (b : Fin 8) (s : Fin 4096) (j : Fin 1024) :
    refF x0 x2 x3 x4 x5 (ix3 b s j) = ffn siluL (fun k => x0 (ix3 b s k)) (fun k => x2 (ix1 k)) (fun k f => x3 (ix2 k f))
      (fun k f => x4 (ix2 k f)) (fun f k => x5 (ix2 f k)) j := by
  unfold ffn gateArg
  unfold rms siluL
  pointwise [refF]

theorem refP_apply (h : FVec Ideal S8x4096x1024 .f32) (x1 : FVec Ideal S8x4096x256 .f32) (x6 : FVec Ideal S1024 .f32)
    (x7 : FVec Ideal S1024x1024 .f32) (x8 : FVec Ideal S256x1024 .f32) (b : Fin 8) (s : Fin 4096) (j : Fin 1024) :
    refP h x1 x6 x7 x8 (ix3 b s j) = ple sigL (fun k => h (ix3 b s k)) (fun k => x6 (ix1 k)) (fun k l => x7 (ix2 k l))
      (fun q => x1 (ix3 b s q)) (fun q l => x8 (ix2 q l)) j := by
  unfold ple
  unfold rms sigL
  pointwise [refP]

theorem refN_apply (h : FVec Ideal S8x4096x1024 .f32) (x9 : FVec Ideal S1024 .f32) (r : Fin 32768) (j : Fin 1024) :
    refN h x9 (ix2 r j) = rms (fun k => h (ix3 (⟨r.val / 4096, by omega⟩ : Fin 8)
      (⟨r.val % 4096, Nat.mod_lt _ (by decide)⟩ : Fin 4096) k)) (fun k => x9 (ix1 k)) j := by
  unfold rms
  pointwise [refN]

/-- The reference at an index of its result: the row's feed-forward step, its embedding and its norm. -/
theorem ref_apply (x0 : FVec Ideal S8x4096x1024 .f32) (x1 : FVec Ideal S8x4096x256 .f32) (x2 : FVec Ideal S1024 .f32)
    (x3 x4 : FVec Ideal S1024x2816 .f32) (x5 : FVec Ideal S2816x1024 .f32) (x6 : FVec Ideal S1024 .f32)
    (x7 : FVec Ideal S1024x1024 .f32) (x8 : FVec Ideal S256x1024 .f32) (x9 : FVec Ideal S1024 .f32) (r : Fin 32768) (j : Fin 1024) :
    refN (refP (refF x0 x2 x3 x4 x5) x1 x6 x7 x8) x9 (ix2 r j)
      = rms (ple sigL (ffn siluL (fun k => x0 (ix3 (⟨r.val / 4096, by omega⟩ : Fin 8) (⟨r.val % 4096, Nat.mod_lt _ (by decide)⟩ : Fin 4096) k))
          (fun k => x2 (ix1 k)) (fun k f => x3 (ix2 k f)) (fun k f => x4 (ix2 k f)) (fun f k => x5 (ix2 f k)))
          (fun k => x6 (ix1 k)) (fun k l => x7 (ix2 k l))
          (fun k => x1 (ix3 (⟨r.val / 4096, by omega⟩ : Fin 8) (⟨r.val % 4096, Nat.mod_lt _ (by decide)⟩ : Fin 4096) k)) (fun k l => x8 (ix2 k l)))
          (fun k => x9 (ix1 k)) j := by
  rw [refN_apply]
  simp only [refP_apply, refF_apply]

end Cert.FfnTwoRefIdeal.Hand

end
-- ==== Proof.FfnTwoValue.lean ====
/-
  The second feed-forward half step's value, with the gated per-layer embedding and the final norm: the pipelined
  kernel's result array, row by row, is the reference's.
-/
module

public import proofs.«01_k».proof.Proof.Gen.FfnTwoIdeal.Value
public import proofs.«01_k».proof.Proof.FfnTwoRefValue
public import proofs.«01_k».proof.Defs
public import proofs.«01_k».proof.Proof.Gen.Pre_finite_gate2
public import proofs.«01_k».proof.Proof.Finite
public import Idealize.ShloMosaic.Lib.Pipeline.ValueKit
public import Idealize.ShloMosaic.Lib.Claim

@[expose] public section

set_option maxRecDepth 16384

noncomputable section

namespace Cert.FfnTwoIdeal.Hand

open Cert.FfnTwoIdeal Cert.FfnTwoIdeal.Gen Idealize.ShloMosaic Idealize.ShloMosaic.TcCoe Idealize.SL.Sem Cert Cert.Rows

variable (m : (ℓ : Loc nD τ sig) → Buf (Elt Ideal) ℓ)

/-- The feed-forward part of the body, at an index of its block. -/
theorem pay_ffn (x0 : Vec Ideal S512x1024 .f32) (x1 : Vec Ideal S1x1024 .f32) (x2 x3 : Vec Ideal S1024x2816 .bf16)
    (x4 : Vec Ideal S2816x1024 .bf16) (i : Fin 512) (j : Fin 1024) :
    k0_pay2 x0 x1 x2 x3 x4 (ix2 i j)
      = ffn siluT (fun k => x0 (ix2 i k)) (fun k => x1 (ix2 0 k)) (fun k f => x2 (ix2 k f)) (fun k f => x3 (ix2 k f))
          (fun f k => x4 (ix2 f k)) j := by
  unfold ffn gateArg rms siluT
  pointwise [k0_pay2]

/-- The embedding's part, at an index, of the block `h` before it. -/
theorem pay_ple (h : FVec Ideal S512x1024 .f32) (g : Vec Ideal S1x1024 .f32) (w : Vec Ideal S1024x1024 .bf16)
    (p : Vec Ideal S512x256 .f32) (v : Vec Ideal S256x1024 .bf16) (i : Fin 512) (j : Fin 1024) :
    k0_pay5 h (k0_pay3 g) (mulf h h) w p v (ix2 i j)
      = ple sigT (fun k => h (ix2 i k)) (fun k => g (ix2 0 k)) (fun k l => w (ix2 k l)) (fun q => p (ix2 i q))
          (fun q l => v (ix2 q l)) j := by
  unfold ple rms sigT
  pointwise [k0_pay5, k0_pay3]

/-- The final norm, at an index, of the block it is taken of. -/
theorem pay_norm (h : FVec Ideal S512x1024 .f32) (g : Vec Ideal S1x1024 .f32) (w : Vec Ideal S1024x1024 .bf16)
    (p : Vec Ideal S512x256 .f32) (v : Vec Ideal S256x1024 .bf16) (a : Vec Ideal S1x1024 .f32) (i : Fin 512) (j : Fin 1024) :
    k0_pay1 (k0_pay5 h (k0_pay3 g) (mulf h h) w p v) (k0_pay6 a) (k0_pay7 h (k0_pay3 g) (mulf h h) w p v) (ix2 i j)
      = rms (fun k => k0_pay5 h (k0_pay3 g) (mulf h h) w p v (ix2 i k)) (fun k => a (ix2 0 k)) j := by
  unfold rms
  unfold k0_pay7
  generalize k0_pay5 h (k0_pay3 g) (mulf h h) w p v = y
  pointwise [k0_pay1, k0_pay6]

/-- The row of 4096 that row `r` of the flattened array is, in its batch. -/
abbrev bat (r : Fin 32768) : Fin 8 := ⟨r.val / 4096, by omega⟩

/-- Its position. -/
abbrev pos (r : Fin 32768) : Fin 4096 := ⟨r.val % 4096, Nat.mod_lt _ (by decide)⟩

/-- The result array, row by row. -/
def G (c : Dev nD) : Buf (Elt Ideal) ((c : Thread nD τ).loc main_v10) := fun i =>
  (rms (ple sigT (ffn siluT (fun k => m ((c : Thread nD τ).loc main_arg0) (ix3 (bat (i 0)) (pos (i 0)) k))
      (fun k => m ((c : Thread nD τ).loc main_arg2) (ix1 k)) (fun k f => m ((c : Thread nD τ).loc main_arg3) (ix2 k f))
      (fun k f => m ((c : Thread nD τ).loc main_arg4) (ix2 k f)) (fun f k => m ((c : Thread nD τ).loc main_arg5) (ix2 f k)))
      (fun k => m ((c : Thread nD τ).loc main_arg6) (ix1 k)) (fun k l => m ((c : Thread nD τ).loc main_arg7) (ix2 k l))
      (fun k => m ((c : Thread nD τ).loc main_arg1) (ix3 (bat (i 0)) (pos (i 0)) k)) (fun q l => m ((c : Thread nD τ).loc main_arg8) (ix2 q l)))
      (fun k => m ((c : Thread nD τ).loc main_arg9) (ix1 k)) (i 1) : EReal)

/-- Where each window's block stands, at every grid point. -/
theorem idx (t : Fin cfg0.N) : win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![0, 0] ∧ win0_7.index t = ![0, 0] ∧ win0_8.index t = ![0, 0] ∧ win0_9.index t = ![0, 0] ∧ win0_10.index t = ![t.val, 0]) t

/-- Each input block at an index is the launch's argument there. -/
theorem read5 (c : Dev nD) (t : Fin cfg0.N) (i : Fin 512) (k : Fin 256) (r : Fin 32768) (hr : r.val = t.val * 512 + i.val) :
    iblk m c 5 t (ix2 i k) = (m ((c : Thread nD τ).loc main_arg1) (ix3 (bat r) (pos r) k) : EReal) := by
  blk_simp [iblk, (idx t).2.2.2.2.2.1]
  entry_read
  pointwise
  blk_ext [(idx t).2.2.2.2.2.1]

theorem read0 (c : Dev nD) (t : Fin cfg0.N) (i : Fin 512) (k : Fin 1024) (r : Fin 32768) (hr : r.val = t.val * 512 + i.val) :
    iblk m c 0 t (ix2 i k) = (m ((c : Thread nD τ).loc main_arg0) (ix3 (bat r) (pos r) k) : EReal) := by
  blk_simp [iblk, (idx t).1]
  entry_read
  pointwise
  blk_ext [(idx t).1]

theorem read1 (c : Dev nD) (t : Fin cfg0.N) (k : Fin 1024) :
    iblk m c 1 t (ix2 0 k) = (m ((c : Thread nD τ).loc main_arg2) (ix1 k) : EReal) := by
  blk_simp [iblk, (idx t).2.1]
  entry_read
  pointwise
  blk_ext [(idx t).2.1]

theorem read2 (c : Dev nD) (t : Fin cfg0.N) (k : Fin 1024) (f : Fin 2816) :
    iblk m c 2 t (ix2 k f) = (m ((c : Thread nD τ).loc main_arg3) (ix2 k f) : EReal) := by
  blk_simp [iblk, (idx t).2.2.1]
  entry_read
  pointwise
  blk_ext [(idx t).2.2.1]

theorem read3 (c : Dev nD) (t : Fin cfg0.N) (k : Fin 1024) (f : Fin 2816) :
    iblk m c 3 t (ix2 k f) = (m ((c : Thread nD τ).loc main_arg4) (ix2 k f) : EReal) := by
  blk_simp [iblk, (idx t).2.2.2.1]
  entry_read
  pointwise
  blk_ext [(idx t).2.2.2.1]

theorem read4 (c : Dev nD) (t : Fin cfg0.N) (f : Fin 2816) (k : Fin 1024) :
    iblk m c 4 t (ix2 f k) = (m ((c : Thread nD τ).loc main_arg5) (ix2 f k) : EReal) := by
  blk_simp [iblk, (idx t).2.2.2.2.1]
  entry_read
  pointwise
  blk_ext [(idx t).2.2.2.2.1]

theorem read6 (c : Dev nD) (t : Fin cfg0.N) (k : Fin 1024) :
    iblk m c 6 t (ix2 0 k) = (m ((c : Thread nD τ).loc main_arg6) (ix1 k) : EReal) := by
  blk_simp [iblk, (idx t).2.2.2.2.2.2.1]
  entry_read
  pointwise
  blk_ext [(idx t).2.2.2.2.2.2.1]

theorem read7 (c : Dev nD) (t : Fin cfg0.N) (k : Fin 1024) (l : Fin 1024) :
    iblk m c 7 t (ix2 k l) = (m ((c : Thread nD τ).loc main_arg7) (ix2 k l) : EReal) := by
  blk_simp [iblk, (idx t).2.2.2.2.2.2.2.1]
  entry_read
  pointwise
  blk_ext [(idx t).2.2.2.2.2.2.2.1]

theorem read8 (c : Dev nD) (t : Fin cfg0.N) (q : Fin 256) (l : Fin 1024) :
    iblk m c 8 t (ix2 q l) = (m ((c : Thread nD τ).loc main_arg8) (ix2 q l) : EReal) := by
  blk_simp [iblk, (idx t).2.2.2.2.2.2.2.2.1]
  entry_read
  pointwise
  blk_ext [(idx t).2.2.2.2.2.2.2.2.1]

theorem read9 (c : Dev nD) (t : Fin cfg0.N) (k : Fin 1024) :
    iblk m c 9 t (ix2 0 k) = (m ((c : Thread nD τ).loc main_arg9) (ix1 k) : EReal) := by
  blk_simp [iblk, (idx t).2.2.2.2.2.2.2.2.2.1]
  entry_read
  pointwise
  blk_ext [(idx t).2.2.2.2.2.2.2.2.2.1]

/-- After the run the result array is `G`. -/
theorem final (c : Dev nD) : (dats m 0 c).arrAt 10 cfg0.N = G m c := by
  refine (dats m 0 c).arrAt_eq_of_covers 10 _ (by decide +kernel) fun t hf y => ?_
  blk_simp
  rw [after0_10]
  frame_out
  unfold k0_pay8 k0_pay9 k0_pay10
  frame_out
  idx_vars y
  have h0 : ((((View.whole main_v10).slice (win0_10.rect t)).emb (ix2 y0 y1)) 0).val = t.val * 512 + y0.val := by
    blk_simp [(idx t).2.2.2.2.2.2.2.2.2.2]
  have h1 : (((View.whole main_v10).slice (win0_10.rect t)).emb (ix2 y0 y1)) 1 = y1 := by
    apply Fin.ext
    blk_simp [(idx t).2.2.2.2.2.2.2.2.2.2]
  refine (pay_norm _ _ _ _ _ _ y0 y1).trans ?_
  simp only [pay_ple, pay_ffn]
  unfold G
  simp only [read0 m c t y0 _ _ h0, read5 m c t y0 _ _ h0, read1, read2, read3, read4, read6, read7, read8, read9]
  rw [h1]

/-- The precondition: the norm's gains are finite, -/
theorem gains_real (hp : Pre_FfnTwoIdeal_finite_gate2 m) (c : Dev nD) (k : Fin 1024) :
    IsReal (m ((c : Thread nD τ).loc main_arg2) (ix1 k)) := by
  have h := congrFun (hp c) (ix2 k (0 : Fin 2816))
  pointwise [Cert.Pre_finite_gate2.fn] at h
  exact real_of_bit (and_bits h).1

/-- and so are the gate's weights. -/
theorem gate_real (hp : Pre_FfnTwoIdeal_finite_gate2 m) (c : Dev nD) (k : Fin 1024) (f : Fin 2816) :
    IsReal (m ((c : Thread nD τ).loc main_arg3) (ix2 k f)) := by
  have h := congrFun (hp c) (ix2 k f)
  pointwise [Cert.Pre_finite_gate2.fn] at h
  exact real_of_bit (and_bits h).2

/-- The result at an index, by the logistic forms. -/
theorem G_apply (hp : Pre_FfnTwoIdeal_finite_gate2 m) (c : Dev nD) (r : Fin 32768) (j : Fin 1024) :
    G m c (ix2 r j) = rms (ple sigL (ffn siluL (fun k => m ((c : Thread nD τ).loc main_arg0) (ix3 (bat r) (pos r) k))
      (fun k => m ((c : Thread nD τ).loc main_arg2) (ix1 k)) (fun k f => m ((c : Thread nD τ).loc main_arg3) (ix2 k f))
      (fun k f => m ((c : Thread nD τ).loc main_arg4) (ix2 k f)) (fun f k => m ((c : Thread nD τ).loc main_arg5) (ix2 f k)))
      (fun k => m ((c : Thread nD τ).loc main_arg6) (ix1 k)) (fun k l => m ((c : Thread nD τ).loc main_arg7) (ix2 k l))
      (fun k => m ((c : Thread nD τ).loc main_arg1) (ix3 (bat r) (pos r) k)) (fun q l => m ((c : Thread nD τ).loc main_arg8) (ix2 q l)))
      (fun k => m ((c : Thread nD τ).loc main_arg9) (ix1 k)) j := by
  have hs : sigT = sigL := funext sig_eq
  have hf := funext (ffn_eq (fun k => m ((c : Thread nD τ).loc main_arg0) (ix3 (bat r) (pos r) k)) (fun k => m ((c : Thread nD τ).loc main_arg2) (ix1 k))
    (fun k f => m ((c : Thread nD τ).loc main_arg3) (ix2 k f)) (fun k f => m ((c : Thread nD τ).loc main_arg4) (ix2 k f)) (fun f k => m ((c : Thread nD τ).loc main_arg5) (ix2 f k))
    (gains_real m hp c) (gate_real m hp c))
  rw [← hs, ← hf]
  rfl

/-- The kernel computes the reference's function. -/
theorem algebraic : algebraic_FfnTwoIdeal_FfnTwoRefIdeal_pre_finite_gate2 := by
  intro m g m' g' hpre hagree
  refine ⟨fun c => G m c, ?_, ?_⟩
  · exact (θ_run defs _ _).mono (fun r h c => ⟨(h c).1.trans (final m c), (h c).2⟩) (Value.run_blocks m g)
  · refine (θ_run Cert.FfnTwoRefIdeal.defs _ _).mono (fun r h c => ⟨(h c).1.trans ?_, (h c).2⟩) (Cert.FfnTwoRefIdeal.Value.run m' g')
    obtain ⟨h0, h1, h2, h3, h4, h5, h6, h7, h8, h9⟩ := hagree c
    unfold Cert.FfnTwoRefIdeal.Value.res_main_v57
    rw [h0, h1, h2, h3, h4, h5, h6, h7, h8, h9]
    funext i
    idx_vars i
    refine Eq.trans ?_ (G_apply m hpre c i0 i1).symm
    exact Cert.FfnTwoRefIdeal.Hand.ref_apply _ _ _ _ _ _ _ _ _ _ i0 i1

end Cert.FfnTwoIdeal.Hand

end
-- ==== Proof.InprojRows.lean ====
/-
  The rows of the input projection's results, as functions of the projected row: its columns reordered, and the norms of
  two of its parts.
-/
module

public import proofs.«01_k».proof.Proof.Rows

@[expose] public section

noncomputable section

namespace Cert.Rows

open Idealize.ShloMosaic

/-- The wide result's columns, from the projection's: the recurrence's input, the query, the gate of the recurrence, the
    branches' gates, the index query, the pooled channels, the latent, and zeros. -/
def wide (y : Fin 7512 → EReal) (n : Fin 7680) : EReal :=
  if h : n.val < 1536 then y ⟨2888 + n.val, by omega⟩
  else if h : n.val - 1536 < 512 then y ⟨n.val - 1536, by omega⟩
  else if h : n.val - 1536 - 512 < 1024 then y ⟨1864 + (n.val - 1536 - 512), by omega⟩
  else if h : n.val - 1536 - 512 - 1024 < 3072 then y ⟨4440 + (n.val - 1536 - 512 - 1024), by omega⟩
  else if h : n.val - 1536 - 512 - 1024 - 3072 < 512 then y ⟨768 + (n.val - 1536 - 512 - 1024 - 3072), by omega⟩
  else if h : n.val - 1536 - 512 - 1024 - 3072 - 512 < 512 then y ⟨1352 + (n.val - 1536 - 512 - 1024 - 3072 - 512), by omega⟩
  else if h : n.val - 1536 - 512 - 1024 - 3072 - 512 - 512 < 256 then y ⟨512 + (n.val - 1536 - 512 - 1024 - 3072 - 512 - 512), by omega⟩
  else 0

/-- The narrow result's columns: the index key, the index weights, the time steps, and zeros. -/
def small (y : Fin 7512 → EReal) (n : Fin 128) : EReal :=
  if h : n.val < 64 then y ⟨1288 + n.val, by omega⟩
  else if h : n.val - 64 < 8 then y ⟨1280 + (n.val - 64), by omega⟩
  else if h : n.val - 64 - 8 < 16 then y ⟨4424 + (n.val - 64 - 8), by omega⟩
  else 0

/-- The norm of the latent part. -/
def latent (y : Fin 7512 → EReal) (g : Fin 256 → EReal) (n : Fin 256) : EReal :=
  y ⟨512 + n.val, by omega⟩ * Ideal.rsqrt (Ideal.div (∑ l : Fin 256, y ⟨512 + l.val, by omega⟩ * y ⟨512 + l.val, by omega⟩)
    (Ideal.ofBits .f32 0x43800000#32) + Ideal.ofBits .f32 0x358637BD#32) * g n

/-- The norm of the latent part, followed by ones. -/
def latentT (y : Fin 7512 → EReal) (g : Fin 256 → EReal) (n : Fin 272) : EReal :=
  if h : n.val < 256 then latent y g ⟨n.val, h⟩ else 1

/-- The norm of the index key. -/
def key (y : Fin 7512 → EReal) (g : Fin 64 → EReal) (n : Fin 64) : EReal :=
  y ⟨1288 + n.val, by omega⟩ * Ideal.rsqrt (Ideal.div (∑ l : Fin 64, y ⟨1288 + l.val, by omega⟩ * y ⟨1288 + l.val, by omega⟩)
    (Ideal.ofBits .f32 0x42800000#32) + Ideal.ofBits .f32 0x358637BD#32) * g n

/-- A sum of rows' multiples, reordered, is the sum of the rows reordered. -/
theorem wide_sum (a : Fin 1024 → EReal) (w : Fin 1024 → Fin 7512 → EReal) (n : Fin 7680) :
    ∑ k, a k * wide (w k) n = wide (fun n => ∑ k, a k * w k n) n := by
  unfold wide
  repeat' split
  all_goals simp

theorem small_sum (a : Fin 1024 → EReal) (w : Fin 1024 → Fin 7512 → EReal) (n : Fin 128) :
    ∑ k, a k * small (w k) n = small (fun n => ∑ k, a k * w k n) n := by
  unfold small
  repeat' split
  all_goals simp

/-- The latent's columns of the wide result. -/
theorem wide_lat (y : Fin 7512 → EReal) (n : Fin 256) :
    wide y ⟨5120 + (2048 + n.val), by omega⟩ = y ⟨512 + n.val, by omega⟩ := by
  unfold wide
  repeat rw [dif_neg (by dsimp only; omega)]
  rw [dif_pos (by dsimp only; omega)]
  exact congrArg y (Fin.ext (by dsimp only; omega))

/-- The index key's columns of the narrow result. -/
theorem small_key (y : Fin 7512 → EReal) (n : Fin 64) :
    small y ⟨n.val, by omega⟩ = y ⟨1288 + n.val, by omega⟩ := by
  unfold small
  rw [dif_pos (by dsimp only; omega)]

end Cert.Rows

end
-- ==== Proof.InprojRefValue.lean ====
/-
  The input projection's reference at an index of each of its results: the projected row, in the order of columns in which
  the later calls read it, and the two norms of its parts.
-/
module

public import proofs.«01_k».proof.Proof.Gen.InprojRefIdeal.Run
public import proofs.«01_k».proof.Proof.InprojRows

@[expose] public section

set_option maxRecDepth 16384

noncomputable section

namespace Cert.InprojRefIdeal.Hand

open Cert.InprojRefIdeal Cert.InprojRefIdeal.Gen Idealize.ShloMosaic Cert.Rows

/-- The projected rows. -/
def refY (x0 : FVec Ideal S8x4096x1024 .f32) (x1 : FVec Ideal S1024 .f32) (x2 : FVec Ideal S1024x7512 .f32) :
    FVec Ideal S8x4096x7512 .f32 :=
  Host.dotGeneral dot_S8x4096x1024_S1024x7512_S8x4096x7512_2_0_01_1_n_n none (mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x1))) x2

/-- The wide result of the projected rows `y`. -/
def refWide (y : FVec Ideal S8x4096x7512 .f32) : FVec Ideal S32768x7680 .bf16 :=
  truncf .bf16 (shapeCast _ ((concatenate S8x4096x7680 2 [⟨S8x4096x1536, ((extractStridedSlice S8x4096x1536 ![0, 0, 2888] y slices_S8x4096x7512_S8x4096x1536_0_0_2888) : (⟨S8x4096x1536, .f32⟩ : BufTy).Contents (Elt Ideal))⟩, ⟨S8x4096x512, ((extractStridedSlice S8x4096x512 ![0, 0, 0] y slices_S8x4096x7512_S8x4096x512_0_0_0) : (⟨S8x4096x512, .f32⟩ : BufTy).Contents (Elt Ideal))⟩, ⟨S8x4096x1024, ((extractStridedSlice S8x4096x1024 ![0, 0, 1864] y slices_S8x4096x7512_S8x4096x1024_0_0_1864) : (⟨S8x4096x1024, .f32⟩ : BufTy).Contents (Elt Ideal))⟩, ⟨S8x4096x3072, ((extractStridedSlice S8x4096x3072 ![0, 0, 4440] y slices_S8x4096x7512_S8x4096x3072_0_0_4440) : (⟨S8x4096x3072, .f32⟩ : BufTy).Contents (Elt Ideal))⟩, ⟨S8x4096x512, ((extractStridedSlice S8x4096x512 ![0, 0, 768] y slices_S8x4096x7512_S8x4096x512_0_0_768) : (⟨S8x4096x512, .f32⟩ : BufTy).Contents (Elt Ideal))⟩, ⟨S8x4096x512, ((extractStridedSlice S8x4096x512 ![0, 0, 1352] y slices_S8x4096x7512_S8x4096x512_0_0_1352) : (⟨S8x4096x512, .f32⟩ : BufTy).Contents (Elt Ideal))⟩, ⟨S8x4096x256, ((extractStridedSlice S8x4096x256 ![0, 0, 512] y slices_S8x4096x7512_S8x4096x256_0_0_512) : (⟨S8x4096x256, .f32⟩ : BufTy).Contents (Elt Ideal))⟩, ⟨S8x4096x256, ((broadcastInDim S8x4096x256 ![] bcast_S_S8x4096x256 (constant (F := Ideal) S_ .f32 0x00000000#32)) : (⟨S8x4096x256, .f32⟩ : BufTy).Contents (Elt Ideal))⟩] concatenates_S8x4096x1536_S8x4096x512_S8x4096x1024_S8x4096x3072_S8x4096x512_S8x4096x512_S8x4096x256_S8x4096x256_S8x4096x7680_d2 : (⟨S8x4096x7680, .f32⟩ : BufTy).Contents (Elt Ideal))) shapeCasts_S8x4096x7680_S32768x7680) bitsLt_bf16_f32

/-- The narrow result. -/
def refSmall (y : FVec Ideal S8x4096x7512 .f32) : FVec Ideal S32768x128 .f32 :=
  shapeCast _ ((concatenate S8x4096x128 2 [⟨S8x4096x64, ((extractStridedSlice S8x4096x64 ![0, 0, 1288] y slices_S8x4096x7512_S8x4096x64_0_0_1288) : (⟨S8x4096x64, .f32⟩ : BufTy).Contents (Elt Ideal))⟩, ⟨S8x4096x8, ((extractStridedSlice S8x4096x8 ![0, 0, 1280] y slices_S8x4096x7512_S8x4096x8_0_0_1280) : (⟨S8x4096x8, .f32⟩ : BufTy).Contents (Elt Ideal))⟩, ⟨S8x4096x16, ((extractStridedSlice S8x4096x16 ![0, 0, 4424] y slices_S8x4096x7512_S8x4096x16_0_0_4424) : (⟨S8x4096x16, .f32⟩ : BufTy).Contents (Elt Ideal))⟩, ⟨S8x4096x40, ((broadcastInDim S8x4096x40 ![] bcast_S_S8x4096x40 (constant (F := Ideal) S_ .f32 0x00000000#32)) : (⟨S8x4096x40, .f32⟩ : BufTy).Contents (Elt Ideal))⟩] concatenates_S8x4096x64_S8x4096x8_S8x4096x16_S8x4096x40_S8x4096x128_d2 : (⟨S8x4096x128, .f32⟩ : BufTy).Contents (Elt Ideal))) shapeCasts_S8x4096x128_S32768x128

/-- The normed latent. -/
def refLat (y : FVec Ideal S8x4096x7512 .f32) (x3 : FVec Ideal S256 .f32) : FVec Ideal S8x4096x256 .bf16 :=
  truncf .bf16 (mulf (mulf (extractStridedSlice S8x4096x256 ![0, 0, 512] y slices_S8x4096x7512_S8x4096x256_0_0_512) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (extractStridedSlice S8x4096x256 ![0, 0, 512] y slices_S8x4096x7512_S8x4096x256_0_0_512) (extractStridedSlice S8x4096x256 ![0, 0, 512] y slices_S8x4096x7512_S8x4096x256_0_0_512)) (constant (F := Ideal) S_ .f32 0x00000000#32) reducesTo_S8x4096x256_S8x4096_d2 h_S_)) (broadcastInDim S8x4096x1 ![] bcast_S_S8x4096x1 (constant (F := Ideal) S_ .f32 0x43800000#32))) (broadcastInDim S8x4096x1 ![] bcast_S_S8x4096x1 (constant (F := Ideal) S_ .f32 0x358637BD#32)))))) (broadcastInDim S8x4096x256 ![0, 1, 2] bcast_S1x1x256_S8x4096x256_0_1_2 (broadcastInDim S1x1x256 ![2] bcast_S256_S1x1x256_2 x3))) bitsLt_bf16_f32

/-- The normed latent in blocks, transposed, with rows of ones. -/
def refLatT (y : FVec Ideal S8x4096x7512 .f32) (x3 : FVec Ideal S256 .f32) : FVec Ideal S8x8x272x512 .bf16 :=
  truncf .bf16 (concatenate S8x8x272x512 2 [⟨S8x8x256x512, (transpose S8x8x256x512 [0, 1, 3, 2] (shapeCast _ (mulf (mulf (extractStridedSlice S8x4096x256 ![0, 0, 512] y slices_S8x4096x7512_S8x4096x256_0_0_512) (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf (extractStridedSlice S8x4096x256 ![0, 0, 512] y slices_S8x4096x7512_S8x4096x256_0_0_512) (extractStridedSlice S8x4096x256 ![0, 0, 512] y slices_S8x4096x7512_S8x4096x256_0_0_512)) (constant (F := Ideal) S_ .f32 0x00000000#32) reducesTo_S8x4096x256_S8x4096_d2 h_S_)) (broadcastInDim S8x4096x1 ![] bcast_S_S8x4096x1 (constant (F := Ideal) S_ .f32 0x43800000#32))) (broadcastInDim S8x4096x1 ![] bcast_S_S8x4096x1 (constant (F := Ideal) S_ .f32 0x358637BD#32)))))) (broadcastInDim S8x4096x256 ![0, 1, 2] bcast_S1x1x256_S8x4096x256_0_1_2 (broadcastInDim S1x1x256 ![2] bcast_S256_S1x1x256_2 x3))) shapeCasts_S8x4096x256_S8x8x512x256) transposes_S8x8x512x256_S8x8x256x512_0_1_3_2)⟩, ⟨S8x8x16x512, (broadcastInDim S8x8x16x512 ![] bcast_S_S8x8x16x512 (constant (F := Ideal) S_ .f32 0x3F800000#32))⟩] concatenates_S8x8x256x512_S8x8x16x512_S8x8x272x512_d2) bitsLt_bf16_f32

/-- The normed index key. -/
def refKey (y : FVec Ideal S8x4096x7512 .f32) (x4 : FVec Ideal S64 .f32) : FVec Ideal S8x4096x64 .bf16 :=
  truncf .bf16 (mulf (mulf (extractStridedSlice S8x4096x64 ![0, 0, 1288] y slices_S8x4096x7512_S8x4096x64_0_0_1288) (broadcastInDim S8x4096x64 ![0, 1, 2] bcast_S8x4096x1_S8x4096x64_0_1_2 (Host.rsqrt (addf (Host.divf (broadcastInDim S8x4096x1 ![0, 1] bcast_S8x4096_S8x4096x1_0_1 (Host.reduceAdd (mulf (extractStridedSlice S8x4096x64 ![0, 0, 1288] y slices_S8x4096x7512_S8x4096x64_0_0_1288) (extractStridedSlice S8x4096x64 ![0, 0, 1288] y slices_S8x4096x7512_S8x4096x64_0_0_1288)) (constant (F := Ideal) S_ .f32 0x00000000#32) reducesTo_S8x4096x64_S8x4096_d2 h_S_)) (broadcastInDim S8x4096x1 ![] bcast_S_S8x4096x1 (constant (F := Ideal) S_ .f32 0x42800000#32))) (broadcastInDim S8x4096x1 ![] bcast_S_S8x4096x1 (constant (F := Ideal) S_ .f32 0x358637BD#32)))))) (broadcastInDim S8x4096x64 ![0, 1, 2] bcast_S1x1x64_S8x4096x64_0_1_2 (broadcastInDim S1x1x64 ![2] bcast_S64_S1x1x64_2 x4))) bitsLt_bf16_f32

/-- The batch of row `r` of the flattened array. -/
abbrev bat (r : Fin 32768) : Fin 8 := ⟨r.val / 4096, by omega⟩

/-- Its position. -/
abbrev pos (r : Fin 32768) : Fin 4096 := ⟨r.val % 4096, Nat.mod_lt _ (by decide)⟩

theorem refY_apply (x0 : FVec Ideal S8x4096x1024 .f32) (x1 : FVec Ideal S1024 .f32) (x2 : FVec Ideal S1024x7512 .f32)
    (b : Fin 8) (s : Fin 4096) (n : Fin 7512) :
    refY x0 x1 x2 (ix3 b s n) = ∑ k, rms (fun k => x0 (ix3 b s k)) (fun k => x1 (ix1 k)) k * x2 (ix2 k n) := by
  unfold rms
  pointwise [refY]

theorem refWide_apply (y : FVec Ideal S8x4096x7512 .f32) (r : Fin 32768) (n : Fin 7680) :
    refWide y (ix2 r n) = wide (fun n => y (ix3 (bat r) (pos r) n)) n := by
  unfold wide
  pointwise [refWide]

theorem refSmall_apply (y : FVec Ideal S8x4096x7512 .f32) (r : Fin 32768) (n : Fin 128) :
    refSmall y (ix2 r n) = small (fun n => y (ix3 (bat r) (pos r) n)) n := by
  unfold small
  pointwise [refSmall]

theorem refLat_apply (y : FVec Ideal S8x4096x7512 .f32) (x3 : FVec Ideal S256 .f32) (b : Fin 8) (s : Fin 4096) (n : Fin 256) :
    refLat y x3 (ix3 b s n) = latent (fun n => y (ix3 b s n)) (fun k => x3 (ix1 k)) n := by
  unfold latent
  pointwise [refLat]

theorem refLatT_apply (y : FVec Ideal S8x4096x7512 .f32) (x3 : FVec Ideal S256 .f32) (b : Fin 8) (q : Fin 8) (n : Fin 272) (s : Fin 512) :
    refLatT y x3 (ix4 b q n s) = latentT (fun n => y (ix3 b ⟨q.val * 512 + s.val, by omega⟩ n)) (fun k => x3 (ix1 k)) n := by
  unfold latentT latent
  pointwise [refLatT]

theorem refKey_apply (y : FVec Ideal S8x4096x7512 .f32) (x4 : FVec Ideal S64 .f32) (b : Fin 8) (s : Fin 4096) (n : Fin 64) :
    refKey y x4 (ix3 b s n) = key (fun n => y (ix3 b s n)) (fun k => x4 (ix1 k)) n := by
  unfold key
  pointwise [refKey]

end Cert.InprojRefIdeal.Hand

end
-- ==== Proof.InprojValue.lean ====
/-
  The input projection's value: the pipelined kernel's five result arrays, row by row, are the reference's.
-/
module

public import proofs.«01_k».proof.Proof.Gen.InprojIdeal.Value
public import proofs.«01_k».proof.Proof.InprojRefValue
public import proofs.«01_k».proof.Defs
public import Idealize.ShloMosaic.Lib.Pipeline.ValueKit
public import Idealize.ShloMosaic.Lib.Claim

@[expose] public section

set_option maxRecDepth 16384

noncomputable section

namespace Cert.InprojIdeal.Hand

open Cert.InprojIdeal Cert.InprojIdeal.Gen Idealize.ShloMosaic Idealize.ShloMosaic.TcCoe Idealize.SL.Sem Cert Cert.Rows

section Body

variable (x0 : Vec Ideal S512x1024 .f32) (x1 : Vec Ideal S1x1024 .f32) (x2 : Vec Ideal S1024x7680 .bf16)
  (x3 : Vec Ideal S1024x128 .bf16) (x4 : Vec Ideal S1x256 .f32) (x5 : Vec Ideal S1x64 .f32)

/-- The normed row `i` of the body's block. -/
abbrev row (i : Fin 512) (k : Fin 1024) : EReal := rms (fun k => x0 (ix2 i k)) (fun k => x1 (ix2 0 k)) k

/-- The wide block at an index. -/
theorem wide_apply (i : Fin 512) (n : Fin 7680) :
    out0_6 x0 x1 x2 x3 x4 x5 (ix2 i n) = ∑ k, row x0 x1 i k * x2 (ix2 k n) := by
  unfold row rms
  canon_tiles x h
  all_goals
    pointwise [k0_pay7, k0_pay6, k0_pay15, k0_pay5, k0_pay4, k0_pay2]
    simp only [show x 0 = i from Fin.ext h0.symm]
    exact Finset.sum_congr rfl fun k _ => congrArg _ (congrArg x2 (congrArg (ix2 k) (Fin.ext h1.symm)))

/-- The narrow block at an index. -/
theorem small_apply (i : Fin 512) (n : Fin 128) :
    out0_7 x0 x1 x2 x3 x4 x5 (ix2 i n) = ∑ k, row x0 x1 i k * x3 (ix2 k n) := by
  unfold row rms
  frame_out
  pointwise [k0_pay3, k0_pay2]

/-- The latent's norm, at an index of its block, of the wide block's columns. -/
theorem lat_apply (i : Fin 512) (n : Fin 256) (o : Fin 1) :
    out0_8 x0 x1 x2 x3 x4 x5 (ix3 o i n) = (∑ k, row x0 x1 i k * x2 (ix2 k ⟨5120 + (2048 + n.val), by omega⟩))
      * Ideal.rsqrt (Ideal.div (∑ l : Fin 256, (∑ k, row x0 x1 i k * x2 (ix2 k ⟨5120 + (2048 + l.val), by omega⟩)) *
          (∑ k, row x0 x1 i k * x2 (ix2 k ⟨5120 + (2048 + l.val), by omega⟩)))
        (Ideal.ofBits .f32 0x43800000#32) + Ideal.ofBits .f32 0x358637BD#32) * x4 (ix2 0 n) := by
  unfold row rms
  frame_out
  pointwise [k0_pay9, k0_pay8, k0_pay7, k0_pay6, k0_pay15, k0_pay2, r0_8, r0_10]

/-- The latent's norm, transposed, and the rows of ones below it. -/
theorem latT_apply (o o' : Fin 1) (n : Fin 272) (i : Fin 512) :
    out0_9 x0 x1 x2 x3 x4 x5 (ix4 o o' n i) = if h : n.val < 256 then out0_8 x0 x1 x2 x3 x4 x5 (ix3 0 i ⟨n.val, h⟩) else 1 := by
  simp only [lat_apply]
  unfold row rms
  frame_out
  pointwise [k0_pay10, k0_pay8, k0_pay7, k0_pay6, k0_pay15, k0_pay2, r0_8, r0_10]

/-- The index key's norm, at an index of its block, of the narrow block's columns. -/
theorem key_apply (o : Fin 1) (i : Fin 512) (n : Fin 64) :
    out0_10 x0 x1 x2 x3 x4 x5 (ix3 o i n) = (∑ k, row x0 x1 i k * x3 (ix2 k ⟨n.val, by omega⟩))
      * Ideal.rsqrt (Ideal.div (∑ l : Fin 64, (∑ k, row x0 x1 i k * x3 (ix2 k ⟨l.val, by omega⟩)) *
          (∑ k, row x0 x1 i k * x3 (ix2 k ⟨l.val, by omega⟩)))
        (Ideal.ofBits .f32 0x42800000#32) + Ideal.ofBits .f32 0x358637BD#32) * x5 (ix2 0 n) := by
  unfold row rms
  frame_out
  pointwise [k0_pay1, k0_pay11, k0_pay12, k0_pay13, k0_pay14, k0_pay16, k0_pay3, k0_pay2]

end Body

variable (m : (ℓ : Loc nD τ sig) → Buf (Elt Ideal) ℓ)

/-- The projected row at a batch and position. -/
def Y (c : Dev nD) (b : Fin 8) (s : Fin 4096) (n : Fin 7512) : EReal :=
  ∑ k, rms (fun k => m ((c : Thread nD τ).loc main_arg0) (ix3 b s k)) (fun k => m ((c : Thread nD τ).loc main_arg1) (ix1 k)) k
    * (m ((c : Thread nD τ).loc main_arg2) (ix2 k n) : EReal)

/-- The batch of row `r` of the flattened arrays. -/
abbrev bat (r : Fin 32768) : Fin 8 := ⟨r.val / 4096, by omega⟩

/-- Its position. -/
abbrev pos (r : Fin 32768) : Fin 4096 := ⟨r.val % 4096, Nat.mod_lt _ (by decide)⟩

/-- The five results. -/
def G6 (c : Dev nD) : Buf (Elt Ideal) ((c : Thread nD τ).loc main_v20_0) := fun i =>
  (wide (Y m c (bat (i 0)) (pos (i 0))) (i 1) : EReal)

def G7 (c : Dev nD) : Buf (Elt Ideal) ((c : Thread nD τ).loc main_v20_1) := fun i =>
  (small (Y m c (bat (i 0)) (pos (i 0))) (i 1) : EReal)

def G8 (c : Dev nD) : Buf (Elt Ideal) ((c : Thread nD τ).loc main_v20_2) := fun i =>
  (latent (Y m c (i 0) (i 1)) (fun k => m ((c : Thread nD τ).loc main_arg3) (ix1 k)) (i 2) : EReal)

def G9 (c : Dev nD) : Buf (Elt Ideal) ((c : Thread nD τ).loc main_v20_3) := fun i =>
  (latentT (Y m c (i 0) ⟨(i 1).val * 512 + (i 3).val, by have h1 := (i 1).isLt; have h3 := (i 3).isLt; change _ < 8 at h1; change _ < 512 at h3; omega⟩)
    (fun k => m ((c : Thread nD τ).loc main_arg3) (ix1 k)) (i 2) : EReal)

def G10 (c : Dev nD) : Buf (Elt Ideal) ((c : Thread nD τ).loc main_v20_4) := fun i =>
  (key (Y m c (i 0) (i 1)) (fun k => m ((c : Thread nD τ).loc main_arg4) (ix1 k)) (i 2) : EReal)

/-- Where each window's block stands, at every grid point. -/
theorem idx (t : Fin cfg0.N) : win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val / 8, t.val % 8, 0] ∧ win0_9.index t = ![t.val / 8, t.val % 8, 0, 0] ∧ win0_10.index t = ![t.val / 8, t.val % 8, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val / 8, t.val % 8, 0] ∧ win0_9.index t = ![t.val / 8, t.val % 8, 0, 0] ∧ win0_10.index t = ![t.val / 8, t.val % 8, 0]) t

/-- Each input block at an index is the launch's argument there. -/
theorem read0 (c : Dev nD) (t : Fin cfg0.N) (i : Fin 512) (k : Fin 1024) (b : Fin 8) (s : Fin 4096)
    (hb : b.val = t.val / 8) (hs : s.val = t.val % 8 * 512 + i.val) :
    iblk m c 0 t (ix2 i k) = (m ((c : Thread nD τ).loc main_arg0) (ix3 b s k) : EReal) := by
  blk_simp [iblk, (idx t).1]
  entry_read
  pointwise
  blk_ext [(idx t).1]

theorem read1 (c : Dev nD) (t : Fin cfg0.N) (k : Fin 1024) :
    iblk m c 1 t (ix2 0 k) = (m ((c : Thread nD τ).loc main_arg1) (ix1 k) : EReal) := by
  blk_simp [iblk, (idx t).2.1]
  entry_read
  pointwise
  blk_ext [(idx t).2.1]

/-- The wide weights as the host prepares them. -/
def wideW (x2 : FVec Ideal S1024x7512 .f32) : FVec Ideal S1024x7680 .bf16 :=
  ((concatenate S1024x7680 1 [⟨S1024x1536, ((extractStridedSlice S1024x1536 ![0, 2888] (truncf .bf16 x2 bitsLt_bf16_f32) slices_S1024x7512_S1024x1536_0_2888) : (⟨S1024x1536, .bf16⟩ : BufTy).Contents (Elt Ideal))⟩, ⟨S1024x512, ((extractStridedSlice S1024x512 ![0, 0] (truncf .bf16 x2 bitsLt_bf16_f32) slices_S1024x7512_S1024x512_0_0) : (⟨S1024x512, .bf16⟩ : BufTy).Contents (Elt Ideal))⟩, ⟨S1024x1024, ((extractStridedSlice S1024x1024 ![0, 1864] (truncf .bf16 x2 bitsLt_bf16_f32) slices_S1024x7512_S1024x1024_0_1864) : (⟨S1024x1024, .bf16⟩ : BufTy).Contents (Elt Ideal))⟩, ⟨S1024x3072, ((extractStridedSlice S1024x3072 ![0, 4440] (truncf .bf16 x2 bitsLt_bf16_f32) slices_S1024x7512_S1024x3072_0_4440) : (⟨S1024x3072, .bf16⟩ : BufTy).Contents (Elt Ideal))⟩, ⟨S1024x512, ((extractStridedSlice S1024x512 ![0, 768] (truncf .bf16 x2 bitsLt_bf16_f32) slices_S1024x7512_S1024x512_0_768) : (⟨S1024x512, .bf16⟩ : BufTy).Contents (Elt Ideal))⟩, ⟨S1024x512, ((extractStridedSlice S1024x512 ![0, 1352] (truncf .bf16 x2 bitsLt_bf16_f32) slices_S1024x7512_S1024x512_0_1352) : (⟨S1024x512, .bf16⟩ : BufTy).Contents (Elt Ideal))⟩, ⟨S1024x256, ((extractStridedSlice S1024x256 ![0, 512] (truncf .bf16 x2 bitsLt_bf16_f32) slices_S1024x7512_S1024x256_0_512) : (⟨S1024x256, .bf16⟩ : BufTy).Contents (Elt Ideal))⟩, ⟨S1024x256, ((broadcastInDim S1024x256 ![] bcast_S_S1024x256 ((constant (F := Ideal) S_ .bf16 0x0000#16))) : (⟨S1024x256, .bf16⟩ : BufTy).Contents (Elt Ideal))⟩] concatenates_S1024x1536_S1024x512_S1024x1024_S1024x3072_S1024x512_S1024x512_S1024x256_S1024x256_S1024x7680_d1 : (⟨S1024x7680, .bf16⟩ : BufTy).Contents (Elt Ideal)))

theorem wideW_apply (x2 : FVec Ideal S1024x7512 .f32) (k : Fin 1024) (n : Fin 7680) : wideW x2 (ix2 k n) = wide (fun n => x2 (ix2 k n)) n := by
  unfold wide
  pointwise [wideW]

theorem V_wide (c : Dev nD) : V m c main_v14 = wideW (m ((c : Thread nD τ).loc main_arg2)) := by
  unfold_abbrev_sides
  after_results_simp <;> (try dsimp only [Matrix.cons_val]) <;> (try after_results_simp) <;> rfl

theorem read2 (c : Dev nD) (t : Fin cfg0.N) (k : Fin 1024) (n : Fin 7680) :
    iblk m c 2 t (ix2 k n) = (wide (fun n => m ((c : Thread nD τ).loc main_arg2) (ix2 k n)) n : EReal) := by
  refine Eq.trans ?_ (wideW_apply _ k n)
  blk_simp [iblk, (idx t).2.2.1]
  rw [V_wide]
  blk_ext [(idx t).2.2.1]

/-- The narrow weights as the host prepares them. -/
def smallW (x2 : FVec Ideal S1024x7512 .f32) : FVec Ideal S1024x128 .bf16 :=
  (truncf .bf16 ((concatenate S1024x128 1 [⟨S1024x64, ((extractStridedSlice S1024x64 ![0, 1288] x2 slices_S1024x7512_S1024x64_0_1288) : (⟨S1024x64, .f32⟩ : BufTy).Contents (Elt Ideal))⟩, ⟨S1024x8, ((extractStridedSlice S1024x8 ![0, 1280] x2 slices_S1024x7512_S1024x8_0_1280) : (⟨S1024x8, .f32⟩ : BufTy).Contents (Elt Ideal))⟩, ⟨S1024x16, ((extractStridedSlice S1024x16 ![0, 4424] x2 slices_S1024x7512_S1024x16_0_4424) : (⟨S1024x16, .f32⟩ : BufTy).Contents (Elt Ideal))⟩, ⟨S1024x40, ((broadcastInDim S1024x40 ![] bcast_S_S1024x40 ((constant (F := Ideal) S_ .f32 0x00000000#32))) : (⟨S1024x40, .f32⟩ : BufTy).Contents (Elt Ideal))⟩] concatenates_S1024x64_S1024x8_S1024x16_S1024x40_S1024x128_d1 : (⟨S1024x128, .f32⟩ : BufTy).Contents (Elt Ideal))) bitsLt_bf16_f32)

theorem smallW_apply (x2 : FVec Ideal S1024x7512 .f32) (k : Fin 1024) (n : Fin 128) : smallW x2 (ix2 k n) = small (fun n => x2 (ix2 k n)) n := by
  unfold small
  pointwise [smallW]

theorem V_small (c : Dev nD) : V m c main_v15 = smallW (m ((c : Thread nD τ).loc main_arg2)) := by
  unfold_abbrev_sides
  after_results_simp <;> (try dsimp only [Matrix.cons_val]) <;> (try after_results_simp) <;> rfl

theorem read3 (c : Dev nD) (t : Fin cfg0.N) (k : Fin 1024) (n : Fin 128) :
    iblk m c 3 t (ix2 k n) = (small (fun n => m ((c : Thread nD τ).loc main_arg2) (ix2 k n)) n : EReal) := by
  refine Eq.trans ?_ (smallW_apply _ k n)
  blk_simp [iblk, (idx t).2.2.2.1]
  rw [V_small]
  blk_ext [(idx t).2.2.2.1]

theorem read4 (c : Dev nD) (t : Fin cfg0.N) (k : Fin 256) :
    iblk m c 4 t (ix2 0 k) = (m ((c : Thread nD τ).loc main_arg3) (ix1 k) : EReal) := by
  blk_simp [iblk, (idx t).2.2.2.2.1]
  entry_read
  pointwise
  blk_ext [(idx t).2.2.2.2.1]

theorem read5 (c : Dev nD) (t : Fin cfg0.N) (k : Fin 64) :
    iblk m c 5 t (ix2 0 k) = (m ((c : Thread nD τ).loc main_arg4) (ix1 k) : EReal) := by
  blk_simp [iblk, (idx t).2.2.2.2.2.1]
  entry_read
  pointwise
  blk_ext [(idx t).2.2.2.2.2.1]

/-- The projected rows, of the blocks. -/
theorem sum_wide (c : Dev nD) (t : Fin cfg0.N) (i : Fin 512) (n : Fin 7680) (b : Fin 8) (s : Fin 4096)
    (hb : b.val = t.val / 8) (hs : s.val = t.val % 8 * 512 + i.val) :
    (∑ k, row (iblk m c 0 t) (iblk m c 1 t) i k * iblk m c 2 t (ix2 k n) : EReal) = wide (Y m c b s) n := by
  unfold row
  simp only [read0 m c t i _ b s hb hs, read1, read2]
  exact wide_sum _ _ n

theorem sum_small (c : Dev nD) (t : Fin cfg0.N) (i : Fin 512) (n : Fin 128) (b : Fin 8) (s : Fin 4096)
    (hb : b.val = t.val / 8) (hs : s.val = t.val % 8 * 512 + i.val) :
    (∑ k, row (iblk m c 0 t) (iblk m c 1 t) i k * iblk m c 3 t (ix2 k n) : EReal) = small (Y m c b s) n := by
  unfold row
  simp only [read0 m c t i _ b s hb hs, read1, read3]
  exact small_sum _ _ n

/-- After the run the wide result is `G6`. -/
theorem final6 (c : Dev nD) : (dats m 0 c).arrAt 6 cfg0.N = G6 m c := by
  refine (dats m 0 c).arrAt_eq_of_covers 6 _ (by decide +kernel) fun t hf y => ?_
  blk_simp
  rw [after0_6]
  idx_vars y
  have h0 : ((((View.whole main_v20_0).slice (win0_6.rect t)).emb (ix2 y0 y1)) 0).val = t.val * 512 + y0.val := by
    blk_simp [(idx t).2.2.2.2.2.2.1]
  have h1 : (((View.whole main_v20_0).slice (win0_6.rect t)).emb (ix2 y0 y1)) 1 = y1 := by
    apply Fin.ext
    blk_simp [(idx t).2.2.2.2.2.2.1]
  refine (wide_apply _ _ _ _ _ _ y0 y1).trans ((sum_wide m c t y0 y1 _ _ ?_ ?_).trans (by unfold G6; rw [h1]))
  · dsimp only; rw [h0]; omega
  · dsimp only; rw [h0]; omega

/-- After the run the small result is `G7`. -/
theorem final7 (c : Dev nD) : (dats m 0 c).arrAt 7 cfg0.N = G7 m c := by
  refine (dats m 0 c).arrAt_eq_of_covers 7 _ (by decide +kernel) fun t hf y => ?_
  blk_simp
  rw [after0_7]
  idx_vars y
  have h0 : ((((View.whole main_v20_1).slice (win0_7.rect t)).emb (ix2 y0 y1)) 0).val = t.val * 512 + y0.val := by
    blk_simp [(idx t).2.2.2.2.2.2.2.1]
  have h1 : (((View.whole main_v20_1).slice (win0_7.rect t)).emb (ix2 y0 y1)) 1 = y1 := by
    apply Fin.ext
    blk_simp [(idx t).2.2.2.2.2.2.2.1]
  refine (small_apply _ _ _ _ _ _ y0 y1).trans ((sum_small m c t y0 y1 _ _ ?_ ?_).trans (by unfold G7; rw [h1]))
  · dsimp only; rw [h0]; omega
  · dsimp only; rw [h0]; omega

theorem lat_blk (c : Dev nD) (t : Fin cfg0.N) (o : Fin 1) (i : Fin 512) (n : Fin 256) (b : Fin 8) (s : Fin 4096)
    (hb : b.val = t.val / 8) (hs : s.val = t.val % 8 * 512 + i.val) :
    (out0_8 (iblk m c 0 t) (iblk m c 1 t) (iblk m c 2 t) (iblk m c 3 t) (iblk m c 4 t) (iblk m c 5 t) (ix3 o i n) : EReal)
      = latent (Y m c b s) (fun k => m ((c : Thread nD τ).loc main_arg3) (ix1 k)) n := by
  rw [lat_apply]
  simp only [sum_wide m c t i _ b s hb hs, wide_lat, read4]
  rfl

theorem final8 (c : Dev nD) : (dats m 0 c).arrAt 8 cfg0.N = G8 m c := by
  refine (dats m 0 c).arrAt_eq_of_covers 8 _ (by decide +kernel) fun t hf y => ?_
  blk_simp
  rw [after0_8]
  idx_vars y
  have h0 : ((((View.whole main_v20_2).slice (win0_8.rect t)).emb (ix3 y0 y1 y2)) 0).val = t.val / 8 := by
    blk_simp [(idx t).2.2.2.2.2.2.2.2.1]
  have h1 : ((((View.whole main_v20_2).slice (win0_8.rect t)).emb (ix3 y0 y1 y2)) 1).val = t.val % 8 * 512 + y1.val := by
    blk_simp [(idx t).2.2.2.2.2.2.2.2.1]
  have h2 : (((View.whole main_v20_2).slice (win0_8.rect t)).emb (ix3 y0 y1 y2)) 2 = y2 := by
    apply Fin.ext
    blk_simp [(idx t).2.2.2.2.2.2.2.2.1]
  refine (lat_blk m c t y0 y1 y2 _ _ h0 h1).trans ?_
  unfold G8
  rw [h2]

theorem final9 (c : Dev nD) : (dats m 0 c).arrAt 9 cfg0.N = G9 m c := by
  refine (dats m 0 c).arrAt_eq_of_covers 9 _ (by decide +kernel) fun t hf y => ?_
  blk_simp
  rw [after0_9]
  idx_vars y
  have h0 : ((((View.whole main_v20_3).slice (win0_9.rect t)).emb (ix4 y0 y1 y2 y3)) 0).val = t.val / 8 := by
    blk_simp [(idx t).2.2.2.2.2.2.2.2.2.1]
  have h1 : ((((View.whole main_v20_3).slice (win0_9.rect t)).emb (ix4 y0 y1 y2 y3)) 1).val = t.val % 8 := by
    blk_simp [(idx t).2.2.2.2.2.2.2.2.2.1]
  have h2 : (((View.whole main_v20_3).slice (win0_9.rect t)).emb (ix4 y0 y1 y2 y3)) 2 = y2 := by
    apply Fin.ext
    blk_simp [(idx t).2.2.2.2.2.2.2.2.2.1]
  have h3 : ((((View.whole main_v20_3).slice (win0_9.rect t)).emb (ix4 y0 y1 y2 y3)) 3).val = y3.val := by
    blk_simp [(idx t).2.2.2.2.2.2.2.2.2.1]
  rw [latT_apply]
  unfold G9 latentT
  rw [h2]
  by_cases h : y2.val < 256
  · rw [dif_pos h, dif_pos h]
    exact lat_blk m c t 0 y3 _ _ _ h0 (by dsimp only; rw [h1, h3])
  · rw [dif_neg h, dif_neg h]

theorem final10 (c : Dev nD) : (dats m 0 c).arrAt 10 cfg0.N = G10 m c := by
  refine (dats m 0 c).arrAt_eq_of_covers 10 _ (by decide +kernel) fun t hf y => ?_
  blk_simp
  rw [after0_10]
  idx_vars y
  have h0 : ((((View.whole main_v20_4).slice (win0_10.rect t)).emb (ix3 y0 y1 y2)) 0).val = t.val / 8 := by
    blk_simp [(idx t).2.2.2.2.2.2.2.2.2.2]
  have h1 : ((((View.whole main_v20_4).slice (win0_10.rect t)).emb (ix3 y0 y1 y2)) 1).val = t.val % 8 * 512 + y1.val := by
    blk_simp [(idx t).2.2.2.2.2.2.2.2.2.2]
  have h2 : (((View.whole main_v20_4).slice (win0_10.rect t)).emb (ix3 y0 y1 y2)) 2 = y2 := by
    apply Fin.ext
    blk_simp [(idx t).2.2.2.2.2.2.2.2.2.2]
  rw [key_apply]
  unfold G10 key
  rw [h2]
  simp only [sum_small m c t y1 _ _ _ h0 h1, small_key, read5]

/-- The kernel computes the reference's results. -/
theorem algebraic : algebraic_InprojIdeal_InprojRefIdeal := by
  intro m g m' g' _ hagree
  refine ⟨fun c => G6 m c, fun c => G7 m c, fun c => G8 m c, fun c => G9 m c, fun c => G10 m c, ?_, ?_⟩
  · exact (θ_run defs _ _).mono (fun r h c => ⟨(h c).1.trans (final6 m c), (h c).2.1.trans (final7 m c),
      (h c).2.2.1.trans (final8 m c), (h c).2.2.2.1.trans (final9 m c), (h c).2.2.2.2.1.trans (final10 m c),
      (h c).2.2.2.2.2⟩) (Value.run_blocks m g)
  · refine (θ_run Cert.InprojRefIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.InprojRefIdeal.Value.run m' g')
    · obtain ⟨h0, h1, h2, h3, h4⟩ := hagree c
      unfold Cert.InprojRefIdeal.Value.res_main_v46
      rw [h0, h1, h2]
      funext i
      idx_vars i
      refine (Cert.InprojRefIdeal.Hand.refWide_apply (Cert.InprojRefIdeal.Hand.refY _ _ _) i0 i1).trans ?_
      simp only [Cert.InprojRefIdeal.Hand.refY_apply]
      rfl
    · obtain ⟨h0, h1, h2, h3, h4⟩ := hagree c
      rw [h0, h1, h2]
      funext i
      idx_vars i
      refine (Cert.InprojRefIdeal.Hand.refSmall_apply (Cert.InprojRefIdeal.Hand.refY _ _ _) i0 i1).trans ?_
      simp only [Cert.InprojRefIdeal.Hand.refY_apply]
      rfl
    · obtain ⟨h0, h1, h2, h3, h4⟩ := hagree c
      rw [h0, h1, h2, h3]
      funext i
      idx_vars i
      refine (Cert.InprojRefIdeal.Hand.refLat_apply (Cert.InprojRefIdeal.Hand.refY _ _ _) _ i0 i1 i2).trans ?_
      simp only [Cert.InprojRefIdeal.Hand.refY_apply]
      rfl
    · obtain ⟨h0, h1, h2, h3, h4⟩ := hagree c
      rw [h0, h1, h2, h3]
      funext i
      idx_vars i
      refine (Cert.InprojRefIdeal.Hand.refLatT_apply (Cert.InprojRefIdeal.Hand.refY _ _ _) _ i0 i1 i2 i3).trans ?_
      simp only [Cert.InprojRefIdeal.Hand.refY_apply]
      rfl
    · obtain ⟨h0, h1, h2, h3, h4⟩ := hagree c
      rw [h0, h1, h2, h4]
      funext i
      idx_vars i
      refine (Cert.InprojRefIdeal.Hand.refKey_apply (Cert.InprojRefIdeal.Hand.refY _ _ _) _ i0 i1 i2).trans ?_
      simp only [Cert.InprojRefIdeal.Hand.refY_apply]
      rfl

end Cert.InprojIdeal.Hand

end
-- ==== Proof.Pool.lean ====
/-
  Sums over a sliding window of a row of 4096 numbers: a running sum's difference, and a sum of shifted terms.
-/
module

public import proofs.«01_k».proof.Proof.Finite
public import Mathlib.Algebra.BigOperators.Intervals

@[expose] public section

noncomputable section

namespace Cert.Rows

open Idealize.ShloMosaic

/-- The row continued by zeros. -/
def ext (x : Fin 4096 → EReal) (q : ℕ) : EReal := if h : q < 4096 then x ⟨q, h⟩ else 0

/-- The sum of the first `n` terms. -/
def cum (x : Fin 4096 → EReal) (n : ℕ) : EReal := ∑ q ∈ Finset.range n, ext x q

/-- The row moved by 16 places, zeros before it. -/
def pad (x : Fin 4096 → EReal) (p : ℕ) : EReal := if 16 ≤ p then ext x (p - 16) else 0

/-- The sum of the last `w` terms up to and with position `s`. -/
def win (w : ℕ) (x : Fin 4096 → EReal) (s : ℕ) : EReal := ∑ j ∈ Finset.range w, pad x (s + 16 - j)

theorem isReal_ext {x : Fin 4096 → EReal} (hx : ∀ q, IsReal (x q)) (q : ℕ) : IsReal (ext x q) := by
  unfold ext
  split
  · exact hx _
  · exact ⟨0, rfl⟩

theorem isReal_cum {x : Fin 4096 → EReal} (hx : ∀ q, IsReal (x q)) (n : ℕ) : IsReal (cum x n) := by
  unfold cum
  induction n with
  | zero => exact ⟨0, rfl⟩
  | succ n ih => rw [Finset.sum_range_succ]; exact ih.add (isReal_ext hx n)

/-- A running sum at the window's end is the one at its start and the window. -/
theorem cum_win (w : ℕ) (hw : w ≤ 16) (x : Fin 4096 → EReal) (s : ℕ) :
    cum x (s + 1) = cum x (s + 1 - w) + win w x s := by
  obtain ⟨d, hd⟩ : ∃ d, d = min w (s + 1) := ⟨_, rfl⟩
  have h1 : s + 1 = (s + 1 - w) + d := by omega
  have h2 : w = (w - d) + d := by omega
  have e : win w x s = ∑ j ∈ Finset.range d, ext x (s + 1 - w + j) := by
    unfold win
    rw [← Finset.sum_range_reflect, h2, Finset.sum_range_add, Finset.sum_eq_zero, zero_add]
    · refine Finset.sum_congr rfl fun j hj => ?_
      have := Finset.mem_range.1 hj
      unfold pad
      rw [if_pos (by omega)]
      congr 1
      omega
    · intro j hj
      have := Finset.mem_range.1 hj
      unfold pad
      rw [if_neg (by omega)]
  rw [e]
  unfold cum
  conv_lhs => rw [h1, Finset.sum_range_add]

/-- The difference of the running sums of finite terms is the window's sum. -/
theorem cum_sub (w : ℕ) (hw : w ≤ 16) (x : Fin 4096 → EReal) (hx : ∀ q, IsReal (x q)) (s : ℕ) :
    cum x (s + 1) - cum x (s + 1 - w) = win w x s := by
  rw [cum_win w hw]
  obtain ⟨r, hr⟩ := isReal_cum hx (s + 1 - w)
  rw [hr, sub_eq_add_neg, add_right_comm]
  rw [← EReal.coe_neg, ← EReal.coe_add]
  simp

/-- How many terms the window at position `s` has, of at most the number the word says, as a number. -/
def count (w : BitVec 32) (s : ℕ) : EReal :=
  FloatOps.sitofp (F := Ideal) .f32 (IntOp.minsi (IntOp.addi (BitVec.ofNat 32 s) 1#32) w)

/-- A channel's pooled value: the window's mean, less the channel. -/
def mean (w : ℕ) (ww : BitVec 32) (x : Fin 4096 → EReal) (s : Fin 4096) : EReal :=
  Ideal.div (win w x s.val) (count ww s.val) - x s

/-- The pooled channels of one position, by group: each group has a window of its own. -/
def pooled (x : Fin 4096 → Fin 512 → EReal) (s : Fin 4096) (g : Fin 4) (c : Fin 128) : EReal :=
  if g.val < 1 then mean 2 2#32 (fun q => x q ⟨c.val, by omega⟩) s
  else if g.val - 1 < 1 then mean 4 4#32 (fun q => x q ⟨128 + c.val, by omega⟩) s
  else if g.val - 1 - 1 < 1 then mean 8 8#32 (fun q => x q ⟨256 + c.val, by omega⟩) s
  else mean 16 16#32 (fun q => x q ⟨384 + c.val, by omega⟩) s

/-- The groups mixed by their matrices, and scaled. -/
def mixed (p : Fin 4 → Fin 128 → EReal) (w : Fin 4 → Fin 128 → Fin 128 → EReal) (a : Fin 512 → EReal) (n : Fin 512) : EReal :=
  (∑ c, p ⟨n.val / 128, by omega⟩ c * w ⟨n.val / 128, by omega⟩ c ⟨n.val % 128, by omega⟩) * a n

/-- The residual with the gated sum of the three lifted branches, projected. -/
def mergeRow (sg : EReal → EReal) (h : Fin 1024 → EReal) (g : Fin 3072 → EReal) (ya yp : Fin 512 → EReal) (ys : Fin 1024 → EReal)
    (wa wp : Fin 512 → Fin 1024 → EReal) (ws wo : Fin 1024 → Fin 1024 → EReal) (j : Fin 1024) : EReal :=
  h j + ∑ n : Fin 1024, (sg (g ⟨n.val, by omega⟩) * (∑ k, ya k * wa k n) + sg (g ⟨1024 + n.val, by omega⟩) * (∑ k, yp k * wp k n)
    + sg (g ⟨2048 + n.val, by omega⟩) * (∑ k, ys k * ws k n)) * wo n j

/-- The window of 2 terms by doubling, from the rows of a block with 16 rows before it. -/
def dbl2 (e : Fin 528 → EReal) (i : Fin 512) : EReal :=
  e ⟨1 + (15 + i.val), by omega⟩ + e ⟨15 + i.val, by omega⟩

theorem dbl2_eq (x : Fin 4096 → EReal) (e : Fin 528 → EReal) (a : ℕ) (h : ∀ r, e r = pad x (a + r.val)) (i : Fin 512) :
    dbl2 e i = win 2 x (a + i.val) := by
  simp only [dbl2, win, h, Finset.sum_range_succ, Finset.sum_range_zero, zero_add]
  rw [show a + (1 + (15 + i.val)) = a + i.val + 16 - 0 by omega]
  rw [show a + (15 + i.val) = a + i.val + 16 - 1 by omega]

/-- The window of 4 terms by doubling, from the rows of a block with 16 rows before it. -/
def dbl4 (e : Fin 528 → EReal) (i : Fin 512) : EReal :=
  (e ⟨1 + (2 + (13 + i.val)), by omega⟩ + e ⟨2 + (13 + i.val), by omega⟩) + (e ⟨1 + (13 + i.val), by omega⟩ + e ⟨13 + i.val, by omega⟩)

theorem dbl4_eq (x : Fin 4096 → EReal) (e : Fin 528 → EReal) (a : ℕ) (h : ∀ r, e r = pad x (a + r.val)) (i : Fin 512) :
    dbl4 e i = win 4 x (a + i.val) := by
  simp only [dbl4, win, h, Finset.sum_range_succ, Finset.sum_range_zero, zero_add]
  rw [show a + (1 + (2 + (13 + i.val))) = a + i.val + 16 - 0 by omega]
  rw [show a + (2 + (13 + i.val)) = a + i.val + 16 - 1 by omega]
  rw [show a + (1 + (13 + i.val)) = a + i.val + 16 - 2 by omega]
  rw [show a + (13 + i.val) = a + i.val + 16 - 3 by omega]
  simp only [add_assoc]

/-- The window of 8 terms by doubling, from the rows of a block with 16 rows before it. -/
def dbl8 (e : Fin 528 → EReal) (i : Fin 512) : EReal :=
  ((e ⟨1 + (2 + (4 + (9 + i.val))), by omega⟩ + e ⟨2 + (4 + (9 + i.val)), by omega⟩) + (e ⟨1 + (4 + (9 + i.val)), by omega⟩ + e ⟨4 + (9 + i.val), by omega⟩)) + ((e ⟨1 + (2 + (9 + i.val)), by omega⟩ + e ⟨2 + (9 + i.val), by omega⟩) + (e ⟨1 + (9 + i.val), by omega⟩ + e ⟨9 + i.val, by omega⟩))

theorem dbl8_eq (x : Fin 4096 → EReal) (e : Fin 528 → EReal) (a : ℕ) (h : ∀ r, e r = pad x (a + r.val)) (i : Fin 512) :
    dbl8 e i = win 8 x (a + i.val) := by
  simp only [dbl8, win, h, Finset.sum_range_succ, Finset.sum_range_zero, zero_add]
  rw [show a + (1 + (2 + (4 + (9 + i.val)))) = a + i.val + 16 - 0 by omega]
  rw [show a + (2 + (4 + (9 + i.val))) = a + i.val + 16 - 1 by omega]
  rw [show a + (1 + (4 + (9 + i.val))) = a + i.val + 16 - 2 by omega]
  rw [show a + (4 + (9 + i.val)) = a + i.val + 16 - 3 by omega]
  rw [show a + (1 + (2 + (9 + i.val))) = a + i.val + 16 - 4 by omega]
  rw [show a + (2 + (9 + i.val)) = a + i.val + 16 - 5 by omega]
  rw [show a + (1 + (9 + i.val)) = a + i.val + 16 - 6 by omega]
  rw [show a + (9 + i.val) = a + i.val + 16 - 7 by omega]
  simp only [add_assoc]

/-- The window of 16 terms by doubling, from the rows of a block with 16 rows before it. -/
def dbl16 (e : Fin 528 → EReal) (i : Fin 512) : EReal :=
  (((e ⟨1 + (2 + (4 + (8 + (1 + i.val)))), by omega⟩ + e ⟨2 + (4 + (8 + (1 + i.val))), by omega⟩) + (e ⟨1 + (4 + (8 + (1 + i.val))), by omega⟩ + e ⟨4 + (8 + (1 + i.val)), by omega⟩)) + ((e ⟨1 + (2 + (8 + (1 + i.val))), by omega⟩ + e ⟨2 + (8 + (1 + i.val)), by omega⟩) + (e ⟨1 + (8 + (1 + i.val)), by omega⟩ + e ⟨8 + (1 + i.val), by omega⟩))) + (((e ⟨1 + (2 + (4 + (1 + i.val))), by omega⟩ + e ⟨2 + (4 + (1 + i.val)), by omega⟩) + (e ⟨1 + (4 + (1 + i.val)), by omega⟩ + e ⟨4 + (1 + i.val), by omega⟩)) + ((e ⟨1 + (2 + (1 + i.val)), by omega⟩ + e ⟨2 + (1 + i.val), by omega⟩) + (e ⟨1 + (1 + i.val), by omega⟩ + e ⟨1 + i.val, by omega⟩)))

theorem dbl16_eq (x : Fin 4096 → EReal) (e : Fin 528 → EReal) (a : ℕ) (h : ∀ r, e r = pad x (a + r.val)) (i : Fin 512) :
    dbl16 e i = win 16 x (a + i.val) := by
  simp only [dbl16, win, h, Finset.sum_range_succ, Finset.sum_range_zero, zero_add]
  rw [show a + (1 + (2 + (4 + (8 + (1 + i.val))))) = a + i.val + 16 - 0 by omega]
  rw [show a + (2 + (4 + (8 + (1 + i.val)))) = a + i.val + 16 - 1 by omega]
  rw [show a + (1 + (4 + (8 + (1 + i.val)))) = a + i.val + 16 - 2 by omega]
  rw [show a + (4 + (8 + (1 + i.val))) = a + i.val + 16 - 3 by omega]
  rw [show a + (1 + (2 + (8 + (1 + i.val)))) = a + i.val + 16 - 4 by omega]
  rw [show a + (2 + (8 + (1 + i.val))) = a + i.val + 16 - 5 by omega]
  rw [show a + (1 + (8 + (1 + i.val))) = a + i.val + 16 - 6 by omega]
  rw [show a + (8 + (1 + i.val)) = a + i.val + 16 - 7 by omega]
  rw [show a + (1 + (2 + (4 + (1 + i.val)))) = a + i.val + 16 - 8 by omega]
  rw [show a + (2 + (4 + (1 + i.val))) = a + i.val + 16 - 9 by omega]
  rw [show a + (1 + (4 + (1 + i.val))) = a + i.val + 16 - 10 by omega]
  rw [show a + (4 + (1 + i.val)) = a + i.val + 16 - 11 by omega]
  rw [show a + (1 + (2 + (1 + i.val))) = a + i.val + 16 - 12 by omega]
  rw [show a + (2 + (1 + i.val)) = a + i.val + 16 - 13 by omega]
  rw [show a + (1 + (1 + i.val)) = a + i.val + 16 - 14 by omega]
  rw [show a + (1 + i.val) = a + i.val + 16 - 15 by omega]
  simp only [add_assoc]

end Cert.Rows

end
-- ==== Proof.MergeBody.lean ====
/-
The merge's body on its blocks: the pooled branch by doubling, its mixing, and the gated sum, row by row.
-/
module

public import proofs.«01_k».proof.Proof.Gen.MergeIdeal.Value
public import proofs.«01_k».proof.Proof.Pool
public import proofs.«01_k».proof.Proof.Rows
public import Idealize.ShloMosaic.Lib.Pipeline.ValueKit

@[expose] public section

set_option maxRecDepth 16384

noncomputable section

namespace Cert.MergeIdeal.Hand

open Cert.MergeIdeal Cert.MergeIdeal.Gen Idealize.ShloMosaic Idealize.ShloMosaic.TcCoe Idealize.SL.Sem Cert Cert.Rows

/-- The counted mean of a doubled window, less the channel. -/
def cell (d : EReal) (p w : BitVec 32) (y : EReal) : EReal :=
  Ideal.div d (FloatOps.sitofp (F := Ideal) .f32 (IntOp.minsi (IntOp.addi p 1#32) w)) - y

section Body

variable (g : grid0.Coords) (v19 : IVec S512x128 32) (v22 : FVec Ideal S512x512 .f32) (v23 : FVec Ideal S528x512 .f32)
  (v12 : Vec Ideal S16x512 .bf16) (v20 : Vec Ideal S512x512 .bf16) (w w0 w1 w2 w3 : Vec Ideal S1x128x128 .bf16)

theorem pay3_apply (i n : Fin 512) : k0_pay3 v20 (ix2 i n) = v20 (ix2 i n) := by
  pointwise [k0_pay3]

/-- The first group's product, of windows of two. -/
theorem group2 (i : Fin 512) (j : Fin 128) :
    k0_pay7 (k0_pay5 g v12 v20) (k0_pay6 w) (constant (F := Ideal) S512x128 .f32 0x00000000#32) (ix2 i j)
      = ∑ x : Fin 128, cell (dbl2 (fun r => k0_pay4 g v12 v20 (ix2 r ⟨x.val, by omega⟩)) i) (k0_pay2 g (ix2 i x)) 2#32
          (v20 (ix2 i ⟨x.val, by omega⟩)) * w (ix3 0 x j) := by
  unfold k0_pay5 cell dbl2
  generalize k0_pay4 g v12 v20 = e
  generalize k0_pay2 g = p
  pointwise [k0_pay7, k0_pay6, k0_pay3]

/-- The second group's, of windows of four. -/
theorem group4 (i : Fin 512) (j : Fin 128) :
    k0_pay8 v19 v22 v23 w (ix2 i j)
      = ∑ x : Fin 128, cell (dbl4 (fun r => v23 (ix2 r ⟨128 + x.val, by omega⟩)) i) (v19 (ix2 i x)) 4#32
          (v22 (ix2 i ⟨128 + x.val, by omega⟩)) * w (ix3 0 x j) := by
  unfold cell dbl4
  pointwise [k0_pay8]

/-- The third group's, of windows of eight. -/
theorem group8 (i : Fin 512) (j : Fin 128) :
    k0_pay9 v19 v22 v23 w (ix2 i j)
      = ∑ x : Fin 128, cell (dbl8 (fun r => v23 (ix2 r ⟨256 + x.val, by omega⟩)) i) (v19 (ix2 i x)) 8#32
          (v22 (ix2 i ⟨256 + x.val, by omega⟩)) * w (ix3 0 x j) := by
  unfold cell dbl8
  pointwise [k0_pay9]

/-- The groups side by side, scaled. -/
theorem side (v40 v60 v83 : FVec Ideal S512x128 .f32) (a : Vec Ideal S1x512 .f32) (i n : Fin 512) :
    k0_pay11 v19 v22 v40 v60 v83 (k0_pay10 v23) w a (ix2 i n)
      = (if h : n.val < 128 then v40 (ix2 i ⟨n.val, h⟩)
         else if h : n.val - 128 < 128 then v60 (ix2 i ⟨n.val - 128, h⟩)
         else if h : n.val - 128 - 128 < 128 then v83 (ix2 i ⟨n.val - 128 - 128, h⟩)
         else ∑ x : Fin 128, cell (dbl16 (fun r => v23 (ix2 r ⟨384 + x.val, by omega⟩)) i) (v19 (ix2 i x)) 16#32
          (v22 (ix2 i ⟨384 + x.val, by omega⟩)) * w (ix3 0 x ⟨n.val - 128 - 128 - 128, by omega⟩)) * a (ix2 0 n) := by
  unfold cell dbl16
  pointwise [k0_pay11, k0_pay10]

/-- The gated sum of the lifted branches. -/
theorem gated (v114 : FVec Ideal S512x512 .f32) (v115 v132 v148 : Vec Ideal S512x1024 .bf16) (v125 : Vec Ideal S512x512 .f32)
    (v128 v143 : Vec Ideal S512x1024 .bf16) (v158 : Vec Ideal S512x1024 .f32) (v161 : Vec Ideal S1024x1024 .bf16)
    (i : Fin 512) (n : Fin 1024) :
    k0_pay16 v114 (k0_pay12 v115) (k0_pay13 v125) (k0_pay14 v128) (constant (F := Ideal) S512x1024 .f32 0x00000000#32)
        v132 v143 v148 v158 v161 (ix2 i n)
      = sigT (v115 (ix2 i n)) * (∑ k, v125 (ix2 i k) * v128 (ix2 k n)) + sigT (v132 (ix2 i n)) * (∑ k, v114 (ix2 i k) * v143 (ix2 k n))
        + sigT (v148 (ix2 i n)) * (∑ k, v158 (ix2 i k) * v161 (ix2 k n)) := by
  unfold sigT
  pointwise [k0_pay16, k0_pay12, k0_pay13, k0_pay14]

/-- The residual and the projection of the gated sum. -/
theorem proj (v166 : Vec Ideal S512x1024 .f32) (z : FVec Ideal S512x1024 .bf16) (o : Vec Ideal S1024x1024 .bf16) (i : Fin 512) (j : Fin 1024) :
    k0_pay1 (k0_pay15 v166) z o (ix2 i j) = v166 (ix2 i j) + ∑ n, z (ix2 i n) * o (ix2 n j) := by
  pointwise [k0_pay1, k0_pay15]

end Body

/-- A group's cell where the block holds a row's positions from `a` on. -/
theorem cell_mean (x : Fin 4096 → EReal) (a : ℕ) (i : Fin 512) (s : Fin 4096) (hs : s.val = a + i.val) (k : ℕ) (w p : BitVec 32) (d y : EReal)
    (hd : d = win k x (a + i.val)) (hp : p = BitVec.ofNat 32 (a + i.val)) (hy : y = x s) : cell d p w y = mean k w x s := by
  unfold cell mean Rows.count
  rw [hd, hp, hy, hs]

section Mix

variable (v19 : IVec S512x128 32) (v22 : FVec Ideal S512x512 .f32) (v23 : FVec Ideal S528x512 .f32) (g : grid0.Coords)
  (v12 : Vec Ideal S16x512 .bf16) (v20 : Vec Ideal S512x512 .bf16) (w0 w1 w2 w3 : Vec Ideal S1x128x128 .bf16) (a : Vec Ideal S1x512 .f32)

/-- The pooled branch of the body's block, mixed and scaled: where the block and the sixteen rows before it are a row's positions from
    `o` on, zeros standing before the row, it is the row's. -/
theorem mix_apply (x : Fin 4096 → Fin 512 → EReal) (W : Fin 4 → Fin 128 → Fin 128 → EReal) (A : Fin 512 → EReal) (o : ℕ) (i : Fin 512) (s : Fin 4096)
    (hs : s.val = o + i.val) (hp : ∀ j, k0_pay2 g (ix2 i j) = BitVec.ofNat 32 (o + i.val)) (hy : ∀ n, v20 (ix2 i n) = x s n)
    (he : ∀ r n, k0_pay4 g v12 v20 (ix2 r n) = pad (fun q => x q n) (o + r.val))
    (h0 : ∀ c j, w0 (ix3 0 c j) = W 0 c j) (h1 : ∀ c j, w1 (ix3 0 c j) = W 1 c j) (h2 : ∀ c j, w2 (ix3 0 c j) = W 2 c j)
    (h3 : ∀ c j, w3 (ix3 0 c j) = W 3 c j) (ha : ∀ n, a (ix2 0 n) = A n) (n : Fin 512) :
    k0_pay11 (k0_pay2 g) (k0_pay3 v20)
      (k0_pay7 (k0_pay5 g v12 v20) (k0_pay6 w0) (constant (F := Ideal) S512x128 .f32 0x00000000#32))
      (k0_pay8 (k0_pay2 g) (k0_pay3 v20) (k0_pay4 g v12 v20) w1) (k0_pay9 (k0_pay2 g) (k0_pay3 v20) (k0_pay4 g v12 v20) w2)
      (k0_pay10 (k0_pay4 g v12 v20)) w3 a (ix2 i n)
      = mixed (pooled x s) W A n := by
  rw [side]
  unfold mixed
  rw [ha]
  congr 1
  have hn := n.isLt
  split
  · rename_i h
    have e : (⟨n.val / 128, by omega⟩ : Fin 4) = 0 := Fin.ext (by show n.val / 128 = 0; omega)
    have f : (⟨n.val % 128, by omega⟩ : Fin 128) = ⟨n.val, h⟩ := Fin.ext (by show n.val % 128 = n.val; omega)
    rw [group2, e, f]
    refine Finset.sum_congr rfl fun c _ => ?_
    rw [h0]
    congr 1
    exact cell_mean (fun q => x q ⟨c.val, by omega⟩) o i s hs 2 2#32 _ _ _ (dbl2_eq _ _ o (fun r => he r _) i) (hp _) (hy _)
  split
  · rename_i h' h
    have e : (⟨n.val / 128, by omega⟩ : Fin 4) = 1 := Fin.ext (by show n.val / 128 = 1; omega)
    have f : (⟨n.val % 128, by omega⟩ : Fin 128) = ⟨n.val - 128, h⟩ := Fin.ext (by show n.val % 128 = n.val - 128; omega)
    rw [group4, e, f]
    refine Finset.sum_congr rfl fun c _ => ?_
    rw [h1]
    congr 1
    exact cell_mean (fun q => x q ⟨128 + c.val, by omega⟩) o i s hs 4 4#32 _ _ _ (dbl4_eq _ _ o (fun r => he r _) i) (hp _) ((pay3_apply _ _ _).trans (hy _))
  split
  · rename_i h'' h' h
    have e : (⟨n.val / 128, by omega⟩ : Fin 4) = 2 := Fin.ext (by show n.val / 128 = 2; omega)
    have f : (⟨n.val % 128, by omega⟩ : Fin 128) = ⟨n.val - 128 - 128, h⟩ := Fin.ext (by show n.val % 128 = n.val - 128 - 128; omega)
    rw [group8, e, f]
    refine Finset.sum_congr rfl fun c _ => ?_
    rw [h2]
    congr 1
    exact cell_mean (fun q => x q ⟨256 + c.val, by omega⟩) o i s hs 8 8#32 _ _ _ (dbl8_eq _ _ o (fun r => he r _) i) (hp _) ((pay3_apply _ _ _).trans (hy _))
  · have e : (⟨n.val / 128, by omega⟩ : Fin 4) = 3 := Fin.ext (by show n.val / 128 = 3; omega)
    have f : (⟨n.val % 128, by omega⟩ : Fin 128) = ⟨n.val - 128 - 128 - 128, by omega⟩ := Fin.ext (by show n.val % 128 = n.val - 128 - 128 - 128; omega)
    rw [e, f]
    refine Finset.sum_congr rfl fun c _ => ?_
    rw [h3]
    congr 1
    exact cell_mean (fun q => x q ⟨384 + c.val, by omega⟩) o i s hs 16 16#32 _ _ _ (dbl16_eq _ _ o (fun r => he r _) i) (hp _) ((pay3_apply _ _ _).trans (hy _))

end Mix

/-- The remainder of the block's first row by the batch's length, as the body takes it. -/
def word (p : BitVec 32) : BitVec 32 :=
  Scalar.select
    (Scalar.andi
      (Scalar.xori
        (Scalar.cmpi .slt (Scalar.remsi (Scalar.muli p 512#32) (Scalar.select (Scalar.cmpi .eq 4096#32 0#32) 1#32 4096#32)) 0#32)
        (Scalar.cmpi .slt (Scalar.select (Scalar.cmpi .eq 4096#32 0#32) 1#32 4096#32) 0#32))
      (Scalar.cmpi .ne (Scalar.remsi (Scalar.muli p 512#32) (Scalar.select (Scalar.cmpi .eq 4096#32 0#32) 1#32 4096#32)) 0#32))
    (Scalar.addi (Scalar.remsi (Scalar.muli p 512#32) (Scalar.select (Scalar.cmpi .eq 4096#32 0#32) 1#32 4096#32))
      (Scalar.select (Scalar.cmpi .eq 4096#32 0#32) 1#32 4096#32))
    (Scalar.remsi (Scalar.muli p 512#32) (Scalar.select (Scalar.cmpi .eq 4096#32 0#32) 1#32 4096#32))

theorem word_eq : ∀ q : Fin 64, word (BitVec.ofNat 32 q.val) = BitVec.ofNat 32 (q.val % 8 * 512) := by decide +kernel

theorem word_sgt : ∀ q : Fin 64, Scalar.cmpi .sgt (word (BitVec.ofNat 32 q.val)) 0#32 = if q.val % 8 = 0 then 0#1 else 1#1 := by decide +kernel

/-- The position in its batch of a row of the block, as a word. -/
theorem place (g : grid0.Coords) (i : Fin 512) (j : Fin 128) :
    k0_pay2 g (ix2 i j) = BitVec.ofNat 32 ((g 0).val % 8 * 512 + i.val) := by
  have e : k0_pay2 g (ix2 i j) = IntOp.addi (word (BitVec.ofNat 32 (g 0).val)) (BitVec.ofNat 32 i.val) := by
    unfold word
    pointwise [k0_pay2]
  rw [e]
  refine (congrArg (IntOp.addi · (BitVec.ofNat 32 i.val)) (word_eq (g 0))).trans ?_
  exact (BitVec.ofNat_add _ _).symm

/-- The block and the sixteen rows before it. -/
theorem joined (g : grid0.Coords) (v12 : Vec Ideal S16x512 .bf16) (v20 : Vec Ideal S512x512 .bf16) (r : Fin 528) (n : Fin 512) :
    k0_pay4 g v12 v20 (ix2 r n)
      = if h : r.val < 16 then (if (g 0).val % 8 = 0 then 0 else v12 (ix2 ⟨r.val, h⟩ n)) else v20 (ix2 ⟨r.val - 16, by omega⟩ n) := by
  have e : k0_pay4 g v12 v20 (ix2 r n)
      = if h : r.val < 16 then Scalar.select (Scalar.cmpi .sgt (word (BitVec.ofNat 32 (g 0).val)) 0#32) (v12 (ix2 ⟨r.val, h⟩ n)) 0
        else v20 (ix2 ⟨r.val - 16, by omega⟩ n) := by
    unfold word
    pointwise [k0_pay4, k0_pay3]
  rw [e]
  split
  · rename_i h
    refine (congrArg (Scalar.select · (v12 (ix2 ⟨r.val, h⟩ n)) 0) (word_sgt (g 0))).trans ?_
    show Scalar.select (if (g 0).val % 8 = 0 then 0#1 else 1#1) _ _ = _
    split <;> rfl
  · rfl

end Cert.MergeIdeal.Hand
-- ==== Proof.MergeRefValue.lean ====
/-
  The merge's reference, read at an index.
-/
module

public import proofs.«01_k».proof.Proof.Gen.MergeRefIdeal.Run
public import proofs.«01_k».proof.Proof.Pool
public import proofs.«01_k».proof.Proof.Rows
public import Idealize.ShloMosaic.Lib.Pointwise

@[expose] public section

set_option maxRecDepth 16384

noncomputable section

namespace Cert.MergeRefIdeal.Hand

open Cert.MergeRefIdeal Cert.MergeRefIdeal.Gen Idealize.ShloMosaic Cert.Rows

/-- The running sums, from zero. -/
def refSum (x3 : FVec Ideal S8x4096x512 .f32) : FVec Ideal S8x4097x512 .f32 :=
  (concatenate S8x4097x512 1 [⟨S8x1x512, (broadcastInDim S8x1x512 ![] bcast_S_S8x1x512 (constant (F := Ideal) S_ .f32 0x00000000#32))⟩, ⟨S8x4096x512, (Host.reduceWindowAdd ![1, 4096, 1] ![1, 1, 1] ![0, 4095, 0] ![0, 0, 0] x3 (broadcastInDim S_ ![] bcast_S_S_ (constant (F := Ideal) S_ .f32 0x00000000#32)) reduceWindows_S8x4096x512_S8x4096x512_w1s1p0_0_w4096s1p4095_0_w1s1p0_0 h_S_)⟩] concatenates_S8x1x512_S8x4096x512_S8x4097x512_d1)

/-- The pooled channels, of the running sums `y0`. -/
def refPool (y0 : FVec Ideal S8x4097x512 .f32) (x3 : FVec Ideal S8x4096x512 .f32) : FVec Ideal S8x4096x4x128 .f32 :=
  (concatenate S8x4096x4x128 2 [⟨S8x4096x1x128, ((broadcastInDim S8x4096x1x128 ![0, 1, 3] bcast_S8x4096x128_S8x4096x1x128_0_1_3 (subf (Host.divf (subf (extractStridedSlice S8x4096x128 ![0, 1, 0] y0 slices_S8x4097x512_S8x4096x128_0_1_0) (Host.gather gather_S8x4097x512_S4096x2_S8x4096x128_02_1_n_n_12_1_81128 y0 (concatenate S4096x2 1 [⟨S4096x1, (broadcastInDim S4096x1 ![0] bcast_S4096_S4096x1_0 (select (cmpi .slt (maxsi (subi (addi (iotaInDim S4096 32 0) (broadcastInDim S4096 ![] bcast_S_S4096 (constantI S_ 32 1#32))) (broadcastInDim S4096 ![] bcast_S_S4096 (constantI S_ 32 2#32))) (broadcastInDim S4096 ![] bcast_S_S4096 (constantI S_ 32 0#32))) (broadcastInDim S4096 ![] bcast_S_S4096 (constantI S_ 32 0#32))) (addi (maxsi (subi (addi (iotaInDim S4096 32 0) (broadcastInDim S4096 ![] bcast_S_S4096 (constantI S_ 32 1#32))) (broadcastInDim S4096 ![] bcast_S_S4096 (constantI S_ 32 2#32))) (broadcastInDim S4096 ![] bcast_S_S4096 (constantI S_ 32 0#32))) (broadcastInDim S4096 ![] bcast_S_S4096 (constantI S_ 32 4097#32))) (maxsi (subi (addi (iotaInDim S4096 32 0) (broadcastInDim S4096 ![] bcast_S_S4096 (constantI S_ 32 1#32))) (broadcastInDim S4096 ![] bcast_S_S4096 (constantI S_ 32 2#32))) (broadcastInDim S4096 ![] bcast_S_S4096 (constantI S_ 32 0#32)))))⟩, ⟨S4096x1, (broadcastInDim S4096x1 ![] bcast_S_S4096x1 (constantI S_ 32 0#32))⟩] concatenates_S4096x1_S4096x1_S4096x2_d1))) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 2#32))))))) (extractStridedSlice S8x4096x128 ![0, 0, 0] x3 slices_S8x4096x512_S8x4096x128_0_0_0))) : (⟨S8x4096x1x128, .f32⟩ : BufTy).Contents (Elt Ideal))⟩, ⟨S8x4096x1x128, ((broadcastInDim S8x4096x1x128 ![0, 1, 3] bcast_S8x4096x128_S8x4096x1x128_0_1_3 (subf (Host.divf (subf (extractStridedSlice S8x4096x128 ![0, 1, 128] y0 slices_S8x4097x512_S8x4096x128_0_1_128) (Host.gather gather_S8x4097x512_S4096x2_S8x4096x128_02_1_n_n_12_1_81128 y0 (concatenate S4096x2 1 [⟨S4096x1, (broadcastInDim S4096x1 ![0] bcast_S4096_S4096x1_0 (select (cmpi .slt (maxsi (subi (addi (iotaInDim S4096 32 0) (broadcastInDim S4096 ![] bcast_S_S4096 (constantI S_ 32 1#32))) (broadcastInDim S4096 ![] bcast_S_S4096 (constantI S_ 32 4#32))) (broadcastInDim S4096 ![] bcast_S_S4096 (constantI S_ 32 0#32))) (broadcastInDim S4096 ![] bcast_S_S4096 (constantI S_ 32 0#32))) (addi (maxsi (subi (addi (iotaInDim S4096 32 0) (broadcastInDim S4096 ![] bcast_S_S4096 (constantI S_ 32 1#32))) (broadcastInDim S4096 ![] bcast_S_S4096 (constantI S_ 32 4#32))) (broadcastInDim S4096 ![] bcast_S_S4096 (constantI S_ 32 0#32))) (broadcastInDim S4096 ![] bcast_S_S4096 (constantI S_ 32 4097#32))) (maxsi (subi (addi (iotaInDim S4096 32 0) (broadcastInDim S4096 ![] bcast_S_S4096 (constantI S_ 32 1#32))) (broadcastInDim S4096 ![] bcast_S_S4096 (constantI S_ 32 4#32))) (broadcastInDim S4096 ![] bcast_S_S4096 (constantI S_ 32 0#32)))))⟩, ⟨S4096x1, (broadcastInDim S4096x1 ![] bcast_S_S4096x1 (constantI S_ 32 128#32))⟩] concatenates_S4096x1_S4096x1_S4096x2_d1))) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 4#32))))))) (extractStridedSlice S8x4096x128 ![0, 0, 128] x3 slices_S8x4096x512_S8x4096x128_0_0_128))) : (⟨S8x4096x1x128, .f32⟩ : BufTy).Contents (Elt Ideal))⟩, ⟨S8x4096x1x128, ((broadcastInDim S8x4096x1x128 ![0, 1, 3] bcast_S8x4096x128_S8x4096x1x128_0_1_3 (subf (Host.divf (subf (extractStridedSlice S8x4096x128 ![0, 1, 256] y0 slices_S8x4097x512_S8x4096x128_0_1_256) (Host.gather gather_S8x4097x512_S4096x2_S8x4096x128_02_1_n_n_12_1_81128 y0 (concatenate S4096x2 1 [⟨S4096x1, (broadcastInDim S4096x1 ![0] bcast_S4096_S4096x1_0 (select (cmpi .slt (maxsi (subi (addi (iotaInDim S4096 32 0) (broadcastInDim S4096 ![] bcast_S_S4096 (constantI S_ 32 1#32))) (broadcastInDim S4096 ![] bcast_S_S4096 (constantI S_ 32 8#32))) (broadcastInDim S4096 ![] bcast_S_S4096 (constantI S_ 32 0#32))) (broadcastInDim S4096 ![] bcast_S_S4096 (constantI S_ 32 0#32))) (addi (maxsi (subi (addi (iotaInDim S4096 32 0) (broadcastInDim S4096 ![] bcast_S_S4096 (constantI S_ 32 1#32))) (broadcastInDim S4096 ![] bcast_S_S4096 (constantI S_ 32 8#32))) (broadcastInDim S4096 ![] bcast_S_S4096 (constantI S_ 32 0#32))) (broadcastInDim S4096 ![] bcast_S_S4096 (constantI S_ 32 4097#32))) (maxsi (subi (addi (iotaInDim S4096 32 0) (broadcastInDim S4096 ![] bcast_S_S4096 (constantI S_ 32 1#32))) (broadcastInDim S4096 ![] bcast_S_S4096 (constantI S_ 32 8#32))) (broadcastInDim S4096 ![] bcast_S_S4096 (constantI S_ 32 0#32)))))⟩, ⟨S4096x1, (broadcastInDim S4096x1 ![] bcast_S_S4096x1 (constantI S_ 32 256#32))⟩] concatenates_S4096x1_S4096x1_S4096x2_d1))) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 8#32))))))) (extractStridedSlice S8x4096x128 ![0, 0, 256] x3 slices_S8x4096x512_S8x4096x128_0_0_256))) : (⟨S8x4096x1x128, .f32⟩ : BufTy).Contents (Elt Ideal))⟩, ⟨S8x4096x1x128, ((broadcastInDim S8x4096x1x128 ![0, 1, 3] bcast_S8x4096x128_S8x4096x1x128_0_1_3 (subf (Host.divf (subf (extractStridedSlice S8x4096x128 ![0, 1, 384] y0 slices_S8x4097x512_S8x4096x128_0_1_384) (Host.gather gather_S8x4097x512_S4096x2_S8x4096x128_02_1_n_n_12_1_81128 y0 (concatenate S4096x2 1 [⟨S4096x1, (broadcastInDim S4096x1 ![0] bcast_S4096_S4096x1_0 (select (cmpi .slt (maxsi (subi (addi (iotaInDim S4096 32 0) (broadcastInDim S4096 ![] bcast_S_S4096 (constantI S_ 32 1#32))) (broadcastInDim S4096 ![] bcast_S_S4096 (constantI S_ 32 16#32))) (broadcastInDim S4096 ![] bcast_S_S4096 (constantI S_ 32 0#32))) (broadcastInDim S4096 ![] bcast_S_S4096 (constantI S_ 32 0#32))) (addi (maxsi (subi (addi (iotaInDim S4096 32 0) (broadcastInDim S4096 ![] bcast_S_S4096 (constantI S_ 32 1#32))) (broadcastInDim S4096 ![] bcast_S_S4096 (constantI S_ 32 16#32))) (broadcastInDim S4096 ![] bcast_S_S4096 (constantI S_ 32 0#32))) (broadcastInDim S4096 ![] bcast_S_S4096 (constantI S_ 32 4097#32))) (maxsi (subi (addi (iotaInDim S4096 32 0) (broadcastInDim S4096 ![] bcast_S_S4096 (constantI S_ 32 1#32))) (broadcastInDim S4096 ![] bcast_S_S4096 (constantI S_ 32 16#32))) (broadcastInDim S4096 ![] bcast_S_S4096 (constantI S_ 32 0#32)))))⟩, ⟨S4096x1, (broadcastInDim S4096x1 ![] bcast_S_S4096x1 (constantI S_ 32 384#32))⟩] concatenates_S4096x1_S4096x1_S4096x2_d1))) (broadcastInDim S8x4096x128 ![0, 1, 2] bcast_S1x4096x1_S8x4096x128_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 16#32))))))) (extractStridedSlice S8x4096x128 ![0, 0, 384] x3 slices_S8x4096x512_S8x4096x128_0_0_384))) : (⟨S8x4096x1x128, .f32⟩ : BufTy).Contents (Elt Ideal))⟩] concatenates_S8x4096x1x128_S8x4096x1x128_S8x4096x1x128_S8x4096x1x128_S8x4096x4x128_d2 : (⟨S8x4096x4x128, .f32⟩ : BufTy).Contents (Elt Ideal))

/-- The pooled channels mixed and scaled. -/
def refMix (p : FVec Ideal S8x4096x4x128 .f32) (x5 : FVec Ideal S4x128x128 .f32) (x6 : FVec Ideal S512 .f32) : FVec Ideal S8x4096x512 .f32 :=
  (mulf (shapeCast _ (transpose S8x4096x4x128 [2, 3, 0, 1] (Host.dotGeneral dot_S4x128x128_S8x4096x4x128_S4x128x8x4096_1_3_2_01_0_2 none x5 (p)) transposes_S4x128x8x4096_S8x4096x4x128_2_3_0_1) shapeCasts_S8x4096x4x128_S8x4096x512) (broadcastInDim S8x4096x512 ![0, 1, 2] bcast_S1x1x512_S8x4096x512_0_1_2 (broadcastInDim S1x1x512 ![2] bcast_S512_S1x1x512_2 x6)))

/-- The gated sum of the three lifted branches, projected and added to the residual. -/
def refOut (yp : FVec Ideal S8x4096x512 .f32) (x0 : FVec Ideal S8x4096x1024 .f32) (x1 : FVec Ideal S8x4096x512 .f32) (x2 : FVec Ideal S8x4096x1024 .f32)
    (x4 : FVec Ideal S8x4096x3072 .f32) (x7 x8 : FVec Ideal S512x1024 .f32) (x9 x10 : FVec Ideal S1024x1024 .f32) : FVec Ideal S32768x1024 .f32 :=
  shapeCast _ (addf x0 (Host.dotGeneral dot_S8x4096x1024_S1024x1024_S8x4096x1024_2_0_01_1_n_n none (addf (addf (mulf (extractStridedSlice S8x4096x1024 ![0, 0, 0] (Host.divf (broadcastInDim S8x4096x3072 ![] bcast_S_S8x4096x3072 (constant (F := Ideal) S_ .f32 0x3F800000#32)) (addf (broadcastInDim S8x4096x3072 ![] bcast_S_S8x4096x3072 (constant (F := Ideal) S_ .f32 0x3F800000#32)) (Host.exp (Host.negf x4)))) slices_S8x4096x3072_S8x4096x1024_0_0_0) (Host.dotGeneral dot_S8x4096x512_S512x1024_S8x4096x1024_2_0_01_1_n_n none x1 x7)) (mulf (extractStridedSlice S8x4096x1024 ![0, 0, 1024] (Host.divf (broadcastInDim S8x4096x3072 ![] bcast_S_S8x4096x3072 (constant (F := Ideal) S_ .f32 0x3F800000#32)) (addf (broadcastInDim S8x4096x3072 ![] bcast_S_S8x4096x3072 (constant (F := Ideal) S_ .f32 0x3F800000#32)) (Host.exp (Host.negf x4)))) slices_S8x4096x3072_S8x4096x1024_0_0_1024) (Host.dotGeneral dot_S8x4096x512_S512x1024_S8x4096x1024_2_0_01_1_n_n none yp x8))) (mulf (extractStridedSlice S8x4096x1024 ![0, 0, 2048] (Host.divf (broadcastInDim S8x4096x3072 ![] bcast_S_S8x4096x3072 (constant (F := Ideal) S_ .f32 0x3F800000#32)) (addf (broadcastInDim S8x4096x3072 ![] bcast_S_S8x4096x3072 (constant (F := Ideal) S_ .f32 0x3F800000#32)) (Host.exp (Host.negf x4)))) slices_S8x4096x3072_S8x4096x1024_0_0_2048) (Host.dotGeneral dot_S8x4096x1024_S1024x1024_S8x4096x1024_2_0_01_1_n_n none x2 x9))) x10)) shapeCasts_S8x4096x1024_S32768x1024

/-- The rows taken, read at an index. -/
theorem gather_apply (y : FVec Ideal S8x4097x512 .f32) (k : IVec S4096x2 32) (b : Fin 8) (s : Fin 4096) (n : Fin 128) :
    Host.gather gather_S8x4097x512_S4096x2_S8x4096x128_02_1_n_n_12_1_81128 y k (ix3 b s n)
      = y (ix3 b ⟨min (k (ix2 s 0)).toInt.toNat 4096, by omega⟩ ⟨min (k (ix2 s 1)).toInt.toNat 384 + n.val, by omega⟩) := by
  have hsi : ∀ q : Fin 2, (gather_S8x4097x512_S4096x2_S8x4096x128_02_1_n_n_12_1_81128).siIdx (ix3 b s n) q = ix2 s q := by
    intro q
    funext a
    apply Fin.ext
    match a with
    | ⟨0, _⟩ => rfl
    | ⟨1, _⟩ => rfl
  have hk : ∀ a : Fin 3, a ∈ (gather_S8x4097x512_S4096x2_S8x4096x128_02_1_n_n_12_1_81128).sKept ↔ a ≠ 1 := by
    intro a
    rw [GatherDims.mem_sKept]
    simp [gather_S8x4097x512_S4096x2_S8x4096x128_02_1_n_n_12_1_81128]
  unfold Host.gather
  congr 1
  funext a
  apply Fin.ext
  match a with
  | ⟨0, _⟩ =>
    show GatherDims.start gather_S8x4097x512_S4096x2_S8x4096x128_02_1_n_n_12_1_81128 _ _ (0 : Fin 3) + GatherDims.batchCoord gather_S8x4097x512_S4096x2_S8x4096x128_02_1_n_n_12_1_81128 _ (0 : Fin 3) + GatherDims.offCoord gather_S8x4097x512_S4096x2_S8x4096x128_02_1_n_n_12_1_81128 _ (0 : Fin 3) = b.val
    unfold GatherDims.offCoord
    rw [dif_pos ((hk 0).2 (by decide))]
    simp [GatherDims.start, GatherDims.batchCoord, gather_S8x4097x512_S4096x2_S8x4096x128_02_1_n_n_12_1_81128]
  | ⟨1, _⟩ =>
    show GatherDims.start gather_S8x4097x512_S4096x2_S8x4096x128_02_1_n_n_12_1_81128 _ _ (1 : Fin 3) + GatherDims.batchCoord gather_S8x4097x512_S4096x2_S8x4096x128_02_1_n_n_12_1_81128 _ (1 : Fin 3) + GatherDims.offCoord gather_S8x4097x512_S4096x2_S8x4096x128_02_1_n_n_12_1_81128 _ (1 : Fin 3) = min _ _
    unfold GatherDims.offCoord GatherDims.start
    rw [dif_neg (fun h => (hk 1).1 h rfl), dif_pos (by decide)]
    erw [hsi 0]
    rfl
  | ⟨2, _⟩ =>
    show GatherDims.start gather_S8x4097x512_S4096x2_S8x4096x128_02_1_n_n_12_1_81128 _ _ (2 : Fin 3) + GatherDims.batchCoord gather_S8x4097x512_S4096x2_S8x4096x128_02_1_n_n_12_1_81128 _ (2 : Fin 3) + GatherDims.offCoord gather_S8x4097x512_S4096x2_S8x4096x128_02_1_n_n_12_1_81128 _ (2 : Fin 3) = min _ _ + n.val
    unfold GatherDims.offCoord GatherDims.start
    rw [dif_pos ((hk 2).2 (by decide)), dif_pos (by decide)]
    erw [hsi 1]
    rfl

/-- A running sum, read at an index. -/
theorem window_apply (x3 : FVec Ideal S8x4096x512 .f32) (b : Fin 8) (s : Fin 4096) (n : Fin 512) :
    Host.reduceWindowAdd ![1, 4096, 1] ![1, 1, 1] ![0, 4095, 0] ![0, 0, 0] x3
      (broadcastInDim S_ ![] bcast_S_S_ (constant (F := Ideal) S_ FTy.f32 0#32))
      reduceWindows_S8x4096x512_S8x4096x512_w1s1p0_0_w4096s1p4095_0_w1s1p0_0 h_S_ (ix3 b s n)
      = cum (fun q => x3 (ix3 b q n)) (s.val + 1) := by
  have h0 : broadcastInDim S_ ![] bcast_S_S_ (constant (F := Ideal) S_ FTy.f32 0#32) (Shape.Idx.first h_S_) = (0 : EReal) := by pointwise
  have hs : ∀ (n : ℕ) (f : Fin n → EReal), List.foldl (fun r k => r + f k) 0 (List.finRange n) = ∑ k, f k := by
    intro n f
    rw [← List.foldl_map (f := f) (g := fun r k => r + k), ← List.sum_eq_foldl, Fin.sum_univ_def]
  unfold Host.reduceWindowAdd
  rw [h0]
  show Ideal.hostReduceWindowAdd _ _ _ _ _ _ _ _ = _
  unfold Ideal.hostReduceWindowAdd Host.reduceWindow
  dsimp only
  rw [hs, ← Equiv.sum_comp (Shape.rowMajor ⟨3, ![1, 4096, 1]⟩)]
  simp only [Equiv.symm_apply_apply]
  rw [sum_idx3]
  simp [Fin.forall_fin_succ]
  have e : ∀ k : Fin 4096, (if h : 4095 ≤ s.val + k.val ∧ s.val + k.val - 4095 < 4096 then
      x3 fun a => ⟨((ix3 b s n : S8x4096x512.Idx) a).val * (![1, 1, 1] : Fin 3 → ℕ) a + ((ix3 0 k 0 : Shape.Idx ⟨3, ![1, 4096, 1]⟩) a).val - (![0, 4095, 0] : Fin 3 → ℕ) a, by
        match a with
        | ⟨0, _⟩ => show b.val * 1 + 0 - 0 < 8; omega
        | ⟨1, _⟩ => show s.val * 1 + k.val - 4095 < 4096; omega
        | ⟨2, _⟩ => show n.val * 1 + 0 - 0 < 512; omega⟩ else (0 : EReal))
      = (fun k : ℕ => if 4095 ≤ s.val + k then ext (fun q => x3 (ix3 b q n)) (s.val + k - 4095) else 0) k.val := by
    intro k
    dsimp only
    by_cases h : 4095 ≤ s.val + k.val
    · have h' : s.val + k.val - 4095 < 4096 := by omega
      rw [dif_pos ⟨h, h'⟩, if_pos h]
      unfold ext
      rw [dif_pos h']
      obtain ⟨q, hq⟩ : ∃ q, s.val + k.val - 4095 = q := ⟨_, rfl⟩
      have hq' : q < 4096 := hq ▸ h'
      have hx : x3 (ix3 b ⟨s.val + k.val - 4095, h'⟩ n) = x3 (ix3 b ⟨q, hq'⟩ n) := by
        subst hq
        rfl
      refine Eq.trans ?_ hx.symm
      refine congrArg x3 (funext fun a => Fin.ext ?_)
      have hf : ∀ a : Fin 3, ((ix3 b s n : S8x4096x512.Idx) a).val * (![1, 1, 1] : Fin 3 → ℕ) a + ((ix3 0 k 0 : Shape.Idx ⟨3, ![1, 4096, 1]⟩) a).val - (![0, 4095, 0] : Fin 3 → ℕ) a
          = ((ix3 b ⟨q, hq'⟩ n : S8x4096x512.Idx) a).val := by
        simp [Fin.forall_fin_succ, hq]
      exact hf a
    · rw [dif_neg (fun x => h x.1), if_neg h]
  refine (Finset.sum_congr rfl fun k _ => e k).trans ?_
  rw [Fin.sum_univ_eq_sum_range (fun k : ℕ => if 4095 ≤ s.val + k then ext (fun q => x3 (ix3 b q n)) (s.val + k - 4095) else 0),
    show Finset.range 4096 = Finset.range ((4095 - s.val) + (s.val + 1)) from congrArg _ (by omega), Finset.sum_range_add, Finset.sum_eq_zero, zero_add]
  · unfold cum
    refine Finset.sum_congr rfl fun k hk => ?_
    rw [if_pos (by omega), show s.val + (4095 - s.val + k) - 4095 = k by omega]
  · intro k hk
    have := Finset.mem_range.1 hk
    rw [if_neg (by omega)]

theorem refSum_apply (x3 : FVec Ideal S8x4096x512 .f32) (b : Fin 8) (s : Fin 4097) (n : Fin 512) :
    refSum x3 (ix3 b s n) = cum (fun q => x3 (ix3 b q n)) s.val := by
  pointwise [refSum]
  by_cases h : s.val < 1
  · rw [dif_pos h, show s.val = 0 by omega]
    rfl
  · rw [dif_neg h, window_apply]
    congr 1
    dsimp only
    omega

theorem word2 : ∀ s : Fin 4096, (Scalar.select (IntOp.cmpi .slt (IntOp.maxsi (IntOp.subi (IntOp.addi (BitVec.ofNat 32 s.val) 1#32) 2#32) 0#32) 0#32)
    (IntOp.addi (IntOp.maxsi (IntOp.subi (IntOp.addi (BitVec.ofNat 32 s.val) 1#32) 2#32) 0#32) 4097#32)
    (IntOp.maxsi (IntOp.subi (IntOp.addi (BitVec.ofNat 32 s.val) 1#32) 2#32) 0#32)).toInt.toNat = s.val + 1 - 2 := by
  decide +kernel

theorem word4 : ∀ s : Fin 4096, (Scalar.select (IntOp.cmpi .slt (IntOp.maxsi (IntOp.subi (IntOp.addi (BitVec.ofNat 32 s.val) 1#32) 4#32) 0#32) 0#32)
    (IntOp.addi (IntOp.maxsi (IntOp.subi (IntOp.addi (BitVec.ofNat 32 s.val) 1#32) 4#32) 0#32) 4097#32)
    (IntOp.maxsi (IntOp.subi (IntOp.addi (BitVec.ofNat 32 s.val) 1#32) 4#32) 0#32)).toInt.toNat = s.val + 1 - 4 := by
  decide +kernel

theorem word8 : ∀ s : Fin 4096, (Scalar.select (IntOp.cmpi .slt (IntOp.maxsi (IntOp.subi (IntOp.addi (BitVec.ofNat 32 s.val) 1#32) 8#32) 0#32) 0#32)
    (IntOp.addi (IntOp.maxsi (IntOp.subi (IntOp.addi (BitVec.ofNat 32 s.val) 1#32) 8#32) 0#32) 4097#32)
    (IntOp.maxsi (IntOp.subi (IntOp.addi (BitVec.ofNat 32 s.val) 1#32) 8#32) 0#32)).toInt.toNat = s.val + 1 - 8 := by
  decide +kernel

theorem word16 : ∀ s : Fin 4096, (Scalar.select (IntOp.cmpi .slt (IntOp.maxsi (IntOp.subi (IntOp.addi (BitVec.ofNat 32 s.val) 1#32) 16#32) 0#32) 0#32)
    (IntOp.addi (IntOp.maxsi (IntOp.subi (IntOp.addi (BitVec.ofNat 32 s.val) 1#32) 16#32) 0#32) 4097#32)
    (IntOp.maxsi (IntOp.subi (IntOp.addi (BitVec.ofNat 32 s.val) 1#32) 16#32) 0#32)).toInt.toNat = s.val + 1 - 16 := by
  decide +kernel

/-- The batch of a row of the flattened array. -/
abbrev bat (r : Fin 32768) : Fin 8 := ⟨r.val / 4096, by omega⟩

/-- Its position. -/
abbrev pos (r : Fin 32768) : Fin 4096 := ⟨r.val % 4096, Nat.mod_lt _ (by decide)⟩

/-- One channel of a group, of a window `w`. -/
theorem ref_mean (w : ℕ) (hw : w ≤ 16) (ww : BitVec 32) (x3 : FVec Ideal S8x4096x512 .f32) (hx : ∀ i, IsReal (x3 i)) (b : Fin 8) (s : Fin 4096)
    (n : Fin 512) (s0 s1 : Fin 4097) (n1 : Fin 512) (h0 : s0.val = 1 + s.val) (h1 : s1.val = min (s.val + 1 - w) 4096) (hn : n1 = n) :
    (Ideal.div (refSum x3 (ix3 b s0 n) - refSum x3 (ix3 b s1 n1))
      (FloatOps.sitofp (F := Ideal) .f32 (IntOp.minsi (IntOp.addi (BitVec.ofNat 32 s.val) 1#32) ww)) - x3 (ix3 b s n) : EReal)
      = mean w ww (fun q => x3 (ix3 b q n)) s := by
  subst hn
  have h2 : min (s.val + 1 - w) 4096 = s.val + 1 - w := by omega
  rw [refSum_apply, refSum_apply, h0, h1, h2, Nat.add_comm 1, cum_sub w hw _ (fun q => hx _)]
  rfl

/-- The pooled channels at an index. -/
theorem refPool_apply (x3 : FVec Ideal S8x4096x512 .f32) (hx : ∀ i, IsReal (x3 i)) (b : Fin 8) (s : Fin 4096) (g : Fin 4) (c : Fin 128) :
    refPool (refSum x3) x3 (ix4 b s g c) = pooled (fun q n => x3 (ix3 b q n)) s g c := by
  pointwise [refPool]
  simp only [gather_apply]
  pointwise
  simp only [word2, word4, word8, word16]
  unfold pooled
  by_cases h1 : g.val < 1
  · rw [dif_pos h1, if_pos h1]
    exact ref_mean 2 (by decide) _ x3 hx b s _ _ _ _ rfl rfl (Fin.ext (by simp))
  rw [dif_neg h1, if_neg h1]
  by_cases h2 : g.val - 1 < 1
  · rw [dif_pos h2, if_pos h2]
    exact ref_mean 4 (by decide) _ x3 hx b s _ _ _ _ rfl rfl (Fin.ext (by simp))
  rw [dif_neg h2, if_neg h2]
  by_cases h3 : g.val - 1 - 1 < 1
  · rw [dif_pos h3, if_pos h3]
    exact ref_mean 8 (by decide) _ x3 hx b s _ _ _ _ rfl rfl (Fin.ext (by simp))
  rw [dif_neg h3, if_neg h3]
  exact ref_mean 16 (by decide) _ x3 hx b s _ _ _ _ rfl rfl (Fin.ext (by simp))

theorem refMix_apply (p : FVec Ideal S8x4096x4x128 .f32) (x5 : FVec Ideal S4x128x128 .f32) (x6 : FVec Ideal S512 .f32)
    (b : Fin 8) (s : Fin 4096) (n : Fin 512) :
    refMix p x5 x6 (ix3 b s n) = mixed (fun g c => p (ix4 b s g c)) (fun g c d => x5 (ix3 g c d)) (fun n => x6 (ix1 n)) n := by
  unfold mixed
  pointwise [refMix]
  exact congrArg (· * x6 (ix1 n)) (Finset.sum_congr rfl fun c _ => mul_comm _ _)

theorem refOut_apply (yp : FVec Ideal S8x4096x512 .f32) (x0 : FVec Ideal S8x4096x1024 .f32) (x1 : FVec Ideal S8x4096x512 .f32) (x2 : FVec Ideal S8x4096x1024 .f32)
    (x4 : FVec Ideal S8x4096x3072 .f32) (x7 x8 : FVec Ideal S512x1024 .f32) (x9 x10 : FVec Ideal S1024x1024 .f32) (r : Fin 32768) (j : Fin 1024) :
    refOut yp x0 x1 x2 x4 x7 x8 x9 x10 (ix2 r j)
      = mergeRow sigL (fun j => x0 (ix3 (bat r) (pos r) j)) (fun n => x4 (ix3 (bat r) (pos r) n)) (fun k => x1 (ix3 (bat r) (pos r) k))
          (fun k => yp (ix3 (bat r) (pos r) k)) (fun k => x2 (ix3 (bat r) (pos r) k)) (fun k n => x7 (ix2 k n)) (fun k n => x8 (ix2 k n))
          (fun k n => x9 (ix2 k n)) (fun k n => x10 (ix2 k n)) j := by
  unfold mergeRow sigL
  pointwise [refOut]

end Cert.MergeRefIdeal.Hand

end
-- ==== Proof.MergeValue.lean ====
/-
The merge's value: the pipelined kernel's result array, row by row, is the reference's.
-/
module

public import proofs.«01_k».proof.Proof.MergeBody
public import proofs.«01_k».proof.Proof.MergeRefValue
public import proofs.«01_k».proof.Defs
public import proofs.«01_k».proof.Proof.Gen.Pre_finite_pool
public import proofs.«01_k».proof.Proof.Finite
public import Idealize.ShloMosaic.Lib.Pipeline.ValueKit
public import Idealize.ShloMosaic.Lib.Claim

@[expose] public section

set_option maxRecDepth 16384

noncomputable section

namespace Cert.MergeIdeal.Hand

open Cert.MergeIdeal Cert.MergeIdeal.Gen Idealize.ShloMosaic Idealize.ShloMosaic.TcCoe Idealize.SL.Sem Cert Cert.Rows

variable (m : (ℓ : Loc nD τ sig) → Buf (Elt Ideal) ℓ)

/-- The batch of row `r` of the flattened arrays. -/
abbrev bat (r : Fin 32768) : Fin 8 := ⟨r.val / 4096, by omega⟩

/-- Its position. -/
abbrev pos (r : Fin 32768) : Fin 4096 := ⟨r.val % 4096, Nat.mod_lt _ (by decide)⟩

/-- Where each window's block stands, at every grid point. -/
theorem idx (t : Fin cfg0.N) : win0_0.index t = ![t.val, 0] ∧ win0_1.index t = ![t.val, 13] ∧ win0_2.index t = ![t.val * 32 - 1, 13] ∧ win0_3.index t = ![t.val, 0] ∧ win0_4.index t = ![t.val, 3] ∧ win0_5.index t = ![t.val, 4] ∧ win0_6.index t = ![t.val, 5] ∧ win0_7.index t = ![t.val, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![t.val, 0] :=
  (by decide +kernel : ∀ t : Fin grid0.N, win0_0.index t = ![t.val, 0] ∧ win0_1.index t = ![t.val, 13] ∧ win0_2.index t = ![t.val * 32 - 1, 13] ∧ win0_3.index t = ![t.val, 0] ∧ win0_4.index t = ![t.val, 3] ∧ win0_5.index t = ![t.val, 4] ∧ win0_6.index t = ![t.val, 5] ∧ win0_7.index t = ![t.val, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![t.val, 0]) t

/-- The grid point's coordinate is its number. -/
theorem coord (t : Fin cfg0.N) : ((cfg0.grid.coords t) 0).val = t.val :=
  (by decide +kernel : ∀ t : Fin grid0.N, ((grid0.coords t) 0).val = t.val) t

/-- The projected rows as the host lays them out: the gates and the pooled channels at their columns, zeros elsewhere. -/
def projW (x3 : FVec Ideal S8x4096x512 .f32) (x4 : FVec Ideal S8x4096x3072 .f32) : FVec Ideal S32768x7680 .bf16 :=
  ((concatenate S32768x7680 1 [⟨S32768x3072, ((broadcastInDim S32768x3072 ![] bcast_S_S32768x3072 ((constant (F := Ideal) S_ .bf16 0x0000#16))) : (⟨S32768x3072, .bf16⟩ : BufTy).Contents (Elt Ideal))⟩, ⟨S32768x3072, ((truncf .bf16 (shapeCast _ x4 shapeCasts_S8x4096x3072_S32768x3072) bitsLt_bf16_f32) : (⟨S32768x3072, .bf16⟩ : BufTy).Contents (Elt Ideal))⟩, ⟨S32768x512, ((broadcastInDim S32768x512 ![] bcast_S_S32768x512 ((constant (F := Ideal) S_ .bf16 0x0000#16))) : (⟨S32768x512, .bf16⟩ : BufTy).Contents (Elt Ideal))⟩, ⟨S32768x512, ((truncf .bf16 (shapeCast _ x3 shapeCasts_S8x4096x512_S32768x512) bitsLt_bf16_f32) : (⟨S32768x512, .bf16⟩ : BufTy).Contents (Elt Ideal))⟩, ⟨S32768x512, ((broadcastInDim S32768x512 ![] bcast_S_S32768x512 ((constant (F := Ideal) S_ .bf16 0x0000#16))) : (⟨S32768x512, .bf16⟩ : BufTy).Contents (Elt Ideal))⟩] concatenates_S32768x3072_S32768x3072_S32768x512_S32768x512_S32768x512_S32768x7680_d1 : (⟨S32768x7680, .bf16⟩ : BufTy).Contents (Elt Ideal)))

theorem projW_pool' (x3 : FVec Ideal S8x4096x512 .f32) (x4 : FVec Ideal S8x4096x3072 .f32) (r : Fin 32768) (n : Fin 512) (q : Fin 7680)
    (hq : q.val = 6656 + n.val) : projW x3 x4 (ix2 r q) = x3 (ix3 (bat r) (pos r) n) := by
  pointwise [projW]
  have hn := n.isLt
  rw [dif_neg (by omega), dif_neg (by omega), dif_neg (by omega), dif_pos (by omega)]
  exact congrArg (fun z => x3 (ix3 (bat r) (pos r) z)) (Fin.ext (by dsimp only; omega))

theorem projW_pool (x3 : FVec Ideal S8x4096x512 .f32) (x4 : FVec Ideal S8x4096x3072 .f32) (r : Fin 32768) (n : Fin 512) :
    projW x3 x4 (ix2 r ⟨6656 + n.val, by omega⟩) = x3 (ix3 (bat r) (pos r) n) :=
  projW_pool' x3 x4 r n _ rfl

theorem projW_gate (x3 : FVec Ideal S8x4096x512 .f32) (x4 : FVec Ideal S8x4096x3072 .f32) (r : Fin 32768) (n : Fin 3072) :
    projW x3 x4 (ix2 r ⟨3072 + n.val, by omega⟩) = x4 (ix3 (bat r) (pos r) n) := by
  pointwise [projW]

theorem V_proj (c : Dev nD) : V m c main_v7 = projW (m ((c : Thread nD τ).loc main_arg3)) (m ((c : Thread nD τ).loc main_arg4)) := by
  unfold_abbrev_sides
  after_results_simp <;> (try dsimp only [Matrix.cons_val]) <;> (try after_results_simp) <;> rfl

/-- Each input block at an index is the launch's argument there. -/
theorem read1 (c : Dev nD) (t : Fin cfg0.N) (i : Fin 512) (n : Fin 512) (r : Fin 32768) (hr : r.val = t.val * 512 + i.val) :
    iblk m c 1 t (ix2 i n) = (m ((c : Thread nD τ).loc main_arg3) (ix3 (bat r) (pos r) n) : EReal) := by
  refine Eq.trans ?_ (projW_pool _ (m ((c : Thread nD τ).loc main_arg4)) r n)
  blk_simp [iblk, (idx t).2.1]
  rw [V_proj]
  blk_ext [(idx t).2.1]

theorem read2 (c : Dev nD) (t : Fin cfg0.N) (i : Fin 16) (n : Fin 512) (r : Fin 32768) (hr : r.val = (t.val * 32 - 1) * 16 + i.val) :
    iblk m c 2 t (ix2 i n) = (m ((c : Thread nD τ).loc main_arg3) (ix3 (bat r) (pos r) n) : EReal) := by
  refine Eq.trans ?_ (projW_pool _ (m ((c : Thread nD τ).loc main_arg4)) r n)
  blk_simp [iblk, (idx t).2.2.1]
  rw [V_proj]
  blk_ext [(idx t).2.2.1]

theorem read4 (c : Dev nD) (t : Fin cfg0.N) (i : Fin 512) (n : Fin 1024) (r : Fin 32768) (hr : r.val = t.val * 512 + i.val) :
    X0_4 m c t (ix2 i n) = (m ((c : Thread nD τ).loc main_arg4) (ix3 (bat r) (pos r) ⟨0 + n.val, by omega⟩) : EReal) := by
  refine Eq.trans ?_ (projW_gate (m ((c : Thread nD τ).loc main_arg3)) _ r ⟨0 + n.val, by omega⟩)
  unfold X0_4 Pipeline.Window.fill
  rw [dif_pos (moved0_4 t _)]
  blk_simp [iblk, (idx t).2.2.2.2.1]
  rw [V_proj]
  blk_ext [(idx t).2.2.2.2.1]

theorem read5 (c : Dev nD) (t : Fin cfg0.N) (i : Fin 512) (n : Fin 1024) (r : Fin 32768) (hr : r.val = t.val * 512 + i.val) :
    X0_5 m c t (ix2 i n) = (m ((c : Thread nD τ).loc main_arg4) (ix3 (bat r) (pos r) ⟨1024 + n.val, by omega⟩) : EReal) := by
  refine Eq.trans ?_ (projW_gate (m ((c : Thread nD τ).loc main_arg3)) _ r ⟨1024 + n.val, by omega⟩)
  unfold X0_5 Pipeline.Window.fill
  rw [dif_pos (moved0_5 t _)]
  blk_simp [iblk, (idx t).2.2.2.2.2.1]
  rw [V_proj]
  blk_ext [(idx t).2.2.2.2.2.1]

theorem read6 (c : Dev nD) (t : Fin cfg0.N) (i : Fin 512) (n : Fin 1024) (r : Fin 32768) (hr : r.val = t.val * 512 + i.val) :
    X0_6 m c t (ix2 i n) = (m ((c : Thread nD τ).loc main_arg4) (ix3 (bat r) (pos r) ⟨2048 + n.val, by omega⟩) : EReal) := by
  refine Eq.trans ?_ (projW_gate (m ((c : Thread nD τ).loc main_arg3)) _ r ⟨2048 + n.val, by omega⟩)
  unfold X0_6 Pipeline.Window.fill
  rw [dif_pos (moved0_6 t _)]
  blk_simp [iblk, (idx t).2.2.2.2.2.2.1]
  rw [V_proj]
  blk_ext [(idx t).2.2.2.2.2.2.1]

theorem read0 (c : Dev nD) (t : Fin cfg0.N) (i : Fin 512) (n : Fin 512) (r : Fin 32768) (hr : r.val = t.val * 512 + i.val) :
    iblk m c 0 t (ix2 i n) = (m ((c : Thread nD τ).loc main_arg1) (ix3 (bat r) (pos r) n) : EReal) := by
  blk_simp [iblk, (idx t).1]
  entry_read
  pointwise
  blk_ext [(idx t).1]

theorem read3 (c : Dev nD) (t : Fin cfg0.N) (i : Fin 512) (n : Fin 1024) (r : Fin 32768) (hr : r.val = t.val * 512 + i.val) :
    iblk m c 3 t (ix2 i n) = (m ((c : Thread nD τ).loc main_arg2) (ix3 (bat r) (pos r) n) : EReal) := by
  blk_simp [iblk, (idx t).2.2.2.1]
  entry_read
  pointwise
  blk_ext [(idx t).2.2.2.1]

theorem read7 (c : Dev nD) (t : Fin cfg0.N) (i : Fin 512) (n : Fin 1024) (r : Fin 32768) (hr : r.val = t.val * 512 + i.val) :
    iblk m c 7 t (ix2 i n) = (m ((c : Thread nD τ).loc main_arg0) (ix3 (bat r) (pos r) n) : EReal) := by
  blk_simp [iblk, (idx t).2.2.2.2.2.2.2.1]
  entry_read
  pointwise
  blk_ext [(idx t).2.2.2.2.2.2.2.1]

theorem read10 (c : Dev nD) (t : Fin cfg0.N) (k : Fin 512) (n : Fin 1024) :
    iblk m c 10 t (ix2 k n) = (m ((c : Thread nD τ).loc main_arg7) (ix2 k n) : EReal) := by
  blk_simp [iblk, (idx t).2.2.2.2.2.2.2.2.2.2.1]
  entry_read
  pointwise
  blk_ext [(idx t).2.2.2.2.2.2.2.2.2.2.1]

theorem read11 (c : Dev nD) (t : Fin cfg0.N) (k : Fin 512) (n : Fin 1024) :
    iblk m c 11 t (ix2 k n) = (m ((c : Thread nD τ).loc main_arg8) (ix2 k n) : EReal) := by
  blk_simp [iblk, (idx t).2.2.2.2.2.2.2.2.2.2.2.1]
  entry_read
  pointwise
  blk_ext [(idx t).2.2.2.2.2.2.2.2.2.2.2.1]

theorem read12 (c : Dev nD) (t : Fin cfg0.N) (k : Fin 1024) (n : Fin 1024) :
    iblk m c 12 t (ix2 k n) = (m ((c : Thread nD τ).loc main_arg9) (ix2 k n) : EReal) := by
  blk_simp [iblk, (idx t).2.2.2.2.2.2.2.2.2.2.2.2.1]
  entry_read
  pointwise
  blk_ext [(idx t).2.2.2.2.2.2.2.2.2.2.2.2.1]

theorem read13 (c : Dev nD) (t : Fin cfg0.N) (k : Fin 1024) (n : Fin 1024) :
    iblk m c 13 t (ix2 k n) = (m ((c : Thread nD τ).loc main_arg10) (ix2 k n) : EReal) := by
  blk_simp [iblk, (idx t).2.2.2.2.2.2.2.2.2.2.2.2.2.1]
  entry_read
  pointwise
  blk_ext [(idx t).2.2.2.2.2.2.2.2.2.2.2.2.2.1]

theorem read8 (c : Dev nD) (t : Fin cfg0.N) (g : Fin 4) (k n : Fin 128) :
    iblk m c 8 t (ix3 g k n) = (m ((c : Thread nD τ).loc main_arg5) (ix3 g k n) : EReal) := by
  blk_simp [iblk, (idx t).2.2.2.2.2.2.2.2.1]
  entry_read
  pointwise
  blk_ext [(idx t).2.2.2.2.2.2.2.2.1]

theorem read9 (c : Dev nD) (t : Fin cfg0.N) (n : Fin 512) :
    iblk m c 9 t (ix2 0 n) = (m ((c : Thread nD τ).loc main_arg6) (ix1 n) : EReal) := by
  blk_simp [iblk, (idx t).2.2.2.2.2.2.2.2.2.1]
  entry_read
  pointwise
  blk_ext [(idx t).2.2.2.2.2.2.2.2.2.1]

theorem ld0 (w : Vec Ideal S4x128x128 .bf16) (k n : Fin 128) :
    View.ld w (Rect.unit ![0, 0, 0] ![1, 128, 128] inb_S4x128x128_S1x128x128_0_0_0) (ix3 0 k n) = w (ix3 0 k n) := by
  pointwise

theorem ld1 (w : Vec Ideal S4x128x128 .bf16) (k n : Fin 128) :
    View.ld w (Rect.unit ![1, 0, 0] ![1, 128, 128] inb_S4x128x128_S1x128x128_1_0_0) (ix3 0 k n) = w (ix3 1 k n) := by
  pointwise

theorem ld2 (w : Vec Ideal S4x128x128 .bf16) (k n : Fin 128) :
    View.ld w (Rect.unit ![2, 0, 0] ![1, 128, 128] inb_S4x128x128_S1x128x128_2_0_0) (ix3 0 k n) = w (ix3 2 k n) := by
  pointwise

theorem ld3 (w : Vec Ideal S4x128x128 .bf16) (k n : Fin 128) :
    View.ld w (Rect.unit ![3, 0, 0] ![1, 128, 128] inb_S4x128x128_S1x128x128_3_0_0) (ix3 0 k n) = w (ix3 3 k n) := by
  pointwise

/-- The block and the sixteen rows before it are the batch's row of channels, zeros before its first position. -/
theorem ext_rows (c : Dev nD) (t : Fin cfg0.N) (b : Fin 8) (hb : b.val = t.val / 8) (r : Fin 528) (n : Fin 512) :
    k0_pay4 (cfg0.grid.coords t) (iblk m c 2 t) (iblk m c 1 t) (ix2 r n)
      = Rows.pad (fun q => m ((c : Thread nD τ).loc main_arg3) (ix3 b q n)) (t.val % 8 * 512 + r.val) := by
  have ht : t.val < 64 := lt_of_lt_of_eq t.isLt (by decide +kernel)
  have hr := r.isLt
  refine (joined _ _ _ r n).trans ?_
  rw [coord]
  unfold Rows.pad ext
  split
  · rename_i h
    split
    · rw [if_neg (by omega)]
    · rw [if_pos (by omega), dif_pos (by omega)]
      rw [read2 m c t ⟨r.val, h⟩ n ⟨(t.val * 32 - 1) * 16 + r.val, by omega⟩ rfl]
      congr 2
      · exact Fin.ext (by show ((t.val * 32 - 1) * 16 + r.val) / 4096 = b.val; omega)
      · exact Fin.ext (by show ((t.val * 32 - 1) * 16 + r.val) % 4096 = t.val % 8 * 512 + r.val - 16; omega)
  · rename_i h
    rw [if_pos (by omega), dif_pos (by omega)]
    rw [read1 m c t ⟨r.val - 16, by omega⟩ n ⟨t.val * 512 + (r.val - 16), by omega⟩ rfl]
    congr 2
    · exact Fin.ext (by show (t.val * 512 + (r.val - 16)) / 4096 = b.val; omega)
    · exact Fin.ext (by show (t.val * 512 + (r.val - 16)) % 4096 = t.val % 8 * 512 + r.val - 16; omega)

/-- The result's row `r`, with a gate's form. -/
def out (sg : EReal → EReal) (c : Dev nD) (r : Fin 32768) (j : Fin 1024) : EReal :=
  mergeRow sg (fun j => m ((c : Thread nD τ).loc main_arg0) (ix3 (bat r) (pos r) j)) (fun n => m ((c : Thread nD τ).loc main_arg4) (ix3 (bat r) (pos r) n))
    (fun n => m ((c : Thread nD τ).loc main_arg1) (ix3 (bat r) (pos r) n))
    (mixed (pooled (fun q n => m ((c : Thread nD τ).loc main_arg3) (ix3 (bat r) q n)) (pos r)) (fun g c' d => m ((c : Thread nD τ).loc main_arg5) (ix3 g c' d)) (fun n => m ((c : Thread nD τ).loc main_arg6) (ix1 n)))
    (fun n => m ((c : Thread nD τ).loc main_arg2) (ix3 (bat r) (pos r) n)) (fun k n => m ((c : Thread nD τ).loc main_arg7) (ix2 k n)) (fun k n => m ((c : Thread nD τ).loc main_arg8) (ix2 k n))
    (fun k n => m ((c : Thread nD τ).loc main_arg9) (ix2 k n)) (fun k n => m ((c : Thread nD τ).loc main_arg10) (ix2 k n)) j

/-- The result array, row by row. -/
def G (c : Dev nD) : Buf (Elt Ideal) ((c : Thread nD τ).loc main_v17) := fun i => (out m sigT c (i 0) (i 1) : EReal)

/-- The body's block at an index is the result's row. -/
theorem outs_apply (c : Dev nD) (t : Fin cfg0.N) (i : Fin 512) (j : Fin 1024) (r : Fin 32768) (hr : r.val = t.val * 512 + i.val) :
    outsAt0 m c t (ix2 i j) = out m sigT c r j := by
  unfold outsAt0
  frame_out
  refine (proj _ _ _ i j).trans ?_
  unfold out mergeRow
  have hm := fun n => mix_apply (cfg0.grid.coords t) (iblk m c 2 t) (iblk m c 1 t)
    (View.ld (iblk m c 8 t) (Rect.unit ![0, 0, 0] ![1, 128, 128] inb_S4x128x128_S1x128x128_0_0_0))
    (View.ld (iblk m c 8 t) (Rect.unit ![1, 0, 0] ![1, 128, 128] inb_S4x128x128_S1x128x128_1_0_0))
    (View.ld (iblk m c 8 t) (Rect.unit ![2, 0, 0] ![1, 128, 128] inb_S4x128x128_S1x128x128_2_0_0))
    (View.ld (iblk m c 8 t) (Rect.unit ![3, 0, 0] ![1, 128, 128] inb_S4x128x128_S1x128x128_3_0_0))
    (iblk m c 9 t) (fun q n => m ((c : Thread nD τ).loc main_arg3) (ix3 (bat r) q n)) (fun g c' d => m ((c : Thread nD τ).loc main_arg5) (ix3 g c' d)) (fun n => m ((c : Thread nD τ).loc main_arg6) (ix1 n))
    (t.val % 8 * 512) i (pos r) (by show r.val % 4096 = _; omega)
    (fun j => (place _ i j).trans (by rw [coord]))
    (fun n => read1 m c t i n r hr)
    (fun r' n => ext_rows m c t (bat r) (by show r.val / 4096 = _; omega) r' n)
    (fun k n => (ld0 _ k n).trans (read8 m c t 0 k n)) (fun k n => (ld1 _ k n).trans (read8 m c t 1 k n))
    (fun k n => (ld2 _ k n).trans (read8 m c t 2 k n)) (fun k n => (ld3 _ k n).trans (read8 m c t 3 k n))
    (fun n => read9 m c t n) n
  refine congrArg₂ (· + ·) (read7 m c t i j r hr) (Finset.sum_congr rfl fun n _ => ?_)
  refine congrArg₂ (· * ·) ((gated _ _ _ _ _ _ _ _ _ i n).trans ?_) (read13 m c t n j)
  refine congrArg₂ (· + ·) (congrArg₂ (· + ·) ?_ ?_) ?_
  · refine congrArg₂ (· * ·) (congrArg sigT ((read4 m c t i n r hr).trans ?_)) (Finset.sum_congr rfl fun k _ => congrArg₂ (· * ·) (read0 m c t i k r hr) (read10 m c t k n))
    congr 2
    exact Fin.ext (Nat.zero_add _)
  · exact congrArg₂ (· * ·) (congrArg sigT (read5 m c t i n r hr)) (Finset.sum_congr rfl fun k _ => congrArg₂ (· * ·) (hm k) (read11 m c t k n))
  · exact congrArg₂ (· * ·) (congrArg sigT (read6 m c t i n r hr)) (Finset.sum_congr rfl fun k _ => congrArg₂ (· * ·) (read3 m c t i k r hr) (read12 m c t k n))

/-- The launch leaves it in the result array. -/
theorem final (c : Dev nD) : (dats m 0 c).arrAt 14 cfg0.N = G m c := by
  refine (dats m 0 c).arrAt_eq_of_covers 14 _ (by decide +kernel) fun t hf y => ?_
  blk_simp
  rw [after0_14]
  idx_vars y
  have h0 : ((((View.whole main_v17).slice (win0_14.rect t)).emb (ix2 y0 y1)) 0).val = t.val * 512 + y0.val := by
    blk_simp [(idx t).2.2.2.2.2.2.2.2.2.2.2.2.2.2]
  have h1 : (((View.whole main_v17).slice (win0_14.rect t)).emb (ix2 y0 y1)) 1 = y1 := by
    apply Fin.ext
    blk_simp [(idx t).2.2.2.2.2.2.2.2.2.2.2.2.2.2]
  refine (outs_apply m c t y0 y1 _ h0).trans ?_
  unfold G
  rw [h1]

/-- The precondition: the pooled channels are finite. -/
theorem pool_real (hp : Pre_MergeIdeal_finite_pool m) (c : Dev nD) (i : S8x4096x512.Idx) : IsReal (m ((c : Thread nD τ).loc main_arg3) i) := by
  idx_vars i
  have h := congrFun (hp c) (ix3 i0 i1 i2)
  pointwise [Cert.Pre_finite_pool.fn] at h
  exact real_of_bit h

/-- The kernel computes the reference's function. -/
theorem algebraic : algebraic_MergeIdeal_MergeRefIdeal_pre_finite_pool := by
  intro m g m' g' hpre hagree
  refine ⟨fun c => G m c, ?_, ?_⟩
  · exact (θ_run defs _ _).mono (fun r h c => ⟨(h c).1.trans (final m c), (h c).2⟩) (Value.run_blocks m g)
  · refine (θ_run Cert.MergeRefIdeal.defs _ _).mono (fun r h c => ⟨(h c).1.trans ?_, (h c).2⟩) (Cert.MergeRefIdeal.Value.run m' g')
    obtain ⟨h0, h1, h2, h3, h4, h5, h6, h7, h8, h9, h10⟩ := hagree c
    unfold Cert.MergeRefIdeal.Value.res_main_v142
    rw [h0, h1, h2, h3, h4, h5, h6, h7, h8, h9, h10]
    funext i
    idx_vars i
    refine (Cert.MergeRefIdeal.Hand.refOut_apply
      (Cert.MergeRefIdeal.Hand.refMix (Cert.MergeRefIdeal.Hand.refPool (Cert.MergeRefIdeal.Hand.refSum (m ((c : Thread nD τ).loc main_arg3))) (m ((c : Thread nD τ).loc main_arg3))) (m ((c : Thread nD τ).loc main_arg5)) (m ((c : Thread nD τ).loc main_arg6)))
      (m ((c : Thread nD τ).loc main_arg0)) (m ((c : Thread nD τ).loc main_arg1)) (m ((c : Thread nD τ).loc main_arg2)) (m ((c : Thread nD τ).loc main_arg4)) (m ((c : Thread nD τ).loc main_arg7)) (m ((c : Thread nD τ).loc main_arg8)) (m ((c : Thread nD τ).loc main_arg9)) (m ((c : Thread nD τ).loc main_arg10)) i0 i1).trans ?_
    simp only [Cert.MergeRefIdeal.Hand.refMix_apply, Cert.MergeRefIdeal.Hand.refPool_apply _ (pool_real m hpre c)]
    have hs : sigT = sigL := funext sig_eq
    show _ = out m sigT c i0 i1
    rw [hs]
    rfl

end Cert.MergeIdeal.Hand
-- ==== Proof.SsdVec.lean ====
/-
  One chunk of 128 tokens of the state space recurrence, in the vector operations the kernel's body uses: the
  causal convolution by selection matrices, the decays by triangular ones, the two column halves of the state.
  Every one of the body's eight chunks is these functions of that chunk's loads.
-/
module

public import proofs.«01_k».proof.Proof.Gen.SsdIdeal.Value
public import Idealize.ShloMosaic.Lib.Pipeline.ValueKit

@[expose] public section

set_option maxRecDepth 65536

noncomputable section

namespace Cert.SsdIdeal.Hand

open Cert.SsdIdeal Cert.SsdIdeal.Gen Idealize.ShloMosaic Idealize.ShloMosaic.TcCoe Idealize.SL.Sem

/-- A real vector, in single precision. -/
abbrev W (s : Shape) : Type := FVec Ideal s .f32

/-- A real vector, in half precision. -/
abbrev H (s : Shape) : Type := FVec Ideal s .bf16

/-- A cast to the same shape, of a wide vector. -/
theorem castW {s : Shape} (v : W s) (h : s.ShapeCasts s) : shapeCast s v h = v := shapeCast_self v h

/-- A cast to the same shape, of a narrow vector. -/
theorem castH {s : Shape} (v : H s) (h : s.ShapeCasts s) : shapeCast s v h = v := shapeCast_self v h

/-- The zero-one matrix that selects the row `d` below, out of the sixteen rows before the chunk and the chunk. -/
def sel (d : BitVec 32) : W S128x144 :=
  select (cmpi .eq (iota .tc S128x144 32 [1] iota_S128x144_d1_w32)
      (addi (iota .tc S128x144 32 [0] iota_S128x144_d0_w32) (broadcast S128x144 d)))
    (broadcast S128x144 (Scalar.ofBits (F := Ideal) .f32 0x3F800000#32))
    (broadcast S128x144 (Scalar.ofBits (F := Ideal) .f32 0x00000000#32))

/-- The sixteen rows before the chunk, over the chunk's. -/
def above (halo : H S16x1536) (x : H S128x1536) : H S144x1536 :=
  concatenate S144x1536 0 [⟨S16x1536, halo⟩, ⟨S128x1536, x⟩] concatenates_S16x1536_S128x1536_S144x1536_d0

/-- The chunk's rows moved down by selection. -/
def moved (d : BitVec 32) (e : H S144x1536) : W S128x1536 :=
  matmul dot_S128x144_S144x1536_S128x1536_1_0_0_1_n_n none (truncf .bf16 (sel d) bitsLt_bf16_f32) e
    (constant S128x1536 .f32 0x00000000#32)

/-- The same, of a list. -/
theorem above_fold (halo : H S16x1536) (x : H S128x1536) : concatenate S144x1536 0 [⟨S16x1536, halo⟩, ⟨S128x1536, x⟩]
    concatenates_S16x1536_S128x1536_S144x1536_d0 = above halo x := rfl

/-- The convolution with its bias, before the activation. -/
def conv (e : H S144x1536) (x : H S128x1536) (cw : W S4x1536) (cb : W S1x1536) : W S128x1536 :=
  addf (addf (addf (addf (broadcastTo S128x1536 cb broadcasts_S1x1536_S128x1536)
    (mulf (broadcastTo S128x1536 (extractStridedSlice S1x1536 ![3, 0] cw slices_S4x1536_o3_0_S1x1536) broadcasts_S1x1536_S128x1536)
      (extf .f32 x bitsLt_bf16_f32)))
    (mulf (broadcastTo S128x1536 (extractStridedSlice S1x1536 ![0, 0] cw slices_S4x1536_o0_0_S1x1536) broadcasts_S1x1536_S128x1536)
      (moved 13#32 e)))
    (mulf (broadcastTo S128x1536 (extractStridedSlice S1x1536 ![1, 0] cw slices_S4x1536_o1_0_S1x1536) broadcasts_S1x1536_S128x1536)
      (moved 14#32 e)))
    (mulf (broadcastTo S128x1536 (extractStridedSlice S1x1536 ![2, 0] cw slices_S4x1536_o2_0_S1x1536) broadcasts_S1x1536_S128x1536)
      (moved 15#32 e))

/-- The activation by the hyperbolic tangent. -/
def act (s : Shape) (a : W s) : W s :=
  addf (mulf (mulf (broadcast s (Scalar.ofBits (F := Ideal) .f32 0x3F000000#32)) a)
      (tanh (mulf (broadcast s (Scalar.ofBits (F := Ideal) .f32 0x3F000000#32)) a)))
    (mulf (broadcast s (Scalar.ofBits (F := Ideal) .f32 0x3F000000#32)) a)

/-- softplus, as the body spells it. -/
def plus (s : Shape) (a : W s) : W s :=
  select (cmpf .one (subf a (broadcast s (Scalar.ofBits (F := Ideal) .f32 0x00000000#32)))
      (subf a (broadcast s (Scalar.ofBits (F := Ideal) .f32 0x00000000#32))))
    (addf a (broadcast s (Scalar.ofBits (F := Ideal) .f32 0x00000000#32)))
    (addf (maximumf a (broadcast s (Scalar.ofBits (F := Ideal) .f32 0x00000000#32)))
      (log1p (exp (subf (broadcast s (Scalar.ofBits (F := Ideal) .f32 0x00000000#32))
        (absf (subf a (broadcast s (Scalar.ofBits (F := Ideal) .f32 0x00000000#32))))))))

/-- The step sizes, a row a token. -/
def steps (sm : W S128x128) (tr : W S1x16) : W S128x16 :=
  plus S128x16 (addf (extractStridedSlice S128x16 ![0, 72] sm slices_S128x128_o0_72_S128x16)
    (broadcastTo S128x16 tr broadcasts_S1x16_S128x16))

/-- The step sizes, a column a token. -/
def stepsT (sm : W S128x128) (tc : W S16x1) : W S16x128 :=
  plus S16x128 (addf (extractStridedSlice S16x128 ![72, 0] (transpose S128x128 [1, 0] sm transposes_S128x128_p1_0_S128x128)
      slices_S128x128_o72_0_S16x128)
    (broadcastTo S16x128 tc broadcasts_S16x1_S16x128))

/-- A vector's first rest: itself less its half precision. -/
def rest {s : Shape} (a : W s) : W s := subf a (extf .f32 (truncf .bf16 a bitsLt_bf16_f32 : H s) bitsLt_bf16_f32)

/-- A row per token spread over the heads' channels, in three parts. -/
def spread (a : W S128x16) (e : W S16x1024) : W S128x1024 :=
  addf (addf
    (matmul dot_S128x16_S16x1024_S128x1024_1_0_0_1_n_n none (truncf .bf16 a bitsLt_bf16_f32)
      (truncf .bf16 e bitsLt_bf16_f32) (constant S128x1024 .f32 0x00000000#32))
    (matmul dot_S128x16_S16x1024_S128x1024_1_0_0_1_n_n none (truncf .bf16 (rest a) bitsLt_bf16_f32)
      (truncf .bf16 e bitsLt_bf16_f32) (constant S128x1024 .f32 0x00000000#32)))
    (matmul dot_S128x16_S16x1024_S128x1024_1_0_0_1_n_n none (truncf .bf16 (rest (rest a)) bitsLt_bf16_f32)
      (truncf .bf16 e bitsLt_bf16_f32) (constant S128x1024 .f32 0x00000000#32))

/-- The bit of the lower triangle. -/
def low : IVec S128x128 1 := cmpi .sge (iota .tc S128x128 32 [0] iota_S128x128_d0_w32) (iota .tc S128x128 32 [1] iota_S128x128_d1_w32)

/-- The bit of the upper triangle. -/
def upp : IVec S128x128 1 := cmpi .sle (iota .tc S128x128 32 [0] iota_S128x128_d0_w32) (iota .tc S128x128 32 [1] iota_S128x128_d1_w32)

/-- A zero-one matrix of bits. -/
def ones (b : IVec S128x128 1) : W S128x128 :=
  select b (broadcast S128x128 (Scalar.ofBits (F := Ideal) .f32 0x3F800000#32))
    (broadcast S128x128 (Scalar.ofBits (F := Ideal) .f32 0x00000000#32))

/-- Running sums down the tokens, by the lower triangle, in three parts. -/
def sums (a : W S128x16) : W S128x16 :=
  addf (addf
    (matmul dot_S128x128_S128x16_S128x16_1_0_0_1_n_n none (truncf .bf16 (ones low) bitsLt_bf16_f32)
      (truncf .bf16 a bitsLt_bf16_f32) (constant S128x16 .f32 0x00000000#32))
    (matmul dot_S128x128_S128x16_S128x16_1_0_0_1_n_n none (truncf .bf16 (ones low) bitsLt_bf16_f32)
      (truncf .bf16 (rest a) bitsLt_bf16_f32) (constant S128x16 .f32 0x00000000#32)))
    (matmul dot_S128x128_S128x16_S128x16_1_0_0_1_n_n none (truncf .bf16 (ones low) bitsLt_bf16_f32)
      (truncf .bf16 (rest (rest a)) bitsLt_bf16_f32) (constant S128x16 .f32 0x00000000#32))

/-- The same along the columns, by the upper triangle. -/
def sumsT (a : W S16x128) : W S16x128 :=
  addf (addf
    (matmul dot_S16x128_S128x128_S16x128_1_0_0_1_n_n none (truncf .bf16 a bitsLt_bf16_f32)
      (truncf .bf16 (ones upp) bitsLt_bf16_f32) (constant S16x128 .f32 0x00000000#32))
    (matmul dot_S16x128_S128x128_S16x128_1_0_0_1_n_n none (truncf .bf16 (rest a) bitsLt_bf16_f32)
      (truncf .bf16 (ones upp) bitsLt_bf16_f32) (constant S16x128 .f32 0x00000000#32)))
    (matmul dot_S16x128_S128x128_S16x128_1_0_0_1_n_n none (truncf .bf16 (rest (rest a)) bitsLt_bf16_f32)
      (truncf .bf16 (ones upp) bitsLt_bf16_f32) (constant S16x128 .f32 0x00000000#32))

/-- The decays' logarithms, a row a token. -/
def logs (dt : W S128x16) (ar : W S1x16) : W S128x16 := mulf dt (broadcastTo S128x16 ar broadcasts_S1x16_S128x16)

/-- The same, a column a token. -/
def logsT (dt : W S16x128) (ac : W S16x1) : W S16x128 := mulf dt (broadcastTo S16x128 ac broadcasts_S16x1_S16x128)

/-- The chunk's whole decay, of the spread running sums. -/
def lastOf (A : W S128x1024) : W S1x1024 := extractStridedSlice S1x1024 ![127, 0] A slices_S128x1024_o127_0_S1x1024

/-- The inputs with their decay to the chunk's end. -/
def decayed (X A : W S128x1024) : H S128x1024 :=
  truncf .bf16 (mulf X (exp (subf (broadcastTo S128x1024 (lastOf A) broadcasts_S1x1024_S128x1024) A))) bitsLt_bf16_f32

/-- A group's input directions, transposed. -/
def inDir (o : ℕ) (b : W S128x256) (h : S128x256.Slices ![0, o] S128x128) : H S128x128 :=
  truncf .bf16 (transpose S128x128 [1, 0] (extractStridedSlice S128x128 ![0, o] b h) transposes_S128x128_p1_0_S128x128) bitsLt_bf16_f32

/-- A group's output directions. -/
def outDir (o : ℕ) (c : W S128x256) (h : S128x256.Slices ![0, o] S128x128) : H S128x128 :=
  truncf .bf16 (extractStridedSlice S128x128 ![0, o] c h) bitsLt_bf16_f32

/-- The products of the two directions. -/
def pairs (cg bt : H S128x128) : W S128x128 :=
  matmul dot_S128x128_S128x128_S128x128_1_0_0_1_n_n none cg bt (constant S128x128 .f32 0x00000000#32)

/-- What the state that enters the chunk gives a group's outputs. -/
def carry (o : ℕ) (cg : H S128x128) (S A : W S128x1024) (h : S128x1024.Slices ![0, o] S128x512) : W S128x512 :=
  mulf (matmul dot_S128x128_S128x512_S128x512_1_0_0_1_n_n none cg
      (truncf .bf16 (extractStridedSlice S128x512 ![0, o] S h) bitsLt_bf16_f32) (constant S128x512 .f32 0x00000000#32))
    (extractStridedSlice S128x512 ![0, o] (exp A) h)

/-- A group's state after the chunk. -/
def next (o : ℕ) (bt : H S128x128) (Xd : H S128x1024) (S A : W S128x1024) (h : S128x1024.Slices ![0, o] S128x512)
    (h' : S1x1024.Slices ![0, o] S1x512) : W S128x512 :=
  addf (mulf (extractStridedSlice S128x512 ![0, o] S h)
      (broadcastTo S128x512 (extractStridedSlice S1x512 ![0, o] (exp (lastOf A)) h') broadcasts_S1x512_S128x512))
    (matmul dot_S128x128_S128x512_S128x512_1_0_0_1_n_n none bt (extractStridedSlice S128x512 ![0, o] Xd h)
      (constant S128x512 .f32 0x00000000#32))

/-- A head's outputs: the chunk's own inputs under their decays, and what entered it. -/
def head (n o e : ℕ) (p : W S128x128) (A : W S128x16) (At : W S16x128) (X : H S128x1024) (y : W S128x512)
    (h1 : S128x16.Slices ![0, n] S128x1) (h2 : S16x128.Slices ![n, 0] S1x128) (h3 : S128x1024.Slices ![0, o] S128x64)
    (h4 : S128x512.Slices ![0, e] S128x64) : W S128x64 :=
  addf (matmul dot_S128x128_S128x64_S128x64_1_0_0_1_n_n none
      (truncf .bf16 (mulf p (exp (select low
        (subf (broadcastTo S128x128 (extractStridedSlice S128x1 ![0, n] A h1) broadcasts_S128x1_S128x128)
          (broadcastTo S128x128 (extractStridedSlice S1x128 ![n, 0] At h2) broadcasts_S1x128_S128x128))
        (broadcast S128x128 (Scalar.ofBits (F := Ideal) .f32 0xFF800000#32))))) bitsLt_bf16_f32)
      (extractStridedSlice S128x64 ![0, o] X h3) (constant S128x64 .f32 0x00000000#32))
    (extractStridedSlice S128x64 ![0, e] y h4)

/-- Sixteen heads side by side. -/
def beside (v0 v1 v2 v3 v4 v5 v6 v7 v8 v9 v10 v11 v12 v13 v14 v15 : W S128x64) : W S128x1024 :=
  concatenate S128x1024 1 [⟨S128x64, v0⟩, ⟨S128x64, v1⟩, ⟨S128x64, v2⟩, ⟨S128x64, v3⟩, ⟨S128x64, v4⟩, ⟨S128x64, v5⟩, ⟨S128x64, v6⟩, ⟨S128x64, v7⟩, ⟨S128x64, v8⟩, ⟨S128x64, v9⟩, ⟨S128x64, v10⟩, ⟨S128x64, v11⟩, ⟨S128x64, v12⟩, ⟨S128x64, v13⟩, ⟨S128x64, v14⟩, ⟨S128x64, v15⟩]
    concatenates_S128x64_S128x64_S128x64_S128x64_S128x64_S128x64_S128x64_S128x64_S128x64_S128x64_S128x64_S128x64_S128x64_S128x64_S128x64_S128x64_S128x1024_d1

/-- The same, of a list. -/
theorem beside_fold (v0 v1 v2 v3 v4 v5 v6 v7 v8 v9 v10 v11 v12 v13 v14 v15 : W S128x64) : concatenate S128x1024 1 [⟨S128x64, v0⟩, ⟨S128x64, v1⟩, ⟨S128x64, v2⟩, ⟨S128x64, v3⟩, ⟨S128x64, v4⟩, ⟨S128x64, v5⟩, ⟨S128x64, v6⟩, ⟨S128x64, v7⟩, ⟨S128x64, v8⟩, ⟨S128x64, v9⟩, ⟨S128x64, v10⟩, ⟨S128x64, v11⟩, ⟨S128x64, v12⟩, ⟨S128x64, v13⟩, ⟨S128x64, v14⟩, ⟨S128x64, v15⟩]
    concatenates_S128x64_S128x64_S128x64_S128x64_S128x64_S128x64_S128x64_S128x64_S128x64_S128x64_S128x64_S128x64_S128x64_S128x64_S128x64_S128x64_S128x1024_d1 = beside v0 v1 v2 v3 v4 v5 v6 v7 v8 v9 v10 v11 v12 v13 v14 v15 := rfl

/-- The sixteen heads of a chunk. -/
def heads (p0 p1 : W S128x128) (A : W S128x16) (At : W S16x128) (X : H S128x1024) (y0 y1 : W S128x512) : W S128x1024 :=
  beside
    (head 0 0 0 p0 A At X y0 slices_S128x16_o0_0_S128x1 slices_S16x128_o0_0_S1x128 slices_S128x1024_o0_0_S128x64 slices_S128x512_o0_0_S128x64)
    (head 1 64 64 p0 A At X y0 slices_S128x16_o0_1_S128x1 slices_S16x128_o1_0_S1x128 slices_S128x1024_o0_64_S128x64 slices_S128x512_o0_64_S128x64)
    (head 2 128 128 p0 A At X y0 slices_S128x16_o0_2_S128x1 slices_S16x128_o2_0_S1x128 slices_S128x1024_o0_128_S128x64 slices_S128x512_o0_128_S128x64)
    (head 3 192 192 p0 A At X y0 slices_S128x16_o0_3_S128x1 slices_S16x128_o3_0_S1x128 slices_S128x1024_o0_192_S128x64 slices_S128x512_o0_192_S128x64)
    (head 4 256 256 p0 A At X y0 slices_S128x16_o0_4_S128x1 slices_S16x128_o4_0_S1x128 slices_S128x1024_o0_256_S128x64 slices_S128x512_o0_256_S128x64)
    (head 5 320 320 p0 A At X y0 slices_S128x16_o0_5_S128x1 slices_S16x128_o5_0_S1x128 slices_S128x1024_o0_320_S128x64 slices_S128x512_o0_320_S128x64)
    (head 6 384 384 p0 A At X y0 slices_S128x16_o0_6_S128x1 slices_S16x128_o6_0_S1x128 slices_S128x1024_o0_384_S128x64 slices_S128x512_o0_384_S128x64)
    (head 7 448 448 p0 A At X y0 slices_S128x16_o0_7_S128x1 slices_S16x128_o7_0_S1x128 slices_S128x1024_o0_448_S128x64 slices_S128x512_o0_448_S128x64)
    (head 8 512 0 p1 A At X y1 slices_S128x16_o0_8_S128x1 slices_S16x128_o8_0_S1x128 slices_S128x1024_o0_512_S128x64 slices_S128x512_o0_0_S128x64)
    (head 9 576 64 p1 A At X y1 slices_S128x16_o0_9_S128x1 slices_S16x128_o9_0_S1x128 slices_S128x1024_o0_576_S128x64 slices_S128x512_o0_64_S128x64)
    (head 10 640 128 p1 A At X y1 slices_S128x16_o0_10_S128x1 slices_S16x128_o10_0_S1x128 slices_S128x1024_o0_640_S128x64 slices_S128x512_o0_128_S128x64)
    (head 11 704 192 p1 A At X y1 slices_S128x16_o0_11_S128x1 slices_S16x128_o11_0_S1x128 slices_S128x1024_o0_704_S128x64 slices_S128x512_o0_192_S128x64)
    (head 12 768 256 p1 A At X y1 slices_S128x16_o0_12_S128x1 slices_S16x128_o12_0_S1x128 slices_S128x1024_o0_768_S128x64 slices_S128x512_o0_256_S128x64)
    (head 13 832 320 p1 A At X y1 slices_S128x16_o0_13_S128x1 slices_S16x128_o13_0_S1x128 slices_S128x1024_o0_832_S128x64 slices_S128x512_o0_320_S128x64)
    (head 14 896 384 p1 A At X y1 slices_S128x16_o0_14_S128x1 slices_S16x128_o14_0_S1x128 slices_S128x1024_o0_896_S128x64 slices_S128x512_o0_384_S128x64)
    (head 15 960 448 p1 A At X y1 slices_S128x16_o0_15_S128x1 slices_S16x128_o15_0_S1x128 slices_S128x1024_o0_960_S128x64 slices_S128x512_o0_448_S128x64)

/-- The skip, the gate and the norm. -/
def finish (y xs : W S128x1024) (z : H S128x1024) (dk ng : W S1x1024) : W S128x1024 :=
  mulf (mulf (mulf (addf y (mulf xs (broadcastTo S128x1024 dk broadcasts_S1x1024_S128x1024))) (act S128x1024 (extf .f32 z bitsLt_bf16_f32)))
    (broadcastTo S128x1024 (rsqrt (addf (divf (shapeCast S128x1 (multiReduction .add [1] S128
        (mulf (mulf (addf y (mulf xs (broadcastTo S128x1024 dk broadcasts_S1x1024_S128x1024))) (act S128x1024 (extf .f32 z bitsLt_bf16_f32)))
          (mulf (addf y (mulf xs (broadcastTo S128x1024 dk broadcasts_S1x1024_S128x1024))) (act S128x1024 (extf .f32 z bitsLt_bf16_f32))))
        0x00000000#32 reduces_S128x1024_S128 (.inl rfl) rfl) shapeCasts_S128_S128x1)
      (broadcast S128x1 (Scalar.ofBits (F := Ideal) .f32 0x44800000#32))) (broadcast S128x1 (Scalar.ofBits (F := Ideal) .f32 0x358637BD#32))))
      broadcasts_S128x1_S128x1024))
    (broadcastTo S128x1024 ng broadcasts_S1x1024_S128x1024)

section Chunk

variable (halo : H S16x1536) (x : H S128x1536) (z : H S128x1024) (sm : W S128x128) (cw : W S4x1536) (cb : W S1x1536)
  (tr : W S1x16) (tc : W S16x1) (ex : W S16x1024) (ar : W S1x16) (ac : W S16x1) (dk ng : W S1x1024) (S : W S128x1024)

/-- The convolved rows, activated. -/
def xcOf : W S128x1536 := act S128x1536 (conv (above halo x) x cw cb)

/-- Their part that is the heads' inputs. -/
def xsOf : W S128x1024 := extractStridedSlice S128x1024 ![0, 0] (xcOf halo x cw cb) slices_S128x1536_o0_0_S128x1024

/-- Their part that is the input directions. -/
def bOf : W S128x256 := extractStridedSlice S128x256 ![0, 1024] (xcOf halo x cw cb) slices_S128x1536_o0_1024_S128x256

/-- Their part that is the output directions. -/
def cOf : W S128x256 := extractStridedSlice S128x256 ![0, 1280] (xcOf halo x cw cb) slices_S128x1536_o0_1280_S128x256

/-- The running sums of the decays' logarithms. -/
def aOf : W S128x16 := sums (logs (steps sm tr) ar)

/-- The same, spread over the channels. -/
def axOf : W S128x1024 := spread (aOf sm tr ar) ex

/-- The heads' inputs times their steps. -/
def xOf : W S128x1024 := mulf (xsOf halo x cw cb) (spread (steps sm tr) ex)

/-- The first group's state after the chunk. -/
def lowHalf : W S128x512 :=
  next 0 (inDir 0 (bOf halo x cw cb) slices_S128x256_o0_0_S128x128) (decayed (xOf halo x sm cw cb tr ex) (axOf sm tr ex ar)) S
    (axOf sm tr ex ar) slices_S128x1024_o0_0_S128x512 slices_S1x1024_o0_0_S1x512

/-- The second group's state after the chunk. -/
def highHalf : W S128x512 :=
  next 512 (inDir 128 (bOf halo x cw cb) slices_S128x256_o0_128_S128x128) (decayed (xOf halo x sm cw cb tr ex) (axOf sm tr ex ar)) S
    (axOf sm tr ex ar) slices_S128x1024_o0_512_S128x512 slices_S1x1024_o0_512_S1x512

/-- The chunk's outputs before the skip. -/
def yOf : W S128x1024 :=
  heads (pairs (outDir 0 (cOf halo x cw cb) slices_S128x256_o0_0_S128x128) (inDir 0 (bOf halo x cw cb) slices_S128x256_o0_0_S128x128))
    (pairs (outDir 128 (cOf halo x cw cb) slices_S128x256_o0_128_S128x128) (inDir 128 (bOf halo x cw cb) slices_S128x256_o0_128_S128x128))
    (aOf sm tr ar) (sumsT (logsT (stepsT sm tc) ac)) (truncf .bf16 (xOf halo x sm cw cb tr ex) bitsLt_bf16_f32)
    (carry 0 (outDir 0 (cOf halo x cw cb) slices_S128x256_o0_0_S128x128) S (axOf sm tr ex ar) slices_S128x1024_o0_0_S128x512)
    (carry 512 (outDir 128 (cOf halo x cw cb) slices_S128x256_o0_128_S128x128) S (axOf sm tr ex ar) slices_S128x1024_o0_512_S128x512)

/-- What the body stores of the chunk. -/
def outOf : W S128x1024 := finish (yOf halo x sm cw cb tr tc ex ar ac S) (xsOf halo x cw cb) z dk ng

end Chunk

end Cert.SsdIdeal.Hand

end
-- ==== Proof.SsdReads.lean ====
/-
  The blocks the recurrence's kernel reads at a point of its grid, as entries of the launch's arguments.
-/
module

public import proofs.«01_k».proof.Proof.Gen.SsdIdeal.Value
public import proofs.«01_k».proof.Proof.SsdVec
public import Idealize.ShloMosaic.Lib.Pipeline.ValueKit
public import Idealize.ShloMosaic.Lib.Claim

@[expose] public section

set_option maxRecDepth 16384

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ)

/-- Where each window's block stands, at every grid point. -/
theorem idx (t : Fin cfg0.N) : win0_0.index t = ![t.val, 0] ∧ win0_1.index t = ![t.val * 64 - 1, 0] ∧ win0_2.index t = ![t.val, 2] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, win0_0.index t = ![t.val, 0] ∧ win0_1.index t = ![t.val * 64 - 1, 0] ∧ win0_2.index t = ![t.val, 2] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0]) t

/-- The wide array as the host prepares it. -/
def wideW (x0 : FVec Ideal S8x4096x1024 .f32) (x1 : FVec Ideal S8x4096x1536 .f32) : FVec Ideal S32768x7680 .bf16 :=
  ((concatenate S32768x7680 1 [⟨S32768x1536, ((truncf .bf16 (shapeCast _ x1 shapeCasts_S8x4096x1536_S32768x1536) bitsLt_bf16_f32) : (⟨S32768x1536, .bf16⟩ : BufTy).Contents (Elt Ideal))⟩, ⟨S32768x512, ((broadcastInDim S32768x512 ![] bcast_S_S32768x512 ((constant (F := Ideal) S_ .bf16 0x0000#16))) : (⟨S32768x512, .bf16⟩ : BufTy).Contents (Elt Ideal))⟩, ⟨S32768x1024, ((truncf .bf16 (shapeCast _ x0 shapeCasts_S8x4096x1024_S32768x1024) bitsLt_bf16_f32) : (⟨S32768x1024, .bf16⟩ : BufTy).Contents (Elt Ideal))⟩, ⟨S32768x4608, ((broadcastInDim S32768x4608 ![] bcast_S_S32768x4608 ((constant (F := Ideal) S_ .bf16 0x0000#16))) : (⟨S32768x4608, .bf16⟩ : BufTy).Contents (Elt Ideal))⟩] concatenates_S32768x1536_S32768x512_S32768x1024_S32768x4608_S32768x7680_d1 : (⟨S32768x7680, .bf16⟩ : BufTy).Contents (Elt Ideal)))

theorem wideW_x (x0 : FVec Ideal S8x4096x1024 .f32) (x1 : FVec Ideal S8x4096x1536 .f32) (r : Fin 32768) (n : Fin 1536) (b : Fin 8) (s : Fin 4096)
    (hb : b.val = r.val / 4096) (hs : s.val = r.val % 4096) :
    wideW x0 x1 (ix2 r ⟨n.val, by omega⟩) = x1 (ix3 b s n) := by
  rw [show b = ⟨r.val / 4096, by omega⟩ from Fin.ext hb, show s = ⟨r.val % 4096, by omega⟩ from Fin.ext hs]
  pointwise [wideW]

theorem wideW_z' (x0 : FVec Ideal S8x4096x1024 .f32) (x1 : FVec Ideal S8x4096x1536 .f32) (r : Fin 32768) (n : Fin 1024) (q : Fin 7680) (hq : q.val = 2048 + n.val) (b : Fin 8) (s : Fin 4096)
    (hb : b.val = r.val / 4096) (hs : s.val = r.val % 4096) :
    wideW x0 x1 (ix2 r q) = x0 (ix3 b s n) := by
  rw [show b = ⟨r.val / 4096, by omega⟩ from Fin.ext hb, show s = ⟨r.val % 4096, by omega⟩ from Fin.ext hs,
    show n = ⟨q.val - 1536 - 512, by omega⟩ from Fin.ext (by dsimp only; omega)]
  pointwise [wideW]
  rw [dif_neg (by omega), dif_neg (by omega), dif_pos (by omega)]

theorem V_wide (c : Dev nD) : V m c main_v6 = wideW (m ((c : Thread nD τ).loc main_arg0)) (m ((c : Thread nD τ).loc main_arg1)) := by
  unfold_abbrev_sides
  after_results_simp <;> (try dsimp only [Matrix.cons_val]) <;> (try after_results_simp) <;> rfl

theorem read0 (c : Dev nD) (t : Fin cfg0.N) (i : Fin 1024) (n : Fin 1536) (r : Fin 32768) (hr : r.val = t.val * 1024 + i.val) (b : Fin 8) (s : Fin 4096)
    (hb : b.val = r.val / 4096) (hs : s.val = r.val % 4096) :
    iblk m c 0 t (ix2 i n) = (m ((c : Thread nD τ).loc main_arg1) (ix3 b s n) : EReal) := by
  refine Eq.trans ?_ (wideW_x (m ((c : Thread nD τ).loc main_arg0)) _ r n b s hb hs)
  blk_simp [iblk, (idx t).1]
  rw [V_wide]
  blk_ext [(idx t).1]

theorem read1 (c : Dev nD) (t : Fin cfg0.N) (i : Fin 16) (n : Fin 1536) (r : Fin 32768) (hr : r.val = (t.val * 64 - 1) * 16 + i.val) (b : Fin 8) (s : Fin 4096)
    (hb : b.val = r.val / 4096) (hs : s.val = r.val % 4096) :
    iblk m c 1 t (ix2 i n) = (m ((c : Thread nD τ).loc main_arg1) (ix3 b s n) : EReal) := by
  refine Eq.trans ?_ (wideW_x (m ((c : Thread nD τ).loc main_arg0)) _ r n b s hb hs)
  blk_simp [iblk, (idx t).2.1]
  rw [V_wide]
  blk_ext [(idx t).2.1]

theorem read2 (c : Dev nD) (t : Fin cfg0.N) (i : Fin 1024) (n : Fin 1024) (r : Fin 32768) (hr : r.val = t.val * 1024 + i.val) (b : Fin 8) (s : Fin 4096)
    (hb : b.val = r.val / 4096) (hs : s.val = r.val % 4096) :
    X0_2 m c t (ix2 i n) = (m ((c : Thread nD τ).loc main_arg0) (ix3 b s n) : EReal) := by
  refine Eq.trans ?_ (wideW_z' _ (m ((c : Thread nD τ).loc main_arg1)) r n ⟨2048 + n.val, by omega⟩ rfl b s hb hs)
  unfold X0_2 Pipeline.Window.fill
  rw [dif_pos (moved0_2 t _)]
  blk_simp [iblk, (idx t).2.2.1]
  rw [V_wide]
  blk_ext [(idx t).2.2.1]

/-- The narrow array as the host prepares it. -/
def smallW (x2 : FVec Ideal S8x4096x16 .f32) : FVec Ideal S32768x128 .f32 :=
  ((concatenate S32768x128 1 [⟨S32768x72, ((broadcastInDim S32768x72 ![] bcast_S_S32768x72 ((constant (F := Ideal) S_ .f32 0x00000000#32))) : (⟨S32768x72, .f32⟩ : BufTy).Contents (Elt Ideal))⟩, ⟨S32768x16, ((shapeCast _ x2 shapeCasts_S8x4096x16_S32768x16) : (⟨S32768x16, .f32⟩ : BufTy).Contents (Elt Ideal))⟩, ⟨S32768x40, ((broadcastInDim S32768x40 ![] bcast_S_S32768x40 ((constant (F := Ideal) S_ .f32 0x00000000#32))) : (⟨S32768x40, .f32⟩ : BufTy).Contents (Elt Ideal))⟩] concatenates_S32768x72_S32768x16_S32768x40_S32768x128_d1 : (⟨S32768x128, .f32⟩ : BufTy).Contents (Elt Ideal)))

theorem smallW_x (x2 : FVec Ideal S8x4096x16 .f32) (r : Fin 32768) (h : Fin 16) (q : Fin 128) (hq : q.val = 72 + h.val) (b : Fin 8) (s : Fin 4096)
    (hb : b.val = r.val / 4096) (hs : s.val = r.val % 4096) :
    smallW x2 (ix2 r q) = x2 (ix3 b s h) := by
  rw [show b = ⟨r.val / 4096, by omega⟩ from Fin.ext hb, show s = ⟨r.val % 4096, by omega⟩ from Fin.ext hs,
    show h = ⟨q.val - 72, by omega⟩ from Fin.ext (by dsimp only; omega)]
  pointwise [smallW]
  rw [dif_neg (by omega), dif_pos (by omega)]

theorem V_small (c : Dev nD) : V m c main_v10 = smallW (m ((c : Thread nD τ).loc main_arg2)) := by
  unfold_abbrev_sides
  after_results_simp <;> (try dsimp only [Matrix.cons_val]) <;> (try after_results_simp) <;> rfl

theorem read3 (c : Dev nD) (t : Fin cfg0.N) (i : Fin 1024) (h : Fin 16) (r : Fin 32768) (hr : r.val = t.val * 1024 + i.val) (b : Fin 8) (s : Fin 4096)
    (hb : b.val = r.val / 4096) (hs : s.val = r.val % 4096) :
    iblk m c 3 t (ix2 i ⟨72 + h.val, by omega⟩) = (m ((c : Thread nD τ).loc main_arg2) (ix3 b s h) : EReal) := by
  refine Eq.trans ?_ (smallW_x _ r h ⟨72 + h.val, by omega⟩ rfl b s hb hs)
  blk_simp [iblk, (idx t).2.2.2.1]
  rw [V_small]
  blk_ext [(idx t).2.2.2.1]

theorem read4 (c : Dev nD) (t : Fin cfg0.N) (i : Fin 4) (n : Fin 1536) :
    iblk m c 4 t (ix2 i n) = (m ((c : Thread nD τ).loc main_arg3) (ix2 i n) : EReal) := by
  blk_simp [iblk, (idx t).2.2.2.2.1]
  entry_read
  pointwise
  blk_ext [(idx t).2.2.2.2.1]

theorem read5 (c : Dev nD) (t : Fin cfg0.N) (n : Fin 1536) :
    iblk m c 5 t (ix2 0 n) = (m ((c : Thread nD τ).loc main_arg4) (ix1 n) : EReal) := by
  blk_simp [iblk, (idx t).2.2.2.2.2.1]
  entry_read
  pointwise
  blk_ext [(idx t).2.2.2.2.2.1]

theorem read6 (c : Dev nD) (t : Fin cfg0.N) (h : Fin 16) :
    iblk m c 6 t (ix2 0 h) = (m ((c : Thread nD τ).loc main_arg5) (ix1 h) : EReal) := by
  blk_simp [iblk, (idx t).2.2.2.2.2.2.1]
  entry_read
  pointwise
  blk_ext [(idx t).2.2.2.2.2.2.1]

theorem read7 (c : Dev nD) (t : Fin cfg0.N) (h : Fin 16) :
    iblk m c 7 t (ix2 h 0) = (m ((c : Thread nD τ).loc main_arg5) (ix1 h) : EReal) := by
  blk_simp [iblk, (idx t).2.2.2.2.2.2.2.1]
  entry_read
  pointwise
  blk_ext [(idx t).2.2.2.2.2.2.2.1]

theorem read8 (c : Dev nD) (t : Fin cfg0.N) (h : Fin 16) :
    iblk m c 8 t (ix2 0 h) = (-Ideal.exp (m ((c : Thread nD τ).loc main_arg6) (ix1 h)) : EReal) := by
  blk_simp [iblk, (idx t).2.2.2.2.2.2.2.2.1]
  entry_read
  pointwise
  refine congrArg (fun z : EReal => -Ideal.exp z) ?_
  blk_ext [(idx t).2.2.2.2.2.2.2.2.1]

theorem read9 (c : Dev nD) (t : Fin cfg0.N) (h : Fin 16) :
    iblk m c 9 t (ix2 h 0) = (-Ideal.exp (m ((c : Thread nD τ).loc main_arg6) (ix1 h)) : EReal) := by
  blk_simp [iblk, (idx t).2.2.2.2.2.2.2.2.2.1]
  entry_read
  pointwise
  refine congrArg (fun z : EReal => -Ideal.exp z) ?_
  blk_ext [(idx t).2.2.2.2.2.2.2.2.2.1]

theorem read10 (c : Dev nD) (t : Fin cfg0.N) (q : Fin 1024) :
    iblk m c 10 t (ix2 0 q) = (m ((c : Thread nD τ).loc main_arg7) (ix1 ⟨q.val / 64, by omega⟩) : EReal) := by
  blk_simp [iblk, (idx t).2.2.2.2.2.2.2.2.2.2.1]
  entry_read
  pointwise
  blk_ext [(idx t).2.2.2.2.2.2.2.2.2.2.1]

theorem read12 (c : Dev nD) (t : Fin cfg0.N) (q : Fin 1024) :
    iblk m c 12 t (ix2 0 q) = (m ((c : Thread nD τ).loc main_arg8) (ix1 q) : EReal) := by
  blk_simp [iblk, (idx t).2.2.2.2.2.2.2.2.2.2.2.2.1]
  entry_read
  pointwise
  blk_ext [(idx t).2.2.2.2.2.2.2.2.2.2.2.2.1]

/-- The heads spread over the channels, as the host prepares it. -/
def spreadW : FVec Ideal S16x1024 .f32 :=
  shapeCast _ (broadcastInDim S16x16x64 ![0, 1] bcast_S16x16_S16x16x64_0_1 (uitofp (F := Ideal) .f32 (cmpi .eq (addi ((iotaInDim S16x16 32 0)) (broadcastInDim S16x16 ![] bcast_S_S16x16 ((constantI S_ 32 0#32)))) ((iotaInDim S16x16 32 1))))) shapeCasts_S16x16x64_S16x1024

theorem eye_word : ∀ h g : Fin 16, IntOp.cmpi .eq (IntOp.addi (BitVec.ofNat 32 h.val) 0#32) (BitVec.ofNat 32 g.val) = if h.val = g.val then 1#1 else 0#1 := by
  decide +kernel

theorem spreadW_apply (h : Fin 16) (q : Fin 1024) : spreadW (ix2 h q) = if h.val = q.val / 64 then 1 else 0 := by
  have e : spreadW (ix2 h q) = FloatOps.uitofp (F := Ideal) .f32 (IntOp.cmpi .eq (IntOp.addi (BitVec.ofNat 32 h.val) 0#32) (BitVec.ofNat 32 (⟨q.val / 64, by omega⟩ : Fin 16).val)) := by
    pointwise [spreadW]
  rw [e, eye_word]
  split
  · show ((1 : ℕ) : EReal) = 1
    exact Nat.cast_one
  · show ((0 : ℕ) : EReal) = 0
    exact Nat.cast_zero

theorem V_spread (c : Dev nD) : V m c main_v20 = spreadW := by
  unfold_abbrev_sides
  after_results_simp <;> (try dsimp only [Matrix.cons_val]) <;> (try after_results_simp) <;> rfl

theorem read11 (c : Dev nD) (t : Fin cfg0.N) (h : Fin 16) (q : Fin 1024) :
    iblk m c 11 t (ix2 h q) = ((if h.val = q.val / 64 then 1 else 0) : EReal) := by
  refine Eq.trans ?_ (spreadW_apply h q)
  blk_simp [iblk, (idx t).2.2.2.2.2.2.2.2.2.2.2.1]
  rw [V_spread]
  blk_ext [(idx t).2.2.2.2.2.2.2.2.2.2.2.1]

end Cert.SsdIdeal.Hand

end
-- ==== Proof.SsdChunk0.lean ====
/-
  The first of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The rows before the first chunk: none of them at a sequence's start. -/
def masked (i : grid0.Coords) (halo : H S16x1536) : H S16x1536 :=
  Scalar.select (Scalar.cmpi .sgt (BitVec.ofNat 32 (i 1).val) 0#32) halo (broadcast S16x1536 (Scalar.ofBits (F := Ideal) .bf16 0x0000#16))

/-- The first group's state of the first chunk, as the body composes it. -/
def lo0 (i : grid0.Coords) (halo : H S16x1536) (x : H S128x1536) (sm : W S128x128) (cw : W S4x1536) (cb : W S1x1536) (tr : W S1x16) (ex : W S16x1024) (ar : W S1x16) (S : W S128x1024) : W S128x512 :=
  let v14 := k0_pay6 i halo x
  let v23 := k0_pay7 x cw cb
  let v24 := iota .tc S128x144 32 [0] iota_S128x144_d0_w32
  let v25 := iota .tc S128x144 32 [1] iota_S128x144_d1_w32
  let v36 := k0_pay8 i halo x cw
  let v67 := k0_pay10 v14 cw v23 v24 v25 v36
  let v68 := k0_pay11 v14 cw v23 v24 v25 v36
  let v13 := k0_pay5 sm
  let v77 := k0_pay15 v13 tr
  let v80 := k0_pay17 v13 tr
  let v82 := k0_pay18 v13 tr
  let v83 := k0_pay19 v13 tr
  let cst_26 := Scalar.ofBits (F := Ideal) .f32 0x00000000#32
  let v123 := k0_pay23 v77 v80 v82 v83 cst_26 ex
  let v110 := k0_pay22 ex
  let v168 := k0_pay29 v110
  let v127 := k0_pay24 v77 v80 v82 v83 cst_26 ar
  let v175 := k0_pay33 v127
  let v178 := k0_pay34 v110 v127
  k0_pay46 v67 v68 v123 v168 v175 v178 S

theorem lo0_eq (i : grid0.Coords) (halo : H S16x1536) (x : H S128x1536) (sm : W S128x128) (cw : W S4x1536) (cb : W S1x1536) (tr : W S1x16) (ex : W S16x1024) (ar : W S1x16) (S : W S128x1024) : lo0 i halo x sm cw cb tr ex ar S = lowHalf (masked i halo) x sm cw cb tr ex ar S := by
  simp only [lo0, k0_pay3, k0_pay5, k0_pay6, k0_pay7, k0_pay8, k0_pay9, k0_pay10, k0_pay11, k0_pay14, k0_pay15, k0_pay16, k0_pay17, k0_pay18, k0_pay19, k0_pay20, k0_pay22, k0_pay23, k0_pay24, k0_pay26, k0_pay27, k0_pay29, k0_pay30, k0_pay31, k0_pay32, k0_pay33, k0_pay34, k0_pay35, k0_pay36, k0_pay38, k0_pay39, k0_pay41, k0_pay43, k0_pay46, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, masked, ↓above_fold, ↓beside_fold, castW, castH]

/-- The second group's state of the first chunk, as the body composes it. -/
def hi0 (i : grid0.Coords) (halo : H S16x1536) (x : H S128x1536) (sm : W S128x128) (cw : W S4x1536) (cb : W S1x1536) (tr : W S1x16) (ex : W S16x1024) (ar : W S1x16) (S : W S128x1024) : W S128x512 :=
  let v110 := k0_pay22 ex
  let v168 := k0_pay29 v110
  let v13 := k0_pay5 sm
  let v77 := k0_pay15 v13 tr
  let v80 := k0_pay17 v13 tr
  let v82 := k0_pay18 v13 tr
  let v83 := k0_pay19 v13 tr
  let cst_26 := Scalar.ofBits (F := Ideal) .f32 0x00000000#32
  let v127 := k0_pay24 v77 v80 v82 v83 cst_26 ar
  let v175 := k0_pay33 v127
  let v178 := k0_pay34 v110 v127
  let v186 := k0_pay38 v168 v175 v178
  let v14 := k0_pay6 i halo x
  let v23 := k0_pay7 x cw cb
  let v24 := iota .tc S128x144 32 [0] iota_S128x144_d0_w32
  let v25 := iota .tc S128x144 32 [1] iota_S128x144_d1_w32
  let v36 := k0_pay8 i halo x cw
  let v67 := k0_pay10 v14 cw v23 v24 v25 v36
  let v123 := k0_pay23 v77 v80 v82 v83 cst_26 ex
  let v190 := k0_pay41 v67 v123 v168 v175 v178
  let v68 := k0_pay11 v14 cw v23 v24 v25 v36
  let v329 := k0_pay59 v68
  k0_pay63 v186 v190 S v329

theorem hi0_eq (i : grid0.Coords) (halo : H S16x1536) (x : H S128x1536) (sm : W S128x128) (cw : W S4x1536) (cb : W S1x1536) (tr : W S1x16) (ex : W S16x1024) (ar : W S1x16) (S : W S128x1024) : hi0 i halo x sm cw cb tr ex ar S = highHalf (masked i halo) x sm cw cb tr ex ar S := by
  simp only [hi0, k0_pay3, k0_pay5, k0_pay6, k0_pay7, k0_pay8, k0_pay9, k0_pay10, k0_pay11, k0_pay14, k0_pay15, k0_pay16, k0_pay17, k0_pay18, k0_pay19, k0_pay20, k0_pay22, k0_pay23, k0_pay24, k0_pay26, k0_pay27, k0_pay29, k0_pay30, k0_pay31, k0_pay32, k0_pay33, k0_pay34, k0_pay35, k0_pay36, k0_pay38, k0_pay39, k0_pay41, k0_pay59, k0_pay63, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, masked, ↓above_fold, ↓beside_fold, castW, castH]

/-- The stored rows of the first chunk, as the body composes it. -/
def out0 (i : grid0.Coords) (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v11 := k0_pay4 z
  let v14 := k0_pay6 i halo x
  let v23 := k0_pay7 x cw cb
  let v24 := iota .tc S128x144 32 [0] iota_S128x144_d0_w32
  let v25 := iota .tc S128x144 32 [1] iota_S128x144_d1_w32
  let v36 := k0_pay8 i halo x cw
  let v67 := k0_pay10 v14 cw v23 v24 v25 v36
  let v134 := k0_pay26
  let v13 := k0_pay5 sm
  let v77 := k0_pay15 v13 tr
  let v80 := k0_pay17 v13 tr
  let v82 := k0_pay18 v13 tr
  let v83 := k0_pay19 v13 tr
  let cst_26 := Scalar.ofBits (F := Ideal) .f32 0x00000000#32
  let v127 := k0_pay24 v77 v80 v82 v83 cst_26 ar
  let v154 := k0_pay27 v127
  let v70 := k0_pay13 v13
  let v108 := k0_pay21 v70 tc
  let v130 := k0_pay25 ac
  let v167 := k0_pay28 v108 v130
  let v123 := k0_pay23 v77 v80 v82 v83 cst_26 ex
  let v188 := k0_pay40 v67 v123
  let v68 := k0_pay11 v14 cw v23 v24 v25 v36
  let v69 := k0_pay12 v14 cw v23 v24 v25 v36
  let v110 := k0_pay22 ex
  let v168 := k0_pay29 v110
  let v175 := k0_pay33 v127
  let v178 := k0_pay34 v110 v127
  let v226 := k0_pay47 v67 v68 v69 v123 v134 v154 v167 v168 v175 v178 S
  let v197 := k0_pay44 v68 v69
  let v202 := k0_pay45 v69 v168 v175 v178 S
  let v227 := k0_pay48 v154
  let v240 := k0_pay49 v134 v167 v188 v197 v202 v227
  let v254 := k0_pay50 v134 v154 v167 v188 v197 v202
  let v268 := k0_pay51 v134 v154 v167 v188 v197 v202
  let v278 := k0_pay52 v134 v154 v167 v197
  let v279 := k0_pay53 v188
  let cst_69 := constant (F := Ideal) S128x64 .f32 0x00000000#32
  let v282 := k0_pay54 v202 v278 v279 cst_69
  let v296 := k0_pay55 v134 v154 v167 v188 v197 v202
  let v310 := k0_pay56 v134 v154 v167 v188 v197 v202
  let v324 := k0_pay57 v134 v154 v167 v188 v197 v202
  let v330 := k0_pay60 v68 v69
  let v182 := k0_pay37 v168 v175 v178
  let v327 := k0_pay58 v69
  let v332 := k0_pay61 S
  let v335 := k0_pay62 v182 v327 v332
  let v359 := k0_pay64 v134 v154 v167 v182 v188 v327 v330 v332
  let v373 := k0_pay65 v134 v154 v167 v182 v188 v327 v330 v332
  let v382 := k0_pay66 v134 v154 v167 v330
  let v387 := k0_pay67 v188 v335 v382
  let v401 := k0_pay68 v134 v154 v167 v188 v330 v335
  let v415 := k0_pay69 v134 v154 v167 v188 v330 v335
  let v429 := k0_pay70 v134 v154 v167 v188 v330 v335
  let v434 := k0_pay71 v154 v167
  let cst_92 := Scalar.ofBits (F := Ideal) .f32 0xFF800000#32
  let v482 := k0_pay72 v11 v67 v134 v154 v167 v188 v226 v240 v254 v268 v282 v296 v310 v324 v330 v335 v359 v373 v387 v401 v415 v429 v434 cst_92 dk
  let v483 := k0_pay73 ng
  k0_pay74 v482 v483

theorem out0_eq (i : grid0.Coords) (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out0 i halo x z sm cw cb tr tc ex ar ac dk ng S = outOf (masked i halo) x z sm cw cb tr tc ex ar ac dk ng S := by
  simp only [out0, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay37, k0_pay39, k0_pay40, k0_pay42, k0_pay43, k0_pay44, k0_pay45, k0_pay47, k0_pay48, k0_pay49, k0_pay50, k0_pay51, k0_pay52, k0_pay53, k0_pay54, k0_pay55, k0_pay56, k0_pay57, k0_pay58, k0_pay59, k0_pay60, k0_pay61, k0_pay62, k0_pay64, k0_pay65, k0_pay66, k0_pay67, k0_pay68, k0_pay69, k0_pay70, k0_pay71, k0_pay72, k0_pay73, k0_pay74, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, masked, ↓above_fold, ↓beside_fold, castW, castH]

end Cert.SsdIdeal.Hand

end
-- ==== Proof.SsdChunk1.lean ====
/-
  The second of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the second chunk, as the body composes it. -/
def lo1 (halo : H S16x1536) (x : H S128x1536) (sm : W S128x128) (cw : W S4x1536) (cb : W S1x1536) (tr : W S1x16) (ex : W S16x1024) (ar : W S1x16) (S : W S128x1024) : W S128x512 :=
  let v494 := k0_pay78 x halo
  let v504 := iota .tc S128x144 32 [0] iota_S128x144_d0_w32
  let v505 := iota .tc S128x144 32 [1] iota_S128x144_d1_w32
  let v517 := k0_pay79 x halo cw cb
  let v520 := k0_pay80
  let cst_122 := Scalar.ofBits (F := Ideal) .f32 0x00000000#32
  let v521 := k0_pay81 (F := Ideal)
  let v547 := k0_pay83 v494 cw v504 v505 v517 v520 cst_122 v521
  let v548 := k0_pay84 v494 cw v504 v505 v517 v520 cst_122 v521
  let v493 := k0_pay77 sm
  let v569 := k0_pay86 v493 tr
  let v603 := k0_pay89 v569 ex
  let v590 := k0_pay88 ex
  let v607 := k0_pay90 v569 ar
  let v614 := k0_pay92
  let v615 := k0_pay93 (F := Ideal)
  let v616 := k0_pay94 (F := Ideal)
  let v661 := k0_pay98 v590 v607 v614 v615 v616
  let v665 := k0_pay100 v590 v607 v614 v615 v616
  k0_pay109 v547 v548 v603 v661 v665 S

theorem lo1_eq (halo : H S16x1536) (x : H S128x1536) (sm : W S128x128) (cw : W S4x1536) (cb : W S1x1536) (tr : W S1x16) (ex : W S16x1024) (ar : W S1x16) (S : W S128x1024) : lo1 halo x sm cw cb tr ex ar S = lowHalf halo x sm cw cb tr ex ar S := by
  simp only [lo1, k0_pay75, k0_pay77, k0_pay78, k0_pay79, k0_pay80, k0_pay81, k0_pay82, k0_pay83, k0_pay84, k0_pay86, k0_pay88, k0_pay89, k0_pay90, k0_pay92, k0_pay93, k0_pay94, k0_pay95, k0_pay97, k0_pay98, k0_pay100, k0_pay101, k0_pay102, k0_pay104, k0_pay106, k0_pay109, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the second chunk, as the body composes it. -/
def hi1 (halo : H S16x1536) (x : H S128x1536) (sm : W S128x128) (cw : W S4x1536) (cb : W S1x1536) (tr : W S1x16) (ex : W S16x1024) (ar : W S1x16) (S : W S128x1024) : W S128x512 :=
  let v494 := k0_pay78 x halo
  let v504 := iota .tc S128x144 32 [0] iota_S128x144_d0_w32
  let v505 := iota .tc S128x144 32 [1] iota_S128x144_d1_w32
  let v517 := k0_pay79 x halo cw cb
  let v520 := k0_pay80
  let cst_122 := Scalar.ofBits (F := Ideal) .f32 0x00000000#32
  let v521 := k0_pay81 (F := Ideal)
  let v547 := k0_pay83 v494 cw v504 v505 v517 v520 cst_122 v521
  let v493 := k0_pay77 sm
  let v569 := k0_pay86 v493 tr
  let v603 := k0_pay89 v569 ex
  let v590 := k0_pay88 ex
  let v607 := k0_pay90 v569 ar
  let v614 := k0_pay92
  let v615 := k0_pay93 (F := Ideal)
  let v616 := k0_pay94 (F := Ideal)
  let v665 := k0_pay100 v590 v607 v614 v615 v616
  let v670 := k0_pay104 v547 v603 v665
  let v548 := k0_pay84 v494 cw v504 v505 v517 v520 cst_122 v521
  let v809 := k0_pay121 v548
  let v661 := k0_pay98 v590 v607 v614 v615 v616
  let v666 := k0_pay101 v661
  let v819 := k0_pay124 v666 S
  k0_pay125 v670 v809 v819

theorem hi1_eq (halo : H S16x1536) (x : H S128x1536) (sm : W S128x128) (cw : W S4x1536) (cb : W S1x1536) (tr : W S1x16) (ex : W S16x1024) (ar : W S1x16) (S : W S128x1024) : hi1 halo x sm cw cb tr ex ar S = highHalf halo x sm cw cb tr ex ar S := by
  simp only [hi1, k0_pay75, k0_pay77, k0_pay78, k0_pay79, k0_pay80, k0_pay81, k0_pay82, k0_pay83, k0_pay84, k0_pay86, k0_pay88, k0_pay89, k0_pay90, k0_pay92, k0_pay93, k0_pay94, k0_pay95, k0_pay97, k0_pay98, k0_pay100, k0_pay101, k0_pay102, k0_pay104, k0_pay121, k0_pay124, k0_pay125, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the second chunk, as the body composes it. -/
def out1 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v491 := k0_pay76 z
  let v494 := k0_pay78 x halo
  let v504 := iota .tc S128x144 32 [0] iota_S128x144_d0_w32
  let v505 := iota .tc S128x144 32 [1] iota_S128x144_d1_w32
  let v517 := k0_pay79 x halo cw cb
  let v520 := k0_pay80
  let cst_122 := Scalar.ofBits (F := Ideal) .f32 0x00000000#32
  let v521 := k0_pay81 (F := Ideal)
  let v547 := k0_pay83 v494 cw v504 v505 v517 v520 cst_122 v521
  let v614 := k0_pay92
  let v493 := k0_pay77 sm
  let v569 := k0_pay86 v493 tr
  let v607 := k0_pay90 v569 ar
  let v615 := k0_pay93 (F := Ideal)
  let v616 := k0_pay94 (F := Ideal)
  let v634 := k0_pay95 v607 v614 v615 v616
  let v570 := k0_pay87 v493
  let v611 := k0_pay91 v570 tc ac
  let v612 := iota .tc S128x128 32 [0] iota_S128x128_d0_w32
  let v613 := iota .tc S128x128 32 [1] iota_S128x128_d1_w32
  let v647 := k0_pay96 v611 v612 v613
  let v603 := k0_pay89 v569 ex
  let v668 := k0_pay103 v547 v603
  let v548 := k0_pay84 v494 cw v504 v505 v517 v520 cst_122 v521
  let v549 := k0_pay85 v494 cw v504 v505 v517 v520 cst_122 v521
  let v590 := k0_pay88 ex
  let v662 := k0_pay99 v590 v607 v614 v615 v616
  let v706 := k0_pay110 v547 v548 v549 v603 v614 v634 v647 v662 S
  let v677 := k0_pay107 v548 v549
  let v682 := k0_pay108 v549 v662 S
  let v714 := k0_pay111 v614 v634 v647
  let v720 := k0_pay112 v668 v677 v682 v714
  let v734 := k0_pay113 v614 v634 v647 v668 v677 v682
  let v748 := k0_pay114 v614 v634 v647 v668 v677 v682
  let v762 := k0_pay115 v614 v634 v647 v668 v677 v682
  let v767 := k0_pay116 v634 v647
  let v776 := k0_pay117 v614 v668 v677 v682 v767
  let v790 := k0_pay118 v614 v634 v647 v668 v677 v682
  let v804 := k0_pay119 v614 v634 v647 v668 v677 v682
  let v810 := k0_pay122 v548 v549
  let v815 := k0_pay123 v549 v662 S
  let v839 := k0_pay126 v614 v634 v647 v668 v810 v815
  let v853 := k0_pay127 v614 v634 v647 v668 v810 v815
  let v867 := k0_pay128 v614 v634 v647 v668 v810 v815
  let v868 := k0_pay129 v634
  let v869 := k0_pay130 v647
  let v881 := k0_pay131 v614 v668 v810 v815 v868 v869
  let v895 := k0_pay132 v614 v634 v647 v668 v810 v815
  let v909 := k0_pay133 v614 v634 v647 v668 v810 v815
  let v921 := k0_pay134 v614 v634 v647 v668 v810
  k0_pay135 v491 v547 v614 v634 v647 v668 v706 v720 v734 v748 v762 v776 v790 v804 v810 v815 v839 v853 v867 v881 v895 v909 v921 dk ng

theorem out1_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out1 halo x z sm cw cb tr tc ex ar ac dk ng S = outOf halo x z sm cw cb tr tc ex ar ac dk ng S := by
  simp only [out1, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay99, k0_pay102, k0_pay103, k0_pay105, k0_pay106, k0_pay107, k0_pay108, k0_pay110, k0_pay111, k0_pay112, k0_pay113, k0_pay114, k0_pay115, k0_pay116, k0_pay117, k0_pay118, k0_pay119, k0_pay120, k0_pay121, k0_pay122, k0_pay123, k0_pay126, k0_pay127, k0_pay128, k0_pay129, k0_pay130, k0_pay131, k0_pay132, k0_pay133, k0_pay134, k0_pay135, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk2.lean ====
/-
  The third of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the third chunk, as the body composes it. -/
def lo2 (halo : H S16x1536) (x : H S128x1536) (sm : W S128x128) (cw : W S4x1536) (cb : W S1x1536) (tr : W S1x16) (ex : W S16x1024) (ar : W S1x16) (S : W S128x1024) : W S128x512 :=
  let v974 := k0_pay139 x halo
  let v984 := iota .tc S128x144 32 [0] iota_S128x144_d0_w32
  let v985 := iota .tc S128x144 32 [1] iota_S128x144_d1_w32
  let v997 := k0_pay140 x halo cw cb
  let v1008 := k0_pay141 x halo cw
  let v1028 := k0_pay144 v974 cw v984 v985 v997 v1008
  let v1070 := k0_pay149 ex
  let v973 := k0_pay138 sm
  let v1049 := k0_pay146 v973 tr
  let v1087 := k0_pay151 v1049 ar
  let v1102 := k0_pay155 (F := Ideal)
  let v1146 := k0_pay161 v1070 v1087 v1102
  let v1027 := k0_pay143 v974 cw v984 v985 v997 v1008
  let v1083 := k0_pay150 v1049 ex
  let v1150 := k0_pay164 v1027 v1070 v1083 v1087 v1102
  k0_pay169 v1028 v1146 v1150 S

theorem lo2_eq (halo : H S16x1536) (x : H S128x1536) (sm : W S128x128) (cw : W S4x1536) (cb : W S1x1536) (tr : W S1x16) (ex : W S16x1024) (ar : W S1x16) (S : W S128x1024) : lo2 halo x sm cw cb tr ex ar S = lowHalf halo x sm cw cb tr ex ar S := by
  simp only [lo2, k0_pay136, k0_pay138, k0_pay139, k0_pay140, k0_pay141, k0_pay142, k0_pay143, k0_pay144, k0_pay146, k0_pay149, k0_pay150, k0_pay151, k0_pay153, k0_pay155, k0_pay156, k0_pay158, k0_pay159, k0_pay161, k0_pay162, k0_pay164, k0_pay166, k0_pay169, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the third chunk, as the body composes it. -/
def hi2 (halo : H S16x1536) (x : H S128x1536) (sm : W S128x128) (cw : W S4x1536) (cb : W S1x1536) (tr : W S1x16) (ex : W S16x1024) (ar : W S1x16) (S : W S128x1024) : W S128x512 :=
  let v974 := k0_pay139 x halo
  let v984 := iota .tc S128x144 32 [0] iota_S128x144_d0_w32
  let v985 := iota .tc S128x144 32 [1] iota_S128x144_d1_w32
  let v997 := k0_pay140 x halo cw cb
  let v1008 := k0_pay141 x halo cw
  let v1028 := k0_pay144 v974 cw v984 v985 v997 v1008
  let v1070 := k0_pay149 ex
  let v973 := k0_pay138 sm
  let v1049 := k0_pay146 v973 tr
  let v1087 := k0_pay151 v1049 ar
  let v1102 := k0_pay155 (F := Ideal)
  let v1146 := k0_pay161 v1070 v1087 v1102
  let v1027 := k0_pay143 v974 cw v984 v985 v997 v1008
  let v1083 := k0_pay150 v1049 ex
  let v1150 := k0_pay164 v1027 v1070 v1083 v1087 v1102
  let v1302 := k0_pay185 v1028 v1146 v1150 S
  k0_pay186 v1302

theorem hi2_eq (halo : H S16x1536) (x : H S128x1536) (sm : W S128x128) (cw : W S4x1536) (cb : W S1x1536) (tr : W S1x16) (ex : W S16x1024) (ar : W S1x16) (S : W S128x1024) : hi2 halo x sm cw cb tr ex ar S = highHalf halo x sm cw cb tr ex ar S := by
  simp only [hi2, k0_pay136, k0_pay138, k0_pay139, k0_pay140, k0_pay141, k0_pay142, k0_pay143, k0_pay144, k0_pay146, k0_pay149, k0_pay150, k0_pay151, k0_pay153, k0_pay155, k0_pay156, k0_pay158, k0_pay159, k0_pay161, k0_pay162, k0_pay164, k0_pay182, k0_pay185, k0_pay186, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the third chunk, as the body composes it. -/
def out2 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v971 := k0_pay137 z
  let v974 := k0_pay139 x halo
  let v984 := iota .tc S128x144 32 [0] iota_S128x144_d0_w32
  let v985 := iota .tc S128x144 32 [1] iota_S128x144_d1_w32
  let v997 := k0_pay140 x halo cw cb
  let v1008 := k0_pay141 x halo cw
  let v1027 := k0_pay143 v974 cw v984 v985 v997 v1008
  let v1094 := k0_pay153
  let v973 := k0_pay138 sm
  let v1049 := k0_pay146 v973 tr
  let v1083 := k0_pay150 v1049 ex
  let v1148 := k0_pay163 v1027 v1083
  let v1028 := k0_pay144 v974 cw v984 v985 v997 v1008
  let v1029 := k0_pay145 v974 cw v984 v985 v997 v1008
  let v1087 := k0_pay151 v1049 ar
  let v1102 := k0_pay155 (F := Ideal)
  let v1114 := k0_pay156 v1087 v1102
  let v1054 := k0_pay147 v973 tc
  let cst_242 := Scalar.ofBits (F := Ideal) .f32 0x00000000#32
  let v1056 := k0_pay148 v973 tc
  let v1091 := k0_pay152 v1054 cst_242 v1056 ac
  let v1101 := k0_pay154 (F := Ideal)
  let v1127 := k0_pay157 v1091 v1101
  let v1070 := k0_pay149 ex
  let v1142 := k0_pay160 v1070 v1087 v1102
  let v1186 := k0_pay170 v1028 v1029 v1094 v1114 v1127 v1142 v1148 S
  let v1200 := k0_pay171 v1028 v1029 v1094 v1114 v1127 v1142 v1148 S
  let v1157 := k0_pay167 v1028 v1029
  let v1162 := k0_pay168 v1029 v1142 S
  let v1201 := k0_pay172 v1114
  let v1214 := k0_pay173 v1094 v1127 v1148 v1157 v1162 v1201
  let v1228 := k0_pay174 v1094 v1114 v1127 v1148 v1157 v1162
  let v1242 := k0_pay175 v1094 v1114 v1127 v1148 v1157 v1162
  let v1252 := k0_pay176 v1094 v1114 v1127 v1157
  let v1253 := k0_pay177 v1148
  let cst_284 := constant (F := Ideal) S128x64 .f32 0x00000000#32
  let v1256 := k0_pay178 v1162 v1252 v1253 cst_284
  let v1270 := k0_pay179 v1094 v1114 v1127 v1148 v1157 v1162
  let v1284 := k0_pay180 v1094 v1114 v1127 v1148 v1157 v1162
  let v1290 := k0_pay183 v1028 v1029
  let v1295 := k0_pay184 v1029 v1142 S
  let v1319 := k0_pay187 v1094 v1114 v1127 v1148 v1290 v1295
  let v1333 := k0_pay188 v1094 v1114 v1127 v1148 v1290 v1295
  let v1347 := k0_pay189 v1094 v1114 v1127 v1148 v1290 v1295
  let v1356 := k0_pay190 v1094 v1114 v1127 v1290
  let v1361 := k0_pay191 v1148 v1295 v1356
  let v1375 := k0_pay192 v1094 v1114 v1127 v1148 v1290 v1295
  let v1389 := k0_pay193 v1094 v1114 v1127 v1148 v1290 v1295
  let v1403 := k0_pay194 v1094 v1114 v1127 v1148 v1290 v1295
  let v1408 := k0_pay195 v1114 v1127
  let cst_308 := Scalar.ofBits (F := Ideal) .f32 0xFF800000#32
  k0_pay196 v971 v1027 v1094 v1148 v1186 v1200 v1214 v1228 v1242 v1256 v1270 v1284 v1290 v1295 v1319 v1333 v1347 v1361 v1375 v1389 v1403 v1408 cst_308 dk ng

theorem out2_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out2 halo x z sm cw cb tr tc ex ar ac dk ng S = outOf halo x z sm cw cb tr tc ex ar ac dk ng S := by
  simp only [out2, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay160, k0_pay162, k0_pay163, k0_pay165, k0_pay166, k0_pay167, k0_pay168, k0_pay170, k0_pay171, k0_pay172, k0_pay173, k0_pay174, k0_pay175, k0_pay176, k0_pay177, k0_pay178, k0_pay179, k0_pay180, k0_pay181, k0_pay182, k0_pay183, k0_pay184, k0_pay187, k0_pay188, k0_pay189, k0_pay190, k0_pay191, k0_pay192, k0_pay193, k0_pay194, k0_pay195, k0_pay196, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk3.lean ====
/-
  The fourth of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the fourth chunk, as the body composes it. -/
def lo3 (halo : H S16x1536) (x : H S128x1536) (sm : W S128x128) (cw : W S4x1536) (cb : W S1x1536) (tr : W S1x16) (ex : W S16x1024) (ar : W S1x16) (S : W S128x1024) : W S128x512 :=
  let v1550 := k0_pay217 ex
  let v1582 := k0_pay223 (F := Ideal)
  let v1453 := k0_pay200 sm
  let v1529 := k0_pay209 v1453 tr
  let v1583 := k0_pay224 v1529 ar
  let v1586 := k0_pay226 v1529 ar
  let v1589 := k0_pay227 v1529 ar
  let cst_364 := constant (F := Ideal) S128x16 .f32 0x00000000#32
  let v1626 := k0_pay233 v1550 v1582 v1583 v1586 v1589 cst_364
  let v1447 := k0_pay197 x
  let v1449 := k0_pay198 halo
  let v1454 := k0_pay201 v1447 v1449
  let v1489 := k0_pay202 v1447 v1449 cw cb
  let v1492 := k0_pay203
  let cst_340 := Scalar.ofBits (F := Ideal) .f32 0x00000000#32
  let v1493 := k0_pay204 (F := Ideal)
  let v1507 := k0_pay206 v1454 cw v1489 v1492 cst_340 v1493
  let v1563 := k0_pay218 v1529 ex
  let v1630 := k0_pay236 v1507 v1550 v1563 v1582 v1583 v1586 v1589 cst_364
  let v1508 := k0_pay207 v1454 cw v1489 v1492 cst_340 v1493
  let v1636 := k0_pay238 v1508
  k0_pay242 v1626 v1630 S v1636

theorem lo3_eq (halo : H S16x1536) (x : H S128x1536) (sm : W S128x128) (cw : W S4x1536) (cb : W S1x1536) (tr : W S1x16) (ex : W S16x1024) (ar : W S1x16) (S : W S128x1024) : lo3 halo x sm cw cb tr ex ar S = lowHalf halo x sm cw cb tr ex ar S := by
  simp only [lo3, k0_pay197, k0_pay198, k0_pay200, k0_pay201, k0_pay202, k0_pay203, k0_pay204, k0_pay205, k0_pay206, k0_pay207, k0_pay209, k0_pay217, k0_pay218, k0_pay219, k0_pay221, k0_pay223, k0_pay224, k0_pay225, k0_pay226, k0_pay227, k0_pay228, k0_pay230, k0_pay231, k0_pay233, k0_pay234, k0_pay236, k0_pay238, k0_pay242, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the fourth chunk, as the body composes it. -/
def hi3 (halo : H S16x1536) (x : H S128x1536) (sm : W S128x128) (cw : W S4x1536) (cb : W S1x1536) (tr : W S1x16) (ex : W S16x1024) (ar : W S1x16) (S : W S128x1024) : W S128x512 :=
  let v1447 := k0_pay197 x
  let v1449 := k0_pay198 halo
  let v1454 := k0_pay201 v1447 v1449
  let v1489 := k0_pay202 v1447 v1449 cw cb
  let v1492 := k0_pay203
  let cst_340 := Scalar.ofBits (F := Ideal) .f32 0x00000000#32
  let v1493 := k0_pay204 (F := Ideal)
  let v1508 := k0_pay207 v1454 cw v1489 v1492 cst_340 v1493
  let v1550 := k0_pay217 ex
  let v1582 := k0_pay223 (F := Ideal)
  let v1453 := k0_pay200 sm
  let v1529 := k0_pay209 v1453 tr
  let v1583 := k0_pay224 v1529 ar
  let v1586 := k0_pay226 v1529 ar
  let v1589 := k0_pay227 v1529 ar
  let cst_364 := constant (F := Ideal) S128x16 .f32 0x00000000#32
  let v1626 := k0_pay233 v1550 v1582 v1583 v1586 v1589 cst_364
  let v1507 := k0_pay206 v1454 cw v1489 v1492 cst_340 v1493
  let v1563 := k0_pay218 v1529 ex
  let v1630 := k0_pay236 v1507 v1550 v1563 v1582 v1583 v1586 v1589 cst_364
  k0_pay257 v1508 v1626 v1630 S

theorem hi3_eq (halo : H S16x1536) (x : H S128x1536) (sm : W S128x128) (cw : W S4x1536) (cb : W S1x1536) (tr : W S1x16) (ex : W S16x1024) (ar : W S1x16) (S : W S128x1024) : hi3 halo x sm cw cb tr ex ar S = highHalf halo x sm cw cb tr ex ar S := by
  simp only [hi3, k0_pay197, k0_pay198, k0_pay200, k0_pay201, k0_pay202, k0_pay203, k0_pay204, k0_pay205, k0_pay206, k0_pay207, k0_pay209, k0_pay217, k0_pay218, k0_pay219, k0_pay221, k0_pay223, k0_pay224, k0_pay225, k0_pay226, k0_pay227, k0_pay228, k0_pay230, k0_pay231, k0_pay233, k0_pay234, k0_pay236, k0_pay254, k0_pay257, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the fourth chunk, as the body composes it. -/
def out3 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v1451 := k0_pay199 z
  let v1447 := k0_pay197 x
  let v1449 := k0_pay198 halo
  let v1454 := k0_pay201 v1447 v1449
  let v1489 := k0_pay202 v1447 v1449 cw cb
  let v1492 := k0_pay203
  let cst_340 := Scalar.ofBits (F := Ideal) .f32 0x00000000#32
  let v1493 := k0_pay204 (F := Ideal)
  let v1507 := k0_pay206 v1454 cw v1489 v1492 cst_340 v1493
  let v1574 := k0_pay221
  let v1582 := k0_pay223 (F := Ideal)
  let v1453 := k0_pay200 sm
  let v1529 := k0_pay209 v1453 tr
  let v1583 := k0_pay224 v1529 ar
  let v1586 := k0_pay226 v1529 ar
  let v1589 := k0_pay227 v1529 ar
  let cst_364 := constant (F := Ideal) S128x16 .f32 0x00000000#32
  let v1594 := k0_pay228 v1582 v1583 v1586 v1589 cst_364
  let v1536 := k0_pay211 v1453 tc
  let v1539 := k0_pay213 v1453 tc
  let v1541 := k0_pay214 v1453 tc
  let v1542 := k0_pay215 v1453 tc
  let v1543 := k0_pay216 (F := Ideal)
  let v1571 := k0_pay220 v1536 v1539 v1541 v1542 v1543 ac
  let v1581 := k0_pay222 (F := Ideal)
  let v1607 := k0_pay229 v1571 v1581
  let v1550 := k0_pay217 ex
  let v1622 := k0_pay232 v1550 v1582 v1583 v1586 v1589 cst_364
  let v1563 := k0_pay218 v1529 ex
  let v1628 := k0_pay235 v1507 v1563
  let v1509 := k0_pay208 v1454 cw v1489 v1492 cst_340 v1493
  let v1634 := k0_pay237 v1509
  let v1508 := k0_pay207 v1454 cw v1489 v1492 cst_340 v1493
  let v1637 := k0_pay239 v1508 v1509
  let v1638 := k0_pay240 S
  let v1666 := k0_pay243 v1574 v1594 v1607 v1622 v1628 v1634 v1637 v1638
  let v1680 := k0_pay244 v1574 v1594 v1607 v1622 v1628 v1634 v1637 v1638
  let v1642 := k0_pay241 v1622 v1634 v1638
  let v1688 := k0_pay245 v1574 v1594 v1607
  let v1694 := k0_pay246 v1628 v1637 v1642 v1688
  let v1708 := k0_pay247 v1574 v1594 v1607 v1628 v1637 v1642
  let v1722 := k0_pay248 v1574 v1594 v1607 v1628 v1637 v1642
  let v1736 := k0_pay249 v1574 v1594 v1607 v1628 v1637 v1642
  let v1741 := k0_pay250 v1594 v1607
  let v1750 := k0_pay251 v1574 v1628 v1637 v1642 v1741
  let v1764 := k0_pay252 v1574 v1594 v1607 v1628 v1637 v1642
  let v1775 := k0_pay256 v1509 v1622 S
  let v1770 := k0_pay255 v1508 v1509
  let v1790 := k0_pay258 v1594 v1607
  let cst_401 := Scalar.ofBits (F := Ideal) .f32 0xFF800000#32
  let v1799 := k0_pay259 v1574 v1628 v1770 v1775 v1790 cst_401
  let v1813 := k0_pay260 v1574 v1594 v1607 v1628 v1770 v1775
  let v1827 := k0_pay261 v1574 v1594 v1607 v1628 v1770 v1775
  let v1841 := k0_pay262 v1574 v1594 v1607 v1628 v1770 v1775
  let v1842 := k0_pay263 v1594
  let v1843 := k0_pay264 v1607
  let v1855 := k0_pay265 v1574 v1628 v1770 v1775 v1842 v1843
  let v1869 := k0_pay266 v1574 v1594 v1607 v1628 v1770 v1775
  let v1883 := k0_pay267 v1574 v1594 v1607 v1628 v1770 v1775
  let v1895 := k0_pay268 v1574 v1594 v1607 v1628 v1770
  k0_pay269 v1451 v1507 v1666 v1680 v1694 v1708 v1722 v1736 v1750 v1764 v1775 v1799 v1813 v1827 v1841 v1855 v1869 v1883 v1895 dk ng

theorem out3_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out3 halo x z sm cw cb tr tc ex ar ac dk ng S = outOf halo x z sm cw cb tr tc ex ar ac dk ng S := by
  simp only [out3, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay232, k0_pay234, k0_pay235, k0_pay237, k0_pay238, k0_pay239, k0_pay240, k0_pay241, k0_pay243, k0_pay244, k0_pay245, k0_pay246, k0_pay247, k0_pay248, k0_pay249, k0_pay250, k0_pay251, k0_pay252, k0_pay253, k0_pay254, k0_pay255, k0_pay256, k0_pay258, k0_pay259, k0_pay260, k0_pay261, k0_pay262, k0_pay263, k0_pay264, k0_pay265, k0_pay266, k0_pay267, k0_pay268, k0_pay269, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk4.lean ====
/-
  The fifth of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the fifth chunk, as the body composes it. -/
def lo4 (halo : H S16x1536) (x : H S128x1536) (sm : W S128x128) (cw : W S4x1536) (cb : W S1x1536) (tr : W S1x16) (ex : W S16x1024) (ar : W S1x16) (S : W S128x1024) : W S128x512 :=
  let v1927 := k0_pay270 x
  let v1934 := k0_pay273 x halo
  let v1969 := k0_pay274 v1927 v1934 cw cb
  let v1980 := k0_pay275 v1934 cw
  let v1987 := k0_pay277 v1969 v1980
  let v2030 := k0_pay282 ex
  let v1933 := k0_pay272 sm
  let v2009 := k0_pay280 v1933 tr
  let v2043 := k0_pay283 v2009 ex
  let v2074 := k0_pay286 v2009 ar
  let v2110 := k0_pay295 v1987 v2030 v2043 v2074
  let v1988 := k0_pay278 v1969 v1980
  let v2116 := k0_pay297 v1988
  let v2123 := k0_pay300 S
  let v2125 := k0_pay301 v2030 v2074
  k0_pay302 v2110 v2116 v2123 v2125

theorem lo4_eq (halo : H S16x1536) (x : H S128x1536) (sm : W S128x128) (cw : W S4x1536) (cb : W S1x1536) (tr : W S1x16) (ex : W S16x1024) (ar : W S1x16) (S : W S128x1024) : lo4 halo x sm cw cb tr ex ar S = lowHalf halo x sm cw cb tr ex ar S := by
  simp only [lo4, k0_pay270, k0_pay272, k0_pay273, k0_pay274, k0_pay275, k0_pay276, k0_pay277, k0_pay278, k0_pay280, k0_pay282, k0_pay283, k0_pay285, k0_pay286, k0_pay289, k0_pay290, k0_pay292, k0_pay293, k0_pay295, k0_pay297, k0_pay300, k0_pay301, k0_pay302, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the fifth chunk, as the body composes it. -/
def hi4 (halo : H S16x1536) (x : H S128x1536) (sm : W S128x128) (cw : W S4x1536) (cb : W S1x1536) (tr : W S1x16) (ex : W S16x1024) (ar : W S1x16) (S : W S128x1024) : W S128x512 :=
  let v1927 := k0_pay270 x
  let v1934 := k0_pay273 x halo
  let v1969 := k0_pay274 v1927 v1934 cw cb
  let v1980 := k0_pay275 v1934 cw
  let v1988 := k0_pay278 v1969 v1980
  let v2030 := k0_pay282 ex
  let v1933 := k0_pay272 sm
  let v2009 := k0_pay280 v1933 tr
  let v2074 := k0_pay286 v2009 ar
  let v2106 := k0_pay292 v2030 v2074
  let v1987 := k0_pay277 v1969 v1980
  let v2043 := k0_pay283 v2009 ex
  let v2110 := k0_pay295 v1987 v2030 v2043 v2074
  k0_pay318 v1988 v2106 v2110 S

theorem hi4_eq (halo : H S16x1536) (x : H S128x1536) (sm : W S128x128) (cw : W S4x1536) (cb : W S1x1536) (tr : W S1x16) (ex : W S16x1024) (ar : W S1x16) (S : W S128x1024) : hi4 halo x sm cw cb tr ex ar S = highHalf halo x sm cw cb tr ex ar S := by
  simp only [hi4, k0_pay270, k0_pay272, k0_pay273, k0_pay274, k0_pay275, k0_pay276, k0_pay277, k0_pay278, k0_pay280, k0_pay282, k0_pay283, k0_pay285, k0_pay286, k0_pay289, k0_pay290, k0_pay292, k0_pay293, k0_pay295, k0_pay315, k0_pay318, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the fifth chunk, as the body composes it. -/
def out4 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v1931 := k0_pay271 z
  let v1927 := k0_pay270 x
  let v1934 := k0_pay273 x halo
  let v1969 := k0_pay274 v1927 v1934 cw cb
  let v1980 := k0_pay275 v1934 cw
  let v1987 := k0_pay277 v1969 v1980
  let v2054 := k0_pay285
  let v1933 := k0_pay272 sm
  let v2009 := k0_pay280 v1933 tr
  let v2074 := k0_pay286 v2009 ar
  let v2028 := k0_pay281 v1933 tc
  let v2051 := k0_pay284 v2028 ac
  let v2075 := k0_pay287 (F := Ideal)
  let v2087 := k0_pay288 v2051 v2075
  let v2043 := k0_pay283 v2009 ex
  let v2108 := k0_pay294 v1987 v2043
  let v1988 := k0_pay278 v1969 v1980
  let v1989 := k0_pay279 v1969 v1980
  let v2117 := k0_pay298 v1988 v1989
  let v2030 := k0_pay282 ex
  let v2122 := k0_pay299 v1989 v2030 v2074 S
  let v2146 := k0_pay303 v2054 v2074 v2087 v2108 v2117 v2122
  let v2160 := k0_pay304 v2054 v2074 v2087 v2108 v2117 v2122
  let v2174 := k0_pay305 v2054 v2074 v2087 v2108 v2117 v2122
  let v2175 := k0_pay306 v2074
  let v2188 := k0_pay307 v2054 v2087 v2108 v2117 v2122 v2175
  let v2202 := k0_pay308 v2054 v2074 v2087 v2108 v2117 v2122
  let v2216 := k0_pay309 v2054 v2074 v2087 v2108 v2117 v2122
  let v2226 := k0_pay310 v2054 v2074 v2087 v2117
  let v2227 := k0_pay311 v2108
  let cst_501 := constant (F := Ideal) S128x64 .f32 0x00000000#32
  let v2230 := k0_pay312 v2122 v2226 v2227 cst_501
  let v2244 := k0_pay313 v2054 v2074 v2087 v2108 v2117 v2122
  let v2250 := k0_pay316 v1988 v1989
  let v2102 := k0_pay291 v2030 v2074
  let v2255 := k0_pay317 v1989 v2102 S
  let v2277 := k0_pay319 v1988 v1989 v2054 v2074 v2087 v2108
  let v2279 := k0_pay320 v2255 v2277
  let v2293 := k0_pay321 v2054 v2074 v2087 v2108 v2250 v2255
  let v2307 := k0_pay322 v2054 v2074 v2087 v2108 v2250 v2255
  let v2321 := k0_pay323 v2054 v2074 v2087 v2108 v2250 v2255
  let v2330 := k0_pay324 v2054 v2074 v2087 v2250
  let v2378 := k0_pay325 v2054 v2074 v2087 v2108 v2146 v2160 v2174 v2188 v2202 v2216 v2230 v2244 v2250 v2255 v2279 v2293 v2307 v2321 v2330
  let v2381 := k0_pay326 dk
  k0_pay327 v1931 v1987 v2378 v2381 ng

theorem out4_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out4 halo x z sm cw cb tr tc ex ar ac dk ng S = outOf halo x z sm cw cb tr tc ex ar ac dk ng S := by
  simp only [out4, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay291, k0_pay293, k0_pay294, k0_pay296, k0_pay297, k0_pay298, k0_pay299, k0_pay303, k0_pay304, k0_pay305, k0_pay306, k0_pay307, k0_pay308, k0_pay309, k0_pay310, k0_pay311, k0_pay312, k0_pay313, k0_pay314, k0_pay315, k0_pay316, k0_pay317, k0_pay319, k0_pay320, k0_pay321, k0_pay322, k0_pay323, k0_pay324, k0_pay325, k0_pay326, k0_pay327, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk5.lean ====
/-
  The sixth of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the sixth chunk, as the body composes it. -/
def lo5 (halo : H S16x1536) (x : H S128x1536) (sm : W S128x128) (cw : W S4x1536) (cb : W S1x1536) (tr : W S1x16) (ex : W S16x1024) (ar : W S1x16) (S : W S128x1024) : W S128x512 :=
  let v2414 := k0_pay331 x halo
  let v2417 := k0_pay332 cb
  let v2419 := k0_pay333 x
  let v2420 := k0_pay334 cw
  let v2467 := k0_pay336 v2414 cw v2417 v2419 v2420
  let v2466 := k0_pay335 v2414 cw v2417 v2419 v2420
  let v2468 := k0_pay337 v2466
  let v2510 := k0_pay341 ex
  let v2511 := k0_pay342 ex
  let v2413 := k0_pay330 sm
  let v2512 := k0_pay343 v2413 tr
  let v2515 := k0_pay345 v2413 tr
  let v2517 := k0_pay346 v2413 tr
  let v2523 := k0_pay347 v2511 v2512 v2515 v2517
  let v2489 := k0_pay339 v2413 tr
  let v2554 := k0_pay350 v2489 ar
  let v2609 := k0_pay368 v2467 v2468 v2510 v2523 v2554 S
  k0_pay369 v2609

theorem lo5_eq (halo : H S16x1536) (x : H S128x1536) (sm : W S128x128) (cw : W S4x1536) (cb : W S1x1536) (tr : W S1x16) (ex : W S16x1024) (ar : W S1x16) (S : W S128x1024) : lo5 halo x sm cw cb tr ex ar S = lowHalf halo x sm cw cb tr ex ar S := by
  simp only [lo5, k0_pay328, k0_pay330, k0_pay331, k0_pay332, k0_pay333, k0_pay334, k0_pay335, k0_pay336, k0_pay337, k0_pay339, k0_pay341, k0_pay342, k0_pay343, k0_pay344, k0_pay345, k0_pay346, k0_pay347, k0_pay349, k0_pay350, k0_pay357, k0_pay358, k0_pay360, k0_pay361, k0_pay363, k0_pay365, k0_pay368, k0_pay369, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the sixth chunk, as the body composes it. -/
def hi5 (halo : H S16x1536) (x : H S128x1536) (sm : W S128x128) (cw : W S4x1536) (cb : W S1x1536) (tr : W S1x16) (ex : W S16x1024) (ar : W S1x16) (S : W S128x1024) : W S128x512 :=
  let v2414 := k0_pay331 x halo
  let v2417 := k0_pay332 cb
  let v2419 := k0_pay333 x
  let v2420 := k0_pay334 cw
  let v2466 := k0_pay335 v2414 cw v2417 v2419 v2420
  let v2468 := k0_pay337 v2466
  let v2510 := k0_pay341 ex
  let v2413 := k0_pay330 sm
  let v2489 := k0_pay339 v2413 tr
  let v2554 := k0_pay350 v2489 ar
  let v2586 := k0_pay360 v2510 v2554
  let v2467 := k0_pay336 v2414 cw v2417 v2419 v2420
  let v2511 := k0_pay342 ex
  let v2512 := k0_pay343 v2413 tr
  let v2515 := k0_pay345 v2413 tr
  let v2517 := k0_pay346 v2413 tr
  let v2523 := k0_pay347 v2511 v2512 v2515 v2517
  let v2590 := k0_pay363 v2467 v2510 v2523 v2554
  k0_pay384 v2468 v2586 v2590 S

theorem hi5_eq (halo : H S16x1536) (x : H S128x1536) (sm : W S128x128) (cw : W S4x1536) (cb : W S1x1536) (tr : W S1x16) (ex : W S16x1024) (ar : W S1x16) (S : W S128x1024) : hi5 halo x sm cw cb tr ex ar S = highHalf halo x sm cw cb tr ex ar S := by
  simp only [hi5, k0_pay328, k0_pay330, k0_pay331, k0_pay332, k0_pay333, k0_pay334, k0_pay335, k0_pay336, k0_pay337, k0_pay339, k0_pay341, k0_pay342, k0_pay343, k0_pay344, k0_pay345, k0_pay346, k0_pay347, k0_pay349, k0_pay350, k0_pay357, k0_pay358, k0_pay360, k0_pay361, k0_pay363, k0_pay381, k0_pay384, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the sixth chunk, as the body composes it. -/
def out5 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v2414 := k0_pay331 x halo
  let v2417 := k0_pay332 cb
  let v2419 := k0_pay333 x
  let v2420 := k0_pay334 cw
  let v2467 := k0_pay336 v2414 cw v2417 v2419 v2420
  let v2534 := k0_pay349
  let v2413 := k0_pay330 sm
  let v2489 := k0_pay339 v2413 tr
  let v2554 := k0_pay350 v2489 ar
  let v2555 := k0_pay351 (F := Ideal)
  let v2508 := k0_pay340 v2413 tc
  let v2556 := k0_pay352 v2508 ac
  let v2559 := k0_pay354 v2508 ac
  let v2562 := k0_pay355 v2508 ac
  let cst_582 := constant (F := Ideal) S16x128 .f32 0x00000000#32
  let v2567 := k0_pay356 v2555 v2556 v2559 v2562 cst_582
  let v2511 := k0_pay342 ex
  let v2512 := k0_pay343 v2413 tr
  let v2515 := k0_pay345 v2413 tr
  let v2517 := k0_pay346 v2413 tr
  let v2523 := k0_pay347 v2511 v2512 v2515 v2517
  let v2588 := k0_pay362 v2467 v2523
  let v2466 := k0_pay335 v2414 cw v2417 v2419 v2420
  let v2468 := k0_pay337 v2466
  let v2469 := k0_pay338 v2466
  let v2597 := k0_pay366 v2468 v2469
  let v2510 := k0_pay341 ex
  let v2602 := k0_pay367 v2469 v2510 v2554 S
  let v2626 := k0_pay370 v2534 v2554 v2567 v2588 v2597 v2602
  let v2640 := k0_pay371 v2534 v2554 v2567 v2588 v2597 v2602
  let v2654 := k0_pay372 v2534 v2554 v2567 v2588 v2597 v2602
  let v2662 := k0_pay373 v2534 v2554 v2567
  let v2668 := k0_pay374 v2588 v2597 v2602 v2662
  let v2682 := k0_pay375 v2534 v2554 v2567 v2588 v2597 v2602
  let v2696 := k0_pay376 v2534 v2554 v2567 v2588 v2597 v2602
  let v2710 := k0_pay377 v2534 v2554 v2567 v2588 v2597 v2602
  let v2715 := k0_pay378 v2554 v2567
  let v2724 := k0_pay379 v2534 v2588 v2597 v2602 v2715
  let v2730 := k0_pay382 v2468 v2469
  let v2582 := k0_pay359 v2510 v2554
  let v2735 := k0_pay383 v2469 v2582 S
  let v2759 := k0_pay385 v2468 v2469 v2534 v2554 v2567 v2582 v2588 S
  let v2764 := k0_pay386 v2554 v2567
  let cst_618 := Scalar.ofBits (F := Ideal) .f32 0xFF800000#32
  let v2773 := k0_pay387 v2534 v2588 v2730 v2735 v2764 cst_618
  let v2787 := k0_pay388 v2534 v2554 v2567 v2588 v2730 v2735
  let v2801 := k0_pay389 v2534 v2554 v2567 v2588 v2730 v2735
  let v2815 := k0_pay390 v2534 v2554 v2567 v2588 v2730 v2735
  let v2816 := k0_pay391 v2554
  let v2817 := k0_pay392 v2567
  let v2863 := k0_pay393 v2467 v2534 v2554 v2567 v2588 v2626 v2640 v2654 v2668 v2682 v2696 v2710 v2724 v2730 v2735 v2759 v2773 v2787 v2801 v2815 v2816 v2817 dk
  let v2411 := k0_pay329 z
  let v2866 := k0_pay394 v2411
  let v2868 := k0_pay395 v2411
  k0_pay396 v2863 v2866 v2868 ng

theorem out5_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out5 halo x z sm cw cb tr tc ex ar ac dk ng S = outOf halo x z sm cw cb tr tc ex ar ac dk ng S := by
  simp only [out5, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay359, k0_pay361, k0_pay362, k0_pay364, k0_pay365, k0_pay366, k0_pay367, k0_pay370, k0_pay371, k0_pay372, k0_pay373, k0_pay374, k0_pay375, k0_pay376, k0_pay377, k0_pay378, k0_pay379, k0_pay380, k0_pay381, k0_pay382, k0_pay383, k0_pay385, k0_pay386, k0_pay387, k0_pay388, k0_pay389, k0_pay390, k0_pay391, k0_pay392, k0_pay393, k0_pay394, k0_pay395, k0_pay396, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk6.lean ====
/-
  The seventh of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the seventh chunk, as the body composes it. -/
def lo6 (halo : H S16x1536) (x : H S128x1536) (sm : W S128x128) (cw : W S4x1536) (cb : W S1x1536) (tr : W S1x16) (ex : W S16x1024) (ar : W S1x16) (S : W S128x1024) : W S128x512 :=
  let v2894 := k0_pay400 x halo
  let v2903 := k0_pay401 x cw cb
  let v2904 := iota .tc S128x144 32 [0] iota_S128x144_d0_w32
  let v2905 := iota .tc S128x144 32 [1] iota_S128x144_d1_w32
  let v2907 := k0_pay402
  let v2947 := k0_pay404 v2894 cw v2903 v2904 v2905 v2907
  let v2948 := k0_pay405 v2894 cw v2903 v2904 v2905 v2907
  let v2893 := k0_pay399 sm
  let v2951 := k0_pay408 v2893
  let v2953 := k0_pay409 tr
  let v3001 := k0_pay417 v2951 v2953 ex
  let v3002 := k0_pay418 v2951 v2953 ex
  let v3003 := k0_pay419 v3001 v3002
  let v2969 := k0_pay410 v2951 v2953
  let v3034 := k0_pay421 v2969 ar
  let v2990 := k0_pay412 ex
  let v3048 := k0_pay423 v2990
  k0_pay435 v2947 v2948 v3003 v3034 v3048 S

theorem lo6_eq (halo : H S16x1536) (x : H S128x1536) (sm : W S128x128) (cw : W S4x1536) (cb : W S1x1536) (tr : W S1x16) (ex : W S16x1024) (ar : W S1x16) (S : W S128x1024) : lo6 halo x sm cw cb tr ex ar S = lowHalf halo x sm cw cb tr ex ar S := by
  simp only [lo6, k0_pay397, k0_pay399, k0_pay400, k0_pay401, k0_pay402, k0_pay403, k0_pay404, k0_pay405, k0_pay408, k0_pay409, k0_pay410, k0_pay412, k0_pay413, k0_pay414, k0_pay415, k0_pay416, k0_pay417, k0_pay418, k0_pay419, k0_pay420, k0_pay421, k0_pay423, k0_pay424, k0_pay425, k0_pay427, k0_pay428, k0_pay430, k0_pay432, k0_pay435, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the seventh chunk, as the body composes it. -/
def hi6 (halo : H S16x1536) (x : H S128x1536) (sm : W S128x128) (cw : W S4x1536) (cb : W S1x1536) (tr : W S1x16) (ex : W S16x1024) (ar : W S1x16) (S : W S128x1024) : W S128x512 :=
  let v2894 := k0_pay400 x halo
  let v2903 := k0_pay401 x cw cb
  let v2904 := iota .tc S128x144 32 [0] iota_S128x144_d0_w32
  let v2905 := iota .tc S128x144 32 [1] iota_S128x144_d1_w32
  let v2907 := k0_pay402
  let v2948 := k0_pay405 v2894 cw v2903 v2904 v2905 v2907
  let v2893 := k0_pay399 sm
  let v2951 := k0_pay408 v2893
  let v2953 := k0_pay409 tr
  let v2969 := k0_pay410 v2951 v2953
  let v3034 := k0_pay421 v2969 ar
  let v2990 := k0_pay412 ex
  let v3048 := k0_pay423 v2990
  let v3066 := k0_pay427 v3034 v3048
  let v2947 := k0_pay404 v2894 cw v2903 v2904 v2905 v2907
  let v3001 := k0_pay417 v2951 v2953 ex
  let v3002 := k0_pay418 v2951 v2953 ex
  let v3003 := k0_pay419 v3001 v3002
  let v3070 := k0_pay430 v2947 v3003 v3034 v3048
  k0_pay452 v2948 v3066 v3070 S

theorem hi6_eq (halo : H S16x1536) (x : H S128x1536) (sm : W S128x128) (cw : W S4x1536) (cb : W S1x1536) (tr : W S1x16) (ex : W S16x1024) (ar : W S1x16) (S : W S128x1024) : hi6 halo x sm cw cb tr ex ar S = highHalf halo x sm cw cb tr ex ar S := by
  simp only [hi6, k0_pay397, k0_pay399, k0_pay400, k0_pay401, k0_pay402, k0_pay403, k0_pay404, k0_pay405, k0_pay408, k0_pay409, k0_pay410, k0_pay412, k0_pay413, k0_pay414, k0_pay415, k0_pay416, k0_pay417, k0_pay418, k0_pay419, k0_pay420, k0_pay421, k0_pay423, k0_pay424, k0_pay425, k0_pay427, k0_pay428, k0_pay430, k0_pay449, k0_pay452, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the seventh chunk, as the body composes it. -/
def out6 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v2891 := k0_pay398 z
  let v2894 := k0_pay400 x halo
  let v2903 := k0_pay401 x cw cb
  let v2904 := iota .tc S128x144 32 [0] iota_S128x144_d0_w32
  let v2905 := iota .tc S128x144 32 [1] iota_S128x144_d1_w32
  let v2907 := k0_pay402
  let v2947 := k0_pay404 v2894 cw v2903 v2904 v2905 v2907
  let v3014 := k0_pay420
  let v2893 := k0_pay399 sm
  let v2951 := k0_pay408 v2893
  let v2953 := k0_pay409 tr
  let v2969 := k0_pay410 v2951 v2953
  let v3034 := k0_pay421 v2969 ar
  let v2950 := k0_pay407 v2893
  let v2988 := k0_pay411 v2950 tc
  let v3047 := k0_pay422 v2988 ac
  let v3001 := k0_pay417 v2951 v2953 ex
  let v3002 := k0_pay418 v2951 v2953 ex
  let v3003 := k0_pay419 v3001 v3002
  let v3068 := k0_pay429 v2947 v3003
  let v2948 := k0_pay405 v2894 cw v2903 v2904 v2905 v2907
  let v2949 := k0_pay406 v2894 cw v2903 v2904 v2905 v2907
  let v3077 := k0_pay433 v2948 v2949
  let v2990 := k0_pay412 ex
  let v3048 := k0_pay423 v2990
  let v3082 := k0_pay434 v2949 v3034 v3048 S
  let v3097 := k0_pay436 v3034 v3047
  let v3106 := k0_pay437 v3014 v3068 v3077 v3082 v3097
  let v3120 := k0_pay438 v3014 v3034 v3047 v3068 v3077 v3082
  let v3134 := k0_pay439 v3014 v3034 v3047 v3068 v3077 v3082
  let v3148 := k0_pay440 v3014 v3034 v3047 v3068 v3077 v3082
  let v3149 := k0_pay441 v3034
  let v3162 := k0_pay442 v3014 v3047 v3068 v3077 v3082 v3149
  let v3176 := k0_pay443 v3014 v3034 v3047 v3068 v3077 v3082
  let v3190 := k0_pay444 v3014 v3034 v3047 v3068 v3077 v3082
  let v3200 := k0_pay445 v3014 v3034 v3047 v3077
  let v3201 := k0_pay446 v3068
  let cst_717 := constant (F := Ideal) S128x64 .f32 0x00000000#32
  let v3204 := k0_pay447 v3082 v3200 v3201 cst_717
  let v3210 := k0_pay450 v2948 v2949
  let v3062 := k0_pay426 v3034 v3048
  let v3215 := k0_pay451 v2949 v3062 S
  let v3239 := k0_pay453 v2948 v2949 v3014 v3034 v3047 v3062 v3068 S
  let v3251 := k0_pay454 v2948 v2949 v3014 v3034 v3047 v3068
  let v3253 := k0_pay455 v3215 v3251
  let v3267 := k0_pay456 v3014 v3034 v3047 v3068 v3210 v3215
  let v3281 := k0_pay457 v3014 v3034 v3047 v3068 v3210 v3215
  let v3295 := k0_pay458 v3014 v3034 v3047 v3068 v3210 v3215
  let v3304 := k0_pay459 v3014 v3034 v3047 v3210
  let v3350 := k0_pay460 v2891 v2947 v3014 v3034 v3047 v3068 v3106 v3120 v3134 v3148 v3162 v3176 v3190 v3204 v3210 v3215 v3239 v3253 v3267 v3281 v3295 v3304 dk
  let v3352 := k0_pay461 ng
  let v3353 := k0_pay462 v2891 v2947 v3014 v3034 v3047 v3068 v3106 v3120 v3134 v3148 v3162 v3176 v3190 v3204 v3210 v3215 v3239 v3253 v3267 v3281 v3295 v3304 dk
  k0_pay463 v3350 v3352 v3353

theorem out6_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out6 halo x z sm cw cb tr tc ex ar ac dk ng S = outOf halo x z sm cw cb tr tc ex ar ac dk ng S := by
  simp only [out6, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay426, k0_pay428, k0_pay429, k0_pay431, k0_pay432, k0_pay433, k0_pay434, k0_pay436, k0_pay437, k0_pay438, k0_pay439, k0_pay440, k0_pay441, k0_pay442, k0_pay443, k0_pay444, k0_pay445, k0_pay446, k0_pay447, k0_pay448, k0_pay449, k0_pay450, k0_pay451, k0_pay453, k0_pay454, k0_pay455, k0_pay456, k0_pay457, k0_pay458, k0_pay459, k0_pay460, k0_pay461, k0_pay462, k0_pay463, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdChunk7.lean ====
/-
  The eighth of the body's eight chunks, each in the chunk's vocabulary.
-/
module

public import proofs.«01_k».proof.Proof.SsdVec

@[expose] public section

set_option maxRecDepth 65536

noncomputable section

namespace Cert.SsdIdeal.Hand

open Cert.SsdIdeal Cert.SsdIdeal.Gen Idealize.ShloMosaic Idealize.ShloMosaic.TcCoe Idealize.SL.Sem

/-- The first group's state of the eighth chunk, as the body composes it. -/
def lo7 (halo : H S16x1536) (x : H S128x1536) (sm : W S128x128) (cw : W S4x1536) (cb : W S1x1536) (tr : W S1x16) (ex : W S16x1024) (ar : W S1x16) (S : W S128x1024) : W S128x512 :=
  let v3374 := k0_pay467 x halo
  let v3383 := k0_pay468 x cw cb
  let v3384 := iota .tc S128x144 32 [0] iota_S128x144_d0_w32
  let v3385 := iota .tc S128x144 32 [1] iota_S128x144_d1_w32
  let v3392 := k0_pay469 cw
  let v3393 := k0_pay470 (F := Ideal)
  let v3427 := k0_pay472 v3374 cw v3383 v3384 v3385 v3392 v3393
  let v3428 := k0_pay473 v3374 cw v3383 v3384 v3385 v3392 v3393
  let v3373 := k0_pay466 sm
  let v3435 := k0_pay476 v3373 tr
  let cst_774 := Scalar.ofBits (F := Ideal) .f32 0x00000000#32
  let v3437 := k0_pay477 v3373 tr
  let v3439 := k0_pay478 v3373 tr
  let v3440 := k0_pay479 v3373 tr
  let v3483 := k0_pay483 v3435 cst_774 v3437 v3439 v3440 ex
  let v3470 := k0_pay482 ex
  let v3528 := k0_pay488 v3470
  let v3487 := k0_pay484 v3435 cst_774 v3437 v3439 v3440 ar
  let v3529 := k0_pay489 v3487
  let v3532 := k0_pay491 v3487
  let v3535 := k0_pay492 v3487
  let cst_799 := constant (F := Ideal) S128x1024 .f32 0x00000000#32
  k0_pay504 v3427 v3428 v3483 v3528 v3529 v3532 v3535 cst_799 S

theorem lo7_eq (halo : H S16x1536) (x : H S128x1536) (sm : W S128x128) (cw : W S4x1536) (cb : W S1x1536) (tr : W S1x16) (ex : W S16x1024) (ar : W S1x16) (S : W S128x1024) : lo7 halo x sm cw cb tr ex ar S = lowHalf halo x sm cw cb tr ex ar S := by
  simp only [lo7, k0_pay464, k0_pay466, k0_pay467, k0_pay468, k0_pay469, k0_pay470, k0_pay471, k0_pay472, k0_pay473, k0_pay476, k0_pay477, k0_pay478, k0_pay479, k0_pay480, k0_pay482, k0_pay483, k0_pay484, k0_pay485, k0_pay486, k0_pay488, k0_pay489, k0_pay490, k0_pay491, k0_pay492, k0_pay493, k0_pay494, k0_pay496, k0_pay497, k0_pay499, k0_pay501, k0_pay504, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The second group's state of the eighth chunk, as the body composes it. -/
def hi7 (halo : H S16x1536) (x : H S128x1536) (sm : W S128x128) (cw : W S4x1536) (cb : W S1x1536) (tr : W S1x16) (ex : W S16x1024) (ar : W S1x16) (S : W S128x1024) : W S128x512 :=
  let v3470 := k0_pay482 ex
  let v3528 := k0_pay488 v3470
  let v3373 := k0_pay466 sm
  let v3435 := k0_pay476 v3373 tr
  let cst_774 := Scalar.ofBits (F := Ideal) .f32 0x00000000#32
  let v3437 := k0_pay477 v3373 tr
  let v3439 := k0_pay478 v3373 tr
  let v3440 := k0_pay479 v3373 tr
  let v3487 := k0_pay484 v3435 cst_774 v3437 v3439 v3440 ar
  let v3529 := k0_pay489 v3487
  let v3532 := k0_pay491 v3487
  let v3535 := k0_pay492 v3487
  let cst_799 := constant (F := Ideal) S128x1024 .f32 0x00000000#32
  let v3546 := k0_pay496 v3528 v3529 v3532 v3535 cst_799
  let v3374 := k0_pay467 x halo
  let v3383 := k0_pay468 x cw cb
  let v3384 := iota .tc S128x144 32 [0] iota_S128x144_d0_w32
  let v3385 := iota .tc S128x144 32 [1] iota_S128x144_d1_w32
  let v3392 := k0_pay469 cw
  let v3393 := k0_pay470 (F := Ideal)
  let v3427 := k0_pay472 v3374 cw v3383 v3384 v3385 v3392 v3393
  let v3483 := k0_pay483 v3435 cst_774 v3437 v3439 v3440 ex
  let v3550 := k0_pay499 v3427 v3483 v3528 v3529 v3532 v3535 cst_799
  let v3428 := k0_pay473 v3374 cw v3383 v3384 v3385 v3392 v3393
  let v3689 := k0_pay517 v3428
  k0_pay520 v3546 v3550 S v3689

theorem hi7_eq (halo : H S16x1536) (x : H S128x1536) (sm : W S128x128) (cw : W S4x1536) (cb : W S1x1536) (tr : W S1x16) (ex : W S16x1024) (ar : W S1x16) (S : W S128x1024) : hi7 halo x sm cw cb tr ex ar S = highHalf halo x sm cw cb tr ex ar S := by
  simp only [hi7, k0_pay464, k0_pay466, k0_pay467, k0_pay468, k0_pay469, k0_pay470, k0_pay471, k0_pay472, k0_pay473, k0_pay476, k0_pay477, k0_pay478, k0_pay479, k0_pay480, k0_pay482, k0_pay483, k0_pay484, k0_pay485, k0_pay486, k0_pay488, k0_pay489, k0_pay490, k0_pay491, k0_pay492, k0_pay493, k0_pay494, k0_pay496, k0_pay497, k0_pay499, k0_pay517, k0_pay520, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

/-- The stored rows of the eighth chunk, as the body composes it. -/
def out7 (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : W S128x1024 :=
  let v3371 := k0_pay465 z
  let v3374 := k0_pay467 x halo
  let v3383 := k0_pay468 x cw cb
  let v3384 := iota .tc S128x144 32 [0] iota_S128x144_d0_w32
  let v3385 := iota .tc S128x144 32 [1] iota_S128x144_d1_w32
  let v3392 := k0_pay469 cw
  let v3393 := k0_pay470 (F := Ideal)
  let v3427 := k0_pay472 v3374 cw v3383 v3384 v3385 v3392 v3393
  let v3494 := k0_pay485
  let v3373 := k0_pay466 sm
  let v3435 := k0_pay476 v3373 tr
  let cst_774 := Scalar.ofBits (F := Ideal) .f32 0x00000000#32
  let v3437 := k0_pay477 v3373 tr
  let v3439 := k0_pay478 v3373 tr
  let v3440 := k0_pay479 v3373 tr
  let v3487 := k0_pay484 v3435 cst_774 v3437 v3439 v3440 ar
  let v3514 := k0_pay486 v3487
  let v3430 := k0_pay475 v3373
  let v3468 := k0_pay481 v3430 tc
  let v3527 := k0_pay487 v3468 ac
  let v3483 := k0_pay483 v3435 cst_774 v3437 v3439 v3440 ex
  let v3548 := k0_pay498 v3427 v3483
  let v3429 := k0_pay474 v3374 cw v3383 v3384 v3385 v3392 v3393
  let v3470 := k0_pay482 ex
  let v3528 := k0_pay488 v3470
  let v3529 := k0_pay489 v3487
  let v3532 := k0_pay491 v3487
  let v3535 := k0_pay492 v3487
  let cst_799 := constant (F := Ideal) S128x1024 .f32 0x00000000#32
  let v3562 := k0_pay503 v3429 v3528 v3529 v3532 v3535 cst_799 S
  let v3428 := k0_pay473 v3374 cw v3383 v3384 v3385 v3392 v3393
  let v3582 := k0_pay505 v3428 v3429 v3494 v3514 v3527
  let v3583 := k0_pay506 v3427 v3483
  let cst_810 := constant (F := Ideal) S128x64 .f32 0x00000000#32
  let v3586 := k0_pay507 v3562 v3582 v3583 cst_810
  let v3557 := k0_pay502 v3428 v3429
  let v3600 := k0_pay508 v3494 v3514 v3527 v3548 v3557 v3562
  let v3614 := k0_pay509 v3494 v3514 v3527 v3548 v3557 v3562
  let v3628 := k0_pay510 v3494 v3514 v3527 v3548 v3557 v3562
  let v3636 := k0_pay511 v3494 v3514 v3527
  let v3642 := k0_pay512 v3548 v3557 v3562 v3636
  let v3656 := k0_pay513 v3494 v3514 v3527 v3548 v3557 v3562
  let v3670 := k0_pay514 v3494 v3514 v3527 v3548 v3557 v3562
  let v3684 := k0_pay515 v3494 v3514 v3527 v3548 v3557 v3562
  let v3687 := k0_pay516 v3429
  let v3689 := k0_pay517 v3428
  let v3690 := k0_pay518 v3687 v3689
  let v3542 := k0_pay495 v3528 v3529 v3532 v3535 cst_799
  let v3695 := k0_pay519 v3542 S v3687
  let v3719 := k0_pay521 v3494 v3514 v3527 v3542 v3548 S v3687 v3689
  let v3733 := k0_pay522 v3494 v3514 v3527 v3542 v3548 S v3687 v3689
  let v3738 := k0_pay523 v3514 v3527
  let cst_834 := Scalar.ofBits (F := Ideal) .f32 0xFF800000#32
  let v3747 := k0_pay524 v3494 v3548 v3690 v3695 v3738 cst_834
  let v3761 := k0_pay525 v3494 v3514 v3527 v3548 v3690 v3695
  let v3775 := k0_pay526 v3494 v3514 v3527 v3548 v3690 v3695
  let v3789 := k0_pay527 v3494 v3514 v3527 v3548 v3690 v3695
  let v3790 := k0_pay528 v3514
  let v3791 := k0_pay529 v3527
  let v3830 := k0_pay530 v3371 v3427 v3494 v3514 v3527 v3548 v3586 v3600 v3614 v3628 v3642 v3656 v3670 v3684 v3690 v3695 v3719 v3733 v3747 v3761 v3775 v3789 v3790 v3791 dk
  let v3832 := k0_pay531 ng
  let v3839 := k0_pay532 v3371 v3427 v3494 v3514 v3527 v3548 v3586 v3600 v3614 v3628 v3642 v3656 v3670 v3684 v3690 v3695 v3719 v3733 v3747 v3761 v3775 v3789 v3790 v3791 dk
  k0_pay1 v3830 v3832 v3839

theorem out7_eq (halo : H S16x1536) (x : H S128x1536) (z : H S128x1024) (sm : W S128x128) (cw : W S4x1536) (cb : W S1x1536) (tr : W S1x16) (tc : W S16x1) (ex : W S16x1024) (ar : W S1x16) (ac : W S16x1) (dk : W S1x1024) (ng : W S1x1024) (S : W S128x1024) : out7 halo x z sm cw cb tr tc ex ar ac dk ng S = outOf halo x z sm cw cb tr tc ex ar ac dk ng S := by
  simp only [out7, k0_pay1, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay495, k0_pay497, k0_pay498, k0_pay500, k0_pay501, k0_pay502, k0_pay503, k0_pay505, k0_pay506, k0_pay507, k0_pay508, k0_pay509, k0_pay510, k0_pay511, k0_pay512, k0_pay513, k0_pay514, k0_pay515, k0_pay516, k0_pay517, k0_pay518, k0_pay519, k0_pay521, k0_pay522, k0_pay523, k0_pay524, k0_pay525, k0_pay526, k0_pay527, k0_pay528, k0_pay529, k0_pay530, k0_pay531, k0_pay532, sel, moved, conv, act, plus, steps, stepsT, rest, spread, low, upp, ones, sums, sumsT, logs, logsT, lastOf, decayed, inDir, outDir, pairs, carry, next, head, heads, finish, xcOf, xsOf, bOf, cOf, aOf, axOf, xOf, lowHalf, highHalf, yOf, outOf, ↓above_fold, ↓beside_fold, castW, castH]

end Cert.SsdIdeal.Hand

end
-- ==== Proof.SsdBlock.lean ====
/-
  One block of the recurrence's body: its eight chunks, each from the state the chunk before it left.
-/
module

public import proofs.«01_k».proof.Proof.Gen.SsdIdeal.Value
public import proofs.«01_k».proof.Proof.SsdChunk0
public import proofs.«01_k».proof.Proof.SsdChunk1
public import proofs.«01_k».proof.Proof.SsdChunk2
public import proofs.«01_k».proof.Proof.SsdChunk3
public import proofs.«01_k».proof.Proof.SsdChunk4
public import proofs.«01_k».proof.Proof.SsdChunk5
public import proofs.«01_k».proof.Proof.SsdChunk6
public import proofs.«01_k».proof.Proof.SsdChunk7
public import Idealize.ShloMosaic.Lib.Pipeline.ReadBack

@[expose] public section

set_option maxRecDepth 65536

noncomputable section

namespace Cert.SsdIdeal.Hand

open Cert.SsdIdeal Cert.SsdIdeal.Gen Idealize.ShloMosaic Idealize.ShloMosaic.TcCoe Idealize.SL.Sem

/-- Two halves of a state side by side. -/
def join (lo hi : W S128x512) : W S128x1024 := fun i =>
  if h : (i 1).val < 512 then lo (ix2 (i 0) ⟨(i 1).val, h⟩)
  else hi (ix2 (i 0) ⟨(i 1).val - 512, by have := (i 1).isLt; change _ < 1024 at this; omega⟩)

section Reads

variable {sig' : RefSig} {κ : Kind} {sp : Space} (v : View sig' κ sp S128x1024 .f32)

/-- The columns from the middle on. -/
abbrev RH : Rect S128x1024 := Rect.unit ![0, 512] S128x512.size inb_S128x1024_S128x512_0_512
/-- The columns before the middle. -/
abbrev RL : Rect S128x1024 := Rect.unit ![0, 0] S128x512.size inb_S128x1024_S128x512_0_0
/-- The whole state. -/
abbrev RW : Rect S128x1024 := Rect.unit ![0, 0] S128x1024.size inb_S128x1024_S128x1024_0_0

/-- Two halves stored over anything are the halves joined. -/
theorem canon_join (lo hi : W S128x512) (L : List (View.Piece (Elt Ideal) S128x1024 .f32)) :
    View.canon (⟨RH, hi⟩ :: ⟨RL, lo⟩ :: L) = join lo hi := by
  funext y
  refine View.canon_append_of_piecesOf (join lo hi) L [⟨RH, hi⟩, ⟨RL, lo⟩] ?_ y ?_
  · refine ⟨fun x => ?_, fun x => ?_, trivial⟩
    · have e1 : (RH.emb x 1).val = 512 + (x 1).val := by show 512 + 1 * (x 1).val = _; omega
      have e0 : (RH.emb x 0).val = (x 0).val := by show 0 + 1 * (x 0).val = _; omega
      show hi x = join lo hi (RH.emb x)
      unfold join
      rw [dif_neg (by omega)]
      exact congrArg hi (funext fun a => match a with
        | ⟨0, _⟩ => Fin.ext e0.symm
        | ⟨1, _⟩ => Fin.ext (by show (x 1).val = (RH.emb x 1).val - 512; omega))
    · have e1 : (RL.emb x 1).val = (x 1).val := by show 0 + 1 * (x 1).val = _; omega
      have e0 : (RL.emb x 0).val = (x 0).val := by show 0 + 1 * (x 0).val = _; omega
      have hx : (x 1).val < 512 := (x 1).isLt
      show lo x = join lo hi (RL.emb x)
      unfold join
      rw [dif_pos (by omega)]
      exact congrArg lo (funext fun a => match a with
        | ⟨0, _⟩ => Fin.ext e0.symm
        | ⟨1, _⟩ => Fin.ext e1.symm)
  · have h0 : (y 0).val < 128 := (y 0).isLt
    have h1 : (y 1).val < 1024 := (y 1).isLt
    by_cases h : (y 1).val < 512
    · refine ⟨⟨RL, lo⟩, List.mem_cons_of_mem _ List.mem_cons_self, (Rect.mem_set_unit (inb := inb_S128x1024_S128x512_0_0)).2 fun a => ?_⟩
      match a with
      | ⟨0, _⟩ => exact ⟨Nat.zero_le _, by show (y 0).val < 0 + 128; omega⟩
      | ⟨1, _⟩ => exact ⟨Nat.zero_le _, by show (y 1).val < 0 + 512; omega⟩
    · refine ⟨⟨RH, hi⟩, List.mem_cons_self, (Rect.mem_set_unit (inb := inb_S128x1024_S128x512_0_512)).2 fun a => ?_⟩
      match a with
      | ⟨0, _⟩ => exact ⟨Nat.zero_le _, by show (y 0).val < 0 + 128; omega⟩
      | ⟨1, _⟩ => exact ⟨by show 512 ≤ (y 1).val; omega, by show (y 1).val < 512 + 512; omega⟩

/-- A load of the whole after them reads the halves joined. -/
theorem readCov_join (lo hi : W S128x512) (L : List (View.Piece (Elt Ideal) S128x1024 .f32)) :
    v.readCov (⟨RH, hi⟩ :: ⟨RL, lo⟩ :: L) RW.toLoadRect = join lo hi := by
  rw [View.readCov_eq_canon', canon_join]
  funext y
  exact congrArg (join lo hi) (funext fun a => match a with
    | ⟨0, _⟩ => Fin.ext (by show 0 + 1 * (y 0).val = (y 0).val; omega)
    | ⟨1, _⟩ => Fin.ext (by show 0 + 1 * (y 1).val = (y 1).val; omega))

variable (lo hi : ℕ → W S128x1024 → W S128x512) (S0 : W S128x1024) (base : List (View.Piece (Elt Ideal) S128x1024 .f32))

/-- The pieces stored by the first chunks, each from what it read of those before it. -/
def stored : ℕ → List (View.Piece (Elt Ideal) S128x1024 .f32)
  | 0 => base
  | 1 => ⟨RH, hi 0 S0⟩ :: ⟨RL, lo 0 S0⟩ :: base
  | k + 2 => ⟨RH, hi (k + 1) (v.readCov (stored (k + 1)) RW.toLoadRect)⟩
      :: ⟨RL, lo (k + 1) (v.readCov (stored (k + 1)) RW.toLoadRect)⟩ :: stored (k + 1)

/-- The state that enters each chunk. -/
def state : ℕ → W S128x1024
  | 0 => S0
  | k + 1 => join (lo k (state k)) (hi k (state k))

theorem read_stored : ∀ k, v.readCov (stored v lo hi S0 base (k + 1)) RW.toLoadRect = state lo hi S0 (k + 1)
  | 0 => readCov_join v _ _ _
  | k + 1 => by
      rw [stored, readCov_join, read_stored k]
      rfl

theorem canon_stored : ∀ k, View.canon (stored v lo hi S0 base (k + 1)) = state lo hi S0 (k + 1)
  | 0 => canon_join _ _ _
  | k + 1 => by
      rw [stored, canon_join, read_stored v lo hi S0 base k]
      rfl

end Reads

section Block

variable (i : grid0.Coords) (P : H S16x1536) (X : H S1024x1536) (Z : H S1024x1024) (SM : W S1024x128) (cw : W S4x1536) (cb : W S1x1536)
  (tr : W S1x16) (tc : W S16x1) (ex : W S16x1024) (ar : W S1x16) (ac : W S16x1) (dk ng : W S1x1024)

/-- Of each chunk, the first group's state, as the body composes it. -/
def loOf' : ℕ → W S128x1024 → W S128x512
  | 0, S => lo0 i P (View.ld (Val := Elt Ideal) (S := S1024x1536) (e' := .bf16) X (Rect.unit ![0, 0] S128x1536.size inb_S1024x1536_S128x1536_0_0)) (View.ld (Val := Elt Ideal) (S := S1024x128) (e' := .f32) SM (Rect.unit ![0, 0] S128x128.size inb_S1024x128_S128x128_0_0)) cw cb tr ex ar S
  | 1, S => lo1 (View.ld (Val := Elt Ideal) (S := S1024x1536) (e' := .bf16) X (Rect.unit ![112, 0] S16x1536.size inb_S1024x1536_S16x1536_112_0)) (View.ld (Val := Elt Ideal) (S := S1024x1536) (e' := .bf16) X (Rect.unit ![128, 0] S128x1536.size inb_S1024x1536_S128x1536_128_0)) (View.ld (Val := Elt Ideal) (S := S1024x128) (e' := .f32) SM (Rect.unit ![128, 0] S128x128.size inb_S1024x128_S128x128_128_0)) cw cb tr ex ar S
  | 2, S => lo2 (View.ld (Val := Elt Ideal) (S := S1024x1536) (e' := .bf16) X (Rect.unit ![240, 0] S16x1536.size inb_S1024x1536_S16x1536_240_0)) (View.ld (Val := Elt Ideal) (S := S1024x1536) (e' := .bf16) X (Rect.unit ![256, 0] S128x1536.size inb_S1024x1536_S128x1536_256_0)) (View.ld (Val := Elt Ideal) (S := S1024x128) (e' := .f32) SM (Rect.unit ![256, 0] S128x128.size inb_S1024x128_S128x128_256_0)) cw cb tr ex ar S
  | 3, S => lo3 (View.ld (Val := Elt Ideal) (S := S1024x1536) (e' := .bf16) X (Rect.unit ![368, 0] S16x1536.size inb_S1024x1536_S16x1536_368_0)) (View.ld (Val := Elt Ideal) (S := S1024x1536) (e' := .bf16) X (Rect.unit ![384, 0] S128x1536.size inb_S1024x1536_S128x1536_384_0)) (View.ld (Val := Elt Ideal) (S := S1024x128) (e' := .f32) SM (Rect.unit ![384, 0] S128x128.size inb_S1024x128_S128x128_384_0)) cw cb tr ex ar S
  | 4, S => lo4 (View.ld (Val := Elt Ideal) (S := S1024x1536) (e' := .bf16) X (Rect.unit ![496, 0] S16x1536.size inb_S1024x1536_S16x1536_496_0)) (View.ld (Val := Elt Ideal) (S := S1024x1536) (e' := .bf16) X (Rect.unit ![512, 0] S128x1536.size inb_S1024x1536_S128x1536_512_0)) (View.ld (Val := Elt Ideal) (S := S1024x128) (e' := .f32) SM (Rect.unit ![512, 0] S128x128.size inb_S1024x128_S128x128_512_0)) cw cb tr ex ar S
  | 5, S => lo5 (View.ld (Val := Elt Ideal) (S := S1024x1536) (e' := .bf16) X (Rect.unit ![624, 0] S16x1536.size inb_S1024x1536_S16x1536_624_0)) (View.ld (Val := Elt Ideal) (S := S1024x1536) (e' := .bf16) X (Rect.unit ![640, 0] S128x1536.size inb_S1024x1536_S128x1536_640_0)) (View.ld (Val := Elt Ideal) (S := S1024x128) (e' := .f32) SM (Rect.unit ![640, 0] S128x128.size inb_S1024x128_S128x128_640_0)) cw cb tr ex ar S
  | 6, S => lo6 (View.ld (Val := Elt Ideal) (S := S1024x1536) (e' := .bf16) X (Rect.unit ![752, 0] S16x1536.size inb_S1024x1536_S16x1536_752_0)) (View.ld (Val := Elt Ideal) (S := S1024x1536) (e' := .bf16) X (Rect.unit ![768, 0] S128x1536.size inb_S1024x1536_S128x1536_768_0)) (View.ld (Val := Elt Ideal) (S := S1024x128) (e' := .f32) SM (Rect.unit ![768, 0] S128x128.size inb_S1024x128_S128x128_768_0)) cw cb tr ex ar S
  | _, S => lo7 (View.ld (Val := Elt Ideal) (S := S1024x1536) (e' := .bf16) X (Rect.unit ![880, 0] S16x1536.size inb_S1024x1536_S16x1536_880_0)) (View.ld (Val := Elt Ideal) (S := S1024x1536) (e' := .bf16) X (Rect.unit ![896, 0] S128x1536.size inb_S1024x1536_S128x1536_896_0)) (View.ld (Val := Elt Ideal) (S := S1024x128) (e' := .f32) SM (Rect.unit ![896, 0] S128x128.size inb_S1024x128_S128x128_896_0)) cw cb tr ex ar S

/-- Of each chunk, the second group's state, as the body composes it. -/
def hiOf' : ℕ → W S128x1024 → W S128x512
  | 0, S => hi0 i P (View.ld (Val := Elt Ideal) (S := S1024x1536) (e' := .bf16) X (Rect.unit ![0, 0] S128x1536.size inb_S1024x1536_S128x1536_0_0)) (View.ld (Val := Elt Ideal) (S := S1024x128) (e' := .f32) SM (Rect.unit ![0, 0] S128x128.size inb_S1024x128_S128x128_0_0)) cw cb tr ex ar S
  | 1, S => hi1 (View.ld (Val := Elt Ideal) (S := S1024x1536) (e' := .bf16) X (Rect.unit ![112, 0] S16x1536.size inb_S1024x1536_S16x1536_112_0)) (View.ld (Val := Elt Ideal) (S := S1024x1536) (e' := .bf16) X (Rect.unit ![128, 0] S128x1536.size inb_S1024x1536_S128x1536_128_0)) (View.ld (Val := Elt Ideal) (S := S1024x128) (e' := .f32) SM (Rect.unit ![128, 0] S128x128.size inb_S1024x128_S128x128_128_0)) cw cb tr ex ar S
  | 2, S => hi2 (View.ld (Val := Elt Ideal) (S := S1024x1536) (e' := .bf16) X (Rect.unit ![240, 0] S16x1536.size inb_S1024x1536_S16x1536_240_0)) (View.ld (Val := Elt Ideal) (S := S1024x1536) (e' := .bf16) X (Rect.unit ![256, 0] S128x1536.size inb_S1024x1536_S128x1536_256_0)) (View.ld (Val := Elt Ideal) (S := S1024x128) (e' := .f32) SM (Rect.unit ![256, 0] S128x128.size inb_S1024x128_S128x128_256_0)) cw cb tr ex ar S
  | 3, S => hi3 (View.ld (Val := Elt Ideal) (S := S1024x1536) (e' := .bf16) X (Rect.unit ![368, 0] S16x1536.size inb_S1024x1536_S16x1536_368_0)) (View.ld (Val := Elt Ideal) (S := S1024x1536) (e' := .bf16) X (Rect.unit ![384, 0] S128x1536.size inb_S1024x1536_S128x1536_384_0)) (View.ld (Val := Elt Ideal) (S := S1024x128) (e' := .f32) SM (Rect.unit ![384, 0] S128x128.size inb_S1024x128_S128x128_384_0)) cw cb tr ex ar S
  | 4, S => hi4 (View.ld (Val := Elt Ideal) (S := S1024x1536) (e' := .bf16) X (Rect.unit ![496, 0] S16x1536.size inb_S1024x1536_S16x1536_496_0)) (View.ld (Val := Elt Ideal) (S := S1024x1536) (e' := .bf16) X (Rect.unit ![512, 0] S128x1536.size inb_S1024x1536_S128x1536_512_0)) (View.ld (Val := Elt Ideal) (S := S1024x128) (e' := .f32) SM (Rect.unit ![512, 0] S128x128.size inb_S1024x128_S128x128_512_0)) cw cb tr ex ar S
  | 5, S => hi5 (View.ld (Val := Elt Ideal) (S := S1024x1536) (e' := .bf16) X (Rect.unit ![624, 0] S16x1536.size inb_S1024x1536_S16x1536_624_0)) (View.ld (Val := Elt Ideal) (S := S1024x1536) (e' := .bf16) X (Rect.unit ![640, 0] S128x1536.size inb_S1024x1536_S128x1536_640_0)) (View.ld (Val := Elt Ideal) (S := S1024x128) (e' := .f32) SM (Rect.unit ![640, 0] S128x128.size inb_S1024x128_S128x128_640_0)) cw cb tr ex ar S
  | 6, S => hi6 (View.ld (Val := Elt Ideal) (S := S1024x1536) (e' := .bf16) X (Rect.unit ![752, 0] S16x1536.size inb_S1024x1536_S16x1536_752_0)) (View.ld (Val := Elt Ideal) (S := S1024x1536) (e' := .bf16) X (Rect.unit ![768, 0] S128x1536.size inb_S1024x1536_S128x1536_768_0)) (View.ld (Val := Elt Ideal) (S := S1024x128) (e' := .f32) SM (Rect.unit ![768, 0] S128x128.size inb_S1024x128_S128x128_768_0)) cw cb tr ex ar S
  | _, S => hi7 (View.ld (Val := Elt Ideal) (S := S1024x1536) (e' := .bf16) X (Rect.unit ![880, 0] S16x1536.size inb_S1024x1536_S16x1536_880_0)) (View.ld (Val := Elt Ideal) (S := S1024x1536) (e' := .bf16) X (Rect.unit ![896, 0] S128x1536.size inb_S1024x1536_S128x1536_896_0)) (View.ld (Val := Elt Ideal) (S := S1024x128) (e' := .f32) SM (Rect.unit ![896, 0] S128x128.size inb_S1024x128_S128x128_896_0)) cw cb tr ex ar S

/-- Of each chunk, the stored rows, as the body composes it. -/
def outOf' : ℕ → W S128x1024 → W S128x1024
  | 0, S => out0 i P (View.ld (Val := Elt Ideal) (S := S1024x1536) (e' := .bf16) X (Rect.unit ![0, 0] S128x1536.size inb_S1024x1536_S128x1536_0_0)) (View.ld (Val := Elt Ideal) (S := S1024x1024) (e' := .bf16) Z (Rect.unit ![0, 0] S128x1024.size inb_S1024x1024_S128x1024_0_0)) (View.ld (Val := Elt Ideal) (S := S1024x128) (e' := .f32) SM (Rect.unit ![0, 0] S128x128.size inb_S1024x128_S128x128_0_0)) cw cb tr tc ex ar ac dk ng S
  | 1, S => out1 (View.ld (Val := Elt Ideal) (S := S1024x1536) (e' := .bf16) X (Rect.unit ![112, 0] S16x1536.size inb_S1024x1536_S16x1536_112_0)) (View.ld (Val := Elt Ideal) (S := S1024x1536) (e' := .bf16) X (Rect.unit ![128, 0] S128x1536.size inb_S1024x1536_S128x1536_128_0)) (View.ld (Val := Elt Ideal) (S := S1024x1024) (e' := .bf16) Z (Rect.unit ![128, 0] S128x1024.size inb_S1024x1024_S128x1024_128_0)) (View.ld (Val := Elt Ideal) (S := S1024x128) (e' := .f32) SM (Rect.unit ![128, 0] S128x128.size inb_S1024x128_S128x128_128_0)) cw cb tr tc ex ar ac dk ng S
  | 2, S => out2 (View.ld (Val := Elt Ideal) (S := S1024x1536) (e' := .bf16) X (Rect.unit ![240, 0] S16x1536.size inb_S1024x1536_S16x1536_240_0)) (View.ld (Val := Elt Ideal) (S := S1024x1536) (e' := .bf16) X (Rect.unit ![256, 0] S128x1536.size inb_S1024x1536_S128x1536_256_0)) (View.ld (Val := Elt Ideal) (S := S1024x1024) (e' := .bf16) Z (Rect.unit ![256, 0] S128x1024.size inb_S1024x1024_S128x1024_256_0)) (View.ld (Val := Elt Ideal) (S := S1024x128) (e' := .f32) SM (Rect.unit ![256, 0] S128x128.size inb_S1024x128_S128x128_256_0)) cw cb tr tc ex ar ac dk ng S
  | 3, S => out3 (View.ld (Val := Elt Ideal) (S := S1024x1536) (e' := .bf16) X (Rect.unit ![368, 0] S16x1536.size inb_S1024x1536_S16x1536_368_0)) (View.ld (Val := Elt Ideal) (S := S1024x1536) (e' := .bf16) X (Rect.unit ![384, 0] S128x1536.size inb_S1024x1536_S128x1536_384_0)) (View.ld (Val := Elt Ideal) (S := S1024x1024) (e' := .bf16) Z (Rect.unit ![384, 0] S128x1024.size inb_S1024x1024_S128x1024_384_0)) (View.ld (Val := Elt Ideal) (S := S1024x128) (e' := .f32) SM (Rect.unit ![384, 0] S128x128.size inb_S1024x128_S128x128_384_0)) cw cb tr tc ex ar ac dk ng S
  | 4, S => out4 (View.ld (Val := Elt Ideal) (S := S1024x1536) (e' := .bf16) X (Rect.unit ![496, 0] S16x1536.size inb_S1024x1536_S16x1536_496_0)) (View.ld (Val := Elt Ideal) (S := S1024x1536) (e' := .bf16) X (Rect.unit ![512, 0] S128x1536.size inb_S1024x1536_S128x1536_512_0)) (View.ld (Val := Elt Ideal) (S := S1024x1024) (e' := .bf16) Z (Rect.unit ![512, 0] S128x1024.size inb_S1024x1024_S128x1024_512_0)) (View.ld (Val := Elt Ideal) (S := S1024x128) (e' := .f32) SM (Rect.unit ![512, 0] S128x128.size inb_S1024x128_S128x128_512_0)) cw cb tr tc ex ar ac dk ng S
  | 5, S => out5 (View.ld (Val := Elt Ideal) (S := S1024x1536) (e' := .bf16) X (Rect.unit ![624, 0] S16x1536.size inb_S1024x1536_S16x1536_624_0)) (View.ld (Val := Elt Ideal) (S := S1024x1536) (e' := .bf16) X (Rect.unit ![640, 0] S128x1536.size inb_S1024x1536_S128x1536_640_0)) (View.ld (Val := Elt Ideal) (S := S1024x1024) (e' := .bf16) Z (Rect.unit ![640, 0] S128x1024.size inb_S1024x1024_S128x1024_640_0)) (View.ld (Val := Elt Ideal) (S := S1024x128) (e' := .f32) SM (Rect.unit ![640, 0] S128x128.size inb_S1024x128_S128x128_640_0)) cw cb tr tc ex ar ac dk ng S
  | 6, S => out6 (View.ld (Val := Elt Ideal) (S := S1024x1536) (e' := .bf16) X (Rect.unit ![752, 0] S16x1536.size inb_S1024x1536_S16x1536_752_0)) (View.ld (Val := Elt Ideal) (S := S1024x1536) (e' := .bf16) X (Rect.unit ![768, 0] S128x1536.size inb_S1024x1536_S128x1536_768_0)) (View.ld (Val := Elt Ideal) (S := S1024x1024) (e' := .bf16) Z (Rect.unit ![768, 0] S128x1024.size inb_S1024x1024_S128x1024_768_0)) (View.ld (Val := Elt Ideal) (S := S1024x128) (e' := .f32) SM (Rect.unit ![768, 0] S128x128.size inb_S1024x128_S128x128_768_0)) cw cb tr tc ex ar ac dk ng S
  | _, S => out7 (View.ld (Val := Elt Ideal) (S := S1024x1536) (e' := .bf16) X (Rect.unit ![880, 0] S16x1536.size inb_S1024x1536_S16x1536_880_0)) (View.ld (Val := Elt Ideal) (S := S1024x1536) (e' := .bf16) X (Rect.unit ![896, 0] S128x1536.size inb_S1024x1536_S128x1536_896_0)) (View.ld (Val := Elt Ideal) (S := S1024x1024) (e' := .bf16) Z (Rect.unit ![896, 0] S128x1024.size inb_S1024x1024_S128x1024_896_0)) (View.ld (Val := Elt Ideal) (S := S1024x128) (e' := .f32) SM (Rect.unit ![896, 0] S128x128.size inb_S1024x128_S128x128_896_0)) cw cb tr tc ex ar ac dk ng S

/-- The sixteen rows before chunk `k`. -/
def haloAt (k : ℕ) : H S16x1536 :=
  if k = 0 then masked i P else fun j => X (ix2 ⟨(128 * k - 16 + (j 0).val) % 1024, Nat.mod_lt _ (by decide)⟩ (j 1))

/-- The rows of chunk `k`. -/
def rowsAt {n : ℕ} {e : EltTy} (A : (⟨2, ![1024, n]⟩ : Shape).Idx → Elt Ideal e) (k : ℕ) : (⟨2, ![128, n]⟩ : Shape).Idx → Elt Ideal e :=
  fun j => A (ix2 ⟨(128 * k + (j 0).val) % 1024, Nat.mod_lt _ (by decide)⟩ (j 1))

theorem ld_rows {n : ℕ} {e : EltTy} (A : (⟨2, ![1024, n]⟩ : Shape).Idx → Elt Ideal e) (k : ℕ) (hk : k < 8) (off : ℕ) (ho : off = 128 * k)
    (h : ∀ a, (![off, 0] : Fin 2 → ℕ) a + (![128, n] : Fin 2 → ℕ) a ≤ (![1024, n] : Fin 2 → ℕ) a) :
    View.ld (Val := Elt Ideal) (S := ⟨2, ![1024, n]⟩) (e' := e) A (Rect.unit ![off, 0] ![128, n] h) = rowsAt A k := by
  funext j
  have h0 : (j 0).val < 128 := (j 0).isLt
  refine congrArg A (funext fun a => ?_)
  match a with
  | ⟨0, _⟩ => exact Fin.ext (by show off + 1 * (j 0).val = (128 * k + (j 0).val) % 1024; omega)
  | ⟨1, _⟩ => exact Fin.ext (by show 0 + 1 * (j 1).val = (j 1).val; omega)

theorem ld_halo (k : ℕ) (hk : k < 8) (h0 : k ≠ 0) (off : ℕ) (ho : off = 128 * k - 16)
    (h : ∀ a, (![off, 0] : Fin 2 → ℕ) a + (![16, 1536] : Fin 2 → ℕ) a ≤ (![1024, 1536] : Fin 2 → ℕ) a) :
    View.ld (Val := Elt Ideal) (S := S1024x1536) (e' := .bf16) X (Rect.unit ![off, 0] ![16, 1536] h) = haloAt i P X k := by
  funext j
  have h1 : (j 0).val < 16 := (j 0).isLt
  unfold haloAt
  rw [if_neg h0]
  refine congrArg X (funext fun a => ?_)
  match a with
  | ⟨0, _⟩ => exact Fin.ext (by show off + 1 * (j 0).val = (128 * k - 16 + (j 0).val) % 1024; omega)
  | ⟨1, _⟩ => exact Fin.ext (by show 0 + 1 * (j 1).val = (j 1).val; omega)

/-- Chunk `k`'s first group, in the chunk's vocabulary. -/
def loAt (k : ℕ) (S : W S128x1024) : W S128x512 := lowHalf (haloAt i P X k) (rowsAt (n := 1536) (e := .bf16) X k) (rowsAt (n := 128) (e := .f32) SM k) cw cb tr ex ar S
/-- Chunk `k`'s second group. -/
def hiAt (k : ℕ) (S : W S128x1024) : W S128x512 := highHalf (haloAt i P X k) (rowsAt (n := 1536) (e := .bf16) X k) (rowsAt (n := 128) (e := .f32) SM k) cw cb tr ex ar S
/-- Chunk `k`'s stored rows. -/
def outAt (k : ℕ) (S : W S128x1024) : W S128x1024 := outOf (haloAt i P X k) (rowsAt (n := 1536) (e := .bf16) X k) (rowsAt (n := 1024) (e := .bf16) Z k) (rowsAt (n := 128) (e := .f32) SM k) cw cb tr tc ex ar ac dk ng S

theorem halo_zero : masked i P = haloAt i P X 0 := by unfold haloAt; rw [if_pos rfl]

theorem lo_eq (S : W S128x1024) : ∀ k, k < 8 → loOf' i P X SM cw cb tr ex ar k S = loAt i P X SM cw cb tr ex ar k S
  | 0, _ => by
    refine (lo0_eq _ _ _ _ _ _ _ _ _ _ ).trans ?_
    unfold loAt
    rw [halo_zero i P X, ld_rows (n := 1536) (e := .bf16) X 0 (by decide) 0 rfl, ld_rows (n := 128) (e := .f32) SM 0 (by decide) 0 rfl]
  | 1, _ => by
    refine (lo1_eq _ _ _ _ _ _ _ _ _ ).trans ?_
    unfold loAt
    rw [ld_halo i P X 1 (by decide) (by decide) _ rfl, ld_rows (n := 1536) (e := .bf16) X 1 (by decide) 128 rfl, ld_rows (n := 128) (e := .f32) SM 1 (by decide) 128 rfl]
  | 2, _ => by
    refine (lo2_eq _ _ _ _ _ _ _ _ _ ).trans ?_
    unfold loAt
    rw [ld_halo i P X 2 (by decide) (by decide) _ rfl, ld_rows (n := 1536) (e := .bf16) X 2 (by decide) 256 rfl, ld_rows (n := 128) (e := .f32) SM 2 (by decide) 256 rfl]
  | 3, _ => by
    refine (lo3_eq _ _ _ _ _ _ _ _ _ ).trans ?_
    unfold loAt
    rw [ld_halo i P X 3 (by decide) (by decide) _ rfl, ld_rows (n := 1536) (e := .bf16) X 3 (by decide) 384 rfl, ld_rows (n := 128) (e := .f32) SM 3 (by decide) 384 rfl]
  | 4, _ => by
    refine (lo4_eq _ _ _ _ _ _ _ _ _ ).trans ?_
    unfold loAt
    rw [ld_halo i P X 4 (by decide) (by decide) _ rfl, ld_rows (n := 1536) (e := .bf16) X 4 (by decide) 512 rfl, ld_rows (n := 128) (e := .f32) SM 4 (by decide) 512 rfl]
  | 5, _ => by
    refine (lo5_eq _ _ _ _ _ _ _ _ _ ).trans ?_
    unfold loAt
    rw [ld_halo i P X 5 (by decide) (by decide) _ rfl, ld_rows (n := 1536) (e := .bf16) X 5 (by decide) 640 rfl, ld_rows (n := 128) (e := .f32) SM 5 (by decide) 640 rfl]
  | 6, _ => by
    refine (lo6_eq _ _ _ _ _ _ _ _ _ ).trans ?_
    unfold loAt
    rw [ld_halo i P X 6 (by decide) (by decide) _ rfl, ld_rows (n := 1536) (e := .bf16) X 6 (by decide) 768 rfl, ld_rows (n := 128) (e := .f32) SM 6 (by decide) 768 rfl]
  | 7, _ => by
    refine (lo7_eq _ _ _ _ _ _ _ _ _ ).trans ?_
    unfold loAt
    rw [ld_halo i P X 7 (by decide) (by decide) _ rfl, ld_rows (n := 1536) (e := .bf16) X 7 (by decide) 896 rfl, ld_rows (n := 128) (e := .f32) SM 7 (by decide) 896 rfl]
  | k + 8, h => absurd h (by omega)

theorem hi_eq (S : W S128x1024) : ∀ k, k < 8 → hiOf' i P X SM cw cb tr ex ar k S = hiAt i P X SM cw cb tr ex ar k S
  | 0, _ => by
    refine (hi0_eq _ _ _ _ _ _ _ _ _ _ ).trans ?_
    unfold hiAt
    rw [halo_zero i P X, ld_rows (n := 1536) (e := .bf16) X 0 (by decide) 0 rfl, ld_rows (n := 128) (e := .f32) SM 0 (by decide) 0 rfl]
  | 1, _ => by
    refine (hi1_eq _ _ _ _ _ _ _ _ _ ).trans ?_
    unfold hiAt
    rw [ld_halo i P X 1 (by decide) (by decide) _ rfl, ld_rows (n := 1536) (e := .bf16) X 1 (by decide) 128 rfl, ld_rows (n := 128) (e := .f32) SM 1 (by decide) 128 rfl]
  | 2, _ => by
    refine (hi2_eq _ _ _ _ _ _ _ _ _ ).trans ?_
    unfold hiAt
    rw [ld_halo i P X 2 (by decide) (by decide) _ rfl, ld_rows (n := 1536) (e := .bf16) X 2 (by decide) 256 rfl, ld_rows (n := 128) (e := .f32) SM 2 (by decide) 256 rfl]
  | 3, _ => by
    refine (hi3_eq _ _ _ _ _ _ _ _ _ ).trans ?_
    unfold hiAt
    rw [ld_halo i P X 3 (by decide) (by decide) _ rfl, ld_rows (n := 1536) (e := .bf16) X 3 (by decide) 384 rfl, ld_rows (n := 128) (e := .f32) SM 3 (by decide) 384 rfl]
  | 4, _ => by
    refine (hi4_eq _ _ _ _ _ _ _ _ _ ).trans ?_
    unfold hiAt
    rw [ld_halo i P X 4 (by decide) (by decide) _ rfl, ld_rows (n := 1536) (e := .bf16) X 4 (by decide) 512 rfl, ld_rows (n := 128) (e := .f32) SM 4 (by decide) 512 rfl]
  | 5, _ => by
    refine (hi5_eq _ _ _ _ _ _ _ _ _ ).trans ?_
    unfold hiAt
    rw [ld_halo i P X 5 (by decide) (by decide) _ rfl, ld_rows (n := 1536) (e := .bf16) X 5 (by decide) 640 rfl, ld_rows (n := 128) (e := .f32) SM 5 (by decide) 640 rfl]
  | 6, _ => by
    refine (hi6_eq _ _ _ _ _ _ _ _ _ ).trans ?_
    unfold hiAt
    rw [ld_halo i P X 6 (by decide) (by decide) _ rfl, ld_rows (n := 1536) (e := .bf16) X 6 (by decide) 768 rfl, ld_rows (n := 128) (e := .f32) SM 6 (by decide) 768 rfl]
  | 7, _ => by
    refine (hi7_eq _ _ _ _ _ _ _ _ _ ).trans ?_
    unfold hiAt
    rw [ld_halo i P X 7 (by decide) (by decide) _ rfl, ld_rows (n := 1536) (e := .bf16) X 7 (by decide) 896 rfl, ld_rows (n := 128) (e := .f32) SM 7 (by decide) 896 rfl]
  | k + 8, h => absurd h (by omega)

theorem out_eq (S : W S128x1024) : ∀ k, k < 8 → outOf' i P X Z SM cw cb tr tc ex ar ac dk ng k S = outAt i P X Z SM cw cb tr tc ex ar ac dk ng k S
  | 0, _ => by
    refine (out0_eq _ _ _ _ _ _ _ _ _ _ _ _ _ _ _ ).trans ?_
    unfold outAt
    rw [halo_zero i P X, ld_rows (n := 1536) (e := .bf16) X 0 (by decide) 0 rfl, ld_rows (n := 128) (e := .f32) SM 0 (by decide) 0 rfl, ld_rows (n := 1024) (e := .bf16) Z 0 (by decide) 0 rfl]
  | 1, _ => by
    refine (out1_eq _ _ _ _ _ _ _ _ _ _ _ _ _ _ ).trans ?_
    unfold outAt
    rw [ld_halo i P X 1 (by decide) (by decide) _ rfl, ld_rows (n := 1536) (e := .bf16) X 1 (by decide) 128 rfl, ld_rows (n := 128) (e := .f32) SM 1 (by decide) 128 rfl, ld_rows (n := 1024) (e := .bf16) Z 1 (by decide) 128 rfl]
  | 2, _ => by
    refine (out2_eq _ _ _ _ _ _ _ _ _ _ _ _ _ _ ).trans ?_
    unfold outAt
    rw [ld_halo i P X 2 (by decide) (by decide) _ rfl, ld_rows (n := 1536) (e := .bf16) X 2 (by decide) 256 rfl, ld_rows (n := 128) (e := .f32) SM 2 (by decide) 256 rfl, ld_rows (n := 1024) (e := .bf16) Z 2 (by decide) 256 rfl]
  | 3, _ => by
    refine (out3_eq _ _ _ _ _ _ _ _ _ _ _ _ _ _ ).trans ?_
    unfold outAt
    rw [ld_halo i P X 3 (by decide) (by decide) _ rfl, ld_rows (n := 1536) (e := .bf16) X 3 (by decide) 384 rfl, ld_rows (n := 128) (e := .f32) SM 3 (by decide) 384 rfl, ld_rows (n := 1024) (e := .bf16) Z 3 (by decide) 384 rfl]
  | 4, _ => by
    refine (out4_eq _ _ _ _ _ _ _ _ _ _ _ _ _ _ ).trans ?_
    unfold outAt
    rw [ld_halo i P X 4 (by decide) (by decide) _ rfl, ld_rows (n := 1536) (e := .bf16) X 4 (by decide) 512 rfl, ld_rows (n := 128) (e := .f32) SM 4 (by decide) 512 rfl, ld_rows (n := 1024) (e := .bf16) Z 4 (by decide) 512 rfl]
  | 5, _ => by
    refine (out5_eq _ _ _ _ _ _ _ _ _ _ _ _ _ _ ).trans ?_
    unfold outAt
    rw [ld_halo i P X 5 (by decide) (by decide) _ rfl, ld_rows (n := 1536) (e := .bf16) X 5 (by decide) 640 rfl, ld_rows (n := 128) (e := .f32) SM 5 (by decide) 640 rfl, ld_rows (n := 1024) (e := .bf16) Z 5 (by decide) 640 rfl]
  | 6, _ => by
    refine (out6_eq _ _ _ _ _ _ _ _ _ _ _ _ _ _ ).trans ?_
    unfold outAt
    rw [ld_halo i P X 6 (by decide) (by decide) _ rfl, ld_rows (n := 1536) (e := .bf16) X 6 (by decide) 768 rfl, ld_rows (n := 128) (e := .f32) SM 6 (by decide) 768 rfl, ld_rows (n := 1024) (e := .bf16) Z 6 (by decide) 768 rfl]
  | 7, _ => by
    refine (out7_eq _ _ _ _ _ _ _ _ _ _ _ _ _ _ ).trans ?_
    unfold outAt
    rw [ld_halo i P X 7 (by decide) (by decide) _ rfl, ld_rows (n := 1536) (e := .bf16) X 7 (by decide) 896 rfl, ld_rows (n := 128) (e := .f32) SM 7 (by decide) 896 rfl, ld_rows (n := 1024) (e := .bf16) Z 7 (by decide) 896 rfl]
  | k + 8, h => absurd h (by omega)

end Block

end Cert.SsdIdeal.Hand

end
-- ==== Proof.SsdKept.lean ====
/-
  The rows a point of the recurrence's grid stores: eight pieces, each the outputs of one chunk from the state that enters it.
-/
module

public import proofs.«01_k».proof.Proof.SsdBlock

@[expose] public section

set_option maxRecDepth 65536

noncomputable section

namespace Cert.SsdIdeal.Hand

open Cert.SsdIdeal Cert.SsdIdeal.Gen Idealize.ShloMosaic Idealize.ShloMosaic.TcCoe Idealize.SL.Sem

/-- The rows of all the chunks, by the chunk a row is in. -/
def outRows (lo hi : ℕ → W S128x1024 → W S128x512) (out : ℕ → W S128x1024 → W S128x1024) (S0 : W S128x1024) : W S1024x1024 := fun y =>
  out ((y 0).val / 128) (state lo hi S0 ((y 0).val / 128)) (ix2 ⟨(y 0).val % 128, Nat.mod_lt _ (by decide)⟩ (y 1))

section Kept

variable {sig' : RefSig} {κ : Kind} {sp : Space} (v : View sig' κ sp S128x1024 .f32)
  (lo hi : ℕ → W S128x1024 → W S128x512) (out : ℕ → W S128x1024 → W S128x1024) (S0 : W S128x1024)
  (base : List (View.Piece (Elt Ideal) S128x1024 .f32))

theorem piece_rows (k : ℕ) (S : W S128x1024) (hS : S = state lo hi S0 k) (off : ℕ) (ho : off = 128 * k) (inb) (x : (⟨2, ![128, 1024]⟩ : Shape).Idx) :
    out k S x = outRows lo hi out S0 ((Rect.unit (s := S1024x1024) ![off, 0] S128x1024.size inb).emb x) := by
  have h0 : (x 0).val < 128 := (x 0).isLt
  have e0 : (((Rect.unit (s := S1024x1024) ![off, 0] S128x1024.size inb).emb x) 0).val = 128 * k + (x 0).val := by
    show off + 1 * (x 0).val = _; omega
  have e1 : (((Rect.unit (s := S1024x1024) ![off, 0] S128x1024.size inb).emb x) 1).val = (x 1).val := by
    show 0 + 1 * (x 1).val = _; omega
  unfold outRows
  have hd : (((Rect.unit (s := S1024x1024) ![off, 0] S128x1024.size inb).emb x) 0).val / 128 = k := by omega
  rw [hd, hS]
  exact congrArg _ (funext fun a => match a with
    | ⟨0, _⟩ => Fin.ext (by
        show (x 0).val = (((Rect.unit (s := S1024x1024) ![off, 0] S128x1024.size inb).emb x) 0).val % 128
        omega)
    | ⟨1, _⟩ => Fin.ext e1.symm)

theorem canon_kept : View.canon [
    (⟨Rect.unit ![896, 0] S128x1024.size inb_S1024x1024_S128x1024_896_0, out 7 (v.readCov (stored v lo hi S0 base 7) RW.toLoadRect)⟩ : View.Piece (Elt Ideal) S1024x1024 .f32),
    (⟨Rect.unit ![768, 0] S128x1024.size inb_S1024x1024_S128x1024_768_0, out 6 (v.readCov (stored v lo hi S0 base 6) RW.toLoadRect)⟩ : View.Piece (Elt Ideal) S1024x1024 .f32),
    (⟨Rect.unit ![640, 0] S128x1024.size inb_S1024x1024_S128x1024_640_0, out 5 (v.readCov (stored v lo hi S0 base 5) RW.toLoadRect)⟩ : View.Piece (Elt Ideal) S1024x1024 .f32),
    (⟨Rect.unit ![512, 0] S128x1024.size inb_S1024x1024_S128x1024_512_0, out 4 (v.readCov (stored v lo hi S0 base 4) RW.toLoadRect)⟩ : View.Piece (Elt Ideal) S1024x1024 .f32),
    (⟨Rect.unit ![384, 0] S128x1024.size inb_S1024x1024_S128x1024_384_0, out 3 (v.readCov (stored v lo hi S0 base 3) RW.toLoadRect)⟩ : View.Piece (Elt Ideal) S1024x1024 .f32),
    (⟨Rect.unit ![256, 0] S128x1024.size inb_S1024x1024_S128x1024_256_0, out 2 (v.readCov (stored v lo hi S0 base 2) RW.toLoadRect)⟩ : View.Piece (Elt Ideal) S1024x1024 .f32),
    (⟨Rect.unit ![128, 0] S128x1024.size inb_S1024x1024_S128x1024_128_0, out 1 (v.readCov (stored v lo hi S0 base 1) RW.toLoadRect)⟩ : View.Piece (Elt Ideal) S1024x1024 .f32),
    (⟨Rect.unit ![0, 0] S128x1024.size inb_S1024x1024_S128x1024_0_0, out 0 S0⟩ : View.Piece (Elt Ideal) S1024x1024 .f32)] = outRows lo hi out S0 := by
  funext y
  have h0 : (y 0).val < 1024 := (y 0).isLt
  have h1 : (y 1).val < 1024 := (y 1).isLt
  refine View.canon_append_of_piecesOf (outRows lo hi out S0) [] [(⟨Rect.unit ![896, 0] S128x1024.size inb_S1024x1024_S128x1024_896_0, out 7 (v.readCov (stored v lo hi S0 base 7) RW.toLoadRect)⟩ : View.Piece (Elt Ideal) S1024x1024 .f32),    (⟨Rect.unit ![768, 0] S128x1024.size inb_S1024x1024_S128x1024_768_0, out 6 (v.readCov (stored v lo hi S0 base 6) RW.toLoadRect)⟩ : View.Piece (Elt Ideal) S1024x1024 .f32),    (⟨Rect.unit ![640, 0] S128x1024.size inb_S1024x1024_S128x1024_640_0, out 5 (v.readCov (stored v lo hi S0 base 5) RW.toLoadRect)⟩ : View.Piece (Elt Ideal) S1024x1024 .f32),    (⟨Rect.unit ![512, 0] S128x1024.size inb_S1024x1024_S128x1024_512_0, out 4 (v.readCov (stored v lo hi S0 base 4) RW.toLoadRect)⟩ : View.Piece (Elt Ideal) S1024x1024 .f32),    (⟨Rect.unit ![384, 0] S128x1024.size inb_S1024x1024_S128x1024_384_0, out 3 (v.readCov (stored v lo hi S0 base 3) RW.toLoadRect)⟩ : View.Piece (Elt Ideal) S1024x1024 .f32),    (⟨Rect.unit ![256, 0] S128x1024.size inb_S1024x1024_S128x1024_256_0, out 2 (v.readCov (stored v lo hi S0 base 2) RW.toLoadRect)⟩ : View.Piece (Elt Ideal) S1024x1024 .f32),    (⟨Rect.unit ![128, 0] S128x1024.size inb_S1024x1024_S128x1024_128_0, out 1 (v.readCov (stored v lo hi S0 base 1) RW.toLoadRect)⟩ : View.Piece (Elt Ideal) S1024x1024 .f32),    (⟨Rect.unit ![0, 0] S128x1024.size inb_S1024x1024_S128x1024_0_0, out 0 S0⟩ : View.Piece (Elt Ideal) S1024x1024 .f32)] ?_ y ?_
  · refine ⟨fun x => piece_rows lo hi out S0 7 _ (read_stored v lo hi S0 base 6) 896 rfl inb_S1024x1024_S128x1024_896_0 x, fun x => piece_rows lo hi out S0 6 _ (read_stored v lo hi S0 base 5) 768 rfl inb_S1024x1024_S128x1024_768_0 x, fun x => piece_rows lo hi out S0 5 _ (read_stored v lo hi S0 base 4) 640 rfl inb_S1024x1024_S128x1024_640_0 x, fun x => piece_rows lo hi out S0 4 _ (read_stored v lo hi S0 base 3) 512 rfl inb_S1024x1024_S128x1024_512_0 x, fun x => piece_rows lo hi out S0 3 _ (read_stored v lo hi S0 base 2) 384 rfl inb_S1024x1024_S128x1024_384_0 x, fun x => piece_rows lo hi out S0 2 _ (read_stored v lo hi S0 base 1) 256 rfl inb_S1024x1024_S128x1024_256_0 x, fun x => piece_rows lo hi out S0 1 _ (read_stored v lo hi S0 base 0) 128 rfl inb_S1024x1024_S128x1024_128_0 x, fun x => piece_rows lo hi out S0 0 _ rfl 0 rfl inb_S1024x1024_S128x1024_0_0 x, trivial⟩
  · have hk : (y 0).val / 128 < 8 := by omega
    have key : ∀ off : ℕ, off = 128 * ((y 0).val / 128) → ∀ inb, y ∈ (Rect.unit (s := S1024x1024) ![off, 0] S128x1024.size inb).set := fun off ho inb =>
      Rect.mem_set_unit.2 fun a => match a with
        | ⟨0, _⟩ => ⟨by show off ≤ (y 0).val; omega, by show (y 0).val < off + 128; omega⟩
        | ⟨1, _⟩ => ⟨Nat.zero_le _, by show (y 1).val < 0 + 1024; omega⟩
    generalize hq : (y 0).val / 128 = q at hk key
    match q, hk with
    | 0, _ => exact ⟨⟨Rect.unit ![0, 0] S128x1024.size inb_S1024x1024_S128x1024_0_0, out 0 S0⟩, by simp only [List.mem_cons, true_or, or_true], key 0 rfl inb_S1024x1024_S128x1024_0_0⟩
    | 1, _ => exact ⟨⟨Rect.unit ![128, 0] S128x1024.size inb_S1024x1024_S128x1024_128_0, out 1 (v.readCov (stored v lo hi S0 base 1) RW.toLoadRect)⟩, by simp only [List.mem_cons, true_or, or_true], key 128 rfl inb_S1024x1024_S128x1024_128_0⟩
    | 2, _ => exact ⟨⟨Rect.unit ![256, 0] S128x1024.size inb_S1024x1024_S128x1024_256_0, out 2 (v.readCov (stored v lo hi S0 base 2) RW.toLoadRect)⟩, by simp only [List.mem_cons, true_or, or_true], key 256 rfl inb_S1024x1024_S128x1024_256_0⟩
    | 3, _ => exact ⟨⟨Rect.unit ![384, 0] S128x1024.size inb_S1024x1024_S128x1024_384_0, out 3 (v.readCov (stored v lo hi S0 base 3) RW.toLoadRect)⟩, by simp only [List.mem_cons, true_or, or_true], key 384 rfl inb_S1024x1024_S128x1024_384_0⟩
    | 4, _ => exact ⟨⟨Rect.unit ![512, 0] S128x1024.size inb_S1024x1024_S128x1024_512_0, out 4 (v.readCov (stored v lo hi S0 base 4) RW.toLoadRect)⟩, by simp only [List.mem_cons, true_or, or_true], key 512 rfl inb_S1024x1024_S128x1024_512_0⟩
    | 5, _ => exact ⟨⟨Rect.unit ![640, 0] S128x1024.size inb_S1024x1024_S128x1024_640_0, out 5 (v.readCov (stored v lo hi S0 base 5) RW.toLoadRect)⟩, by simp only [List.mem_cons, true_or, or_true], key 640 rfl inb_S1024x1024_S128x1024_640_0⟩
    | 6, _ => exact ⟨⟨Rect.unit ![768, 0] S128x1024.size inb_S1024x1024_S128x1024_768_0, out 6 (v.readCov (stored v lo hi S0 base 6) RW.toLoadRect)⟩, by simp only [List.mem_cons, true_or, or_true], key 768 rfl inb_S1024x1024_S128x1024_768_0⟩
    | 7, _ => exact ⟨⟨Rect.unit ![896, 0] S128x1024.size inb_S1024x1024_S128x1024_896_0, out 7 (v.readCov (stored v lo hi S0 base 7) RW.toLoadRect)⟩, by simp only [List.mem_cons, true_or, or_true], key 896 rfl inb_S1024x1024_S128x1024_896_0⟩

/-- The same, the loads named. -/
theorem canon_kept_of (L1 L2 L3 L4 L5 L6 L7 : W S128x1024)
    (h1 : v.readCov (⟨RH, hi 0 S0⟩ :: ⟨RL, lo 0 S0⟩ :: base) RW.toLoadRect = L1)
    (h2 : v.readCov (⟨RH, hi 1 L1⟩ :: ⟨RL, lo 1 L1⟩ :: ⟨RH, hi 0 S0⟩ :: ⟨RL, lo 0 S0⟩ :: base) RW.toLoadRect = L2)
    (h3 : v.readCov (⟨RH, hi 2 L2⟩ :: ⟨RL, lo 2 L2⟩ :: ⟨RH, hi 1 L1⟩ :: ⟨RL, lo 1 L1⟩ :: ⟨RH, hi 0 S0⟩ :: ⟨RL, lo 0 S0⟩ :: base) RW.toLoadRect = L3)
    (h4 : v.readCov (⟨RH, hi 3 L3⟩ :: ⟨RL, lo 3 L3⟩ :: ⟨RH, hi 2 L2⟩ :: ⟨RL, lo 2 L2⟩ :: ⟨RH, hi 1 L1⟩ :: ⟨RL, lo 1 L1⟩ :: ⟨RH, hi 0 S0⟩ :: ⟨RL, lo 0 S0⟩ :: base) RW.toLoadRect = L4)
    (h5 : v.readCov (⟨RH, hi 4 L4⟩ :: ⟨RL, lo 4 L4⟩ :: ⟨RH, hi 3 L3⟩ :: ⟨RL, lo 3 L3⟩ :: ⟨RH, hi 2 L2⟩ :: ⟨RL, lo 2 L2⟩ :: ⟨RH, hi 1 L1⟩ :: ⟨RL, lo 1 L1⟩ :: ⟨RH, hi 0 S0⟩ :: ⟨RL, lo 0 S0⟩ :: base) RW.toLoadRect = L5)
    (h6 : v.readCov (⟨RH, hi 5 L5⟩ :: ⟨RL, lo 5 L5⟩ :: ⟨RH, hi 4 L4⟩ :: ⟨RL, lo 4 L4⟩ :: ⟨RH, hi 3 L3⟩ :: ⟨RL, lo 3 L3⟩ :: ⟨RH, hi 2 L2⟩ :: ⟨RL, lo 2 L2⟩ :: ⟨RH, hi 1 L1⟩ :: ⟨RL, lo 1 L1⟩ :: ⟨RH, hi 0 S0⟩ :: ⟨RL, lo 0 S0⟩ :: base) RW.toLoadRect = L6)
    (h7 : v.readCov (⟨RH, hi 6 L6⟩ :: ⟨RL, lo 6 L6⟩ :: ⟨RH, hi 5 L5⟩ :: ⟨RL, lo 5 L5⟩ :: ⟨RH, hi 4 L4⟩ :: ⟨RL, lo 4 L4⟩ :: ⟨RH, hi 3 L3⟩ :: ⟨RL, lo 3 L3⟩ :: ⟨RH, hi 2 L2⟩ :: ⟨RL, lo 2 L2⟩ :: ⟨RH, hi 1 L1⟩ :: ⟨RL, lo 1 L1⟩ :: ⟨RH, hi 0 S0⟩ :: ⟨RL, lo 0 S0⟩ :: base) RW.toLoadRect = L7) :
    View.canon [
    (⟨Rect.unit ![896, 0] S128x1024.size inb_S1024x1024_S128x1024_896_0, out 7 L7⟩ : View.Piece (Elt Ideal) S1024x1024 .f32),
    (⟨Rect.unit ![768, 0] S128x1024.size inb_S1024x1024_S128x1024_768_0, out 6 L6⟩ : View.Piece (Elt Ideal) S1024x1024 .f32),
    (⟨Rect.unit ![640, 0] S128x1024.size inb_S1024x1024_S128x1024_640_0, out 5 L5⟩ : View.Piece (Elt Ideal) S1024x1024 .f32),
    (⟨Rect.unit ![512, 0] S128x1024.size inb_S1024x1024_S128x1024_512_0, out 4 L4⟩ : View.Piece (Elt Ideal) S1024x1024 .f32),
    (⟨Rect.unit ![384, 0] S128x1024.size inb_S1024x1024_S128x1024_384_0, out 3 L3⟩ : View.Piece (Elt Ideal) S1024x1024 .f32),
    (⟨Rect.unit ![256, 0] S128x1024.size inb_S1024x1024_S128x1024_256_0, out 2 L2⟩ : View.Piece (Elt Ideal) S1024x1024 .f32),
    (⟨Rect.unit ![128, 0] S128x1024.size inb_S1024x1024_S128x1024_128_0, out 1 L1⟩ : View.Piece (Elt Ideal) S1024x1024 .f32),
    (⟨Rect.unit ![0, 0] S128x1024.size inb_S1024x1024_S128x1024_0_0, out 0 S0⟩ : View.Piece (Elt Ideal) S1024x1024 .f32)] = outRows lo hi out S0 := by
  subst h1 h2 h3 h4 h5 h6 h7
  exact canon_kept v lo hi out S0 base

end Kept

end Cert.SsdIdeal.Hand

end
-- ==== Proof.SsdRaw.lean ====
/-
  A point's blocks in the chunks' compositions.
-/
module

public import proofs.«01_k».proof.Proof.SsdKept

@[expose] public section

set_option maxRecDepth 65536
set_option maxHeartbeats 4000000

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ)

/-- The first groups' states of point `t`'s chunks, as the body composes them. -/
abbrev loRaw (c : Dev nD) (t : Fin cfg0.N) : ℕ → W S128x1024 → W S128x512 :=
  loOf' (grid0.coords t) (iblk m c 1 t) (iblk m c 0 t) (iblk m c 3 t) (iblk m c 4 t) (iblk m c 5 t) (iblk m c 6 t) (iblk m c 11 t) (iblk m c 8 t)
/-- The second groups'. -/
abbrev hiRaw (c : Dev nD) (t : Fin cfg0.N) : ℕ → W S128x1024 → W S128x512 :=
  hiOf' (grid0.coords t) (iblk m c 1 t) (iblk m c 0 t) (iblk m c 3 t) (iblk m c 4 t) (iblk m c 5 t) (iblk m c 6 t) (iblk m c 11 t) (iblk m c 8 t)
/-- The stored rows. -/
abbrev outRaw (c : Dev nD) (t : Fin cfg0.N) : ℕ → W S128x1024 → W S128x1024 :=
  outOf' (grid0.coords t) (iblk m c 1 t) (iblk m c 0 t) (X0_2 m c t) (iblk m c 3 t) (iblk m c 4 t) (iblk m c 5 t) (iblk m c 6 t) (iblk m c 7 t) (iblk m c 11 t) (iblk m c 8 t) (iblk m c 9 t) (iblk m c 10 t) (iblk m c 12 t)

end Cert.SsdIdeal.Hand

end
-- ==== Proof.SsdEntry.lean ====
/-
  The entries of one chunk's vocabulary: each vector's value at an index.
-/
module

public import proofs.«01_k».proof.Proof.SsdVec
public import proofs.«01_k».proof.Proof.Finite
public import Idealize.ShloMosaic.Lib.Pipeline.ValueKit

@[expose] public section

set_option maxRecDepth 16384

noncomputable section

namespace Cert.SsdIdeal.Hand

open Cert.SsdIdeal Cert.SsdIdeal.Gen Idealize.ShloMosaic Idealize.ShloMosaic.TcCoe Idealize.SL.Sem Cert Cert.Rows

/-- Words of small numbers are equal when the numbers are. -/
theorem word_add (r l d : ℕ) (hr : r < 1024) (hl : l < 1024) (hd : d < 1024) :
    BitVec.ofNat 32 r = IntOp.addi (BitVec.ofNat 32 l) (BitVec.ofNat 32 d) ↔ r = l + d := by
  unfold IntOp.addi
  rw [← BitVec.toNat_inj, BitVec.toNat_add, BitVec.toNat_ofNat, BitVec.toNat_ofNat, BitVec.toNat_ofNat]
  omega

theorem sel_apply (d : ℕ) (hd : d < 1024) (l : Fin 128) (r : Fin 144) : sel (BitVec.ofNat 32 d) (ix2 l r)
    = if r.val = l.val + d then 1 else 0 := by
  pointwise [sel]
  unfold IntOp.cmpi
  by_cases h : r.val = l.val + d
  · have h' := (word_add r.val l.val d (by omega) (by omega) hd).2 h
    rw [if_pos h, h']
    simp [Scalar.select]
  · have h' := fun e => h ((word_add r.val l.val d (by omega) (by omega) hd).1 e)
    rw [if_neg h]
    rw [beq_eq_false_iff_ne.2 h']
    rfl

theorem above_apply (halo : H S16x1536) (x : H S128x1536) (r : Fin 144) (q : Fin 1536) : above halo x (ix2 r q)
    = if h : r.val < 16 then halo (ix2 ⟨r.val, h⟩ q) else x (ix2 ⟨r.val - 16, by omega⟩ q) := by
  pointwise [above]

theorem moved_apply (d : BitVec 32) (e : H S144x1536) (l : Fin 128) (q : Fin 1536) : moved d e (ix2 l q)
    = ∑ r : Fin 144, sel d (ix2 l r) * e (ix2 r q) := by
  pointwise [moved]

theorem conv_apply (e : H S144x1536) (x : H S128x1536) (cw : W S4x1536) (cb : W S1x1536) (l : Fin 128) (q : Fin 1536) :
    conv e x cw cb (ix2 l q) = cb (ix2 0 q) + cw (ix2 3 q) * x (ix2 l q) + cw (ix2 0 q) * moved 13#32 e (ix2 l q)
      + cw (ix2 1 q) * moved 14#32 e (ix2 l q) + cw (ix2 2 q) * moved 15#32 e (ix2 l q) := by
  pointwise [conv]

theorem act_apply (n m : ℕ) (a : W ⟨2, ![n, m]⟩) (i : Fin n) (j : Fin m) : act ⟨2, ![n, m]⟩ a (ix2 i j) = siluT (a (ix2 i j)) := by
  pointwise [act, siluT, half]

theorem moved_row (d : ℕ) (hd : d < 16) (e : H S144x1536) (l : Fin 128) (q : Fin 1536) : moved (BitVec.ofNat 32 d) e (ix2 l q)
    = e (ix2 ⟨l.val + d, by omega⟩ q) := by
  rw [moved_apply]
  rw [Finset.sum_eq_single (⟨l.val + d, by omega⟩ : Fin 144)]
  · rw [sel_apply d (by omega), if_pos rfl, one_mul]
  · intro r _ hr
    rw [sel_apply d (by omega), if_neg (fun h => hr (Fin.ext h)), zero_mul]
  · intro h; exact absurd (Finset.mem_univ _) h

/-- softplus, as the body spells it, of a number. -/
def plusT (a : EReal) : EReal := max a 0 + Ideal.log1p (Ideal.exp (0 - FloatOps.absf (F := Ideal) (φ := .f32) a))

theorem plus_apply (n m : ℕ) (a : W ⟨2, ![n, m]⟩) (i : Fin n) (j : Fin m) : plus ⟨2, ![n, m]⟩ a (ix2 i j) = plusT (a (ix2 i j)) := by
  pointwise [plus, plusT]
  rw [if_neg (fun h => h rfl)]

theorem steps_apply (sm : W S128x128) (tr : W S1x16) (l : Fin 128) (h : Fin 16) : steps sm tr (ix2 l h)
    = plusT (sm (ix2 l ⟨72 + h.val, by omega⟩) + tr (ix2 0 h)) := by
  unfold steps
  refine (plus_apply 128 16 _ l h).trans ?_
  pointwise

theorem stepsT_apply (sm : W S128x128) (tc : W S16x1) (l : Fin 128) (h : Fin 16) : stepsT sm tc (ix2 h l)
    = plusT (sm (ix2 l ⟨72 + h.val, by omega⟩) + tc (ix2 h 0)) := by
  unfold stepsT
  refine (plus_apply 16 128 _ h l).trans ?_
  pointwise

theorem rest_apply (n m : ℕ) (a : W ⟨2, ![n, m]⟩) (i : Fin n) (j : Fin m) : rest a (ix2 i j) = a (ix2 i j) - a (ix2 i j) := by
  pointwise [rest]

theorem spread_apply (a : W S128x16) (e : W S16x1024) (l : Fin 128) (q : Fin 1024) : spread a e (ix2 l q)
    = ∑ h : Fin 16, a (ix2 l h) * e (ix2 h q) + ∑ h : Fin 16, rest a (ix2 l h) * e (ix2 h q)
      + ∑ h : Fin 16, rest (rest a) (ix2 l h) * e (ix2 h q) := by
  pointwise [spread]

theorem low_apply (l s : Fin 128) : low (ix2 l s) = BitVec.ofBool (decide (s.val ≤ l.val)) := by
  pointwise [low]
  have h : (BitVec.ofNat 32 s.val).sle (BitVec.ofNat 32 l.val) = decide (s.val ≤ l.val) := by
    revert l s
    decide +kernel
  show BitVec.ofBool ((BitVec.ofNat 32 s.val).sle (BitVec.ofNat 32 l.val)) = _
  rw [h]

theorem sums_apply (a : W S128x16) (l : Fin 128) (h : Fin 16) : sums a (ix2 l h)
    = ∑ i : Fin 128, ones low (ix2 l i) * a (ix2 i h) + ∑ i : Fin 128, ones low (ix2 l i) * rest a (ix2 i h)
      + ∑ i : Fin 128, ones low (ix2 l i) * rest (rest a) (ix2 i h) := by
  pointwise [sums]

theorem sumsT_apply (a : W S16x128) (l : Fin 128) (h : Fin 16) : sumsT a (ix2 h l)
    = ∑ i : Fin 128, a (ix2 h i) * ones upp (ix2 i l) + ∑ i : Fin 128, rest a (ix2 h i) * ones upp (ix2 i l)
      + ∑ i : Fin 128, rest (rest a) (ix2 h i) * ones upp (ix2 i l) := by
  pointwise [sumsT]

theorem logs_apply (dt : W S128x16) (ar : W S1x16) (l : Fin 128) (h : Fin 16) : logs dt ar (ix2 l h) = dt (ix2 l h) * ar (ix2 0 h) := by
  pointwise [logs]

theorem logsT_apply (dt : W S16x128) (ac : W S16x1) (l : Fin 128) (h : Fin 16) : logsT dt ac (ix2 h l) = dt (ix2 h l) * ac (ix2 h 0) := by
  pointwise [logsT]

theorem decayed_apply (X A : W S128x1024) (l : Fin 128) (q : Fin 1024) : decayed X A (ix2 l q)
    = X (ix2 l q) * Ideal.exp (A (ix2 127 q) - A (ix2 l q)) := by
  pointwise [decayed, lastOf]

theorem inDir_apply (o : ℕ) (b : W S128x256) (hb : S128x256.Slices ![0, o] S128x128) (ho : o + 128 ≤ 256) (n l : Fin 128) :
    inDir o b hb (ix2 n l) = b (ix2 l ⟨o + n.val, by omega⟩) := by
  pointwise [inDir]

theorem outDir_apply (o : ℕ) (b : W S128x256) (hb : S128x256.Slices ![0, o] S128x128) (ho : o + 128 ≤ 256) (l n : Fin 128) :
    outDir o b hb (ix2 l n) = b (ix2 l ⟨o + n.val, by omega⟩) := by
  pointwise [outDir]

theorem pairs_apply (cg bt : H S128x128) (l s : Fin 128) : pairs cg bt (ix2 l s) = ∑ n : Fin 128, cg (ix2 l n) * bt (ix2 n s) := by
  pointwise [pairs]

theorem carry_apply (o : ℕ) (cg : H S128x128) (S A : W S128x1024) (hs : S128x1024.Slices ![0, o] S128x512) (ho : o + 512 ≤ 1024)
    (l : Fin 128) (p : Fin 512) : carry o cg S A hs (ix2 l p)
    = (∑ n : Fin 128, cg (ix2 l n) * S (ix2 n ⟨o + p.val, by omega⟩)) * Ideal.exp (A (ix2 l ⟨o + p.val, by omega⟩)) := by
  pointwise [carry]

theorem next_apply (o : ℕ) (bt : H S128x128) (Xd : H S128x1024) (S A : W S128x1024) (hs : S128x1024.Slices ![0, o] S128x512)
    (hs' : S1x1024.Slices ![0, o] S1x512) (ho : o + 512 ≤ 1024) (n : Fin 128) (p : Fin 512) : next o bt Xd S A hs hs' (ix2 n p)
    = S (ix2 n ⟨o + p.val, by omega⟩) * Ideal.exp (A (ix2 127 ⟨o + p.val, by omega⟩))
      + ∑ l : Fin 128, bt (ix2 n l) * Xd (ix2 l ⟨o + p.val, by omega⟩) := by
  pointwise [next, lastOf]

theorem bot_eq : Ideal.ofBits .f32 0xFF800000#32 = ⊥ := by
  simp [Ideal.ofBits, Ideal.ieee]

theorem upp_apply (s l : Fin 128) : upp (ix2 s l) = BitVec.ofBool (decide (s.val ≤ l.val)) := by
  pointwise [upp]
  have h : (BitVec.ofNat 32 s.val).sle (BitVec.ofNat 32 l.val) = decide (s.val ≤ l.val) := by
    revert l s
    decide +kernel
  show BitVec.ofBool ((BitVec.ofNat 32 s.val).sle (BitVec.ofNat 32 l.val)) = _
  rw [h]

theorem ones_low (l s : Fin 128) : ones low (ix2 l s) = if s.val ≤ l.val then 1 else 0 := by
  pointwise [ones]
  rw [low_apply]
  by_cases h : s.val ≤ l.val
  · rw [if_pos h, decide_eq_true h]; rfl
  · rw [if_neg h, decide_eq_false h]; rfl

theorem ones_upp (s l : Fin 128) : ones upp (ix2 s l) = if s.val ≤ l.val then 1 else 0 := by
  pointwise [ones]
  rw [upp_apply]
  by_cases h : s.val ≤ l.val
  · rw [if_pos h, decide_eq_true h]; rfl
  · rw [if_neg h, decide_eq_false h]; rfl

theorem head_apply (n o e : ℕ) (p : W S128x128) (A : W S128x16) (At : W S16x128) (X : H S128x1024) (y : W S128x512)
    (h1 : S128x16.Slices ![0, n] S128x1) (h2 : S16x128.Slices ![n, 0] S1x128) (h3 : S128x1024.Slices ![0, o] S128x64)
    (h4 : S128x512.Slices ![0, e] S128x64) (hn : n < 16) (ho : o + 64 ≤ 1024) (he : e + 64 ≤ 512) (l : Fin 128) (j : Fin 64) :
    head n o e p A At X y h1 h2 h3 h4 (ix2 l j)
    = ∑ s : Fin 128, p (ix2 l s) * Ideal.exp (if s.val ≤ l.val then A (ix2 l ⟨n, hn⟩) - At (ix2 ⟨n, hn⟩ s) else ⊥)
          * X (ix2 s ⟨o + j.val, by omega⟩) + y (ix2 l ⟨e + j.val, by omega⟩) := by
  pointwise [head]
  congr 1
  refine Finset.sum_congr rfl fun s _ => ?_
  rw [low_apply, bot_eq]
  by_cases h : s.val ≤ l.val
  · rw [if_pos h, decide_eq_true h]; rfl
  · rw [if_neg h, decide_eq_false h]; rfl

theorem finish_apply (y xs : W S128x1024) (z : H S128x1024) (dk ng : W S1x1024) (l : Fin 128) (q : Fin 1024) :
    finish y xs z dk ng (ix2 l q)
    = rms (fun k => (y (ix2 l k) + xs (ix2 l k) * dk (ix2 0 k)) * act S128x1024 (extf .f32 z bitsLt_bf16_f32) (ix2 l k)) (fun k => ng (ix2 0 k)) q := by
  pointwise [finish, rms]

theorem beside_apply (f : Fin 16 → W S128x64) (h : Fin 16) (l : Fin 128) (j : Fin 64) (q : Fin 1024) (hq : q.val = 64 * h.val + j.val) :
    beside (f 0) (f 1) (f 2) (f 3) (f 4) (f 5) (f 6) (f 7) (f 8) (f 9) (f 10) (f 11) (f 12) (f 13) (f 14) (f 15)
      (ix2 l q) = f h (ix2 l j) := by
  refine concatenate_ofFn_apply (t := S128x1024) (s₁ := S128x64) 1 f
    concatenates_S128x64_S128x64_S128x64_S128x64_S128x64_S128x64_S128x64_S128x64_S128x64_S128x64_S128x64_S128x64_S128x64_S128x64_S128x64_S128x64_S128x1024_d1
    rfl 64 rfl (ix2 l q) h ?_ (ix2 l j) ?_ ?_
  · show q.val / 64 = h.val
    omega
  · show j.val = q.val % 64
    omega
  · intro b hb
    match b with
    | ⟨0, _⟩ => rfl
    | ⟨1, _⟩ => exact absurd rfl hb

/-- A head's outputs by its number. -/
def headN (p0 p1 : W S128x128) (A : W S128x16) (At : W S16x128) (X : H S128x1024) (y0 y1 : W S128x512) : Fin 16 → W S128x64 := ![
    head 0 0 0 p0 A At X y0 slices_S128x16_o0_0_S128x1 slices_S16x128_o0_0_S1x128 slices_S128x1024_o0_0_S128x64 slices_S128x512_o0_0_S128x64,
    head 1 64 64 p0 A At X y0 slices_S128x16_o0_1_S128x1 slices_S16x128_o1_0_S1x128 slices_S128x1024_o0_64_S128x64 slices_S128x512_o0_64_S128x64,
    head 2 128 128 p0 A At X y0 slices_S128x16_o0_2_S128x1 slices_S16x128_o2_0_S1x128 slices_S128x1024_o0_128_S128x64 slices_S128x512_o0_128_S128x64,
    head 3 192 192 p0 A At X y0 slices_S128x16_o0_3_S128x1 slices_S16x128_o3_0_S1x128 slices_S128x1024_o0_192_S128x64 slices_S128x512_o0_192_S128x64,
    head 4 256 256 p0 A At X y0 slices_S128x16_o0_4_S128x1 slices_S16x128_o4_0_S1x128 slices_S128x1024_o0_256_S128x64 slices_S128x512_o0_256_S128x64,
    head 5 320 320 p0 A At X y0 slices_S128x16_o0_5_S128x1 slices_S16x128_o5_0_S1x128 slices_S128x1024_o0_320_S128x64 slices_S128x512_o0_320_S128x64,
    head 6 384 384 p0 A At X y0 slices_S128x16_o0_6_S128x1 slices_S16x128_o6_0_S1x128 slices_S128x1024_o0_384_S128x64 slices_S128x512_o0_384_S128x64,
    head 7 448 448 p0 A At X y0 slices_S128x16_o0_7_S128x1 slices_S16x128_o7_0_S1x128 slices_S128x1024_o0_448_S128x64 slices_S128x512_o0_448_S128x64,
    head 8 512 0 p1 A At X y1 slices_S128x16_o0_8_S128x1 slices_S16x128_o8_0_S1x128 slices_S128x1024_o0_512_S128x64 slices_S128x512_o0_0_S128x64,
    head 9 576 64 p1 A At X y1 slices_S128x16_o0_9_S128x1 slices_S16x128_o9_0_S1x128 slices_S128x1024_o0_576_S128x64 slices_S128x512_o0_64_S128x64,
    head 10 640 128 p1 A At X y1 slices_S128x16_o0_10_S128x1 slices_S16x128_o10_0_S1x128 slices_S128x1024_o0_640_S128x64 slices_S128x512_o0_128_S128x64,
    head 11 704 192 p1 A At X y1 slices_S128x16_o0_11_S128x1 slices_S16x128_o11_0_S1x128 slices_S128x1024_o0_704_S128x64 slices_S128x512_o0_192_S128x64,
    head 12 768 256 p1 A At X y1 slices_S128x16_o0_12_S128x1 slices_S16x128_o12_0_S1x128 slices_S128x1024_o0_768_S128x64 slices_S128x512_o0_256_S128x64,
    head 13 832 320 p1 A At X y1 slices_S128x16_o0_13_S128x1 slices_S16x128_o13_0_S1x128 slices_S128x1024_o0_832_S128x64 slices_S128x512_o0_320_S128x64,
    head 14 896 384 p1 A At X y1 slices_S128x16_o0_14_S128x1 slices_S16x128_o14_0_S1x128 slices_S128x1024_o0_896_S128x64 slices_S128x512_o0_384_S128x64,
    head 15 960 448 p1 A At X y1 slices_S128x16_o0_15_S128x1 slices_S16x128_o15_0_S1x128 slices_S128x1024_o0_960_S128x64 slices_S128x512_o0_448_S128x64]

theorem heads_fold (p0 p1 : W S128x128) (A : W S128x16) (At : W S16x128) (X : H S128x1024) (y0 y1 : W S128x512) (h : Fin 16)
    (l : Fin 128) (j : Fin 64) (q : Fin 1024) (hq : q.val = 64 * h.val + j.val) :
    heads p0 p1 A At X y0 y1 (ix2 l q) = headN p0 p1 A At X y0 y1 h (ix2 l j) :=
  beside_apply (headN p0 p1 A At X y0 y1) h l j q hq

/-- A chunk's outputs: a head's own inputs under their decays, and what entered. -/
theorem heads_apply (p0 p1 : W S128x128) (A : W S128x16) (At : W S16x128) (X : H S128x1024) (y0 y1 : W S128x512)
    (l : Fin 128) (q : Fin 1024) :
    heads p0 p1 A At X y0 y1 (ix2 l q)
    = ∑ s : Fin 128, (if q.val < 512 then p0 else p1) (ix2 l s)
          * Ideal.exp (if s.val ≤ l.val then A (ix2 l ⟨q.val / 64, by omega⟩) - At (ix2 ⟨q.val / 64, by omega⟩ s) else ⊥) * X (ix2 s q)
        + (if q.val < 512 then y0 else y1) (ix2 l ⟨q.val % 512, by omega⟩) := by
  have key : ∀ (h : Fin 16) (j : Fin 64), q.val = 64 * h.val + j.val → heads p0 p1 A At X y0 y1 (ix2 l q)
      = ∑ s : Fin 128, (if h.val < 8 then p0 else p1) (ix2 l s)
          * Ideal.exp (if s.val ≤ l.val then A (ix2 l h) - At (ix2 h s) else ⊥) * X (ix2 s ⟨64 * h.val + j.val, by omega⟩)
        + (if h.val < 8 then y0 else y1) (ix2 l ⟨(64 * h.val + j.val) % 512, by omega⟩) := by
    intro h j hq
    rw [heads_fold p0 p1 A At X y0 y1 h l j q hq]
    match h with
    | ⟨0, _⟩ =>
      refine (head_apply 0 0 0 p0 A At X y0 _ _ _ _ (by decide) (by decide) (by decide) l j).trans ?_
      have e1 : (⟨(64 * 0 + j.val) % 512, by omega⟩ : Fin 512) = ⟨0 + j.val, by omega⟩ := Fin.ext (by show (64 * 0 + j.val) % 512 = 0 + j.val; omega)
      rw [e1]
      rfl
    | ⟨1, _⟩ =>
      refine (head_apply 1 64 64 p0 A At X y0 _ _ _ _ (by decide) (by decide) (by decide) l j).trans ?_
      have e1 : (⟨(64 * 1 + j.val) % 512, by omega⟩ : Fin 512) = ⟨64 + j.val, by omega⟩ := Fin.ext (by show (64 * 1 + j.val) % 512 = 64 + j.val; omega)
      rw [e1]
      rfl
    | ⟨2, _⟩ =>
      refine (head_apply 2 128 128 p0 A At X y0 _ _ _ _ (by decide) (by decide) (by decide) l j).trans ?_
      have e1 : (⟨(64 * 2 + j.val) % 512, by omega⟩ : Fin 512) = ⟨128 + j.val, by omega⟩ := Fin.ext (by show (64 * 2 + j.val) % 512 = 128 + j.val; omega)
      rw [e1]
      rfl
    | ⟨3, _⟩ =>
      refine (head_apply 3 192 192 p0 A At X y0 _ _ _ _ (by decide) (by decide) (by decide) l j).trans ?_
      have e1 : (⟨(64 * 3 + j.val) % 512, by omega⟩ : Fin 512) = ⟨192 + j.val, by omega⟩ := Fin.ext (by show (64 * 3 + j.val) % 512 = 192 + j.val; omega)
      rw [e1]
      rfl
    | ⟨4, _⟩ =>
      refine (head_apply 4 256 256 p0 A At X y0 _ _ _ _ (by decide) (by decide) (by decide) l j).trans ?_
      have e1 : (⟨(64 * 4 + j.val) % 512, by omega⟩ : Fin 512) = ⟨256 + j.val, by omega⟩ := Fin.ext (by show (64 * 4 + j.val) % 512 = 256 + j.val; omega)
      rw [e1]
      rfl
    | ⟨5, _⟩ =>
      refine (head_apply 5 320 320 p0 A At X y0 _ _ _ _ (by decide) (by decide) (by decide) l j).trans ?_
      have e1 : (⟨(64 * 5 + j.val) % 512, by omega⟩ : Fin 512) = ⟨320 + j.val, by omega⟩ := Fin.ext (by show (64 * 5 + j.val) % 512 = 320 + j.val; omega)
      rw [e1]
      rfl
    | ⟨6, _⟩ =>
      refine (head_apply 6 384 384 p0 A At X y0 _ _ _ _ (by decide) (by decide) (by decide) l j).trans ?_
      have e1 : (⟨(64 * 6 + j.val) % 512, by omega⟩ : Fin 512) = ⟨384 + j.val, by omega⟩ := Fin.ext (by show (64 * 6 + j.val) % 512 = 384 + j.val; omega)
      rw [e1]
      rfl
    | ⟨7, _⟩ =>
      refine (head_apply 7 448 448 p0 A At X y0 _ _ _ _ (by decide) (by decide) (by decide) l j).trans ?_
      have e1 : (⟨(64 * 7 + j.val) % 512, by omega⟩ : Fin 512) = ⟨448 + j.val, by omega⟩ := Fin.ext (by show (64 * 7 + j.val) % 512 = 448 + j.val; omega)
      rw [e1]
      rfl
    | ⟨8, _⟩ =>
      refine (head_apply 8 512 0 p1 A At X y1 _ _ _ _ (by decide) (by decide) (by decide) l j).trans ?_
      have e1 : (⟨(64 * 8 + j.val) % 512, by omega⟩ : Fin 512) = ⟨0 + j.val, by omega⟩ := Fin.ext (by show (64 * 8 + j.val) % 512 = 0 + j.val; omega)
      rw [e1]
      rfl
    | ⟨9, _⟩ =>
      refine (head_apply 9 576 64 p1 A At X y1 _ _ _ _ (by decide) (by decide) (by decide) l j).trans ?_
      have e1 : (⟨(64 * 9 + j.val) % 512, by omega⟩ : Fin 512) = ⟨64 + j.val, by omega⟩ := Fin.ext (by show (64 * 9 + j.val) % 512 = 64 + j.val; omega)
      rw [e1]
      rfl
    | ⟨10, _⟩ =>
      refine (head_apply 10 640 128 p1 A At X y1 _ _ _ _ (by decide) (by decide) (by decide) l j).trans ?_
      have e1 : (⟨(64 * 10 + j.val) % 512, by omega⟩ : Fin 512) = ⟨128 + j.val, by omega⟩ := Fin.ext (by show (64 * 10 + j.val) % 512 = 128 + j.val; omega)
      rw [e1]
      rfl
    | ⟨11, _⟩ =>
      refine (head_apply 11 704 192 p1 A At X y1 _ _ _ _ (by decide) (by decide) (by decide) l j).trans ?_
      have e1 : (⟨(64 * 11 + j.val) % 512, by omega⟩ : Fin 512) = ⟨192 + j.val, by omega⟩ := Fin.ext (by show (64 * 11 + j.val) % 512 = 192 + j.val; omega)
      rw [e1]
      rfl
    | ⟨12, _⟩ =>
      refine (head_apply 12 768 256 p1 A At X y1 _ _ _ _ (by decide) (by decide) (by decide) l j).trans ?_
      have e1 : (⟨(64 * 12 + j.val) % 512, by omega⟩ : Fin 512) = ⟨256 + j.val, by omega⟩ := Fin.ext (by show (64 * 12 + j.val) % 512 = 256 + j.val; omega)
      rw [e1]
      rfl
    | ⟨13, _⟩ =>
      refine (head_apply 13 832 320 p1 A At X y1 _ _ _ _ (by decide) (by decide) (by decide) l j).trans ?_
      have e1 : (⟨(64 * 13 + j.val) % 512, by omega⟩ : Fin 512) = ⟨320 + j.val, by omega⟩ := Fin.ext (by show (64 * 13 + j.val) % 512 = 320 + j.val; omega)
      rw [e1]
      rfl
    | ⟨14, _⟩ =>
      refine (head_apply 14 896 384 p1 A At X y1 _ _ _ _ (by decide) (by decide) (by decide) l j).trans ?_
      have e1 : (⟨(64 * 14 + j.val) % 512, by omega⟩ : Fin 512) = ⟨384 + j.val, by omega⟩ := Fin.ext (by show (64 * 14 + j.val) % 512 = 384 + j.val; omega)
      rw [e1]
      rfl
    | ⟨15, _⟩ =>
      refine (head_apply 15 960 448 p1 A At X y1 _ _ _ _ (by decide) (by decide) (by decide) l j).trans ?_
      have e1 : (⟨(64 * 15 + j.val) % 512, by omega⟩ : Fin 512) = ⟨448 + j.val, by omega⟩ := Fin.ext (by show (64 * 15 + j.val) % 512 = 448 + j.val; omega)
      rw [e1]
      rfl
    | ⟨k + 16, hk⟩ => exact absurd hk (by omega)
  rw [key ⟨q.val / 64, by omega⟩ ⟨q.val % 64, by omega⟩ (by show q.val = 64 * (q.val / 64) + q.val % 64; omega)]
  have e : 64 * (q.val / 64) + q.val % 64 = q.val := by omega
  simp only [e]
  by_cases h : q.val < 512
  · rw [if_pos h, if_pos h, if_pos (by omega), if_pos (by omega)]
  · rw [if_neg h, if_neg h, if_neg (by omega), if_neg (by omega)]

end Cert.SsdIdeal.Hand

end
-- ==== Proof.SsdSpec.lean ====
/-
  The chunked recurrence of one sequence, on the extended reals: the running sums of the decays' logarithms, the
  state that enters a chunk, a chunk's outputs, and the facts about finite numbers by which its two forms agree.
-/
module

public import proofs.«01_k».proof.Proof.Finite
public import proofs.«01_k».proof.Proof.Rows
public import Idealize.ShloMosaic.Lib.Pointwise

@[expose] public section

noncomputable section

namespace Cert.Ssd

open Idealize.ShloMosaic Cert.Rows

/-- softplus of a number. -/
def soft (a : EReal) : EReal := max a 0 + Ideal.log1p (Ideal.exp (-FloatOps.absf (F := Ideal) (φ := .f32) a))

/-- The head of a channel. -/
abbrev hd (q : Fin 1024) : Fin 16 := ⟨q.val / 64, by omega⟩

/-- A row's value `d` tokens back, zero before the first. -/
def back (x : Fin 4096 → Fin 1536 → EReal) (p : Fin 4096) (d : ℕ) (q : Fin 1536) : EReal :=
  if d ≤ p.val then x ⟨p.val - d, by omega⟩ q else 0

/-- The causal convolution of four taps, with its bias. -/
def convAt (x : Fin 4096 → Fin 1536 → EReal) (cw : Fin 4 → Fin 1536 → EReal) (cb : Fin 1536 → EReal) (p : Fin 4096) (q : Fin 1536) : EReal :=
  back x p 3 q * cw 0 q + back x p 2 q * cw 1 q + back x p 1 q * cw 2 q + x p q * cw 3 q + cb q

/-- The token `p`, of a number. -/
abbrev tok (p : ℕ) : Fin 4096 := ⟨p % 4096, Nat.mod_lt _ (by decide)⟩

section

variable (XC : ℕ → Fin 1536 → EReal) (DT : ℕ → Fin 16 → EReal) (A : Fin 16 → EReal)

/-- The running sum of the decays' logarithms in chunk `c`, up to its token `l`. -/
def la (c : ℕ) (l : Fin 128) (h : Fin 16) : EReal := ∑ i : Fin 128, if i.val ≤ l.val then DT (128 * c + i.val) h * A h else 0

/-- A token's input of a channel, times the step. -/
def xin (p : ℕ) (q : Fin 1024) : EReal := XC p ⟨q.val, by omega⟩ * DT p (hd q)

/-- A token's input direction, for a channel's group. -/
def bdir (p : ℕ) (q : Fin 1024) (n : Fin 128) : EReal := XC p ⟨1024 + 128 * (q.val / 512) + n.val, by omega⟩

/-- A token's output direction, for a channel's group. -/
def cdir (p : ℕ) (q : Fin 1024) (n : Fin 128) : EReal := XC p ⟨1280 + 128 * (q.val / 512) + n.val, by omega⟩

/-- The state that enters chunk `c`. -/
def St : ℕ → Fin 128 → Fin 1024 → EReal
  | 0, _, _ => 0
  | c + 1, n, q => St c n q * Ideal.exp (la DT A c 127 (hd q))
      + ∑ l : Fin 128, bdir XC (128 * c + l.val) q n * (xin XC DT (128 * c + l.val) q * Ideal.exp (la DT A c 127 (hd q) - la DT A c l (hd q)))

/-- A chunk's outputs. -/
def Yo (c : ℕ) (l : Fin 128) (q : Fin 1024) : EReal :=
  ∑ s : Fin 128, (∑ n : Fin 128, cdir XC (128 * c + l.val) q n * bdir XC (128 * c + s.val) q n)
      * Ideal.exp (if s.val ≤ l.val then la DT A c l (hd q) - la DT A c s (hd q) else ⊥) * xin XC DT (128 * c + s.val) q
    + (∑ n : Fin 128, cdir XC (128 * c + l.val) q n * St XC DT A c n q) * Ideal.exp (la DT A c l (hd q))

/-- The layer's outputs of it: the skip, the gate and the norm. -/
def Out (z : ℕ → Fin 1024 → EReal) (dk : Fin 16 → EReal) (ng : Fin 1024 → EReal) (c : ℕ) (l : Fin 128) (q : Fin 1024) : EReal :=
  rms (fun k => (Yo XC DT A c l k + XC (128 * c + l.val) ⟨k.val, by omega⟩ * dk (hd k)) * siluL (z (128 * c + l.val) k)) ng q

theorem la_real (hd' : ∀ p h, IsReal (DT p h)) (hA : ∀ h, IsReal (A h)) (c : ℕ) (l : Fin 128) (h : Fin 16) : IsReal (la DT A c l h) := by
  refine IsReal.sum _ _ fun i _ => ?_
  split
  · exact (hd' _ _).mul (hA _)
  · exact .zero

end

/-- The sum between two tokens is the difference of the running sums, of finite numbers. -/
theorem seg_eq (f : Fin 128 → EReal) (hf : ∀ i, IsReal (f i)) (l s : Fin 128) (h : s.val ≤ l.val) :
    (∑ i : Fin 128, if i.val ≤ l.val then (if s.val < i.val then f i else 0) else 0)
      = (∑ i : Fin 128, if i.val ≤ l.val then f i else 0) - ∑ i : Fin 128, if i.val ≤ s.val then f i else 0 := by
  choose g hg using hf
  have e1 : ∀ i : Fin 128, (if i.val ≤ l.val then (if s.val < i.val then f i else 0) else 0)
      = ((if i.val ≤ l.val then (if s.val < i.val then g i else 0) else 0 : ℝ) : EReal) := by
    intro i; rw [hg i]; split <;> [split; skip] <;> rfl
  have e2 : ∀ (t : Fin 128) (i : Fin 128), (if i.val ≤ t.val then f i else 0) = ((if i.val ≤ t.val then g i else 0 : ℝ) : EReal) := by
    intro t i; rw [hg i]; split <;> rfl
  simp only [e1, e2, coe_sum]
  rw [← EReal.coe_sub, ← Finset.sum_sub_distrib]
  congr 2
  funext i
  by_cases h1 : i.val ≤ s.val
  · rw [if_pos (by omega), if_neg (by omega), if_pos (by omega), if_pos h1]; ring
  · rw [if_neg h1, if_pos (show s.val < i.val by omega), sub_zero]

theorem abs_real {x : EReal} (hx : IsReal x) : IsReal (FloatOps.absf (F := Ideal) (φ := .f32) x) := by
  show IsReal (max x (-x))
  rcases max_choice x (-x) with h | h <;> rw [h]
  exacts [hx, hx.neg]

theorem log1p_real {x : EReal} (hx : ∃ r : ℝ, 0 ≤ r ∧ x = (r : EReal)) : IsReal (Ideal.log1p x) := by
  obtain ⟨r, hr, rfl⟩ := hx
  have h : (1 : EReal) + (r : EReal) = ((1 + r : ℝ) : EReal) := by rw [EReal.coe_add]; rfl
  unfold Ideal.log1p
  rw [h]
  exact ⟨Real.log (1 + r), if_neg (by linarith)⟩

theorem soft_real {x : EReal} (hx : IsReal x) : IsReal (soft x) := by
  refine IsReal.add ?_ (log1p_real ?_)
  · rcases max_choice x 0 with h | h <;> rw [h]
    exacts [hx, .zero]
  · obtain ⟨r, hr⟩ := (abs_real hx).neg
    exact ⟨Real.exp r, (Real.exp_pos r).le, by rw [hr]; rfl⟩

theorem back_real (x : Fin 4096 → Fin 1536 → EReal) (hx : ∀ p q, IsReal (x p q)) (p : Fin 4096) (d : ℕ) (q : Fin 1536) : IsReal (back x p d q) := by
  unfold back
  split
  · exact hx _ _
  · exact .zero

theorem conv_real (x : Fin 4096 → Fin 1536 → EReal) (cw : Fin 4 → Fin 1536 → EReal) (cb : Fin 1536 → EReal) (hx : ∀ p q, IsReal (x p q))
    (hw : ∀ i q, IsReal (cw i q)) (hb : ∀ q, IsReal (cb q)) (p : Fin 4096) (q : Fin 1536) : IsReal (convAt x cw cb p q) :=
  (((((back_real x hx _ _ _).mul (hw _ _)).add ((back_real x hx _ _ _).mul (hw _ _))).add ((back_real x hx _ _ _).mul (hw _ _))).add
    ((hx _ _).mul (hw _ _))).add (hb _)

/-- A finite number's remainder is nothing. -/
theorem rest_zero {x : EReal} (hx : IsReal x) : x - x = 0 := by
  obtain ⟨r, rfl⟩ := hx
  rw [← EReal.coe_sub, sub_self]; rfl

end Cert.Ssd

end
-- ==== Proof.SsdStep.lean ====
/-
  One chunk of the recurrence's kernel is one chunk of the recurrence, of finite numbers: the sums by matrices of
  ones, the spreading over the channels, the state that leaves, and what is stored.
-/
module

public import proofs.«01_k».proof.Proof.SsdEntry
public import proofs.«01_k».proof.Proof.SsdSpec

@[expose] public section

set_option maxRecDepth 16384

noncomputable section

namespace Cert.SsdIdeal.Hand

open Cert.SsdIdeal Cert.SsdIdeal.Gen Idealize.ShloMosaic Idealize.ShloMosaic.TcCoe Idealize.SL.Sem Cert Cert.Rows Cert.Ssd

theorem plus_soft (a : EReal) : plusT a = soft a := by
  unfold plusT soft
  rw [zero_sub]

/-- A matrix of finite numbers has no remainder. -/
theorem rest_real (n m : ℕ) (a : W ⟨2, ![n, m]⟩) (i : Fin n) (j : Fin m) (h : IsReal (a (ix2 i j))) : rest a (ix2 i j) = 0 :=
  (rest_apply n m a i j).trans (rest_zero h)

theorem rest_rest (n m : ℕ) (a : W ⟨2, ![n, m]⟩) (i : Fin n) (j : Fin m) (h : IsReal (a (ix2 i j))) : rest (rest a) (ix2 i j) = 0 :=
  rest_real n m (rest a) i j (by rw [rest_real n m a i j h]; exact .zero)

/-- The channels of a head get its number. -/
theorem spread_real (a : W S128x16) (ex : W S16x1024) (hex : ∀ h q, ex (ix2 h q) = if h.val = q.val / 64 then 1 else 0)
    (l : Fin 128) (ha : ∀ h, IsReal (a (ix2 l h))) (q : Fin 1024) : spread a ex (ix2 l q) = a (ix2 l (hd q)) := by
  rw [spread_apply]
  have e1 : ∑ h : Fin 16, rest a (ix2 l h) * ex (ix2 h q) = 0 :=
    Finset.sum_eq_zero fun h _ => by rw [rest_real 128 16 a l h (ha h), zero_mul]
  have e2 : ∑ h : Fin 16, rest (rest a) (ix2 l h) * ex (ix2 h q) = 0 :=
    Finset.sum_eq_zero fun h _ => by rw [rest_rest 128 16 a l h (ha h), zero_mul]
  rw [e1, e2, add_zero, add_zero, Finset.sum_eq_single (hd q)]
  · rw [hex, if_pos rfl, mul_one]
  · intro h _ hne
    rw [hex, if_neg (fun he => hne (Fin.ext he)), mul_zero]
  · intro h
    exact absurd (Finset.mem_univ _) h

theorem ones_pick (p : Prop) [Decidable p] (x : EReal) : (if p then (1 : EReal) else 0) * x = if p then x else 0 := by
  split
  · exact one_mul _
  · exact zero_mul _

theorem sums_real (a : W S128x16) (l : Fin 128) (h : Fin 16) (ha : ∀ i, IsReal (a (ix2 i h))) :
    sums a (ix2 l h) = ∑ i : Fin 128, if i.val ≤ l.val then a (ix2 i h) else 0 := by
  rw [sums_apply]
  have e1 : ∑ i : Fin 128, ones low (ix2 l i) * rest a (ix2 i h) = 0 :=
    Finset.sum_eq_zero fun i _ => by rw [rest_real 128 16 a i h (ha i), mul_zero]
  have e2 : ∑ i : Fin 128, ones low (ix2 l i) * rest (rest a) (ix2 i h) = 0 :=
    Finset.sum_eq_zero fun i _ => by rw [rest_rest 128 16 a i h (ha i), mul_zero]
  rw [e1, e2, add_zero, add_zero]
  refine Finset.sum_congr rfl fun i _ => ?_
  rw [ones_low, ones_pick]

theorem sumsT_real (a : W S16x128) (l : Fin 128) (h : Fin 16) (ha : ∀ i, IsReal (a (ix2 h i))) :
    sumsT a (ix2 h l) = ∑ i : Fin 128, if i.val ≤ l.val then a (ix2 h i) else 0 := by
  rw [sumsT_apply]
  have e1 : ∑ i : Fin 128, rest a (ix2 h i) * ones upp (ix2 i l) = 0 :=
    Finset.sum_eq_zero fun i _ => by rw [rest_real 16 128 a h i (ha i), zero_mul]
  have e2 : ∑ i : Fin 128, rest (rest a) (ix2 h i) * ones upp (ix2 i l) = 0 :=
    Finset.sum_eq_zero fun i _ => by rw [rest_rest 16 128 a h i (ha i), zero_mul]
  rw [e1, e2, add_zero, add_zero]
  refine Finset.sum_congr rfl fun i _ => ?_
  rw [ones_upp, mul_comm, ones_pick]

section

variable (halo : H S16x1536) (x : H S128x1536) (z : H S128x1024) (sm : W S128x128) (cw : W S4x1536) (cb : W S1x1536)
  (tr : W S1x16) (tc : W S16x1) (ex : W S16x1024) (ar : W S1x16) (ac : W S16x1) (dk ng : W S1x1024) (S : W S128x1024)
  (XC : ℕ → Fin 1536 → EReal) (DT : ℕ → Fin 16 → EReal) (A : Fin 16 → EReal) (c : ℕ)
  (hXC : ∀ l q, xcOf halo x cw cb (ix2 l q) = XC (128 * c + l.val) q)
  (hDT : ∀ l h, steps sm tr (ix2 l h) = DT (128 * c + l.val) h)
  (hDTc : ∀ l h, stepsT sm tc (ix2 h l) = DT (128 * c + l.val) h)
  (hex : ∀ h q, ex (ix2 h q) = if h.val = q.val / 64 then 1 else 0)
  (har : ∀ h, ar (ix2 0 h) = A h) (hac : ∀ h, ac (ix2 h 0) = A h)
  (rDT : ∀ p h, IsReal (DT p h)) (rA : ∀ h, IsReal (A h))
  (hS : ∀ n q, S (ix2 n q) = St XC DT A c n q)

include hDT har rDT rA in
theorem aOf_at (l : Fin 128) (h : Fin 16) : aOf sm tr ar (ix2 l h) = la DT A c l h := by
  have e : ∀ i, logs (steps sm tr) ar (ix2 i h) = DT (128 * c + i.val) h * A h := fun i => by rw [logs_apply, hDT, har]
  unfold aOf la
  rw [sums_real _ _ _ fun i => by rw [e]; exact (rDT _ _).mul (rA _)]
  simp only [e]

include hDTc hac rDT rA in
theorem aT_at (l : Fin 128) (h : Fin 16) : sumsT (logsT (stepsT sm tc) ac) (ix2 h l) = la DT A c l h := by
  have e : ∀ i, logsT (stepsT sm tc) ac (ix2 h i) = DT (128 * c + i.val) h * A h := fun i => by rw [logsT_apply, hDTc, hac]
  unfold la
  rw [sumsT_real _ _ _ fun i => by rw [e]; exact (rDT _ _).mul (rA _)]
  simp only [e]

include hDT har rDT rA hex in
theorem axOf_at (l : Fin 128) (q : Fin 1024) : axOf sm tr ex ar (ix2 l q) = la DT A c l (hd q) := by
  unfold axOf
  rw [spread_real _ ex hex l (fun h => by rw [aOf_at sm tr ar DT A c hDT har rDT rA]; exact la_real DT A rDT rA _ _ _),
    aOf_at sm tr ar DT A c hDT har rDT rA]

include hXC in
theorem xsOf_at (l : Fin 128) (q : Fin 1024) : xsOf halo x cw cb (ix2 l q) = XC (128 * c + l.val) ⟨q.val, by omega⟩ := by
  rw [← hXC]
  pointwise [xsOf]

include hXC in
theorem bOf_at (l : Fin 128) (q : Fin 256) : bOf halo x cw cb (ix2 l q) = XC (128 * c + l.val) ⟨1024 + q.val, by omega⟩ := by
  rw [← hXC]
  pointwise [bOf]

include hXC in
theorem cOf_at (l : Fin 128) (q : Fin 256) : cOf halo x cw cb (ix2 l q) = XC (128 * c + l.val) ⟨1280 + q.val, by omega⟩ := by
  rw [← hXC]
  pointwise [cOf]

include hXC hDT rDT hex in
theorem xOf_at (l : Fin 128) (q : Fin 1024) : xOf halo x sm cw cb tr ex (ix2 l q) = xin XC DT (128 * c + l.val) q := by
  have e : xOf halo x sm cw cb tr ex (ix2 l q) = xsOf halo x cw cb (ix2 l q) * spread (steps sm tr) ex (ix2 l q) := rfl
  rw [e, spread_real _ ex hex l (fun h => by rw [hDT]; exact rDT _ _), hDT, xsOf_at halo x cw cb XC c hXC]
  rfl

include hXC hDT hex har rDT rA hS in
theorem low_at (n : Fin 128) (p : Fin 512) : lowHalf halo x sm cw cb tr ex ar S (ix2 n p) = St XC DT A (c + 1) n ⟨p.val, by omega⟩ := by
  have hq : (⟨0 + p.val, by omega⟩ : Fin 1024) = ⟨p.val, by omega⟩ := Fin.ext (by dsimp only; omega)
  unfold lowHalf
  rw [next_apply 0 _ _ _ _ _ _ (by decide), St, hq, hS, axOf_at sm tr ex ar DT A c hDT hex har rDT rA]
  refine congrArg (fun z => _ + z) (Finset.sum_congr rfl fun l _ => ?_)
  rw [inDir_apply 0 _ _ (by decide), decayed_apply, bOf_at halo x cw cb XC c hXC, xOf_at halo x sm cw cb tr ex XC DT c hXC hDT hex rDT,
    axOf_at sm tr ex ar DT A c hDT hex har rDT rA, axOf_at sm tr ex ar DT A c hDT hex har rDT rA]
  unfold bdir
  exact congrArg (fun z => XC (128 * c + l.val) z * _) (Fin.ext (by dsimp only; omega))

include hXC hDT hex har rDT rA hS in
theorem high_at (n : Fin 128) (p : Fin 512) : highHalf halo x sm cw cb tr ex ar S (ix2 n p) = St XC DT A (c + 1) n ⟨512 + p.val, by omega⟩ := by
  unfold highHalf
  rw [next_apply 512 _ _ _ _ _ _ (by decide), St, hS, axOf_at sm tr ex ar DT A c hDT hex har rDT rA]
  refine congrArg (fun z => _ + z) (Finset.sum_congr rfl fun l _ => ?_)
  rw [inDir_apply 128 _ _ (by decide), decayed_apply, bOf_at halo x cw cb XC c hXC, xOf_at halo x sm cw cb tr ex XC DT c hXC hDT hex rDT,
    axOf_at sm tr ex ar DT A c hDT hex har rDT rA, axOf_at sm tr ex ar DT A c hDT hex har rDT rA]
  unfold bdir
  exact congrArg (fun z => XC (128 * c + l.val) z * _) (Fin.ext (by dsimp only; omega))

include hXC in
theorem pairs_at (o : ℕ) (hb : S128x256.Slices ![0, o] S128x128) (ho : o + 128 ≤ 256) (q : Fin 1024) (hq : o = 128 * (q.val / 512)) (l s : Fin 128) :
    pairs (outDir o (cOf halo x cw cb) hb) (inDir o (bOf halo x cw cb) hb) (ix2 l s)
      = ∑ n : Fin 128, cdir XC (128 * c + l.val) q n * bdir XC (128 * c + s.val) q n := by
  rw [pairs_apply]
  refine Finset.sum_congr rfl fun n _ => ?_
  rw [outDir_apply o _ hb ho, inDir_apply o _ hb ho, cOf_at halo x cw cb XC c hXC, bOf_at halo x cw cb XC c hXC]
  unfold cdir bdir
  exact congrArg₂ (fun y z => XC (128 * c + l.val) y * XC (128 * c + s.val) z) (Fin.ext (by dsimp only; omega)) (Fin.ext (by dsimp only; omega))

include hXC hDT hex har rDT rA hS in
theorem carry_at (o : ℕ) (hb : S128x256.Slices ![0, o] S128x128) (ho : o + 128 ≤ 256) (o' : ℕ) (hs : S128x1024.Slices ![0, o'] S128x512)
    (ho' : o' + 512 ≤ 1024) (q : Fin 1024) (hq : o = 128 * (q.val / 512)) (p : Fin 512) (hp : o' + p.val = q.val) (l : Fin 128) :
    carry o' (outDir o (cOf halo x cw cb) hb) S (axOf sm tr ex ar) hs (ix2 l p)
      = (∑ n : Fin 128, cdir XC (128 * c + l.val) q n * St XC DT A c n q) * Ideal.exp (la DT A c l (hd q)) := by
  have e : (⟨o' + p.val, by omega⟩ : Fin 1024) = q := Fin.ext hp
  rw [carry_apply o' _ _ _ hs ho', e, axOf_at sm tr ex ar DT A c hDT hex har rDT rA]
  refine congrArg (fun z => z * _) (Finset.sum_congr rfl fun n _ => ?_)
  rw [outDir_apply o _ hb ho, cOf_at halo x cw cb XC c hXC, hS]
  unfold cdir
  exact congrArg (fun z => XC (128 * c + l.val) z * _) (Fin.ext (by dsimp only; omega))

include hXC hDT hDTc hex har hac rDT rA hS in
theorem yOf_at (l : Fin 128) (q : Fin 1024) : yOf halo x sm cw cb tr tc ex ar ac S (ix2 l q) = Yo XC DT A c l q := by
  unfold yOf Yo
  rw [heads_apply]
  refine congrArg₂ (fun y z => y + z) (Finset.sum_congr rfl fun s _ => ?_) ?_
  · rw [aOf_at sm tr ar DT A c hDT har rDT rA, aT_at sm tc ac DT A c hDTc hac rDT rA]
    have e : truncf .bf16 (xOf halo x sm cw cb tr ex) bitsLt_bf16_f32 (ix2 s q) = xin XC DT (128 * c + s.val) q :=
      xOf_at halo x sm cw cb tr ex XC DT c hXC hDT hex rDT s q
    rw [e]
    refine congrArg (fun z => z * _ * _) ?_
    by_cases h : q.val < 512
    · rw [if_pos h]
      exact pairs_at halo x cw cb XC c hXC 0 _ (by decide) q (by omega) l s
    · rw [if_neg h]
      exact pairs_at halo x cw cb XC c hXC 128 _ (by decide) q (by omega) l s
  · by_cases h : q.val < 512
    · rw [if_pos h]
      exact carry_at halo x sm cw cb tr ex ar S XC DT A c hXC hDT hex har rDT rA hS 0 _ (by decide) 0 _ (by decide) q (by omega) _ (by dsimp only; omega) l
    · rw [if_neg h]
      exact carry_at halo x sm cw cb tr ex ar S XC DT A c hXC hDT hex har rDT rA hS 128 _ (by decide) 512 _ (by decide) q (by omega) _ (by dsimp only; omega) l

include hXC hDT hDTc hex har hac rDT rA hS in
theorem outOf_at (zf : ℕ → Fin 1024 → EReal) (rz : ∀ p q, IsReal (zf p q)) (hz : ∀ l q, z (ix2 l q) = zf (128 * c + l.val) q)
    (dkf : Fin 16 → EReal) (hdk : ∀ q, dk (ix2 0 q) = dkf (hd q)) (ngf : Fin 1024 → EReal) (hng : ∀ q, ng (ix2 0 q) = ngf q)
    (l : Fin 128) (q : Fin 1024) :
    outOf halo x z sm cw cb tr tc ex ar ac dk ng S (ix2 l q) = Out XC DT A zf dkf ngf c l q := by
  unfold outOf Out
  rw [finish_apply]
  refine congrArg₂ (fun f g => rms f g q) (funext fun k => ?_) (funext fun k => hng k)
  rw [yOf_at halo x sm cw cb tr tc ex ar ac S XC DT A c hXC hDT hDTc hex har hac rDT rA hS, xsOf_at halo x cw cb XC c hXC, hdk,
    act_apply 128 1024]
  have e : extf .f32 z bitsLt_bf16_f32 (ix2 l k) = zf (128 * c + l.val) k := hz l k
  rw [e, silu_eq (rz _ _)]

end

end Cert.SsdIdeal.Hand

end
-- ==== Proof.SsdInputs.lean ====
/-
  What a chunk of a grid point reads: its rows, the rows before it, and its steps, as a sequence's convolved rows and
  steps.
-/
module

public import proofs.«01_k».proof.Proof.SsdReads
public import proofs.«01_k».proof.Proof.SsdRaw
public import proofs.«01_k».proof.Proof.SsdStep

@[expose] public section

set_option maxRecDepth 16384

noncomputable section

namespace Cert.SsdIdeal.Hand

open Cert.SsdIdeal Cert.SsdIdeal.Gen Idealize.ShloMosaic Idealize.ShloMosaic.TcCoe Idealize.SL.Sem Cert Cert.Rows Cert.Ssd

variable (m : (ℓ : Loc nD τ sig) → Buf (Elt Ideal) ℓ) (c : Dev nD)

/-- A sequence's rows. -/
def xb (b : Fin 8) (s : Fin 4096) (n : Fin 1536) : EReal := m ((c : Thread nD τ).loc main_arg1) (ix3 b s n)

/-- A sequence's rows, convolved and activated. -/
def XCk (b : Fin 8) (p : ℕ) (q : Fin 1536) : EReal :=
  siluL (convAt (xb m c b) (fun i n => m ((c : Thread nD τ).loc main_arg3) (ix2 i n)) (fun n => m ((c : Thread nD τ).loc main_arg4) (ix1 n)) (tok p) q)

/-- A sequence's steps. -/
def DTk (b : Fin 8) (p : ℕ) (h : Fin 16) : EReal :=
  soft (HAdd.hAdd (α := EReal) (β := EReal) (m ((c : Thread nD τ).loc main_arg2) (ix3 b (tok p) h)) (m ((c : Thread nD τ).loc main_arg5) (ix1 h)))

/-- The heads' rates. -/
def Ak (h : Fin 16) : EReal := -Ideal.exp (m ((c : Thread nD τ).loc main_arg6) (ix1 h))

/-- The arguments of the nonlinearities and of the decays are finite. -/
structure Fin' : Prop where
  z : ∀ b s n, IsReal (m ((c : Thread nD τ).loc main_arg0) (ix3 b s n))
  x : ∀ b s n, IsReal (m ((c : Thread nD τ).loc main_arg1) (ix3 b s n))
  dt : ∀ b s n, IsReal (m ((c : Thread nD τ).loc main_arg2) (ix3 b s n))
  cw : ∀ i n, IsReal (m ((c : Thread nD τ).loc main_arg3) (ix2 i n))
  cb : ∀ n, IsReal (m ((c : Thread nD τ).loc main_arg4) (ix1 n))
  bias : ∀ n, IsReal (m ((c : Thread nD τ).loc main_arg5) (ix1 n))
  rate : ∀ n, IsReal (m ((c : Thread nD τ).loc main_arg6) (ix1 n))

variable {m c}

theorem DTk_real (H : Fin' m c) (b : Fin 8) (p : ℕ) (h : Fin 16) : IsReal (DTk m c b p h) :=
  soft_real ((H.dt _ _ _).add (H.bias _))

theorem Ak_real (H : Fin' m c) (h : Fin 16) : IsReal (Ak m c h) := (H.rate h).exp.neg

variable (m c)

/-- A point's sequence. -/
abbrev bt (t : Fin cfg0.N) : Fin 8 := ⟨t.val / 4, by have : t.val < 32 := lt_of_lt_of_eq t.isLt (by decide +kernel); omega⟩

theorem coord (t : Fin cfg0.N) : ((grid0.coords t) 1).val = t.val % 4 :=
  (by decide +kernel : ∀ t : Fin grid0.N, ((grid0.coords t) 1).val = t.val % 4) t

theorem first_word : ∀ j : Fin 4, IntOp.cmpi .sgt (BitVec.ofNat 32 j.val) 0#32 = if j.val = 0 then 0#1 else 1#1 := by
  decide +kernel

theorem masked_apply (i : grid0.Coords) (P : H S16x1536) (j : ℕ) (hj : j < 4) (hi : (i 1).val = j) (r : Fin 16) (q : Fin 1536) :
    masked i P (ix2 r q) = if j = 0 then 0 else P (ix2 r q) := by
  unfold masked
  have e : Scalar.cmpi .sgt (BitVec.ofNat 32 (i 1).val) 0#32 = if j = 0 then 0#1 else 1#1 := by
    rw [hi]
    exact first_word ⟨j, hj⟩
  rw [e]
  split
  · show Ideal.ofBits .bf16 0x0000#16 = 0
    simp [Ideal.ofBits, Ideal.ieee]
  · rfl

theorem taps (cb w0 w1 w2 w3 x y1 y2 y3 : EReal) :
    cb + w3 * x + w0 * y3 + w1 * y2 + w2 * y1 = y3 * w0 + y2 * w1 + y1 * w2 + x * w3 + cb := by
  rw [mul_comm w3, mul_comm w0, mul_comm w1, mul_comm w2]
  abel

section

variable (t : Fin cfg0.N) (k : ℕ) (hk : k < 8)

include hk

/-- A chunk's rows. -/
theorem rows_at (l : Fin 128) (q : Fin 1536) :
    rowsAt (n := 1536) (e := .bf16) (iblk m c 0 t) k (ix2 l q) = xb m c (bt t) (tok (128 * (8 * (t.val % 4) + k) + l.val)) q := by
  have ht : t.val < 32 := lt_of_lt_of_eq t.isLt (by decide +kernel)
  have hl := l.isLt
  show iblk m c 0 t (ix2 ⟨(128 * k + l.val) % 1024, _⟩ q) = _
  exact read0 m c t _ q ⟨t.val * 1024 + (128 * k + l.val), by omega⟩ (by dsimp only; omega) (bt t) _ (by dsimp only; omega) (by dsimp only; omega)

/-- The rows before it: none at the sequence's start. -/
theorem halo_at (r : Fin 16) (q : Fin 1536) :
    haloAt (grid0.coords t) (iblk m c 1 t) (iblk m c 0 t) k (ix2 r q)
      = if 16 ≤ 128 * (8 * (t.val % 4) + k) + r.val then xb m c (bt t) (tok (128 * (8 * (t.val % 4) + k) + r.val - 16)) q else 0 := by
  have ht : t.val < 32 := lt_of_lt_of_eq t.isLt (by decide +kernel)
  have hr := r.isLt
  unfold haloAt
  by_cases h : k = 0
  · rw [if_pos h, masked_apply _ _ (t.val % 4) (by omega) (coord t)]
    by_cases h' : t.val % 4 = 0
    · rw [if_pos h', if_neg (by omega)]
    · rw [if_neg h', if_pos (by omega)]
      exact read1 m c t r q ⟨(t.val * 64 - 1) * 16 + r.val, by omega⟩ rfl (bt t) _ (by dsimp only; omega) (by dsimp only; omega)
  · rw [if_neg h, if_pos (by omega)]
    show iblk m c 0 t (ix2 ⟨(128 * k - 16 + r.val) % 1024, _⟩ q) = _
    exact read0 m c t _ q ⟨t.val * 1024 + (128 * k - 16 + r.val), by omega⟩ (by dsimp only; omega) (bt t) _ (by dsimp only; omega) (by dsimp only; omega)

/-- The row some tokens back, of the rows before and the rows. -/
theorem back_at (d : ℕ) (hd : d ≤ 16) (l : Fin 128) (r : Fin 144) (hr : r.val + d = l.val + 16) (q : Fin 1536) :
    above (haloAt (grid0.coords t) (iblk m c 1 t) (iblk m c 0 t) k) (rowsAt (n := 1536) (e := .bf16) (iblk m c 0 t) k) (ix2 r q)
      = back (xb m c (bt t)) (tok (128 * (8 * (t.val % 4) + k) + l.val)) d q := by
  have ht : t.val < 32 := lt_of_lt_of_eq t.isLt (by decide +kernel)
  have hl := l.isLt
  rw [above_apply]
  unfold back
  by_cases h : r.val < 16
  · rw [dif_pos h, halo_at m c t k hk]
    by_cases h' : 16 ≤ 128 * (8 * (t.val % 4) + k) + r.val
    · rw [if_pos (by dsimp only; omega), if_pos (by dsimp only; omega)]
      exact congrArg (fun z => xb m c (bt t) z q) (Fin.ext (by dsimp only; omega))
    · rw [if_neg (by dsimp only; omega), if_neg (by dsimp only; omega)]
  · rw [dif_neg h, rows_at m c t k hk, if_pos (by dsimp only; omega)]
    exact congrArg (fun z => xb m c (bt t) z q) (Fin.ext (by dsimp only; omega))

/-- A chunk's rows, convolved and activated. -/
theorem conv_at (H : Fin' m c) (l : Fin 128) (q : Fin 1536) :
    xcOf (haloAt (grid0.coords t) (iblk m c 1 t) (iblk m c 0 t) k) (rowsAt (n := 1536) (e := .bf16) (iblk m c 0 t) k) (iblk m c 4 t) (iblk m c 5 t) (ix2 l q)
      = XCk m c (bt t) (128 * (8 * (t.val % 4) + k) + l.val) q := by
  unfold xcOf XCk
  refine (act_apply 128 1536 _ l q).trans ?_
  rw [conv_apply]
  have m3 := (moved_row 13 (by decide) (above (haloAt (grid0.coords t) (iblk m c 1 t) (iblk m c 0 t) k) (rowsAt (n := 1536) (e := .bf16) (iblk m c 0 t) k)) l q).trans
    (back_at m c t k hk 3 (by decide) l ⟨l.val + 13, by omega⟩ (by dsimp only) q)
  have m2 := (moved_row 14 (by decide) (above (haloAt (grid0.coords t) (iblk m c 1 t) (iblk m c 0 t) k) (rowsAt (n := 1536) (e := .bf16) (iblk m c 0 t) k)) l q).trans
    (back_at m c t k hk 2 (by decide) l ⟨l.val + 14, by omega⟩ (by dsimp only) q)
  have m1 := (moved_row 15 (by decide) (above (haloAt (grid0.coords t) (iblk m c 1 t) (iblk m c 0 t) k) (rowsAt (n := 1536) (e := .bf16) (iblk m c 0 t) k)) l q).trans
    (back_at m c t k hk 1 (by decide) l ⟨l.val + 15, by omega⟩ (by dsimp only) q)
  rw [m3, m2, m1, rows_at m c t k hk, read4, read4, read4, read4, read5, taps]
  exact silu_eq (conv_real _ _ _ (H.x _) H.cw H.cb _ _)

/-- A chunk's steps. -/
theorem steps_at (l : Fin 128) (h : Fin 16) :
    steps (rowsAt (n := 128) (e := .f32) (iblk m c 3 t) k) (iblk m c 6 t) (ix2 l h) = DTk m c (bt t) (128 * (8 * (t.val % 4) + k) + l.val) h := by
  have ht : t.val < 32 := lt_of_lt_of_eq t.isLt (by decide +kernel)
  have hl := l.isLt
  have e : rowsAt (n := 128) (e := .f32) (iblk m c 3 t) k (ix2 l ⟨72 + h.val, by omega⟩)
      = (m ((c : Thread nD τ).loc main_arg2) (ix3 (bt t) (tok (128 * (8 * (t.val % 4) + k) + l.val)) h) : EReal) :=
    read3 m c t ⟨(128 * k + l.val) % 1024, Nat.mod_lt _ (by decide)⟩ h ⟨t.val * 1024 + (128 * k + l.val), by omega⟩ (by dsimp only; omega) (bt t) _ (by dsimp only; omega) (by dsimp only; omega)
  rw [steps_apply, e, read6, plus_soft]
  rfl

theorem stepsT_at (l : Fin 128) (h : Fin 16) :
    stepsT (rowsAt (n := 128) (e := .f32) (iblk m c 3 t) k) (iblk m c 7 t) (ix2 h l) = DTk m c (bt t) (128 * (8 * (t.val % 4) + k) + l.val) h := by
  have ht : t.val < 32 := lt_of_lt_of_eq t.isLt (by decide +kernel)
  have hl := l.isLt
  have e : rowsAt (n := 128) (e := .f32) (iblk m c 3 t) k (ix2 l ⟨72 + h.val, by omega⟩)
      = (m ((c : Thread nD τ).loc main_arg2) (ix3 (bt t) (tok (128 * (8 * (t.val % 4) + k) + l.val)) h) : EReal) :=
    read3 m c t ⟨(128 * k + l.val) % 1024, Nat.mod_lt _ (by decide)⟩ h ⟨t.val * 1024 + (128 * k + l.val), by omega⟩ (by dsimp only; omega) (bt t) _ (by dsimp only; omega) (by dsimp only; omega)
  rw [stepsT_apply, e, read7, plus_soft]
  rfl

/-- A chunk's gates. -/
theorem gate_at (l : Fin 128) (q : Fin 1024) :
    rowsAt (n := 1024) (e := .bf16) (X0_2 m c t) k (ix2 l q)
      = (m ((c : Thread nD τ).loc main_arg0) (ix3 (bt t) (tok (128 * (8 * (t.val % 4) + k) + l.val)) q) : EReal) := by
  have ht : t.val < 32 := lt_of_lt_of_eq t.isLt (by decide +kernel)
  have hl := l.isLt
  exact read2 m c t ⟨(128 * k + l.val) % 1024, Nat.mod_lt _ (by decide)⟩ q ⟨t.val * 1024 + (128 * k + l.val), by omega⟩ (by dsimp only; omega) (bt t) _ (by dsimp only; omega) (by dsimp only; omega)

end

end Cert.SsdIdeal.Hand

end
-- ==== Proof.SsdRun.lean ====
/-
  What a point of the recurrence's grid leaves: the state after its block's last chunk.
-/
module

public import proofs.«01_k».proof.Proof.SsdRaw

@[expose] public section

set_option maxRecDepth 65536
set_option maxHeartbeats 4000000

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ)

theorem scratch_B (c : Dev nD) (t : Fin cfg0.N) (h0 : ¬ t.val % 4 = 0) :
    (outsAt0 m c t.val t.isLt).2 = state (loRaw m c t) (hiRaw m c t)
      (outsAt0 m c (t.val - 1) (Nat.lt_of_le_of_lt (Nat.sub_le _ _) t.isLt)).2 8 := by
  rw [outsAt0_B m c t h0]
  frame_open
  simp (disch := decide) only [View.read_writes_junk_eq_canon, View.ld_unit_lit', View.readAt_eq_ld, Memref.IsWhole.read_unread, read_unread_whole]
  exact canon_stored scM0_0.view (loRaw m c t) (hiRaw m c t) (outsAt0 m c (t.val - 1) (Nat.lt_of_le_of_lt (Nat.sub_le _ _) t.isLt)).2 [] 7

theorem scratch_A (c : Dev nD) (t : Fin cfg0.N) (h0 : t.val % 4 = 0) :
    (outsAt0 m c t.val t.isLt).2 = state (loRaw m c t) (hiRaw m c t) (k0_pay2 (F := Ideal)) 8 := by
  rw [outsAt0_A m c t h0]
  frame_open
  simp (disch := decide) only [View.read_writes_junk_eq_canon, View.ld_unit_lit', View.readAt_eq_ld, Memref.IsWhole.read_unread, read_unread_whole,
    View.readCov_unit_lit']
  exact canon_stored scM0_0.view (loRaw m c t) (hiRaw m c t) _ [⟨RW, k0_pay2 (F := Ideal)⟩] 7

end Cert.SsdIdeal.Hand

end
-- ==== Proof.SsdRunOutA.lean ====
/-
  The rows stored at a sequence's first point.
-/
module

public import proofs.«01_k».proof.Proof.SsdRaw

@[expose] public section

set_option maxRecDepth 65536
set_option maxHeartbeats 4000000

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ)

theorem stored_A (c : Dev nD) (t : Fin cfg0.N) (h0 : t.val % 4 = 0) :
    (outsAt0 m c t.val t.isLt).1 = outRows (loRaw m c t) (hiRaw m c t) (outRaw m c t) (k0_pay2 (F := Ideal)) := by
  rw [outsAt0_A m c t h0]
  frame_open
  simp (disch := decide) only [View.read_writes_junk_eq_canon, View.ld_unit_lit', View.readAt_eq_ld, Memref.IsWhole.read_unread, read_unread_whole,
    View.readCov_unit_lit']
  refine canon_kept_of scM0_0.view (loRaw m c t) (hiRaw m c t) (outRaw m c t) (k0_pay2 (F := Ideal)) [⟨RW, k0_pay2 (F := Ideal)⟩]
    _ _ _ _ _ _ _ ?_ ?_ ?_ ?_ ?_ ?_ ?_
  all_goals rfl

end Cert.SsdIdeal.Hand

end
-- ==== Proof.SsdRunOutB.lean ====
/-
  The rows stored at a point inside a sequence.
-/
module

public import proofs.«01_k».proof.Proof.SsdRaw

@[expose] public section

set_option maxRecDepth 65536
set_option maxHeartbeats 4000000

noncomputable section

namespace Cert.SsdIdeal.Hand

open Cert.SsdIdeal Cert.SsdIdeal.Gen Idealize.ShloMosaic Idealize.ShloMosaic.TcCoe Idealize.SL.Sem

variable (m : (ℓ : Loc nD τ sig) → Buf (Elt Ideal) ℓ)

theorem stored_B (c : Dev nD) (t : Fin cfg0.N) (h0 : ¬ t.val % 4 = 0) :
    (outsAt0 m c t.val t.isLt).1 = outRows (loRaw m c t) (hiRaw m c t) (outRaw m c t)
      (outsAt0 m c (t.val - 1) (Nat.lt_of_le_of_lt (Nat.sub_le _ _) t.isLt)).2 := by
  rw [outsAt0_B m c t h0]
  frame_open
  simp (disch := decide) only [View.read_writes_junk_eq_canon, View.ld_unit_lit', View.readAt_eq_ld, Memref.IsWhole.read_unread, read_unread_whole]
  refine canon_kept_of scM0_0.view (loRaw m c t) (hiRaw m c t) (outRaw m c t) (outsAt0 m c (t.val - 1) (Nat.lt_of_le_of_lt (Nat.sub_le _ _) t.isLt)).2 []
    _ _ _ _ _ _ _ ?_ ?_ ?_ ?_ ?_ ?_ ?_
  all_goals rfl

end Cert.SsdIdeal.Hand

end
-- ==== Proof.SsdGrid.lean ====
/-
  The recurrence over the kernel's grid: the state a point leaves is the sequence's, from the state the point before
  it left, and what it stores is the sequence's outputs.
-/
module

public import proofs.«01_k».proof.Proof.SsdInputs
public import proofs.«01_k».proof.Proof.SsdRun
public import proofs.«01_k».proof.Proof.SsdRunOutA
public import proofs.«01_k».proof.Proof.SsdRunOutB

@[expose] public section

set_option maxRecDepth 16384

noncomputable section

namespace Cert.SsdIdeal.Hand

open Cert.SsdIdeal Cert.SsdIdeal.Gen Idealize.ShloMosaic Idealize.ShloMosaic.TcCoe Idealize.SL.Sem Cert Cert.Rows Cert.Ssd

variable (m : (ℓ : Loc nD τ sig) → Buf (Elt Ideal) ℓ) (c : Dev nD)

/-- A sequence's state before chunk `k`. -/
abbrev Stk (b : Fin 8) (k : ℕ) (n : Fin 128) (q : Fin 1024) : EReal := St (XCk m c b) (DTk m c b) (Ak m c) k n q

/-- A sequence's outputs. -/
abbrev Outk (b : Fin 8) (k : ℕ) (l : Fin 128) (q : Fin 1024) : EReal :=
  Out (XCk m c b) (DTk m c b) (Ak m c) (fun p j => m ((c : Thread nD τ).loc main_arg0) (ix3 b (tok p) j)) (fun h => m ((c : Thread nD τ).loc main_arg7) (ix1 h))
    (fun j => m ((c : Thread nD τ).loc main_arg8) (ix1 j)) k l q

variable {m c}

/-- A chunk's state is the recurrence's next. -/
theorem chunk_state (H : Fin' m c) (t : Fin cfg0.N) (k : ℕ) (hk : k < 8) (S : W S128x1024)
    (hS : ∀ n q, S (ix2 n q) = Stk m c (bt t) (8 * (t.val % 4) + k) n q) (n : Fin 128) (q : Fin 1024) :
    join (loRaw m c t k S) (hiRaw m c t k S) (ix2 n q) = Stk m c (bt t) (8 * (t.val % 4) + (k + 1)) n q := by
  rw [show loRaw m c t k S = _ from lo_eq _ _ _ _ _ _ _ _ _ _ k hk, show hiRaw m c t k S = _ from hi_eq _ _ _ _ _ _ _ _ _ _ k hk]
  unfold join
  by_cases h : q.val < 512
  · refine (dif_pos h).trans ?_
    unfold loAt
    exact low_at _ _ _ _ _ _ _ _ _ _ _ _ _ (conv_at m c t k hk H) (steps_at m c t k hk) (read11 m c t) (read8 m c t)
      (DTk_real H (bt t)) (Ak_real H) hS n ⟨q.val, h⟩
  · refine (dif_neg h).trans ?_
    unfold hiAt
    refine (high_at _ _ _ _ _ _ _ _ _ _ _ _ _ (conv_at m c t k hk H) (steps_at m c t k hk) (read11 m c t) (read8 m c t)
      (DTk_real H (bt t)) (Ak_real H) hS n ⟨q.val - 512, by omega⟩).trans ?_
    exact congrArg (fun z => St (XCk m c (bt t)) (DTk m c (bt t)) (Ak m c) (8 * (t.val % 4) + k + 1) n z) (Fin.ext (by dsimp only; omega))

/-- So is every chunk's of a point. -/
theorem point_state (H : Fin' m c) (t : Fin cfg0.N) (S0 : W S128x1024)
    (h0 : ∀ n q, S0 (ix2 n q) = Stk m c (bt t) (8 * (t.val % 4)) n q) :
    ∀ k, k ≤ 8 → ∀ n q, state (loRaw m c t) (hiRaw m c t) S0 k (ix2 n q) = Stk m c (bt t) (8 * (t.val % 4) + k) n q
  | 0, _, n, q => h0 n q
  | k + 1, hk, n, q => by
    rw [state]
    exact chunk_state H t k (by omega) _ (point_state H t S0 h0 k (by omega)) n q

/-- What a point stores is the sequence's outputs. -/
theorem point_rows (H : Fin' m c) (t : Fin cfg0.N) (S0 : W S128x1024)
    (h0 : ∀ n q, S0 (ix2 n q) = Stk m c (bt t) (8 * (t.val % 4)) n q) (i q : Fin 1024) :
    outRows (loRaw m c t) (hiRaw m c t) (outRaw m c t) S0 (ix2 i q)
      = Outk m c (bt t) (8 * (t.val % 4) + i.val / 128) ⟨i.val % 128, Nat.mod_lt _ (by decide)⟩ q := by
  have hi : i.val / 128 < 8 := by omega
  show outRaw m c t (i.val / 128) (state (loRaw m c t) (hiRaw m c t) S0 (i.val / 128)) (ix2 ⟨i.val % 128, _⟩ q) = _
  rw [show outRaw m c t (i.val / 128) _ = _ from out_eq _ _ _ _ _ _ _ _ _ _ _ _ _ _ _ (i.val / 128) hi]
  unfold outAt
  exact outOf_at _ _ _ _ _ _ _ _ _ _ _ _ _ _ _ _ _ _ (conv_at m c t _ hi H) (steps_at m c t _ hi) (stepsT_at m c t _ hi)
    (read11 m c t) (read8 m c t) (read9 m c t) (DTk_real H (bt t)) (Ak_real H) (point_state H t S0 h0 _ hi.le)
    (fun p j => m ((c : Thread nD τ).loc main_arg0) (ix3 (bt t) (tok p) j)) (fun p j => H.z _ _ _) (gate_at m c t _ hi)
    (fun h => m ((c : Thread nD τ).loc main_arg7) (ix1 h)) (read10 m c t) (fun j => m ((c : Thread nD τ).loc main_arg8) (ix1 j)) (read12 m c t) _ q

theorem first_zero (n : Fin 128) (q : Fin 1024) : k0_pay2 (F := Ideal) (ix2 n q) = 0 := by
  show Ideal.ofBits .f32 0x00000000#32 = 0
  simp [Ideal.ofBits, Ideal.ieee]

/-- The state a point leaves. -/
theorem left (H : Fin' m c) : ∀ (s : ℕ) (hs : s < cfg0.N) (n : Fin 128) (q : Fin 1024),
    (outsAt0 m c s hs).2 (ix2 n q) = Stk m c (bt ⟨s, hs⟩) (8 * (s % 4) + 8) n q
  | 0, hs, n, q => by
    rw [show (outsAt0 m c 0 hs).2 = _ from scratch_A m c ⟨0, hs⟩ rfl]
    exact point_state H ⟨0, hs⟩ _ (fun n q => first_zero n q) 8 le_rfl n q
  | s + 1, hs, n, q => by
    by_cases h0 : (s + 1) % 4 = 0
    · rw [show (outsAt0 m c (s + 1) hs).2 = _ from scratch_A m c ⟨s + 1, hs⟩ h0]
      refine point_state H ⟨s + 1, hs⟩ _ (fun n q => (first_zero n q).trans ?_) 8 le_rfl n q
      show 0 = Stk m c _ (8 * ((s + 1) % 4)) n q
      rw [h0]
      rfl
    · rw [show (outsAt0 m c (s + 1) hs).2 = _ from scratch_B m c ⟨s + 1, hs⟩ h0]
      refine point_state H ⟨s + 1, hs⟩ _ (fun n q => (left H s (by omega) n q).trans ?_) 8 le_rfl n q
      have e : bt ⟨s, by omega⟩ = bt ⟨s + 1, hs⟩ := Fin.ext (by dsimp only; omega)
      have e' : 8 * (s % 4) + 8 = 8 * ((s + 1) % 4) := by omega
      rw [e, e']

/-- What a point stores. -/
theorem stores (H : Fin' m c) (t : Fin cfg0.N) (i q : Fin 1024) :
    (outsAt0 m c t.val t.isLt).1 (ix2 i q) = Outk m c (bt t) (8 * (t.val % 4) + i.val / 128) ⟨i.val % 128, Nat.mod_lt _ (by decide)⟩ q := by
  by_cases h0 : t.val % 4 = 0
  · rw [stored_A m c t h0]
    refine point_rows H t _ (fun n q => (first_zero n q).trans ?_) i q
    rw [h0]
    rfl
  · rw [stored_B m c t h0]
    refine point_rows H t _ (fun n q => (left H (t.val - 1) _ n q).trans ?_) i q
    have e : bt ⟨t.val - 1, Nat.lt_of_le_of_lt (Nat.sub_le _ _) t.isLt⟩ = bt t := Fin.ext (by dsimp only; omega)
    have e' : 8 * ((t.val - 1) % 4) + 8 = 8 * (t.val % 4) := by omega
    rw [e, e']

end Cert.SsdIdeal.Hand

end
-- ==== Proof.SsdFin.lean ====
/-
  The recurrence's precondition: the arguments of its nonlinearities and of its decays are finite.
-/
module

public import proofs.«01_k».proof.Proof.SsdInputs
public import proofs.«01_k».proof.Defs
public import proofs.«01_k».proof.Proof.Gen.Pre_finite_ssd
public import Idealize.ShloMosaic.Lib.Pointwise

@[expose] public section

set_option maxRecDepth 16384

noncomputable section

namespace Cert.SsdIdeal.Hand

open Cert.SsdIdeal Cert.SsdIdeal.Gen Idealize.ShloMosaic Idealize.ShloMosaic.TcCoe Idealize.SL.Sem Cert Cert.Rows Cert.Ssd

variable (m : (ℓ : Loc nD τ sig) → Buf (Elt Ideal) ℓ)

theorem and_word : ∀ {x y : BitVec 1}, IntOp.andi x y = 1#1 → x = 1#1 ∧ y = 1#1 := by
  decide

theorem pre_z (hp : Pre_SsdIdeal_finite_ssd m) (c : Dev nD) (b : Fin 8) (s : Fin 4096) (n : Fin 1024) :
    IsReal (m ((c : Thread nD τ).loc main_arg0) (ix3 b s n)) := by
  have h := congrFun (hp c) (ix3 b s ⟨n.val, by omega⟩)
  pointwise [Cert.Pre_finite_ssd.fn, Cert.Pre_finite_ssd.fn_part1, Cert.Pre_finite_ssd.fn_part2] at h
  exact real_of_bit h

/-- Of a channel: the rows, the convolution's bias and its taps. -/
theorem pre_x (hp : Pre_SsdIdeal_finite_ssd m) (c : Dev nD) (b : Fin 8) (s : Fin 4096) (n : Fin 1536) :
    IsReal (m ((c : Thread nD τ).loc main_arg1) (ix3 b s n)) ∧ IsReal (m ((c : Thread nD τ).loc main_arg4) (ix1 n))
      ∧ ∀ i, IsReal (m ((c : Thread nD τ).loc main_arg3) (ix2 i n)) := by
  obtain ⟨q, hq⟩ : ∃ q : Fin 2576, q.val = 1024 + n.val := ⟨⟨1024 + n.val, by omega⟩, rfl⟩
  have h := congrFun (hp c) (ix3 b s q)
  rw [show n = ⟨q.val - 1024, by omega⟩ from Fin.ext (by dsimp only; omega)]
  pointwise [Cert.Pre_finite_ssd.fn, Cert.Pre_finite_ssd.fn_part1, Cert.Pre_finite_ssd.fn_part2] at h
  rw [dif_neg (by omega), dif_pos (by omega)] at h
  obtain ⟨h, w3⟩ := and_word h
  obtain ⟨h, w2⟩ := and_word h
  obtain ⟨h, w1⟩ := and_word h
  obtain ⟨h, w0⟩ := and_word h
  obtain ⟨hx, hb⟩ := and_word h
  refine ⟨real_of_bit hx, real_of_bit hb, fun i => ?_⟩
  match i with
  | ⟨0, _⟩ => exact real_of_bit w0
  | ⟨1, _⟩ => exact real_of_bit w1
  | ⟨2, _⟩ => exact real_of_bit w2
  | ⟨3, _⟩ => exact real_of_bit w3

/-- Of a head: the steps, their bias and the rate. -/
theorem pre_h (hp : Pre_SsdIdeal_finite_ssd m) (c : Dev nD) (b : Fin 8) (s : Fin 4096) (h : Fin 16) :
    IsReal (m ((c : Thread nD τ).loc main_arg2) (ix3 b s h)) ∧ IsReal (m ((c : Thread nD τ).loc main_arg5) (ix1 h))
      ∧ IsReal (m ((c : Thread nD τ).loc main_arg6) (ix1 h)) := by
  obtain ⟨q, hq⟩ : ∃ q : Fin 2576, q.val = 2560 + h.val := ⟨⟨2560 + h.val, by omega⟩, rfl⟩
  have hw := congrFun (hp c) (ix3 b s q)
  rw [show h = ⟨q.val - 1024 - 1536, by omega⟩ from Fin.ext (by dsimp only; omega)]
  pointwise [Cert.Pre_finite_ssd.fn, Cert.Pre_finite_ssd.fn_part1, Cert.Pre_finite_ssd.fn_part2] at hw
  rw [dif_neg (by omega), dif_neg (by omega)] at hw
  obtain ⟨hw, w2⟩ := and_word hw
  obtain ⟨w0, w1⟩ := and_word hw
  exact ⟨real_of_bit w0, real_of_bit w1, real_of_bit w2⟩

/-- All of it. -/
theorem fin_of_pre (hp : Pre_SsdIdeal_finite_ssd m) (c : Dev nD) : Fin' m c where
  z := pre_z m hp c
  x := fun b s n => (pre_x m hp c b s n).1
  dt := fun b s n => (pre_h m hp c b s n).1
  cw := fun i n => (pre_x m hp c 0 0 n).2.2 i
  cb := fun n => (pre_x m hp c 0 0 n).2.1
  bias := fun n => (pre_h m hp c 0 0 n).2.1
  rate := fun n => (pre_h m hp c 0 0 n).2.2

end Cert.SsdIdeal.Hand

end
-- ==== Proof.SsdCumsum.lean ====
/-
  A running sum of the reference along an axis of 128 positions: the fold over the window padded below, as the sum
  of the entries up to a position.
-/
module

public import proofs.«01_k».proof.Proof.Gen.SsdRefIdeal.Run
public import Idealize.ShloMosaic.Lib.Pointwise

@[expose] public section

set_option maxRecDepth 65536

noncomputable section

namespace Cert.SsdRefIdeal.Hand

open Cert.SsdRefIdeal Cert.SsdRefIdeal.Gen Idealize.ShloMosaic Idealize.ShloMosaic.TcCoe Idealize.SL.Sem

/-- A fold of additions is the first summand and the sum. -/
theorem fold_add {N : ℕ} (f : Fin N → EReal) (v : EReal) :
    (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, ← List.ofFn_eq_map, List.sum_ofFn]

/-- The window's fold, summed over the window's indices. -/
theorem window_sum {s t : Shape} (window strides lo hi : Fin s.rank → ℕ) (x : s.Idx → EReal) (h : s.ReduceWindows window strides lo hi t) (j : t.Idx) :
    Ideal.hostReduceWindowAdd window strides lo hi h x 0 j
    = ∑ q : (⟨s.rank, window⟩ : Shape).Idx,
        if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else 0 := by
  unfold Ideal.hostReduceWindowAdd Host.reduceWindow
  refine (fold_add _ _).trans ?_
  rw [zero_add]
  refine (Finset.sum_congr rfl fun n _ => ?_).trans (Equiv.sum_comp (⟨s.rank, window⟩ : Shape).rowMajor.symm (fun q : (⟨s.rank, window⟩ : Shape).Idx =>
        if hin : ∀ a, lo a ≤ (j (a.cast h.1.symm)).val * strides a + (q a).val ∧ (j (a.cast h.1.symm)).val * strides a + (q a).val - lo a < s.size a
          then x (fun a => ⟨(j (a.cast h.1.symm)).val * strides a + (q a).val - lo a, (hin a).2⟩) else 0))
  dsimp only
  congr

/-- The window's positions inside the operand are the entries up to the position. -/
theorem shifted_sum (f : Fin 128 → EReal) (j : Fin 128) :
    (∑ w : Fin 128, if h : 127 ≤ j.val + w.val then f ⟨j.val + w.val - 127, by omega⟩ else 0) = ∑ i : Fin 128, if i.val ≤ j.val then f i else 0 := by
  rw [← Finset.sum_filter, ← Finset.sum_filter_add_sum_filter_not Finset.univ (fun w : Fin 128 => 127 ≤ j.val + w.val)]
  rw [Finset.sum_eq_zero (s := Finset.univ.filter fun w : Fin 128 => ¬ 127 ≤ j.val + w.val)
    (fun w hw => dif_neg (Finset.mem_filter.1 hw).2), add_zero]
  refine Finset.sum_bij' (fun w hw => (⟨j.val + w.val - 127, by omega⟩ : Fin 128)) (fun i hi => (⟨i.val + 127 - j.val, by
      have := (Finset.mem_filter.1 hi).2; omega⟩ : Fin 128)) ?_ ?_ ?_ ?_ ?_
  · intro w hw
    exact Finset.mem_filter.2 ⟨Finset.mem_univ _, by show j.val + w.val - 127 ≤ j.val; omega⟩
  · intro i hi
    have := (Finset.mem_filter.1 hi).2
    exact Finset.mem_filter.2 ⟨Finset.mem_univ _, by show 127 ≤ j.val + (i.val + 127 - j.val); omega⟩
  · intro w hw
    have := (Finset.mem_filter.1 hw).2
    exact Fin.ext (by show j.val + w.val - 127 + 127 - j.val = w.val; omega)
  · intro i hi
    have := (Finset.mem_filter.1 hi).2
    exact Fin.ext (by show j.val + (i.val + 127 - j.val) - 127 = i.val; omega)
  · intro w hw
    exact dif_pos (Finset.mem_filter.1 hw).2

theorem cumsum5 (x : FVec Ideal S8x2x8x32x128 .f32) (z : S_.Idx → EReal) (hz : ∀ i, z i = 0) (b : Fin 8) (g : Fin 2) (e : Fin 8) (c : Fin 32) (l : Fin 128) :
    Host.reduceWindowAdd ![1, 1, 1, 1, 128] ![1, 1, 1, 1, 1] ![0, 0, 0, 0, 127] ![0, 0, 0, 0, 0] x z
      reduceWindows_S8x2x8x32x128_S8x2x8x32x128_w1s1p0_0_w1s1p0_0_w1s1p0_0_w1s1p0_0_w128s1p127_0 h_S_ (ix5 b g e c l)
    = ∑ i : Fin 128, if i.val ≤ l.val then x (ix5 b g e c i) else 0 := by
  unfold Host.reduceWindowAdd
  rw [hz]
  refine (window_sum (s := S8x2x8x32x128) ![1, 1, 1, 1, 128] ![1, 1, 1, 1, 1] ![0, 0, 0, 0, 127] ![0, 0, 0, 0, 0] x _ _).trans ?_
  refine Eq.trans ?_ (shifted_sum (fun i => x (ix5 b g e c i)) l)
  refine Fintype.sum_equiv ⟨fun q => (q 4 : Fin 128), fun w => ix5 (0 : Fin 1) (0 : Fin 1) (0 : Fin 1) (0 : Fin 1) w, ?_, fun w => rfl⟩ _ _ ?_
  · intro q
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => exact (Subsingleton.elim (α := Fin 1) _ _)
    | ⟨4, _⟩ => rfl
  · intro q
    have q0 : (q 0).val = 0 := by have : (q 0).val < 1 := (q 0).isLt; omega
    have q1 : (q 1).val = 0 := by have : (q 1).val < 1 := (q 1).isLt; omega
    have q2 : (q 2).val = 0 := by have : (q 2).val < 1 := (q 2).isLt; omega
    have q3 : (q 3).val = 0 := by have : (q 3).val < 1 := (q 3).isLt; omega
    have q4 : (q 4).val < 128 := (q 4).isLt
    show (dite _ _ _) = dite (127 ≤ l.val + (q 4).val) _ _
    by_cases h : 127 ≤ l.val + (q 4).val
    · rw [dif_pos h, dif_pos]
      · refine congrArg x (funext fun a => ?_)
        match a with
        | ⟨0, _⟩ => exact Fin.ext (by show b.val * 1 + (q 0).val - 0 = b.val; omega)
        | ⟨1, _⟩ => exact Fin.ext (by show g.val * 1 + (q 1).val - 0 = g.val; omega)
        | ⟨2, _⟩ => exact Fin.ext (by show e.val * 1 + (q 2).val - 0 = e.val; omega)
        | ⟨3, _⟩ => exact Fin.ext (by show c.val * 1 + (q 3).val - 0 = c.val; omega)
        | ⟨4, _⟩ => exact Fin.ext (by show l.val * 1 + (q 4).val - 127 = l.val + (q 4).val - 127; omega)
      · intro a
        match a with
        | ⟨0, _⟩ => show 0 ≤ b.val * 1 + (q 0).val ∧ b.val * 1 + (q 0).val - 0 < 8; omega
        | ⟨1, _⟩ => show 0 ≤ g.val * 1 + (q 1).val ∧ g.val * 1 + (q 1).val - 0 < 2; omega
        | ⟨2, _⟩ => show 0 ≤ e.val * 1 + (q 2).val ∧ e.val * 1 + (q 2).val - 0 < 8; omega
        | ⟨3, _⟩ => show 0 ≤ c.val * 1 + (q 3).val ∧ c.val * 1 + (q 3).val - 0 < 32; omega
        | ⟨4, _⟩ => show 127 ≤ l.val * 1 + (q 4).val ∧ l.val * 1 + (q 4).val - 127 < 128; omega
    · rw [dif_neg h, dif_neg]
      intro hin
      have h4 : 127 ≤ l.val * 1 + (q 4).val := (hin 4).1
      omega

theorem cumsum6 (x : FVec Ideal S8x2x8x32x128x128 .f32) (z : S_.Idx → EReal) (hz : ∀ i, z i = 0) (b : Fin 8) (g : Fin 2) (e : Fin 8) (c : Fin 32) (l s : Fin 128) :
    Host.reduceWindowAdd ![1, 1, 1, 1, 128, 1] ![1, 1, 1, 1, 1, 1] ![0, 0, 0, 0, 127, 0] ![0, 0, 0, 0, 0, 0] x z
      reduceWindows_S8x2x8x32x128x128_S8x2x8x32x128x128_w1s1p0_0_w1s1p0_0_w1s1p0_0_w1s1p0_0_w128s1p127_0_w1s1p0_0 h_S_ (ix6 b g e c l s)
    = ∑ i : Fin 128, if i.val ≤ l.val then x (ix6 b g e c i s) else 0 := by
  unfold Host.reduceWindowAdd
  rw [hz]
  refine (window_sum (s := S8x2x8x32x128x128) ![1, 1, 1, 1, 128, 1] ![1, 1, 1, 1, 1, 1] ![0, 0, 0, 0, 127, 0] ![0, 0, 0, 0, 0, 0] x _ _).trans ?_
  refine Eq.trans ?_ (shifted_sum (fun i => x (ix6 b g e c i s)) l)
  refine Fintype.sum_equiv ⟨fun q => (q 4 : Fin 128), fun w => ix6 (0 : Fin 1) (0 : Fin 1) (0 : Fin 1) (0 : Fin 1) w (0 : Fin 1), ?_, fun w => rfl⟩ _ _ ?_
  · intro q
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => exact (Subsingleton.elim (α := Fin 1) _ _)
    | ⟨4, _⟩ => rfl
    | ⟨5, _⟩ => exact (Subsingleton.elim (α := Fin 1) _ _)
  · intro q
    have q0 : (q 0).val = 0 := by have : (q 0).val < 1 := (q 0).isLt; omega
    have q1 : (q 1).val = 0 := by have : (q 1).val < 1 := (q 1).isLt; omega
    have q2 : (q 2).val = 0 := by have : (q 2).val < 1 := (q 2).isLt; omega
    have q3 : (q 3).val = 0 := by have : (q 3).val < 1 := (q 3).isLt; omega
    have q5 : (q 5).val = 0 := by have : (q 5).val < 1 := (q 5).isLt; omega
    have q4 : (q 4).val < 128 := (q 4).isLt
    show (dite _ _ _) = dite (127 ≤ l.val + (q 4).val) _ _
    by_cases h : 127 ≤ l.val + (q 4).val
    · rw [dif_pos h, dif_pos]
      · refine congrArg x (funext fun a => ?_)
        match a with
        | ⟨0, _⟩ => exact Fin.ext (by show b.val * 1 + (q 0).val - 0 = b.val; omega)
        | ⟨1, _⟩ => exact Fin.ext (by show g.val * 1 + (q 1).val - 0 = g.val; omega)
        | ⟨2, _⟩ => exact Fin.ext (by show e.val * 1 + (q 2).val - 0 = e.val; omega)
        | ⟨3, _⟩ => exact Fin.ext (by show c.val * 1 + (q 3).val - 0 = c.val; omega)
        | ⟨4, _⟩ => exact Fin.ext (by show l.val * 1 + (q 4).val - 127 = l.val + (q 4).val - 127; omega)
        | ⟨5, _⟩ => exact Fin.ext (by show s.val * 1 + (q 5).val - 0 = s.val; omega)
      · intro a
        match a with
        | ⟨0, _⟩ => show 0 ≤ b.val * 1 + (q 0).val ∧ b.val * 1 + (q 0).val - 0 < 8; omega
        | ⟨1, _⟩ => show 0 ≤ g.val * 1 + (q 1).val ∧ g.val * 1 + (q 1).val - 0 < 2; omega
        | ⟨2, _⟩ => show 0 ≤ e.val * 1 + (q 2).val ∧ e.val * 1 + (q 2).val - 0 < 8; omega
        | ⟨3, _⟩ => show 0 ≤ c.val * 1 + (q 3).val ∧ c.val * 1 + (q 3).val - 0 < 32; omega
        | ⟨4, _⟩ => show 127 ≤ l.val * 1 + (q 4).val ∧ l.val * 1 + (q 4).val - 127 < 128; omega
        | ⟨5, _⟩ => show 0 ≤ s.val * 1 + (q 5).val ∧ s.val * 1 + (q 5).val - 0 < 128; omega
    · rw [dif_neg h, dif_neg]
      intro hin
      have h4 : 127 ≤ l.val * 1 + (q 4).val := (hin 4).1
      omega

end Cert.SsdRefIdeal.Hand

end
-- ==== Proof.SsdRefDefs.lean ====
/-
  The recurrence's reference in stages, each a function of the arrays it takes.
-/
module

public import proofs.«01_k».proof.Proof.SsdCumsum

@[expose] public section

set_option maxRecDepth 16384

noncomputable section

namespace Cert.SsdRefIdeal.Hand

open Cert.SsdRefIdeal Cert.SsdRefIdeal.Gen Idealize.ShloMosaic

/-- The inputs with three empty tokens before them. -/
def padded (x1 : FVec Ideal S8x4096x1536 .f32) : FVec Ideal S8x4099x1536 .f32 :=
  (pad S8x4099x1536 ![0, 3, 0] ![0, 0, 0] ![0, 0, 0] x1 ((sitofp .f32) (constantI S_ 32 0#32)) pads_S8x4096x1536_S8x4099x1536_000_300_000 h_S_)

/-- The convolution, as the sum of the shifted products, and its bias. -/
def mixed (v0 : FVec Ideal S8x4099x1536 .f32) (x3 : FVec Ideal S4x1536 .f32) (x4 : FVec Ideal S1536 .f32) : FVec Ideal S8x4096x1536 .f32 :=
  (addf (addf (addf (addf (addf (broadcastInDim S8x4096x1536 ![] bcast_S_S8x4096x1536 (constant (F := Ideal) S_ .f32 0x00000000#32)) (mulf (extractStridedSlice S8x4096x1536 ![0, 0, 0] v0 slices_S8x4099x1536_S8x4096x1536_0_0_0) (broadcastInDim S8x4096x1536 ![0, 1, 2] bcast_S1x1x1536_S8x4096x1536_0_1_2 (broadcastInDim S1x1x1536 ![2] bcast_S1536_S1x1x1536_2 (shapeCast _ (extractStridedSlice S1x1536 ![0, 0] x3 slices_S4x1536_S1x1536_0_0) shapeCasts_S1x1536_S1536))))) (mulf (extractStridedSlice S8x4096x1536 ![0, 1, 0] v0 slices_S8x4099x1536_S8x4096x1536_0_1_0) (broadcastInDim S8x4096x1536 ![0, 1, 2] bcast_S1x1x1536_S8x4096x1536_0_1_2 (broadcastInDim S1x1x1536 ![2] bcast_S1536_S1x1x1536_2 (shapeCast _ (extractStridedSlice S1x1536 ![1, 0] x3 slices_S4x1536_S1x1536_1_0) shapeCasts_S1x1536_S1536))))) (mulf (extractStridedSlice S8x4096x1536 ![0, 2, 0] v0 slices_S8x4099x1536_S8x4096x1536_0_2_0) (broadcastInDim S8x4096x1536 ![0, 1, 2] bcast_S1x1x1536_S8x4096x1536_0_1_2 (broadcastInDim S1x1x1536 ![2] bcast_S1536_S1x1x1536_2 (shapeCast _ (extractStridedSlice S1x1536 ![2, 0] x3 slices_S4x1536_S1x1536_2_0) shapeCasts_S1x1536_S1536))))) (mulf (extractStridedSlice S8x4096x1536 ![0, 3, 0] v0 slices_S8x4099x1536_S8x4096x1536_0_3_0) (broadcastInDim S8x4096x1536 ![0, 1, 2] bcast_S1x1x1536_S8x4096x1536_0_1_2 (broadcastInDim S1x1x1536 ![2] bcast_S1536_S1x1x1536_2 (shapeCast _ (extractStridedSlice S1x1536 ![3, 0] x3 slices_S4x1536_S1x1536_3_0) shapeCasts_S1x1536_S1536))))) (broadcastInDim S8x4096x1536 ![0, 1, 2] bcast_S1x1x1536_S8x4096x1536_0_1_2 (broadcastInDim S1x1x1536 ![2] bcast_S1536_S1x1x1536_2 x4)))

/-- silu of it. -/
def gated (v32 : FVec Ideal S8x4096x1536 .f32) : FVec Ideal S8x4096x1536 .f32 :=
  (mulf v32 (Host.divf ((broadcastInDim S8x4096x1536 ![] bcast_S_S8x4096x1536) (constant (F := Ideal) S_ .f32 0x3F800000#32)) (addf ((broadcastInDim S8x4096x1536 ![] bcast_S_S8x4096x1536) (constant (F := Ideal) S_ .f32 0x3F800000#32)) (Host.exp (Host.negf v32)))))

/-- The step sizes. -/
def stepR (x2 : FVec Ideal S8x4096x16 .f32) (x5 : FVec Ideal S16 .f32) : FVec Ideal S8x4096x16 .f32 :=
  (select ((cmpf .une) (subf (addf x2 (broadcastInDim S8x4096x16 ![0, 1, 2] bcast_S1x1x16_S8x4096x16_0_1_2 (broadcastInDim S1x1x16 ![2] bcast_S16_S1x1x16_2 x5))) ((broadcastInDim S8x4096x16 ![] bcast_S_S8x4096x16) (constant (F := Ideal) S_ .f32 0x00000000#32))) (subf (addf x2 (broadcastInDim S8x4096x16 ![0, 1, 2] bcast_S1x1x16_S8x4096x16_0_1_2 (broadcastInDim S1x1x16 ![2] bcast_S16_S1x1x16_2 x5))) ((broadcastInDim S8x4096x16 ![] bcast_S_S8x4096x16) (constant (F := Ideal) S_ .f32 0x00000000#32)))) (addf (addf x2 (broadcastInDim S8x4096x16 ![0, 1, 2] bcast_S1x1x16_S8x4096x16_0_1_2 (broadcastInDim S1x1x16 ![2] bcast_S16_S1x1x16_2 x5))) ((broadcastInDim S8x4096x16 ![] bcast_S_S8x4096x16) (constant (F := Ideal) S_ .f32 0x00000000#32))) (addf (maximumf (addf x2 (broadcastInDim S8x4096x16 ![0, 1, 2] bcast_S1x1x16_S8x4096x16_0_1_2 (broadcastInDim S1x1x16 ![2] bcast_S16_S1x1x16_2 x5))) ((broadcastInDim S8x4096x16 ![] bcast_S_S8x4096x16) (constant (F := Ideal) S_ .f32 0x00000000#32))) (Host.log1p (Host.exp (Host.negf (Host.absf (subf (addf x2 (broadcastInDim S8x4096x16 ![0, 1, 2] bcast_S1x1x16_S8x4096x16_0_1_2 (broadcastInDim S1x1x16 ![2] bcast_S16_S1x1x16_2 x5))) ((broadcastInDim S8x4096x16 ![] bcast_S_S8x4096x16) (constant (F := Ideal) S_ .f32 0x00000000#32)))))))))

/-- The heads' inputs. -/
def headsR (v33 : FVec Ideal S8x4096x1536 .f32) : FVec Ideal S8x4096x16x64 .f32 :=
  (shapeCast _ (extractStridedSlice S8x4096x1024 ![0, 0, 0] v33 slices_S8x4096x1536_S8x4096x1024_0_0_0) shapeCasts_S8x4096x1024_S8x4096x16x64)

/-- The heads' inputs times their steps, a chunk at a time. -/
def inR (v37 : FVec Ideal S8x4096x16x64 .f32) (v43 : FVec Ideal S8x4096x16 .f32) : FVec Ideal S8x32x128x2x8x64 .f32 :=
  (shapeCast _ (mulf v37 (broadcastInDim S8x4096x16x64 ![0, 1, 2, 3] bcast_S8x4096x16x1_S8x4096x16x64_0_1_2_3 (broadcastInDim S8x4096x16x1 ![0, 1, 2] bcast_S8x4096x16_S8x4096x16x1_0_1_2 v43))) shapeCasts_S8x4096x16x64_S8x32x128x2x8x64)

/-- The decays' logarithms. -/
def logR (v43 : FVec Ideal S8x4096x16 .f32) (x6 : FVec Ideal S16 .f32) : FVec Ideal S8x2x8x32x128 .f32 :=
  (transpose S8x2x8x32x128 [0, 3, 4, 1, 2] (shapeCast _ (mulf v43 (broadcastInDim S8x4096x16 ![0, 1, 2] bcast_S1x1x16_S8x4096x16_0_1_2 (broadcastInDim S1x1x16 ![2] bcast_S16_S1x1x16_2 (Host.negf (Host.exp x6))))) shapeCasts_S8x4096x16_S8x32x128x2x8) transposes_S8x32x128x2x8_S8x2x8x32x128_0_3_4_1_2)

/-- The input directions. -/
def bR (v33 : FVec Ideal S8x4096x1536 .f32) : FVec Ideal S8x32x128x2x128 .f32 :=
  (shapeCast _ (shapeCast _ (extractStridedSlice S8x4096x256 ![0, 0, 1024] v33 slices_S8x4096x1536_S8x4096x256_0_0_1024) shapeCasts_S8x4096x256_S8x4096x2x128) shapeCasts_S8x4096x2x128_S8x32x128x2x128)

/-- The output directions. -/
def cR (v33 : FVec Ideal S8x4096x1536 .f32) : FVec Ideal S8x32x128x2x128 .f32 :=
  (shapeCast _ (shapeCast _ (extractStridedSlice S8x4096x256 ![0, 0, 1280] v33 slices_S8x4096x1536_S8x4096x256_0_0_1280) shapeCasts_S8x4096x256_S8x4096x2x128) shapeCasts_S8x4096x2x128_S8x32x128x2x128)

/-- Their running sums. -/
def accR (v54 : FVec Ideal S8x2x8x32x128 .f32) : FVec Ideal S8x2x8x32x128 .f32 :=
  (Host.reduceWindowAdd ![1, 1, 1, 1, 128] ![1, 1, 1, 1, 1] ![0, 0, 0, 0, 127] ![0, 0, 0, 0, 0] v54 ((broadcastInDim S_ ![] bcast_S_S_) (constant (F := Ideal) S_ .f32 0x00000000#32)) reduceWindows_S8x2x8x32x128_S8x2x8x32x128_w1s1p0_0_w1s1p0_0_w1s1p0_0_w1s1p0_0_w128s1p127_0 h_S_)

/-- The strict lower triangle. -/
def strictR : IVec S128x128 1 :=
  (select ((cmpi .sge) (addi (iotaInDim S128x128 32 0) ((broadcastInDim S128x128 ![] bcast_S_S128x128) (constantI S_ 32 4294967295#32))) (iotaInDim S128x128 32 1)) (broadcastInDim S128x128 ![] bcast_S_S128x128 (constantI S_ 1 1#1)) ((broadcastInDim S128x128 ![] bcast_S_S128x128) (constantI S_ 1 0#1)))

/-- The logarithms below the diagonal. -/
def maskedR (v54 : FVec Ideal S8x2x8x32x128 .f32) : FVec Ideal S8x2x8x32x128x128 .f32 :=
  (select ((broadcastInDim S8x2x8x32x128x128 ![4, 5] bcast_S128x128_S8x2x8x32x128x128_4_5) strictR) (broadcastInDim S8x2x8x32x128x128 ![0, 1, 2, 3, 4, 5] bcast_S8x2x8x32x128x1_S8x2x8x32x128x128_0_1_2_3_4_5 (broadcastInDim S8x2x8x32x128x1 ![0, 1, 2, 3, 4] bcast_S8x2x8x32x128_S8x2x8x32x128x1_0_1_2_3_4 v54)) ((broadcastInDim S8x2x8x32x128x128 ![] bcast_S_S8x2x8x32x128x128) (constant (F := Ideal) S_ .f32 0x00000000#32)))

/-- Their sums between two tokens. -/
def segR (v54 : FVec Ideal S8x2x8x32x128 .f32) : FVec Ideal S8x2x8x32x128x128 .f32 :=
  (Host.reduceWindowAdd ![1, 1, 1, 1, 128, 1] ![1, 1, 1, 1, 1, 1] ![0, 0, 0, 0, 127, 0] ![0, 0, 0, 0, 0, 0] (maskedR v54) ((broadcastInDim S_ ![] bcast_S_S_) (constant (F := Ideal) S_ .f32 0x00000000#32)) reduceWindows_S8x2x8x32x128x128_S8x2x8x32x128x128_w1s1p0_0_w1s1p0_0_w1s1p0_0_w1s1p0_0_w128s1p127_0_w1s1p0_0 h_S_)

/-- The lower triangle. -/
def lowR : IVec S128x128 1 :=
  (select ((cmpi .sge) (addi (iotaInDim S128x128 32 0) ((broadcastInDim S128x128 ![] bcast_S_S128x128) (constantI S_ 32 0#32))) (iotaInDim S128x128 32 1)) (broadcastInDim S128x128 ![] bcast_S_S128x128 (constantI S_ 1 1#1)) ((broadcastInDim S128x128 ![] bcast_S_S128x128) (constantI S_ 1 0#1)))

/-- The same, nothing above the diagonal. -/
def segmentR (v63 : FVec Ideal S8x2x8x32x128x128 .f32) : FVec Ideal S8x2x8x32x128x128 .f32 :=
  (select ((broadcastInDim S8x2x8x32x128x128 ![4, 5] bcast_S128x128_S8x2x8x32x128x128_4_5) lowR) v63 ((broadcastInDim S8x2x8x32x128x128 ![] bcast_S_S8x2x8x32x128x128) (constant (F := Ideal) S_ .f32 0xFF800000#32)))

/-- The products of the directions. -/
def pairR (v56 : FVec Ideal S8x32x128x2x128 .f32) (v55 : FVec Ideal S8x32x128x2x128 .f32) : FVec Ideal S8x2x32x128x128 .f32 :=
  (Host.dotGeneral dot_S8x32x128x2x128_S8x32x128x2x128_S8x2x32x128x128_4_4_2_2_031_031 none v56 v55)

/-- A chunk's outputs from its own inputs. -/
def diagR (v66 : FVec Ideal S8x2x8x32x128x128 .f32) (v68 : FVec Ideal S8x2x32x128x128 .f32) (v52 : FVec Ideal S8x32x128x2x8x64 .f32) : FVec Ideal S8x32x128x2x8x64 .f32 :=
  (transpose S8x32x128x2x8x64 [0, 1, 5, 2, 3, 4] (Host.dotGeneral dot_S8x32x128x2x8x64_S8x2x8x32x128x128_S8x32x2x8x64x128_2_5_5_4_0134_0312 none v52 (mulf (broadcastInDim S8x2x8x32x128x128 ![0, 1, 2, 3, 4, 5] bcast_S8x2x1x32x128x128_S8x2x8x32x128x128_0_1_2_3_4_5 (broadcastInDim S8x2x1x32x128x128 ![0, 1, 3, 4, 5] bcast_S8x2x32x128x128_S8x2x1x32x128x128_0_1_3_4_5 v68)) (Host.exp v66))) transposes_S8x32x2x8x64x128_S8x32x128x2x8x64_0_1_5_2_3_4)

/-- The decays to a chunk's end. -/
def endR (v57 : FVec Ideal S8x2x8x32x128 .f32) : FVec Ideal S8x2x8x32x128 .f32 :=
  (Host.exp (subf (broadcastInDim S8x2x8x32x128 ![0, 1, 2, 3, 4] bcast_S8x2x8x32x1_S8x2x8x32x128_0_1_2_3_4 (extractStridedSlice S8x2x8x32x1 ![0, 0, 0, 0, 127] v57 slices_S8x2x8x32x128_S8x2x8x32x1_0_0_0_0_127)) v57))

/-- What a chunk adds to the state. -/
def stateR (v77 : FVec Ideal S8x2x8x32x128 .f32) (v52 : FVec Ideal S8x32x128x2x8x64 .f32) (v55 : FVec Ideal S8x32x128x2x128 .f32) : FVec Ideal S32x8x2x8x64x128 .f32 :=
  (transpose S32x8x2x8x64x128 [1, 0, 2, 3, 4, 5] (Host.dotGeneral dot_S8x32x128x2x8x64_S8x32x128x2x128_S8x32x2x8x64x128_2_2_45_4_013_013 none (mulf v52 (broadcastInDim S8x32x128x2x8x64 ![0, 1, 2, 3, 4, 5] bcast_S8x32x128x2x8x1_S8x32x128x2x8x64_0_1_2_3_4_5 (broadcastInDim S8x32x128x2x8x1 ![0, 1, 2, 3, 4] bcast_S8x32x128x2x8_S8x32x128x2x8x1_0_1_2_3_4 (transpose S8x32x128x2x8 [0, 3, 4, 1, 2] v77 transposes_S8x2x8x32x128_S8x32x128x2x8_0_3_4_1_2)))) v55) transposes_S8x32x2x8x64x128_S32x8x2x8x64x128_1_0_2_3_4_5)

/-- A chunk's whole decay. -/
def decayR (v57 : FVec Ideal S8x2x8x32x128 .f32) : FVec Ideal S32x8x2x8 .f32 :=
  (transpose S32x8x2x8 [3, 0, 1, 2] (Host.exp (shapeCast _ (extractStridedSlice S8x2x8x32x1 ![0, 0, 0, 0, 127] v57 slices_S8x2x8x32x128_S8x2x8x32x1_0_0_0_0_127) shapeCasts_S8x2x8x32x1_S8x2x8x32)) transposes_S8x2x8x32_S32x8x2x8_3_0_1_2)

/-- What the states that enter give. -/
def offR (v904 : FVec Ideal S32x8x2x8x64x128 .f32) (v56 : FVec Ideal S8x32x128x2x128 .f32) (v57 : FVec Ideal S8x2x8x32x128 .f32) : FVec Ideal S8x32x128x2x8x64 .f32 :=
  (mulf (transpose S8x32x128x2x8x64 [0, 1, 5, 2, 3, 4] (Host.dotGeneral dot_S8x32x2x8x64x128_S8x32x128x2x128_S8x32x2x8x64x128_5_4_34_2_012_013 none (transpose S8x32x2x8x64x128 [1, 0, 2, 3, 4, 5] v904 transposes_S32x8x2x8x64x128_S8x32x2x8x64x128_1_0_2_3_4_5) v56) transposes_S8x32x2x8x64x128_S8x32x128x2x8x64_0_1_5_2_3_4) (broadcastInDim S8x32x128x2x8x64 ![0, 1, 2, 3, 4, 5] bcast_S8x32x128x2x8x1_S8x32x128x2x8x64_0_1_2_3_4_5 (broadcastInDim S8x32x128x2x8x1 ![0, 1, 2, 3, 4] bcast_S8x32x128x2x8_S8x32x128x2x8x1_0_1_2_3_4 (transpose S8x32x128x2x8 [0, 3, 4, 1, 2] (Host.exp v57) transposes_S8x2x8x32x128_S8x32x128x2x8_0_3_4_1_2))))

/-- The outputs with the skip. -/
def joinR (v73 : FVec Ideal S8x32x128x2x8x64 .f32) (v98 : FVec Ideal S8x32x128x2x8x64 .f32) (v37 : FVec Ideal S8x4096x16x64 .f32) (x7 : FVec Ideal S16 .f32) : FVec Ideal S8x4096x1024 .f32 :=
  (shapeCast _ (addf (shapeCast _ (addf v73 v98) shapeCasts_S8x32x128x2x8x64_S8x4096x16x64) (mulf v37 (broadcastInDim S8x4096x16x64 ![0, 1, 2, 3] bcast_S1x1x16x1_S8x4096x16x64_0_1_2_3 (broadcastInDim S1x1x16x1 ![2, 3] bcast_S16x1_S1x1x16x1_2_3 (broadcastInDim S16x1 ![0] bcast_S16_S16x1_0 x7))))) shapeCasts_S8x4096x16x64_S8x4096x1024)

/-- The gate. -/
def gateR (v106 : FVec Ideal S8x4096x1024 .f32) (x0 : FVec Ideal S8x4096x1024 .f32) : FVec Ideal S8x4096x1024 .f32 :=
  (mulf v106 (mulf x0 (Host.divf ((broadcastInDim S8x4096x1024 ![] bcast_S_S8x4096x1024) (constant (F := Ideal) S_ .f32 0x3F800000#32)) (addf ((broadcastInDim S8x4096x1024 ![] bcast_S_S8x4096x1024) (constant (F := Ideal) S_ .f32 0x3F800000#32)) (Host.exp (Host.negf x0))))))

/-- The norm. -/
def normR (v108 : FVec Ideal S8x4096x1024 .f32) (x8 : FVec Ideal S1024 .f32) : FVec Ideal S32768x1024 .f32 :=
  (shapeCast _ (mulf (mulf v108 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v108 v108) (constant (F := Ideal) S_ .f32 0x00000000#32) reducesTo_S8x4096x1024_S8x4096_d2 h_S_)) (broadcastInDim S8x4096x1 ![] bcast_S_S8x4096x1 (constant (F := Ideal) S_ .f32 0x44800000#32))) (broadcastInDim S8x4096x1 ![] bcast_S_S8x4096x1 (constant (F := Ideal) S_ .f32 0x358637BD#32)))))) (broadcastInDim S8x4096x1024 ![0, 1, 2] bcast_S1x1x1024_S8x4096x1024_0_1_2 (broadcastInDim S1x1x1024 ![2] bcast_S1024_S1x1x1024_2 x8))) shapeCasts_S8x4096x1024_S32768x1024)

end Cert.SsdRefIdeal.Hand
-- ==== Proof.SsdRefRes.lean ====
/-
  What each stretch of the recurrence's reference leaves, from any contents before it.
-/
module

public import proofs.«01_k».proof.Proof.SsdRefDefs

@[expose] public section

set_option maxRecDepth 65536

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Idealize.SL.Sem Idealize.ShloMosaic.StableHlo

/-- The padding, of the padding value. -/
def padOf (x1 : FVec Ideal S8x4096x1536 .f32) (v : IVec S_ 32) : FVec Ideal S8x4099x1536 .f32 :=
  (pad S8x4099x1536 ![0, 3, 0] ![0, 0, 0] ![0, 0, 0] x1 ((sitofp .f32) v) pads_S8x4096x1536_S8x4099x1536_000_300_000 h_S_)

/-- The biased steps. -/
def biasOf (x2 : FVec Ideal S8x4096x16 .f32) (x5 : FVec Ideal S16 .f32) : FVec Ideal S8x4096x16 .f32 :=
  (addf x2 (broadcastInDim S8x4096x16 ![0, 1, 2] bcast_S1x1x16_S8x4096x16_0_1_2 (broadcastInDim S1x1x16 ![2] bcast_S16_S1x1x16_2 x5)))

theorem res_c (V : Valuation τ sig (Elt Ideal)) : after hostOps0 V (Proc.devRef .tc main_c)
    = (constantI S_ 32 0#32) := by
  after_results_simp <;> rfl

theorem res_v0 (V : Valuation τ sig (Elt Ideal)) : after hostOps0_1 V (Proc.devRef .tc main_v0)
    = padOf (V (Proc.devRef .tc main_arg1)) (V (Proc.devRef .tc main_c)) := by
  after_results_simp <;> rfl

theorem res_v32 (V : Valuation τ sig (Elt Ideal)) : after hostOps0_2 V (Proc.devRef .tc main_v32)
    = mixed (V (Proc.devRef .tc main_v0)) (V (Proc.devRef .tc main_arg3)) (V (Proc.devRef .tc main_arg4)) := by
  after_results_simp <;> rfl

theorem res_v33 (V : Valuation τ sig (Elt Ideal)) : after hostOps0_3 V (Proc.devRef .tc main_v33)
    = gated (V (Proc.devRef .tc main_v32)) := by
  after_results_simp <;> rfl

theorem res_v42 (V : Valuation τ sig (Elt Ideal)) : after hostOps0_4 V (Proc.devRef .tc main_v42)
    = biasOf (V (Proc.devRef .tc main_arg2)) (V (Proc.devRef .tc main_arg5)) := by
  after_results_simp <;> rfl

theorem res_v37 (V : Valuation τ sig (Elt Ideal)) : after hostOps0_4 V (Proc.devRef .tc main_v37)
    = headsR (V (Proc.devRef .tc main_v33)) := by
  after_results_simp <;> rfl

theorem res_v38 (V : Valuation τ sig (Elt Ideal)) : after hostOps0_4 V (Proc.devRef .tc main_v38)
    = (shapeCast _ (extractStridedSlice S8x4096x256 ![0, 0, 1024] (V (Proc.devRef .tc main_v33)) slices_S8x4096x1536_S8x4096x256_0_0_1024) shapeCasts_S8x4096x256_S8x4096x2x128) := by
  after_results_simp <;> rfl

theorem res_v39 (V : Valuation τ sig (Elt Ideal)) : after hostOps0_4 V (Proc.devRef .tc main_v39)
    = (shapeCast _ (extractStridedSlice S8x4096x256 ![0, 0, 1280] (V (Proc.devRef .tc main_v33)) slices_S8x4096x1536_S8x4096x256_0_0_1280) shapeCasts_S8x4096x256_S8x4096x2x128) := by
  after_results_simp <;> rfl

theorem res_v43 (V : Valuation τ sig (Elt Ideal)) : after hostOps0_5 V (Proc.devRef .tc main_v43)
    = (select ((cmpf .une) (subf (V (Proc.devRef .tc main_v42)) ((broadcastInDim S8x4096x16 ![] bcast_S_S8x4096x16) (constant (F := Ideal) S_ .f32 0x00000000#32))) (subf (V (Proc.devRef .tc main_v42)) ((broadcastInDim S8x4096x16 ![] bcast_S_S8x4096x16) (constant (F := Ideal) S_ .f32 0x00000000#32)))) (addf (V (Proc.devRef .tc main_v42)) ((broadcastInDim S8x4096x16 ![] bcast_S_S8x4096x16) (constant (F := Ideal) S_ .f32 0x00000000#32))) (addf (maximumf (V (Proc.devRef .tc main_v42)) ((broadcastInDim S8x4096x16 ![] bcast_S_S8x4096x16) (constant (F := Ideal) S_ .f32 0x00000000#32))) (Host.log1p (Host.exp (Host.negf (Host.absf (subf (V (Proc.devRef .tc main_v42)) ((broadcastInDim S8x4096x16 ![] bcast_S_S8x4096x16) (constant (F := Ideal) S_ .f32 0x00000000#32))))))))) := by
  after_results_simp <;> rfl

theorem res_v55 (V : Valuation τ sig (Elt Ideal)) : after hostOps0_6 V (Proc.devRef .tc main_v55)
    = (shapeCast _ (V (Proc.devRef .tc main_v38)) shapeCasts_S8x4096x2x128_S8x32x128x2x128) := by
  after_results_simp <;> rfl

theorem res_v56 (V : Valuation τ sig (Elt Ideal)) : after hostOps0_6 V (Proc.devRef .tc main_v56)
    = (shapeCast _ (V (Proc.devRef .tc main_v39)) shapeCasts_S8x4096x2x128_S8x32x128x2x128) := by
  after_results_simp <;> rfl

theorem res_v52 (V : Valuation τ sig (Elt Ideal)) : after hostOps0_6 V (Proc.devRef .tc main_v52)
    = inR (V (Proc.devRef .tc main_v37)) (V (Proc.devRef .tc main_v43)) := by
  after_results_simp <;> rfl

theorem res_v54 (V : Valuation τ sig (Elt Ideal)) : after hostOps0_6 V (Proc.devRef .tc main_v54)
    = logR (V (Proc.devRef .tc main_v43)) (V (Proc.devRef .tc main_arg6)) := by
  after_results_simp <;> rfl

theorem res_v57 (V : Valuation τ sig (Elt Ideal)) : after hostOps0_7 V (Proc.devRef .tc main_v57)
    = accR (V (Proc.devRef .tc main_v54)) := by
  after_results_simp <;> rfl

theorem res_v60 (V : Valuation τ sig (Elt Ideal)) : after hostOps0_8 V (Proc.devRef .tc main_v60)
    = (broadcastInDim S128x128 ![] bcast_S_S128x128 (constantI S_ 1 1#1)) := by
  after_results_simp <;> rfl

theorem res_v59 (V : Valuation τ sig (Elt Ideal)) : after hostOps0_8 V (Proc.devRef .tc main_v59)
    = (broadcastInDim S8x2x8x32x128x128 ![0, 1, 2, 3, 4, 5] bcast_S8x2x8x32x128x1_S8x2x8x32x128x128_0_1_2_3_4_5 (broadcastInDim S8x2x8x32x128x1 ![0, 1, 2, 3, 4] bcast_S8x2x8x32x128_S8x2x8x32x128x1_0_1_2_3_4 (V (Proc.devRef .tc main_v54)))) := by
  after_results_simp <;> rfl

/-- The triangle's stretch, of any offset `w`. -/
abbrev triOps (w : IVec S_ 32) : List (HloOp τ sig (Elt Ideal)) :=
  [ StableHlo.TRef.nullary (.of main_call4_v0 : StableHlo.TRef sig ⟨S128x128, .i32⟩) (iotaInDim S128x128 32 0),
    StableHlo.TRef.nullary (.of main_call4_c : StableHlo.TRef sig ⟨S_, .i32⟩) w,
    StableHlo.TRef.unary (.of main_call4_c : StableHlo.TRef sig ⟨S_, .i32⟩) (.of main_call4_v1 : StableHlo.TRef sig ⟨S128x128, .i32⟩) (broadcastInDim S128x128 ![] bcast_S_S128x128),
    StableHlo.TRef.binary (.of main_call4_v0 : StableHlo.TRef sig ⟨S128x128, .i32⟩) (.of main_call4_v1 : StableHlo.TRef sig ⟨S128x128, .i32⟩) (.of main_call4_v2 : StableHlo.TRef sig ⟨S128x128, .i32⟩) addi,
    StableHlo.TRef.nullary (.of main_call4_v3 : StableHlo.TRef sig ⟨S128x128, .i32⟩) (iotaInDim S128x128 32 1),
    StableHlo.TRef.binary (.of main_call4_v2 : StableHlo.TRef sig ⟨S128x128, .i32⟩) (.of main_call4_v3 : StableHlo.TRef sig ⟨S128x128, .i32⟩) (.of main_call4_v4 : StableHlo.TRef sig ⟨S128x128, .i1⟩) (cmpi .sge),
    StableHlo.TRef.nullary (.of main_call4_c_0 : StableHlo.TRef sig ⟨S_, .i1⟩) (constantI S_ 1 0#1),
    StableHlo.TRef.unary (.of main_call4_c_0 : StableHlo.TRef sig ⟨S_, .i1⟩) (.of main_call4_v5 : StableHlo.TRef sig ⟨S128x128, .i1⟩) (broadcastInDim S128x128 ![] bcast_S_S128x128),
    StableHlo.TRef.ternary (.of main_call4_v4 : StableHlo.TRef sig ⟨S128x128, .i1⟩) (.of main_v60 : StableHlo.TRef sig ⟨S128x128, .i1⟩) (.of main_call4_v5 : StableHlo.TRef sig ⟨S128x128, .i1⟩) (.of main_v61 : StableHlo.TRef sig ⟨S128x128, .i1⟩) select ]

theorem triOps_v61 (w : IVec S_ 32) (V : Valuation τ sig (Elt Ideal)) : after (triOps w) V (Proc.devRef .tc main_v61)
    = (select ((cmpi .sge) (addi (iotaInDim S128x128 32 0) ((broadcastInDim S128x128 ![] bcast_S_S128x128) w)) (iotaInDim S128x128 32 1)) (V (Proc.devRef .tc main_v60)) ((broadcastInDim S128x128 ![] bcast_S_S128x128) (constantI S_ 1 0#1))) := by
  after_results_simp <;> rfl

theorem res_v61 (V : Valuation τ sig (Elt Ideal)) : after hostOps0_9 V (Proc.devRef .tc main_v61)
    = (select ((cmpi .sge) (addi (iotaInDim S128x128 32 0) ((broadcastInDim S128x128 ![] bcast_S_S128x128) (constantI S_ 32 4294967295#32))) (iotaInDim S128x128 32 1)) (V (Proc.devRef .tc main_v60)) ((broadcastInDim S128x128 ![] bcast_S_S128x128) (constantI S_ 1 0#1))) :=
  triOps_v61 (constantI S_ 32 4294967295#32) V

theorem res_cst_1 (V : Valuation τ sig (Elt Ideal)) : after hostOps0_10 V (Proc.devRef .tc main_cst_1)
    = (constant (F := Ideal) S_ .f32 0x00000000#32) := by
  after_results_simp <;> rfl

theorem res_v62 (V : Valuation τ sig (Elt Ideal)) : after hostOps0_11 V (Proc.devRef .tc main_v62)
    = (select ((broadcastInDim S8x2x8x32x128x128 ![4, 5] bcast_S128x128_S8x2x8x32x128x128_4_5) (V (Proc.devRef .tc main_v61))) (V (Proc.devRef .tc main_v59)) ((broadcastInDim S8x2x8x32x128x128 ![] bcast_S_S8x2x8x32x128x128) (V (Proc.devRef .tc main_cst_1)))) := by
  after_results_simp <;> rfl

theorem res_v63 (V : Valuation τ sig (Elt Ideal)) : after hostOps0_12 V (Proc.devRef .tc main_v63)
    = (Host.reduceWindowAdd ![1, 1, 1, 1, 128, 1] ![1, 1, 1, 1, 1, 1] ![0, 0, 0, 0, 127, 0] ![0, 0, 0, 0, 0, 0] (V (Proc.devRef .tc main_v62)) ((broadcastInDim S_ ![] bcast_S_S_) (constant (F := Ideal) S_ .f32 0x00000000#32)) reduceWindows_S8x2x8x32x128x128_S8x2x8x32x128x128_w1s1p0_0_w1s1p0_0_w1s1p0_0_w1s1p0_0_w128s1p127_0_w1s1p0_0 h_S_) := by
  after_results_simp <;> rfl

theorem res_v64 (V : Valuation τ sig (Elt Ideal)) : after hostOps0_13 V (Proc.devRef .tc main_v64)
    = (broadcastInDim S128x128 ![] bcast_S_S128x128 (constantI S_ 1 1#1)) := by
  after_results_simp <;> rfl

theorem res_v65 (V : Valuation τ sig (Elt Ideal)) : after hostOps0_14 V (Proc.devRef .tc main_v65)
    = (select ((cmpi .sge) (addi (iotaInDim S128x128 32 0) ((broadcastInDim S128x128 ![] bcast_S_S128x128) (constantI S_ 32 0#32))) (iotaInDim S128x128 32 1)) (V (Proc.devRef .tc main_v64)) ((broadcastInDim S128x128 ![] bcast_S_S128x128) (constantI S_ 1 0#1))) := by
  after_results_simp <;> rfl

theorem res_cst_3 (V : Valuation τ sig (Elt Ideal)) : after hostOps0_15 V (Proc.devRef .tc main_cst_3)
    = (constant (F := Ideal) S_ .f32 0xFF800000#32) := by
  after_results_simp <;> rfl

theorem res_v66 (V : Valuation τ sig (Elt Ideal)) : after hostOps0_16 V (Proc.devRef .tc main_v66)
    = (select ((broadcastInDim S8x2x8x32x128x128 ![4, 5] bcast_S128x128_S8x2x8x32x128x128_4_5) (V (Proc.devRef .tc main_v65))) (V (Proc.devRef .tc main_v63)) ((broadcastInDim S8x2x8x32x128x128 ![] bcast_S_S8x2x8x32x128x128) (V (Proc.devRef .tc main_cst_3)))) := by
  after_results_simp <;> rfl

theorem res_v73 (V : Valuation τ sig (Elt Ideal)) : after hostOps0_17 V (Proc.devRef .tc main_v73)
    = diagR (V (Proc.devRef .tc main_v66)) (pairR (V (Proc.devRef .tc main_v56)) (V (Proc.devRef .tc main_v55))) (V (Proc.devRef .tc main_v52)) := by
  after_results_simp <;> rfl

theorem res_v90_0 (V : Valuation τ sig (Elt Ideal)) : after hostOps0_17 V (Proc.devRef .tc main_v90_0)
    = stateR (endR (V (Proc.devRef .tc main_v57))) (V (Proc.devRef .tc main_v52)) (V (Proc.devRef .tc main_v55)) := by
  after_results_simp <;> rfl

theorem res_v90_1 (V : Valuation τ sig (Elt Ideal)) : after hostOps0_17 V (Proc.devRef .tc main_v90_1)
    = decayR (V (Proc.devRef .tc main_v57)) := by
  after_results_simp <;> rfl

theorem res_v90_3 (V : Valuation τ sig (Elt Ideal)) : after hostOps0_17 V (Proc.devRef .tc main_v90_3)
    = (broadcastInDim S8x2x8x64x128 ![] bcast_S_S8x2x8x64x128 (constant (F := Ideal) S_ .f32 0x00000000#32)) := by
  after_results_simp <;> rfl

theorem res_v90_4 (V : Valuation τ sig (Elt Ideal)) : after hostOps0_17 V (Proc.devRef .tc main_v90_4)
    = (broadcastInDim S32x8x2x8x64x128 ![] bcast_S_S32x8x2x8x64x128 (constant (F := Ideal) S_ .f32 0x00000000#32)) := by
  after_results_simp <;> rfl

end Cert.SsdRefIdeal.Hand
-- ==== Proof.SsdRefRead.lean ====
/-
  The recurrence's reference before its loop: every array it leaves, of the arguments.
-/
module

public import proofs.«01_k».proof.Proof.SsdRefRes

@[expose] public section

set_option maxRecDepth 65536

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Idealize.SL.Sem Idealize.ShloMosaic.StableHlo

variable (m : (ℓ : Loc nD τ sig) → Buf (Elt Ideal) ℓ) (c : Dev nD)

/-- The contents before the reference's first stretch. -/
def st0 : Valuation τ sig (Elt Ideal) := launchContents m c

def st1 : Valuation τ sig (Elt Ideal) := after hostOps0 (st0 m c)

def st2 : Valuation τ sig (Elt Ideal) := after hostOps0_1 (st1 m c)

def st3 : Valuation τ sig (Elt Ideal) := after hostOps0_2 (st2 m c)

def st4 : Valuation τ sig (Elt Ideal) := after hostOps0_3 (st3 m c)

def st5 : Valuation τ sig (Elt Ideal) := after hostOps0_4 (st4 m c)

def st6 : Valuation τ sig (Elt Ideal) := after hostOps0_5 (st5 m c)

def st7 : Valuation τ sig (Elt Ideal) := after hostOps0_6 (st6 m c)

def st8 : Valuation τ sig (Elt Ideal) := after hostOps0_7 (st7 m c)

def st9 : Valuation τ sig (Elt Ideal) := after hostOps0_8 (st8 m c)

def st10 : Valuation τ sig (Elt Ideal) := after hostOps0_9 (st9 m c)

def st11 : Valuation τ sig (Elt Ideal) := after hostOps0_10 (st10 m c)

def st12 : Valuation τ sig (Elt Ideal) := after hostOps0_11 (st11 m c)

def st13 : Valuation τ sig (Elt Ideal) := after hostOps0_12 (st12 m c)

def st14 : Valuation τ sig (Elt Ideal) := after hostOps0_13 (st13 m c)

def st15 : Valuation τ sig (Elt Ideal) := after hostOps0_14 (st14 m c)

def st16 : Valuation τ sig (Elt Ideal) := after hostOps0_15 (st15 m c)

def st17 : Valuation τ sig (Elt Ideal) := after hostOps0_16 (st16 m c)

def st18 : Valuation τ sig (Elt Ideal) := after hostOps0_17 (st17 m c)

theorem entry_eq : entryContents preI m c = st18 m c := rfl

theorem keep0 (r : Ref sig .tc) (h : r ∉ hostOps0_W) : st1 m c (Proc.devRef .tc r) = st0 m c (Proc.devRef .tc r) :=
  after_of_writes_sub hostOps0 (st0 m c) hostOps0_writes h

theorem keep1 (r : Ref sig .tc) (h : r ∉ hostOps0_1_W) : st2 m c (Proc.devRef .tc r) = st1 m c (Proc.devRef .tc r) :=
  after_of_writes_sub hostOps0_1 (st1 m c) hostOps0_1_writes h

theorem keep2 (r : Ref sig .tc) (h : r ∉ hostOps0_2_W) : st3 m c (Proc.devRef .tc r) = st2 m c (Proc.devRef .tc r) :=
  after_of_writes_sub hostOps0_2 (st2 m c) hostOps0_2_writes h

theorem keep3 (r : Ref sig .tc) (h : r ∉ hostOps0_3_W) : st4 m c (Proc.devRef .tc r) = st3 m c (Proc.devRef .tc r) :=
  after_of_writes_sub hostOps0_3 (st3 m c) hostOps0_3_writes h

theorem keep4 (r : Ref sig .tc) (h : r ∉ hostOps0_4_W) : st5 m c (Proc.devRef .tc r) = st4 m c (Proc.devRef .tc r) :=
  after_of_writes_sub hostOps0_4 (st4 m c) hostOps0_4_writes h

theorem keep5 (r : Ref sig .tc) (h : r ∉ hostOps0_5_W) : st6 m c (Proc.devRef .tc r) = st5 m c (Proc.devRef .tc r) :=
  after_of_writes_sub hostOps0_5 (st5 m c) hostOps0_5_writes h

theorem keep6 (r : Ref sig .tc) (h : r ∉ hostOps0_6_W) : st7 m c (Proc.devRef .tc r) = st6 m c (Proc.devRef .tc r) :=
  after_of_writes_sub hostOps0_6 (st6 m c) hostOps0_6_writes h

theorem keep7 (r : Ref sig .tc) (h : r ∉ hostOps0_7_W) : st8 m c (Proc.devRef .tc r) = st7 m c (Proc.devRef .tc r) :=
  after_of_writes_sub hostOps0_7 (st7 m c) hostOps0_7_writes h

theorem keep8 (r : Ref sig .tc) (h : r ∉ hostOps0_8_W) : st9 m c (Proc.devRef .tc r) = st8 m c (Proc.devRef .tc r) :=
  after_of_writes_sub hostOps0_8 (st8 m c) hostOps0_8_writes h

theorem keep9 (r : Ref sig .tc) (h : r ∉ hostOps0_9_W) : st10 m c (Proc.devRef .tc r) = st9 m c (Proc.devRef .tc r) :=
  after_of_writes_sub hostOps0_9 (st9 m c) hostOps0_9_writes h

theorem keep10 (r : Ref sig .tc) (h : r ∉ hostOps0_10_W) : st11 m c (Proc.devRef .tc r) = st10 m c (Proc.devRef .tc r) :=
  after_of_writes_sub hostOps0_10 (st10 m c) hostOps0_10_writes h

theorem keep11 (r : Ref sig .tc) (h : r ∉ hostOps0_11_W) : st12 m c (Proc.devRef .tc r) = st11 m c (Proc.devRef .tc r) :=
  after_of_writes_sub hostOps0_11 (st11 m c) hostOps0_11_writes h

theorem keep12 (r : Ref sig .tc) (h : r ∉ hostOps0_12_W) : st13 m c (Proc.devRef .tc r) = st12 m c (Proc.devRef .tc r) :=
  after_of_writes_sub hostOps0_12 (st12 m c) hostOps0_12_writes h

theorem keep13 (r : Ref sig .tc) (h : r ∉ hostOps0_13_W) : st14 m c (Proc.devRef .tc r) = st13 m c (Proc.devRef .tc r) :=
  after_of_writes_sub hostOps0_13 (st13 m c) hostOps0_13_writes h

theorem keep14 (r : Ref sig .tc) (h : r ∉ hostOps0_14_W) : st15 m c (Proc.devRef .tc r) = st14 m c (Proc.devRef .tc r) :=
  after_of_writes_sub hostOps0_14 (st14 m c) hostOps0_14_writes h

theorem keep15 (r : Ref sig .tc) (h : r ∉ hostOps0_15_W) : st16 m c (Proc.devRef .tc r) = st15 m c (Proc.devRef .tc r) :=
  after_of_writes_sub hostOps0_15 (st15 m c) hostOps0_15_writes h

theorem keep16 (r : Ref sig .tc) (h : r ∉ hostOps0_16_W) : st17 m c (Proc.devRef .tc r) = st16 m c (Proc.devRef .tc r) :=
  after_of_writes_sub hostOps0_16 (st16 m c) hostOps0_16_writes h

theorem keep17 (r : Ref sig .tc) (h : r ∉ hostOps0_17_W) : st18 m c (Proc.devRef .tc r) = st17 m c (Proc.devRef .tc r) :=
  after_of_writes_sub hostOps0_17 (st17 m c) hostOps0_17_writes h

/-- Argument 0. -/
abbrev a0 : FVec Ideal S8x4096x1024 .f32 := m ((c.tc : Thread nD τ).loc main_arg0)

/-- Argument 1. -/
abbrev a1 : FVec Ideal S8x4096x1536 .f32 := m ((c.tc : Thread nD τ).loc main_arg1)

/-- Argument 2. -/
abbrev a2 : FVec Ideal S8x4096x16 .f32 := m ((c.tc : Thread nD τ).loc main_arg2)

/-- Argument 3. -/
abbrev a3 : FVec Ideal S4x1536 .f32 := m ((c.tc : Thread nD τ).loc main_arg3)

/-- Argument 4. -/
abbrev a4 : FVec Ideal S1536 .f32 := m ((c.tc : Thread nD τ).loc main_arg4)

/-- Argument 5. -/
abbrev a5 : FVec Ideal S16 .f32 := m ((c.tc : Thread nD τ).loc main_arg5)

/-- Argument 6. -/
abbrev a6 : FVec Ideal S16 .f32 := m ((c.tc : Thread nD τ).loc main_arg6)

/-- Argument 7. -/
abbrev a7 : FVec Ideal S16 .f32 := m ((c.tc : Thread nD τ).loc main_arg7)

/-- Argument 8. -/
abbrev a8 : FVec Ideal S1024 .f32 := m ((c.tc : Thread nD τ).loc main_arg8)

def val_c (m : (ℓ : Loc nD τ sig) → Buf (Elt Ideal) ℓ) (c : Dev nD) : IVec S_ 32 :=
  (constantI S_ 32 0#32)

theorem st_c : st1 m c (Proc.devRef .tc main_c) = val_c m c :=
  res_c (st0 m c)

def val_v0 (m : (ℓ : Loc nD τ sig) → Buf (Elt Ideal) ℓ) (c : Dev nD) : FVec Ideal S8x4099x1536 .f32 :=
  padOf (a1 m c) (val_c m c)

theorem at1_arg1 : st1 m c (Proc.devRef .tc main_arg1) = a1 m c :=
  keep0 m c main_arg1 (by decide +kernel)

theorem at1_c : st1 m c (Proc.devRef .tc main_c) = val_c m c :=
  st_c m c

theorem st_v0 : st2 m c (Proc.devRef .tc main_v0) = val_v0 m c :=
  (res_v0 (st1 m c)).trans (by rw [at1_arg1 m c, at1_c m c]; rfl)

def val_v32 (m : (ℓ : Loc nD τ sig) → Buf (Elt Ideal) ℓ) (c : Dev nD) : FVec Ideal S8x4096x1536 .f32 :=
  mixed (val_v0 m c) (a3 m c) (a4 m c)

theorem at2_v0 : st2 m c (Proc.devRef .tc main_v0) = val_v0 m c :=
  st_v0 m c

theorem at2_arg3 : st2 m c (Proc.devRef .tc main_arg3) = a3 m c :=
  (keep1 m c main_arg3 (by decide +kernel)).trans (keep0 m c main_arg3 (by decide +kernel))

theorem at2_arg4 : st2 m c (Proc.devRef .tc main_arg4) = a4 m c :=
  (keep1 m c main_arg4 (by decide +kernel)).trans (keep0 m c main_arg4 (by decide +kernel))

theorem st_v32 : st3 m c (Proc.devRef .tc main_v32) = val_v32 m c :=
  (res_v32 (st2 m c)).trans (by rw [at2_v0 m c, at2_arg3 m c, at2_arg4 m c]; rfl)

def val_v33 (m : (ℓ : Loc nD τ sig) → Buf (Elt Ideal) ℓ) (c : Dev nD) : FVec Ideal S8x4096x1536 .f32 :=
  gated (val_v32 m c)

theorem at3_v32 : st3 m c (Proc.devRef .tc main_v32) = val_v32 m c :=
  st_v32 m c

theorem st_v33 : st4 m c (Proc.devRef .tc main_v33) = val_v33 m c :=
  (res_v33 (st3 m c)).trans (by rw [at3_v32 m c]; rfl)

def val_v42 (m : (ℓ : Loc nD τ sig) → Buf (Elt Ideal) ℓ) (c : Dev nD) : FVec Ideal S8x4096x16 .f32 :=
  biasOf (a2 m c) (a5 m c)

theorem at4_arg2 : st4 m c (Proc.devRef .tc main_arg2) = a2 m c :=
  (keep3 m c main_arg2 (by decide +kernel)).trans ((keep2 m c main_arg2 (by decide +kernel)).trans ((keep1 m c main_arg2 (by decide +kernel)).trans (keep0 m c main_arg2 (by decide +kernel))))

theorem at4_arg5 : st4 m c (Proc.devRef .tc main_arg5) = a5 m c :=
  (keep3 m c main_arg5 (by decide +kernel)).trans ((keep2 m c main_arg5 (by decide +kernel)).trans ((keep1 m c main_arg5 (by decide +kernel)).trans (keep0 m c main_arg5 (by decide +kernel))))

theorem st_v42 : st5 m c (Proc.devRef .tc main_v42) = val_v42 m c :=
  (res_v42 (st4 m c)).trans (by rw [at4_arg2 m c, at4_arg5 m c]; rfl)

def val_v37 (m : (ℓ : Loc nD τ sig) → Buf (Elt Ideal) ℓ) (c : Dev nD) : FVec Ideal S8x4096x16x64 .f32 :=
  headsR (val_v33 m c)

theorem at4_v33 : st4 m c (Proc.devRef .tc main_v33) = val_v33 m c :=
  st_v33 m c

theorem st_v37 : st5 m c (Proc.devRef .tc main_v37) = val_v37 m c :=
  (res_v37 (st4 m c)).trans (by rw [at4_v33 m c]; rfl)

def val_v38 (m : (ℓ : Loc nD τ sig) → Buf (Elt Ideal) ℓ) (c : Dev nD) : FVec Ideal S8x4096x2x128 .f32 :=
  (shapeCast _ (extractStridedSlice S8x4096x256 ![0, 0, 1024] (val_v33 m c) slices_S8x4096x1536_S8x4096x256_0_0_1024) shapeCasts_S8x4096x256_S8x4096x2x128)

theorem st_v38 : st5 m c (Proc.devRef .tc main_v38) = val_v38 m c :=
  (res_v38 (st4 m c)).trans (by rw [at4_v33 m c]; rfl)

def val_v39 (m : (ℓ : Loc nD τ sig) → Buf (Elt Ideal) ℓ) (c : Dev nD) : FVec Ideal S8x4096x2x128 .f32 :=
  (shapeCast _ (extractStridedSlice S8x4096x256 ![0, 0, 1280] (val_v33 m c) slices_S8x4096x1536_S8x4096x256_0_0_1280) shapeCasts_S8x4096x256_S8x4096x2x128)

theorem st_v39 : st5 m c (Proc.devRef .tc main_v39) = val_v39 m c :=
  (res_v39 (st4 m c)).trans (by rw [at4_v33 m c]; rfl)

def val_v43 (m : (ℓ : Loc nD τ sig) → Buf (Elt Ideal) ℓ) (c : Dev nD) : FVec Ideal S8x4096x16 .f32 :=
  (select ((cmpf .une) (subf (val_v42 m c) ((broadcastInDim S8x4096x16 ![] bcast_S_S8x4096x16) (constant (F := Ideal) S_ .f32 0x00000000#32))) (subf (val_v42 m c) ((broadcastInDim S8x4096x16 ![] bcast_S_S8x4096x16) (constant (F := Ideal) S_ .f32 0x00000000#32)))) (addf (val_v42 m c) ((broadcastInDim S8x4096x16 ![] bcast_S_S8x4096x16) (constant (F := Ideal) S_ .f32 0x00000000#32))) (addf (maximumf (val_v42 m c) ((broadcastInDim S8x4096x16 ![] bcast_S_S8x4096x16) (constant (F := Ideal) S_ .f32 0x00000000#32))) (Host.log1p (Host.exp (Host.negf (Host.absf (subf (val_v42 m c) ((broadcastInDim S8x4096x16 ![] bcast_S_S8x4096x16) (constant (F := Ideal) S_ .f32 0x00000000#32)))))))))

theorem at5_v42 : st5 m c (Proc.devRef .tc main_v42) = val_v42 m c :=
  st_v42 m c

theorem st_v43 : st6 m c (Proc.devRef .tc main_v43) = val_v43 m c :=
  (res_v43 (st5 m c)).trans (by rw [at5_v42 m c]; rfl)

def val_v55 (m : (ℓ : Loc nD τ sig) → Buf (Elt Ideal) ℓ) (c : Dev nD) : FVec Ideal S8x32x128x2x128 .f32 :=
  (shapeCast _ (val_v38 m c) shapeCasts_S8x4096x2x128_S8x32x128x2x128)

theorem at6_v38 : st6 m c (Proc.devRef .tc main_v38) = val_v38 m c :=
  (keep5 m c main_v38 (by decide +kernel)).trans (st_v38 m c)

theorem st_v55 : st7 m c (Proc.devRef .tc main_v55) = val_v55 m c :=
  (res_v55 (st6 m c)).trans (by rw [at6_v38 m c]; rfl)

def val_v56 (m : (ℓ : Loc nD τ sig) → Buf (Elt Ideal) ℓ) (c : Dev nD) : FVec Ideal S8x32x128x2x128 .f32 :=
  (shapeCast _ (val_v39 m c) shapeCasts_S8x4096x2x128_S8x32x128x2x128)

theorem at6_v39 : st6 m c (Proc.devRef .tc main_v39) = val_v39 m c :=
  (keep5 m c main_v39 (by decide +kernel)).trans (st_v39 m c)

theorem st_v56 : st7 m c (Proc.devRef .tc main_v56) = val_v56 m c :=
  (res_v56 (st6 m c)).trans (by rw [at6_v39 m c]; rfl)

def val_v52 (m : (ℓ : Loc nD τ sig) → Buf (Elt Ideal) ℓ) (c : Dev nD) : FVec Ideal S8x32x128x2x8x64 .f32 :=
  inR (val_v37 m c) (val_v43 m c)

theorem at6_v37 : st6 m c (Proc.devRef .tc main_v37) = val_v37 m c :=
  (keep5 m c main_v37 (by decide +kernel)).trans (st_v37 m c)

theorem at6_v43 : st6 m c (Proc.devRef .tc main_v43) = val_v43 m c :=
  st_v43 m c

theorem st_v52 : st7 m c (Proc.devRef .tc main_v52) = val_v52 m c :=
  (res_v52 (st6 m c)).trans (by rw [at6_v37 m c, at6_v43 m c]; rfl)

def val_v54 (m : (ℓ : Loc nD τ sig) → Buf (Elt Ideal) ℓ) (c : Dev nD) : FVec Ideal S8x2x8x32x128 .f32 :=
  logR (val_v43 m c) (a6 m c)

theorem at6_arg6 : st6 m c (Proc.devRef .tc main_arg6) = a6 m c :=
  (keep5 m c main_arg6 (by decide +kernel)).trans ((keep4 m c main_arg6 (by decide +kernel)).trans ((keep3 m c main_arg6 (by decide +kernel)).trans ((keep2 m c main_arg6 (by decide +kernel)).trans ((keep1 m c main_arg6 (by decide +kernel)).trans (keep0 m c main_arg6 (by decide +kernel))))))

theorem st_v54 : st7 m c (Proc.devRef .tc main_v54) = val_v54 m c :=
  (res_v54 (st6 m c)).trans (by rw [at6_v43 m c, at6_arg6 m c]; rfl)

def val_v57 (m : (ℓ : Loc nD τ sig) → Buf (Elt Ideal) ℓ) (c : Dev nD) : FVec Ideal S8x2x8x32x128 .f32 :=
  accR (val_v54 m c)

theorem at7_v54 : st7 m c (Proc.devRef .tc main_v54) = val_v54 m c :=
  st_v54 m c

theorem st_v57 : st8 m c (Proc.devRef .tc main_v57) = val_v57 m c :=
  (res_v57 (st7 m c)).trans (by rw [at7_v54 m c]; rfl)

def val_v60 (m : (ℓ : Loc nD τ sig) → Buf (Elt Ideal) ℓ) (c : Dev nD) : IVec S128x128 1 :=
  (broadcastInDim S128x128 ![] bcast_S_S128x128 (constantI S_ 1 1#1))

theorem st_v60 : st9 m c (Proc.devRef .tc main_v60) = val_v60 m c :=
  res_v60 (st8 m c)

def val_v59 (m : (ℓ : Loc nD τ sig) → Buf (Elt Ideal) ℓ) (c : Dev nD) : FVec Ideal S8x2x8x32x128x128 .f32 :=
  (broadcastInDim S8x2x8x32x128x128 ![0, 1, 2, 3, 4, 5] bcast_S8x2x8x32x128x1_S8x2x8x32x128x128_0_1_2_3_4_5 (broadcastInDim S8x2x8x32x128x1 ![0, 1, 2, 3, 4] bcast_S8x2x8x32x128_S8x2x8x32x128x1_0_1_2_3_4 (val_v54 m c)))

theorem at8_v54 : st8 m c (Proc.devRef .tc main_v54) = val_v54 m c :=
  (keep7 m c main_v54 (by decide +kernel)).trans (st_v54 m c)

theorem st_v59 : st9 m c (Proc.devRef .tc main_v59) = val_v59 m c :=
  (res_v59 (st8 m c)).trans (by rw [at8_v54 m c]; rfl)

def val_v61 (m : (ℓ : Loc nD τ sig) → Buf (Elt Ideal) ℓ) (c : Dev nD) : IVec S128x128 1 :=
  (select ((cmpi .sge) (addi (iotaInDim S128x128 32 0) ((broadcastInDim S128x128 ![] bcast_S_S128x128) (constantI S_ 32 4294967295#32))) (iotaInDim S128x128 32 1)) (val_v60 m c) ((broadcastInDim S128x128 ![] bcast_S_S128x128) (constantI S_ 1 0#1)))

theorem at9_v60 : st9 m c (Proc.devRef .tc main_v60) = val_v60 m c :=
  st_v60 m c

theorem st_v61 : st10 m c (Proc.devRef .tc main_v61) = val_v61 m c :=
  (res_v61 (st9 m c)).trans (by rw [at9_v60 m c]; rfl)

def val_cst_1 (m : (ℓ : Loc nD τ sig) → Buf (Elt Ideal) ℓ) (c : Dev nD) : FVec Ideal S_ .f32 :=
  (constant (F := Ideal) S_ .f32 0x00000000#32)

theorem st_cst_1 : st11 m c (Proc.devRef .tc main_cst_1) = val_cst_1 m c :=
  res_cst_1 (st10 m c)

def val_v62 (m : (ℓ : Loc nD τ sig) → Buf (Elt Ideal) ℓ) (c : Dev nD) : FVec Ideal S8x2x8x32x128x128 .f32 :=
  (select ((broadcastInDim S8x2x8x32x128x128 ![4, 5] bcast_S128x128_S8x2x8x32x128x128_4_5) (val_v61 m c)) (val_v59 m c) ((broadcastInDim S8x2x8x32x128x128 ![] bcast_S_S8x2x8x32x128x128) (val_cst_1 m c)))

theorem at11_v61 : st11 m c (Proc.devRef .tc main_v61) = val_v61 m c :=
  (keep10 m c main_v61 (by decide +kernel)).trans (st_v61 m c)

theorem at11_v59 : st11 m c (Proc.devRef .tc main_v59) = val_v59 m c :=
  (keep10 m c main_v59 (by decide +kernel)).trans ((keep9 m c main_v59 (by decide +kernel)).trans (st_v59 m c))

theorem at11_cst_1 : st11 m c (Proc.devRef .tc main_cst_1) = val_cst_1 m c :=
  st_cst_1 m c

theorem st_v62 : st12 m c (Proc.devRef .tc main_v62) = val_v62 m c :=
  (res_v62 (st11 m c)).trans (by rw [at11_v61 m c, at11_v59 m c, at11_cst_1 m c]; rfl)

def val_v63 (m : (ℓ : Loc nD τ sig) → Buf (Elt Ideal) ℓ) (c : Dev nD) : FVec Ideal S8x2x8x32x128x128 .f32 :=
  (Host.reduceWindowAdd ![1, 1, 1, 1, 128, 1] ![1, 1, 1, 1, 1, 1] ![0, 0, 0, 0, 127, 0] ![0, 0, 0, 0, 0, 0] (val_v62 m c) ((broadcastInDim S_ ![] bcast_S_S_) (constant (F := Ideal) S_ .f32 0x00000000#32)) reduceWindows_S8x2x8x32x128x128_S8x2x8x32x128x128_w1s1p0_0_w1s1p0_0_w1s1p0_0_w1s1p0_0_w128s1p127_0_w1s1p0_0 h_S_)

theorem at12_v62 : st12 m c (Proc.devRef .tc main_v62) = val_v62 m c :=
  st_v62 m c

theorem st_v63 : st13 m c (Proc.devRef .tc main_v63) = val_v63 m c :=
  (res_v63 (st12 m c)).trans (by rw [at12_v62 m c]; rfl)

def val_v64 (m : (ℓ : Loc nD τ sig) → Buf (Elt Ideal) ℓ) (c : Dev nD) : IVec S128x128 1 :=
  (broadcastInDim S128x128 ![] bcast_S_S128x128 (constantI S_ 1 1#1))

theorem st_v64 : st14 m c (Proc.devRef .tc main_v64) = val_v64 m c :=
  res_v64 (st13 m c)

def val_v65 (m : (ℓ : Loc nD τ sig) → Buf (Elt Ideal) ℓ) (c : Dev nD) : IVec S128x128 1 :=
  (select ((cmpi .sge) (addi (iotaInDim S128x128 32 0) ((broadcastInDim S128x128 ![] bcast_S_S128x128) (constantI S_ 32 0#32))) (iotaInDim S128x128 32 1)) (val_v64 m c) ((broadcastInDim S128x128 ![] bcast_S_S128x128) (constantI S_ 1 0#1)))

theorem at14_v64 : st14 m c (Proc.devRef .tc main_v64) = val_v64 m c :=
  st_v64 m c

theorem st_v65 : st15 m c (Proc.devRef .tc main_v65) = val_v65 m c :=
  (res_v65 (st14 m c)).trans (by rw [at14_v64 m c]; rfl)

def val_cst_3 (m : (ℓ : Loc nD τ sig) → Buf (Elt Ideal) ℓ) (c : Dev nD) : FVec Ideal S_ .f32 :=
  (constant (F := Ideal) S_ .f32 0xFF800000#32)

theorem st_cst_3 : st16 m c (Proc.devRef .tc main_cst_3) = val_cst_3 m c :=
  res_cst_3 (st15 m c)

def val_v66 (m : (ℓ : Loc nD τ sig) → Buf (Elt Ideal) ℓ) (c : Dev nD) : FVec Ideal S8x2x8x32x128x128 .f32 :=
  (select ((broadcastInDim S8x2x8x32x128x128 ![4, 5] bcast_S128x128_S8x2x8x32x128x128_4_5) (val_v65 m c)) (val_v63 m c) ((broadcastInDim S8x2x8x32x128x128 ![] bcast_S_S8x2x8x32x128x128) (val_cst_3 m c)))

theorem at16_v65 : st16 m c (Proc.devRef .tc main_v65) = val_v65 m c :=
  (keep15 m c main_v65 (by decide +kernel)).trans (st_v65 m c)

theorem at16_v63 : st16 m c (Proc.devRef .tc main_v63) = val_v63 m c :=
  (keep15 m c main_v63 (by decide +kernel)).trans ((keep14 m c main_v63 (by decide +kernel)).trans ((keep13 m c main_v63 (by decide +kernel)).trans (st_v63 m c)))

theorem at16_cst_3 : st16 m c (Proc.devRef .tc main_cst_3) = val_cst_3 m c :=
  st_cst_3 m c

theorem st_v66 : st17 m c (Proc.devRef .tc main_v66) = val_v66 m c :=
  (res_v66 (st16 m c)).trans (by rw [at16_v65 m c, at16_v63 m c, at16_cst_3 m c]; rfl)

def val_v73 (m : (ℓ : Loc nD τ sig) → Buf (Elt Ideal) ℓ) (c : Dev nD) : FVec Ideal S8x32x128x2x8x64 .f32 :=
  diagR (val_v66 m c) (pairR (val_v56 m c) (val_v55 m c)) (val_v52 m c)

theorem at17_v66 : st17 m c (Proc.devRef .tc main_v66) = val_v66 m c :=
  st_v66 m c

theorem at17_v56 : st17 m c (Proc.devRef .tc main_v56) = val_v56 m c :=
  (keep16 m c main_v56 (by decide +kernel)).trans ((keep15 m c main_v56 (by decide +kernel)).trans ((keep14 m c main_v56 (by decide +kernel)).trans ((keep13 m c main_v56 (by decide +kernel)).trans ((keep12 m c main_v56 (by decide +kernel)).trans ((keep11 m c main_v56 (by decide +kernel)).trans ((keep10 m c main_v56 (by decide +kernel)).trans ((keep9 m c main_v56 (by decide +kernel)).trans ((keep8 m c main_v56 (by decide +kernel)).trans ((keep7 m c main_v56 (by decide +kernel)).trans (st_v56 m c))))))))))

theorem at17_v55 : st17 m c (Proc.devRef .tc main_v55) = val_v55 m c :=
  (keep16 m c main_v55 (by decide +kernel)).trans ((keep15 m c main_v55 (by decide +kernel)).trans ((keep14 m c main_v55 (by decide +kernel)).trans ((keep13 m c main_v55 (by decide +kernel)).trans ((keep12 m c main_v55 (by decide +kernel)).trans ((keep11 m c main_v55 (by decide +kernel)).trans ((keep10 m c main_v55 (by decide +kernel)).trans ((keep9 m c main_v55 (by decide +kernel)).trans ((keep8 m c main_v55 (by decide +kernel)).trans ((keep7 m c main_v55 (by decide +kernel)).trans (st_v55 m c))))))))))

theorem at17_v52 : st17 m c (Proc.devRef .tc main_v52) = val_v52 m c :=
  (keep16 m c main_v52 (by decide +kernel)).trans ((keep15 m c main_v52 (by decide +kernel)).trans ((keep14 m c main_v52 (by decide +kernel)).trans ((keep13 m c main_v52 (by decide +kernel)).trans ((keep12 m c main_v52 (by decide +kernel)).trans ((keep11 m c main_v52 (by decide +kernel)).trans ((keep10 m c main_v52 (by decide +kernel)).trans ((keep9 m c main_v52 (by decide +kernel)).trans ((keep8 m c main_v52 (by decide +kernel)).trans ((keep7 m c main_v52 (by decide +kernel)).trans (st_v52 m c))))))))))

theorem st_v73 : st18 m c (Proc.devRef .tc main_v73) = val_v73 m c :=
  (res_v73 (st17 m c)).trans (by rw [at17_v66 m c, at17_v56 m c, at17_v55 m c, at17_v52 m c]; rfl)

def val_v90_0 (m : (ℓ : Loc nD τ sig) → Buf (Elt Ideal) ℓ) (c : Dev nD) : FVec Ideal S32x8x2x8x64x128 .f32 :=
  stateR (endR (val_v57 m c)) (val_v52 m c) (val_v55 m c)

theorem at17_v57 : st17 m c (Proc.devRef .tc main_v57) = val_v57 m c :=
  (keep16 m c main_v57 (by decide +kernel)).trans ((keep15 m c main_v57 (by decide +kernel)).trans ((keep14 m c main_v57 (by decide +kernel)).trans ((keep13 m c main_v57 (by decide +kernel)).trans ((keep12 m c main_v57 (by decide +kernel)).trans ((keep11 m c main_v57 (by decide +kernel)).trans ((keep10 m c main_v57 (by decide +kernel)).trans ((keep9 m c main_v57 (by decide +kernel)).trans ((keep8 m c main_v57 (by decide +kernel)).trans (st_v57 m c)))))))))

theorem st_v90_0 : st18 m c (Proc.devRef .tc main_v90_0) = val_v90_0 m c :=
  (res_v90_0 (st17 m c)).trans (by rw [at17_v57 m c, at17_v52 m c, at17_v55 m c]; rfl)

def val_v90_1 (m : (ℓ : Loc nD τ sig) → Buf (Elt Ideal) ℓ) (c : Dev nD) : FVec Ideal S32x8x2x8 .f32 :=
  decayR (val_v57 m c)

theorem st_v90_1 : st18 m c (Proc.devRef .tc main_v90_1) = val_v90_1 m c :=
  (res_v90_1 (st17 m c)).trans (by rw [at17_v57 m c]; rfl)

def val_v90_3 (m : (ℓ : Loc nD τ sig) → Buf (Elt Ideal) ℓ) (c : Dev nD) : FVec Ideal S8x2x8x64x128 .f32 :=
  (broadcastInDim S8x2x8x64x128 ![] bcast_S_S8x2x8x64x128 (constant (F := Ideal) S_ .f32 0x00000000#32))

theorem st_v90_3 : st18 m c (Proc.devRef .tc main_v90_3) = val_v90_3 m c :=
  res_v90_3 (st17 m c)

def val_v90_4 (m : (ℓ : Loc nD τ sig) → Buf (Elt Ideal) ℓ) (c : Dev nD) : FVec Ideal S32x8x2x8x64x128 .f32 :=
  (broadcastInDim S32x8x2x8x64x128 ![] bcast_S_S32x8x2x8x64x128 (constant (F := Ideal) S_ .f32 0x00000000#32))

theorem st_v90_4 : st18 m c (Proc.devRef .tc main_v90_4) = val_v90_4 m c :=
  res_v90_4 (st17 m c)

theorem at18_v90_0 : st18 m c (Proc.devRef .tc main_v90_0) = val_v90_0 m c :=
  st_v90_0 m c

theorem at18_v90_1 : st18 m c (Proc.devRef .tc main_v90_1) = val_v90_1 m c :=
  st_v90_1 m c

theorem at18_v90_3 : st18 m c (Proc.devRef .tc main_v90_3) = val_v90_3 m c :=
  st_v90_3 m c

theorem at18_v90_4 : st18 m c (Proc.devRef .tc main_v90_4) = val_v90_4 m c :=
  st_v90_4 m c

theorem at18_v56 : st18 m c (Proc.devRef .tc main_v56) = val_v56 m c :=
  (keep17 m c main_v56 (by decide +kernel)).trans ((keep16 m c main_v56 (by decide +kernel)).trans ((keep15 m c main_v56 (by decide +kernel)).trans ((keep14 m c main_v56 (by decide +kernel)).trans ((keep13 m c main_v56 (by decide +kernel)).trans ((keep12 m c main_v56 (by decide +kernel)).trans ((keep11 m c main_v56 (by decide +kernel)).trans ((keep10 m c main_v56 (by decide +kernel)).trans ((keep9 m c main_v56 (by decide +kernel)).trans ((keep8 m c main_v56 (by decide +kernel)).trans ((keep7 m c main_v56 (by decide +kernel)).trans (st_v56 m c)))))))))))

theorem at18_v57 : st18 m c (Proc.devRef .tc main_v57) = val_v57 m c :=
  (keep17 m c main_v57 (by decide +kernel)).trans ((keep16 m c main_v57 (by decide +kernel)).trans ((keep15 m c main_v57 (by decide +kernel)).trans ((keep14 m c main_v57 (by decide +kernel)).trans ((keep13 m c main_v57 (by decide +kernel)).trans ((keep12 m c main_v57 (by decide +kernel)).trans ((keep11 m c main_v57 (by decide +kernel)).trans ((keep10 m c main_v57 (by decide +kernel)).trans ((keep9 m c main_v57 (by decide +kernel)).trans ((keep8 m c main_v57 (by decide +kernel)).trans (st_v57 m c))))))))))

theorem at18_v73 : st18 m c (Proc.devRef .tc main_v73) = val_v73 m c :=
  st_v73 m c

theorem at18_v37 : st18 m c (Proc.devRef .tc main_v37) = val_v37 m c :=
  (keep17 m c main_v37 (by decide +kernel)).trans ((keep16 m c main_v37 (by decide +kernel)).trans ((keep15 m c main_v37 (by decide +kernel)).trans ((keep14 m c main_v37 (by decide +kernel)).trans ((keep13 m c main_v37 (by decide +kernel)).trans ((keep12 m c main_v37 (by decide +kernel)).trans ((keep11 m c main_v37 (by decide +kernel)).trans ((keep10 m c main_v37 (by decide +kernel)).trans ((keep9 m c main_v37 (by decide +kernel)).trans ((keep8 m c main_v37 (by decide +kernel)).trans ((keep7 m c main_v37 (by decide +kernel)).trans ((keep6 m c main_v37 (by decide +kernel)).trans ((keep5 m c main_v37 (by decide +kernel)).trans (st_v37 m c)))))))))))))

theorem at18_arg7 : st18 m c (Proc.devRef .tc main_arg7) = a7 m c :=
  (keep17 m c main_arg7 (by decide +kernel)).trans ((keep16 m c main_arg7 (by decide +kernel)).trans ((keep15 m c main_arg7 (by decide +kernel)).trans ((keep14 m c main_arg7 (by decide +kernel)).trans ((keep13 m c main_arg7 (by decide +kernel)).trans ((keep12 m c main_arg7 (by decide +kernel)).trans ((keep11 m c main_arg7 (by decide +kernel)).trans ((keep10 m c main_arg7 (by decide +kernel)).trans ((keep9 m c main_arg7 (by decide +kernel)).trans ((keep8 m c main_arg7 (by decide +kernel)).trans ((keep7 m c main_arg7 (by decide +kernel)).trans ((keep6 m c main_arg7 (by decide +kernel)).trans ((keep5 m c main_arg7 (by decide +kernel)).trans ((keep4 m c main_arg7 (by decide +kernel)).trans ((keep3 m c main_arg7 (by decide +kernel)).trans ((keep2 m c main_arg7 (by decide +kernel)).trans ((keep1 m c main_arg7 (by decide +kernel)).trans (keep0 m c main_arg7 (by decide +kernel))))))))))))))))))

theorem at18_arg0 : st18 m c (Proc.devRef .tc main_arg0) = a0 m c :=
  (keep17 m c main_arg0 (by decide +kernel)).trans ((keep16 m c main_arg0 (by decide +kernel)).trans ((keep15 m c main_arg0 (by decide +kernel)).trans ((keep14 m c main_arg0 (by decide +kernel)).trans ((keep13 m c main_arg0 (by decide +kernel)).trans ((keep12 m c main_arg0 (by decide +kernel)).trans ((keep11 m c main_arg0 (by decide +kernel)).trans ((keep10 m c main_arg0 (by decide +kernel)).trans ((keep9 m c main_arg0 (by decide +kernel)).trans ((keep8 m c main_arg0 (by decide +kernel)).trans ((keep7 m c main_arg0 (by decide +kernel)).trans ((keep6 m c main_arg0 (by decide +kernel)).trans ((keep5 m c main_arg0 (by decide +kernel)).trans ((keep4 m c main_arg0 (by decide +kernel)).trans ((keep3 m c main_arg0 (by decide +kernel)).trans ((keep2 m c main_arg0 (by decide +kernel)).trans ((keep1 m c main_arg0 (by decide +kernel)).trans (keep0 m c main_arg0 (by decide +kernel))))))))))))))))))

theorem at18_arg8 : st18 m c (Proc.devRef .tc main_arg8) = a8 m c :=
  (keep17 m c main_arg8 (by decide +kernel)).trans ((keep16 m c main_arg8 (by decide +kernel)).trans ((keep15 m c main_arg8 (by decide +kernel)).trans ((keep14 m c main_arg8 (by decide +kernel)).trans ((keep13 m c main_arg8 (by decide +kernel)).trans ((keep12 m c main_arg8 (by decide +kernel)).trans ((keep11 m c main_arg8 (by decide +kernel)).trans ((keep10 m c main_arg8 (by decide +kernel)).trans ((keep9 m c main_arg8 (by decide +kernel)).trans ((keep8 m c main_arg8 (by decide +kernel)).trans ((keep7 m c main_arg8 (by decide +kernel)).trans ((keep6 m c main_arg8 (by decide +kernel)).trans ((keep5 m c main_arg8 (by decide +kernel)).trans ((keep4 m c main_arg8 (by decide +kernel)).trans ((keep3 m c main_arg8 (by decide +kernel)).trans ((keep2 m c main_arg8 (by decide +kernel)).trans ((keep1 m c main_arg8 (by decide +kernel)).trans (keep0 m c main_arg8 (by decide +kernel))))))))))))))))))

end Cert.SsdRefIdeal.Hand
-- ==== Proof.SsdRefApply.lean ====
/-
  The stages of the recurrence's reference, read at an index.
-/
module

public import proofs.«01_k».proof.Proof.SsdRefDefs
public import proofs.«01_k».proof.Proof.Rows
public import Idealize.ShloMosaic.Lib.Pointwise

@[expose] public section

set_option maxRecDepth 16384

noncomputable section

namespace Cert.SsdRefIdeal.Hand

open Cert.SsdRefIdeal Cert.SsdRefIdeal.Gen Idealize.ShloMosaic Cert.Rows

/-- The softplus, as the reference has it. -/
def plusL (a : EReal) : EReal := max a 0 + Ideal.log1p (Ideal.exp (-FloatOps.absf (F := Ideal) (φ := .f32) a))

theorem zero_word : FloatOps.sitofp (F := Ideal) .f32 0#32 = (0 : EReal) := by
  simp [FloatOps.sitofp]

theorem bot_word : Ideal.ofBits .f32 0xFF800000#32 = ⊥ := by
  simp [Ideal.ofBits, Ideal.ieee]

theorem strict_word : ∀ l s : Fin 128, Scalar.select (IntOp.cmpi .sge (IntOp.addi (BitVec.ofNat 32 l.val) 4294967295#32) (BitVec.ofNat 32 s.val)) 1#1 0#1
    = BitVec.ofBool (decide (s.val < l.val)) := by
  decide +kernel

theorem low_word : ∀ l s : Fin 128, Scalar.select (IntOp.cmpi .sge (IntOp.addi (BitVec.ofNat 32 l.val) 0#32) (BitVec.ofNat 32 s.val)) 1#1 0#1
    = BitVec.ofBool (decide (s.val ≤ l.val)) := by
  decide +kernel

theorem pick (p : Prop) [Decidable p] (x y : EReal) : Scalar.select (BitVec.ofBool (decide p)) x y = if p then x else y := by
  by_cases h : p <;> simp [h, Scalar.select]

theorem padded_apply (x1 : FVec Ideal S8x4096x1536 .f32) (b : Fin 8) (s : Fin 4099) (n : Fin 1536) : padded x1 (ix3 b s n) =
    if h : 3 ≤ s.val then x1 (ix3 b ⟨s.val - 3, by omega⟩ n) else 0 := by
  pointwise [padded]
  by_cases h : 3 ≤ s.val
  · rw [dif_pos ⟨h, by omega⟩, dif_pos h]
  · rw [dif_neg (fun k => h k.1), dif_neg h]
    exact zero_word

theorem mixed_apply (v0 : FVec Ideal S8x4099x1536 .f32) (x3 : FVec Ideal S4x1536 .f32) (x4 : FVec Ideal S1536 .f32) (b : Fin 8) (s : Fin 4096) (n : Fin 1536) : mixed v0 x3 x4 (ix3 b s n) =
    v0 (ix3 b ⟨s.val, by omega⟩ n) * x3 (ix2 0 n) + v0 (ix3 b ⟨1 + s.val, by omega⟩ n) * x3 (ix2 1 n) + v0 (ix3 b ⟨2 + s.val, by omega⟩ n) * x3 (ix2 2 n) + v0 (ix3 b ⟨3 + s.val, by omega⟩ n) * x3 (ix2 3 n) + x4 (ix1 n) := by
  pointwise [mixed]

theorem gated_apply (v32 : FVec Ideal S8x4096x1536 .f32) (b : Fin 8) (s : Fin 4096) (n : Fin 1536) : gated v32 (ix3 b s n) =
    siluL (v32 (ix3 b s n)) := by
  unfold siluL
  pointwise [gated]

theorem stepR_apply (x2 : FVec Ideal S8x4096x16 .f32) (x5 : FVec Ideal S16 .f32) (b : Fin 8) (s : Fin 4096) (h : Fin 16) : stepR x2 x5 (ix3 b s h) =
    plusL (x2 (ix3 b s h) + x5 (ix1 h)) := by
  unfold plusL
  pointwise [stepR]
  exact if_neg (by simp)

theorem headsR_apply (v33 : FVec Ideal S8x4096x1536 .f32) (b : Fin 8) (s : Fin 4096) (h : Fin 16) (p : Fin 64) (q : Fin 1536) (hq : q.val = 64 * h.val + p.val) : headsR v33 (ix4 b s h p) =
    v33 (ix3 b s q) := by
  rw [show q = ⟨h.val * 64 + p.val, by omega⟩ from Fin.ext (by dsimp only; omega)]
  pointwise [headsR]

theorem inR_apply (v37 : FVec Ideal S8x4096x16x64 .f32) (v43 : FVec Ideal S8x4096x16 .f32) (b : Fin 8) (c : Fin 32) (l : Fin 128) (g : Fin 2) (e : Fin 8) (p : Fin 64) (s : Fin 4096) (hs : s.val = 128 * c.val + l.val) (h : Fin 16) (hh : h.val = 8 * g.val + e.val) : inR v37 v43 (ix6 b c l g e p) =
    v37 (ix4 b s h p) * v43 (ix3 b s h) := by
  rw [show s = ⟨c.val * 128 + l.val, by omega⟩ from Fin.ext (by dsimp only; omega)]
  rw [show h = ⟨g.val * 8 + e.val, by omega⟩ from Fin.ext (by dsimp only; omega)]
  pointwise [inR]

theorem logR_apply (v43 : FVec Ideal S8x4096x16 .f32) (x6 : FVec Ideal S16 .f32) (b : Fin 8) (c : Fin 32) (l : Fin 128) (g : Fin 2) (e : Fin 8) (s : Fin 4096) (hs : s.val = 128 * c.val + l.val) (h : Fin 16) (hh : h.val = 8 * g.val + e.val) : logR v43 x6 (ix5 b g e c l) =
    v43 (ix3 b s h) * -Ideal.exp (x6 (ix1 h)) := by
  rw [show s = ⟨c.val * 128 + l.val, by omega⟩ from Fin.ext (by dsimp only; omega)]
  rw [show h = ⟨g.val * 8 + e.val, by omega⟩ from Fin.ext (by dsimp only; omega)]
  pointwise [logR]

theorem bR_apply (v33 : FVec Ideal S8x4096x1536 .f32) (b : Fin 8) (c : Fin 32) (l : Fin 128) (g : Fin 2) (n : Fin 128) (s : Fin 4096) (hs : s.val = 128 * c.val + l.val) (q : Fin 1536) (hq : q.val = 1024 + 128 * g.val + n.val) : bR v33 (ix5 b c l g n) =
    v33 (ix3 b s q) := by
  rw [show s = ⟨c.val * 128 + l.val, by omega⟩ from Fin.ext (by dsimp only; omega)]
  rw [show q = ⟨1024 + (g.val * 128 + n.val), by omega⟩ from Fin.ext (by dsimp only; omega)]
  pointwise [bR]

theorem cR_apply (v33 : FVec Ideal S8x4096x1536 .f32) (b : Fin 8) (c : Fin 32) (l : Fin 128) (g : Fin 2) (n : Fin 128) (s : Fin 4096) (hs : s.val = 128 * c.val + l.val) (q : Fin 1536) (hq : q.val = 1280 + 128 * g.val + n.val) : cR v33 (ix5 b c l g n) =
    v33 (ix3 b s q) := by
  rw [show s = ⟨c.val * 128 + l.val, by omega⟩ from Fin.ext (by dsimp only; omega)]
  rw [show q = ⟨1280 + (g.val * 128 + n.val), by omega⟩ from Fin.ext (by dsimp only; omega)]
  pointwise [cR]

theorem accR_apply (v54 : FVec Ideal S8x2x8x32x128 .f32) (b : Fin 8) (c : Fin 32) (l : Fin 128) (g : Fin 2) (e : Fin 8) : accR v54 (ix5 b g e c l) =
    ∑ i : Fin 128, if i.val ≤ l.val then v54 (ix5 b g e c i) else 0 := by
  refine cumsum5 v54 _ (fun i => ?_) b g e c l
  pointwise

theorem strictR_apply  (l s : Fin 128) : strictR  (ix2 l s) =
    BitVec.ofBool (decide (s.val < l.val)) := by
  pointwise [strictR]
  exact strict_word l s

theorem maskedR_apply (v54 : FVec Ideal S8x2x8x32x128 .f32) (b : Fin 8) (c : Fin 32) (l : Fin 128) (g : Fin 2) (e : Fin 8) (s : Fin 128) : maskedR v54 (ix6 b g e c l s) =
    if s.val < l.val then v54 (ix5 b g e c l) else 0 := by
  pointwise [maskedR]
  rw [strictR_apply]
  exact pick _ _ _

theorem segR_apply (v54 : FVec Ideal S8x2x8x32x128 .f32) (b : Fin 8) (c : Fin 32) (l : Fin 128) (g : Fin 2) (e : Fin 8) (s : Fin 128) : segR v54 (ix6 b g e c l s) =
    ∑ i : Fin 128, if i.val ≤ l.val then (if s.val < i.val then v54 (ix5 b g e c i) else 0) else 0 := by
  refine (cumsum6 (maskedR v54) _ (fun i => ?_) b g e c l s).trans ?_
  · pointwise
  simp only [maskedR_apply]

theorem lowR_apply  (l s : Fin 128) : lowR  (ix2 l s) =
    BitVec.ofBool (decide (s.val ≤ l.val)) := by
  pointwise [lowR]
  exact low_word l s

theorem segmentR_apply (v63 : FVec Ideal S8x2x8x32x128x128 .f32) (b : Fin 8) (c : Fin 32) (l : Fin 128) (g : Fin 2) (e : Fin 8) (s : Fin 128) : segmentR v63 (ix6 b g e c l s) =
    if s.val ≤ l.val then v63 (ix6 b g e c l s) else ⊥ := by
  pointwise [segmentR]
  rw [lowR_apply, bot_word]
  exact pick _ _ _

theorem pairR_apply (v56 : FVec Ideal S8x32x128x2x128 .f32) (v55 : FVec Ideal S8x32x128x2x128 .f32) (b : Fin 8) (c : Fin 32) (l s : Fin 128) (g : Fin 2) : pairR v56 v55 (ix5 b g c l s) =
    ∑ n : Fin 128, v56 (ix5 b c l g n) * v55 (ix5 b c s g n) := by
  pointwise [pairR]

theorem diagR_apply (v66 : FVec Ideal S8x2x8x32x128x128 .f32) (v68 : FVec Ideal S8x2x32x128x128 .f32) (v52 : FVec Ideal S8x32x128x2x8x64 .f32) (b : Fin 8) (c : Fin 32) (l : Fin 128) (g : Fin 2) (e : Fin 8) (p : Fin 64) : diagR v66 v68 v52 (ix6 b c l g e p) =
    ∑ s : Fin 128, v52 (ix6 b c s g e p) * (v68 (ix5 b g c l s) * Ideal.exp (v66 (ix6 b g e c l s))) := by
  pointwise [diagR]

theorem endR_apply (v57 : FVec Ideal S8x2x8x32x128 .f32) (b : Fin 8) (c : Fin 32) (l : Fin 128) (g : Fin 2) (e : Fin 8) : endR v57 (ix5 b g e c l) =
    Ideal.exp (v57 (ix5 b g e c 127) - v57 (ix5 b g e c l)) := by
  pointwise [endR]

theorem stateR_apply (v77 : FVec Ideal S8x2x8x32x128 .f32) (v52 : FVec Ideal S8x32x128x2x8x64 .f32) (v55 : FVec Ideal S8x32x128x2x128 .f32) (b : Fin 8) (c : Fin 32) (g : Fin 2) (e : Fin 8) (p : Fin 64) (n : Fin 128) : stateR v77 v52 v55 (ix6 c b g e p n) =
    ∑ l : Fin 128, v52 (ix6 b c l g e p) * v77 (ix5 b g e c l) * v55 (ix5 b c l g n) := by
  pointwise [stateR]

theorem decayR_apply (v57 : FVec Ideal S8x2x8x32x128 .f32) (b : Fin 8) (c : Fin 32) (g : Fin 2) (e : Fin 8) : decayR v57 (ix4 c b g e) =
    Ideal.exp (v57 (ix5 b g e c 127)) := by
  pointwise [decayR]

theorem offR_apply (v904 : FVec Ideal S32x8x2x8x64x128 .f32) (v56 : FVec Ideal S8x32x128x2x128 .f32) (v57 : FVec Ideal S8x2x8x32x128 .f32) (b : Fin 8) (c : Fin 32) (l : Fin 128) (g : Fin 2) (e : Fin 8) (p : Fin 64) : offR v904 v56 v57 (ix6 b c l g e p) =
    (∑ n : Fin 128, v904 (ix6 c b g e p n) * v56 (ix5 b c l g n)) * Ideal.exp (v57 (ix5 b g e c l)) := by
  pointwise [offR]

theorem joinR_apply (v73 : FVec Ideal S8x32x128x2x8x64 .f32) (v98 : FVec Ideal S8x32x128x2x8x64 .f32) (v37 : FVec Ideal S8x4096x16x64 .f32) (x7 : FVec Ideal S16 .f32) (b : Fin 8) (c : Fin 32) (l : Fin 128) (g : Fin 2) (e : Fin 8) (p : Fin 64) (s : Fin 4096) (hs : s.val = 128 * c.val + l.val) (h : Fin 16) (hh : h.val = 8 * g.val + e.val) (q : Fin 1024) (hq : q.val = 64 * h.val + p.val) : joinR v73 v98 v37 x7 (ix3 b s q) =
    v73 (ix6 b c l g e p) + v98 (ix6 b c l g e p) + v37 (ix4 b s h p) * x7 (ix1 h) := by
  pointwise [joinR]
  rw [show (⟨s.val / 128, by omega⟩ : Fin 32) = c from Fin.ext (by dsimp only; omega), show (⟨s.val % 128, by omega⟩ : Fin 128) = l from Fin.ext (by dsimp only; omega),
    show (⟨q.val / 64 / 8, by omega⟩ : Fin 2) = g from Fin.ext (by dsimp only; omega), show (⟨q.val / 64 % 8, by omega⟩ : Fin 8) = e from Fin.ext (by dsimp only; omega),
    show (⟨q.val % 64, by omega⟩ : Fin 64) = p from Fin.ext (by dsimp only; omega), show (⟨q.val / 64, by omega⟩ : Fin 16) = h from Fin.ext (by dsimp only; omega)]

theorem gateR_apply (v106 : FVec Ideal S8x4096x1024 .f32) (x0 : FVec Ideal S8x4096x1024 .f32) (b : Fin 8) (s : Fin 4096) (q : Fin 1024) : gateR v106 x0 (ix3 b s q) =
    v106 (ix3 b s q) * siluL (x0 (ix3 b s q)) := by
  unfold siluL
  pointwise [gateR]

theorem normR_apply (v108 : FVec Ideal S8x4096x1024 .f32) (x8 : FVec Ideal S1024 .f32) (r : Fin 32768) (q : Fin 1024) : normR v108 x8 (ix2 r q) =
    rms (fun k => v108 (ix3 ⟨r.val / 4096, by omega⟩ ⟨r.val % 4096, by omega⟩ k)) (fun k => x8 (ix1 k)) q := by
  unfold rms
  pointwise [normR]

end Cert.SsdRefIdeal.Hand
-- ==== Proof.SsdRefLoop.lean ====
/-
  The reference's loop over the chunks: the state it carries and the states it keeps.
-/
module

public import proofs.«01_k».proof.Proof.SsdRefRead
public import proofs.«01_k».proof.Proof.SsdRefApply

@[expose] public section

set_option maxRecDepth 65536

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Idealize.SL.Sem Idealize.ShloMosaic.StableHlo

/-- A chunk's decays. -/
def sliceD (d : FVec Ideal S32x8x2x8 .f32) (w : IVec S_ 32) : FVec Ideal S1x8x2x8 .f32 :=
  (Host.dynamicSlice S1x8x2x8 d (fun k => (((![w, constantI S_ 32 0#32, constantI S_ 32 0#32, constantI S_ 32 0#32] : Fin 4 → (⟨S_, .i32⟩ : BufTy).Contents (Elt Ideal))) k (Shape.Idx.first h_S_)).toInt) sliceFits_S32x8x2x8_S1x8x2x8)

/-- A chunk's addition. -/
def sliceA (a : FVec Ideal S32x8x2x8x64x128 .f32) (w : IVec S_ 32) : FVec Ideal S1x8x2x8x64x128 .f32 :=
  (Host.dynamicSlice S1x8x2x8x64x128 a (fun k => (((![w, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) sliceFits_S32x8x2x8x64x128_S1x8x2x8x64x128)

/-- The kept states with a chunk's put in. -/
def putA (y : FVec Ideal S32x8x2x8x64x128 .f32) (u : FVec Ideal S1x8x2x8x64x128 .f32) (w : IVec S_ 32) : FVec Ideal S32x8x2x8x64x128 .f32 :=
  (Host.dynamicUpdateSlice y u (fun k => (((![w, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt) updateFits_S32x8x2x8x64x128_S1x8x2x8x64x128)

/-- One trip's state. -/
def nextState (s : FVec Ideal S8x2x8x64x128 .f32) (d : FVec Ideal S32x8x2x8 .f32) (a : FVec Ideal S32x8x2x8x64x128 .f32) (k : IVec S_ 32) :
    FVec Ideal S8x2x8x64x128 .f32 :=
  (addf (mulf s (broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2 (shapeCast S8x2x8 (sliceD d k) shapeCasts_S1x8x2x8_S8x2x8)))) (shapeCast S8x2x8x64x128 (sliceA a k) shapeCasts_S1x8x2x8x64x128_S8x2x8x64x128))

/-- One trip's kept states. -/
def nextKept (y : FVec Ideal S32x8x2x8x64x128 .f32) (s : FVec Ideal S8x2x8x64x128 .f32) (k : IVec S_ 32) : FVec Ideal S32x8x2x8x64x128 .f32 :=
  (putA y (broadcastInDim S1x8x2x8x64x128 ![1, 2, 3, 4, 5] bcast_S8x2x8x64x128_S1x8x2x8x64x128_1_2_3_4_5 s) k)

theorem iv_word : ∀ k : Fin 32, (Scf.iv 0#32 1#32 k.val).toInt = (k.val : ℤ) := by
  decide +kernel

theorem slice4 (d : FVec Ideal S32x8x2x8 .f32) (f : Fin 4 → ℤ) (k : Fin 32) (h0 : f 0 = (k.val : ℤ)) (h1 : ∀ i : Fin 3, f i.succ = ((0 : ℕ) : ℤ))
    (b : Fin 8) (g : Fin 2) (e : Fin 8) :
    Host.dynamicSlice S1x8x2x8 d f sliceFits_S32x8x2x8_S1x8x2x8 (ix4 0 b g e) = d (ix4 k b g e) := by
  have e0 : Host.clampedStart S32x8x2x8 S1x8x2x8 rfl f 0 = k.val := Host.clampedStart_of_le (s := S32x8x2x8) (t := S1x8x2x8) rfl f 0 k.val h0 (by show k.val + 1 ≤ 32; omega)
  have e1 : Host.clampedStart S32x8x2x8 S1x8x2x8 rfl f 1 = 0 := Host.clampedStart_of_le (s := S32x8x2x8) (t := S1x8x2x8) rfl f 1 0 (h1 0) (by decide)
  have e2 : Host.clampedStart S32x8x2x8 S1x8x2x8 rfl f 2 = 0 := Host.clampedStart_of_le (s := S32x8x2x8) (t := S1x8x2x8) rfl f 2 0 (h1 1) (by decide)
  have e3 : Host.clampedStart S32x8x2x8 S1x8x2x8 rfl f 3 = 0 := Host.clampedStart_of_le (s := S32x8x2x8) (t := S1x8x2x8) rfl f 3 0 (h1 2) (by decide)
  pointwise [e0, e1, e2, e3]

theorem slice6 (a : FVec Ideal S32x8x2x8x64x128 .f32) (f : Fin 6 → ℤ) (k : Fin 32) (h0 : f 0 = (k.val : ℤ)) (h1 : ∀ i : Fin 5, f i.succ = ((0 : ℕ) : ℤ))
    (b : Fin 8) (g : Fin 2) (e : Fin 8) (p : Fin 64) (n : Fin 128) :
    Host.dynamicSlice S1x8x2x8x64x128 a f sliceFits_S32x8x2x8x64x128_S1x8x2x8x64x128 (ix6 0 b g e p n) = a (ix6 k b g e p n) := by
  have e0 : Host.clampedStart S32x8x2x8x64x128 S1x8x2x8x64x128 rfl f 0 = k.val := Host.clampedStart_of_le (s := S32x8x2x8x64x128) (t := S1x8x2x8x64x128) rfl f 0 k.val h0 (by show k.val + 1 ≤ 32; omega)
  have e1 : Host.clampedStart S32x8x2x8x64x128 S1x8x2x8x64x128 rfl f 1 = 0 := Host.clampedStart_of_le (s := S32x8x2x8x64x128) (t := S1x8x2x8x64x128) rfl f 1 0 (h1 0) (by decide)
  have e2 : Host.clampedStart S32x8x2x8x64x128 S1x8x2x8x64x128 rfl f 2 = 0 := Host.clampedStart_of_le (s := S32x8x2x8x64x128) (t := S1x8x2x8x64x128) rfl f 2 0 (h1 1) (by decide)
  have e3 : Host.clampedStart S32x8x2x8x64x128 S1x8x2x8x64x128 rfl f 3 = 0 := Host.clampedStart_of_le (s := S32x8x2x8x64x128) (t := S1x8x2x8x64x128) rfl f 3 0 (h1 2) (by decide)
  have e4 : Host.clampedStart S32x8x2x8x64x128 S1x8x2x8x64x128 rfl f 4 = 0 := Host.clampedStart_of_le (s := S32x8x2x8x64x128) (t := S1x8x2x8x64x128) rfl f 4 0 (h1 3) (by decide)
  have e5 : Host.clampedStart S32x8x2x8x64x128 S1x8x2x8x64x128 rfl f 5 = 0 := Host.clampedStart_of_le (s := S32x8x2x8x64x128) (t := S1x8x2x8x64x128) rfl f 5 0 (h1 4) (by decide)
  pointwise [e0, e1, e2, e3, e4, e5]

theorem put6 (y : FVec Ideal S32x8x2x8x64x128 .f32) (u : FVec Ideal S1x8x2x8x64x128 .f32) (f : Fin 6 → ℤ) (k j : Fin 32) (h0 : f 0 = (k.val : ℤ))
    (h1 : ∀ i : Fin 5, f i.succ = ((0 : ℕ) : ℤ)) (b : Fin 8) (g : Fin 2) (e : Fin 8) (p : Fin 64) (n : Fin 128) :
    Host.dynamicUpdateSlice y u f updateFits_S32x8x2x8x64x128_S1x8x2x8x64x128 (ix6 j b g e p n)
      = if j = k then u (ix6 0 b g e p n) else y (ix6 j b g e p n) := by
  have e0 : Host.clampedStart S32x8x2x8x64x128 S1x8x2x8x64x128 rfl f 0 = k.val := Host.clampedStart_of_le (s := S32x8x2x8x64x128) (t := S1x8x2x8x64x128) rfl f 0 k.val h0 (by show k.val + 1 ≤ 32; omega)
  have e1 : Host.clampedStart S32x8x2x8x64x128 S1x8x2x8x64x128 rfl f 1 = 0 := Host.clampedStart_of_le (s := S32x8x2x8x64x128) (t := S1x8x2x8x64x128) rfl f 1 0 (h1 0) (by decide)
  have e2 : Host.clampedStart S32x8x2x8x64x128 S1x8x2x8x64x128 rfl f 2 = 0 := Host.clampedStart_of_le (s := S32x8x2x8x64x128) (t := S1x8x2x8x64x128) rfl f 2 0 (h1 1) (by decide)
  have e3 : Host.clampedStart S32x8x2x8x64x128 S1x8x2x8x64x128 rfl f 3 = 0 := Host.clampedStart_of_le (s := S32x8x2x8x64x128) (t := S1x8x2x8x64x128) rfl f 3 0 (h1 2) (by decide)
  have e4 : Host.clampedStart S32x8x2x8x64x128 S1x8x2x8x64x128 rfl f 4 = 0 := Host.clampedStart_of_le (s := S32x8x2x8x64x128) (t := S1x8x2x8x64x128) rfl f 4 0 (h1 3) (by decide)
  have e5 : Host.clampedStart S32x8x2x8x64x128 S1x8x2x8x64x128 rfl f 5 = 0 := Host.clampedStart_of_le (s := S32x8x2x8x64x128) (t := S1x8x2x8x64x128) rfl f 5 0 (h1 4) (by decide)
  pointwise [e0, e1, e2, e3, e4, e5]
  by_cases h : j = k
  · subst h
    rw [dif_pos (by omega), if_pos rfl]
    pointwise
    exact congrArg (fun z => u (ix6 z b g e p n)) (Fin.ext (Nat.sub_self _))
  · rw [dif_neg (fun h' => h (Fin.ext (by omega))), if_neg h]

theorem sliceD_apply (d : FVec Ideal S32x8x2x8 .f32) (k : Fin 32) (b : Fin 8) (g : Fin 2) (e : Fin 8) :
    sliceD d (fun _ => Scf.iv 0#32 1#32 k.val) (ix4 0 b g e) = d (ix4 k b g e) :=
  slice4 d _ k (iv_word k) (fun i => by fin_cases i <;> rfl) b g e

theorem sliceA_apply (a : FVec Ideal S32x8x2x8x64x128 .f32) (k : Fin 32) (b : Fin 8) (g : Fin 2) (e : Fin 8) (p : Fin 64) (n : Fin 128) :
    sliceA a (fun _ => Scf.iv 0#32 1#32 k.val) (ix6 0 b g e p n) = a (ix6 k b g e p n) :=
  slice6 a _ k (iv_word k) (fun i => by fin_cases i <;> rfl) b g e p n

theorem putA_apply (y : FVec Ideal S32x8x2x8x64x128 .f32) (u : FVec Ideal S1x8x2x8x64x128 .f32) (k j : Fin 32)
    (b : Fin 8) (g : Fin 2) (e : Fin 8) (p : Fin 64) (n : Fin 128) :
    putA y u (fun _ => Scf.iv 0#32 1#32 k.val) (ix6 j b g e p n) = if j = k then u (ix6 0 b g e p n) else y (ix6 j b g e p n) :=
  put6 y u _ k j (iv_word k) (fun i => by fin_cases i <;> rfl) b g e p n

theorem nextState_apply (s : FVec Ideal S8x2x8x64x128 .f32) (d : FVec Ideal S32x8x2x8 .f32) (a : FVec Ideal S32x8x2x8x64x128 .f32) (k : IVec S_ 32)
    (b : Fin 8) (g : Fin 2) (e : Fin 8) (p : Fin 64) (n : Fin 128) :
    nextState s d a k (ix5 b g e p n) = s (ix5 b g e p n) * sliceD d k (ix4 0 b g e) + sliceA a k (ix6 0 b g e p n) := by
  pointwise [nextState]

theorem spread6_apply (s : FVec Ideal S8x2x8x64x128 .f32) (b : Fin 8) (g : Fin 2) (e : Fin 8) (p : Fin 64) (n : Fin 128) :
    (broadcastInDim S1x8x2x8x64x128 ![1, 2, 3, 4, 5] bcast_S8x2x8x64x128_S1x8x2x8x64x128_1_2_3_4_5 s) (ix6 0 b g e p n) = s (ix5 b g e p n) := by
  pointwise

variable (m : (ℓ : Loc nD τ sig) → Buf (Elt Ideal) ℓ) (c : Dev nD)

/-- The state before a chunk. -/
def stateAt (b : Fin 8) (g : Fin 2) (e : Fin 8) (p : Fin 64) (n : Fin 128) : ℕ → EReal
  | 0 => val_v90_3 m c (ix5 b g e p n)
  | k + 1 => if h : k < 32 then stateAt b g e p n k * val_v90_1 m c (ix4 ⟨k, h⟩ b g e) + val_v90_0 m c (ix6 ⟨k, h⟩ b g e p n) else 0

theorem loop_inv : ∀ k : ℕ, k ≤ 32 →
    (STEP^[k] (st18 m c)) (Proc.devRef .tc main_v90_0) = val_v90_0 m c
    ∧ (STEP^[k] (st18 m c)) (Proc.devRef .tc main_v90_1) = val_v90_1 m c
    ∧ (∀ (b : Fin 8) (g : Fin 2) (e : Fin 8) (p : Fin 64) (n : Fin 128),
        ((STEP^[k] (st18 m c)) (Proc.devRef .tc main_v90_3) : FVec Ideal S8x2x8x64x128 .f32) (ix5 b g e p n) = stateAt m c b g e p n k)
    ∧ (∀ (j : Fin 32) (b : Fin 8) (g : Fin 2) (e : Fin 8) (p : Fin 64) (n : Fin 128), j.val < k →
        ((STEP^[k] (st18 m c)) (Proc.devRef .tc main_v90_4) : FVec Ideal S32x8x2x8x64x128 .f32) (ix6 j b g e p n) = stateAt m c b g e p n j.val)
  | 0, _ => ⟨at18_v90_0 m c, at18_v90_1 m c, fun b g e p n => congrFun (at18_v90_3 m c) _, fun j _ _ _ _ _ h => absurd h (Nat.not_lt_zero _)⟩
  | k + 1, hk => by
    obtain ⟨i0, i1, i3, i4⟩ := loop_inv k (by omega)
    have hc : (STEP^[k] (st18 m c)) (Proc.devRef .tc main_v90_2) = fun _ => Scf.iv 0#32 1#32 k :=
      (atK_agree m c k main_v90_2 (by decide)).symm.trans (atK_ctr m c k)
    rw [Function.iterate_succ_apply']
    refine ⟨(STEP_main_v90_0 _).trans i0, (STEP_main_v90_1 _).trans i1, fun b g e p n => ?_, fun j b g e p n hj => ?_⟩
    · have h := congrFun (STEP_main_v90_3 (STEP^[k] (st18 m c))) (ix5 b g e p n)
      refine h.trans ?_
      have h2 : step_main_v90_3 (STEP^[k] (st18 m c)) = nextState ((STEP^[k] (st18 m c)) (Proc.devRef .tc main_v90_3)) (val_v90_1 m c) (val_v90_0 m c) (fun _ => Scf.iv 0#32 1#32 k) := by
        have e : step_main_v90_3 (STEP^[k] (st18 m c)) = nextState ((STEP^[k] (st18 m c)) (Proc.devRef .tc main_v90_3)) ((STEP^[k] (st18 m c)) (Proc.devRef .tc main_v90_1))
            ((STEP^[k] (st18 m c)) (Proc.devRef .tc main_v90_0)) ((STEP^[k] (st18 m c)) (Proc.devRef .tc main_v90_2)) := rfl
        rw [e, i0, i1]
        exact congrArg (nextState _ _ _) hc
      rw [h2]
      refine (nextState_apply _ _ _ _ b g e p n).trans ?_
      rw [i3, stateAt, dif_pos (show k < 32 by omega)]
      exact congrArg₂ (· + ·) (congrArg _ (sliceD_apply _ ⟨k, by omega⟩ b g e)) (sliceA_apply _ ⟨k, by omega⟩ b g e p n)
    · have h := congrFun (STEP_main_v90_4 (STEP^[k] (st18 m c))) (ix6 j b g e p n)
      refine h.trans ?_
      have h2 : step_main_v90_4 (STEP^[k] (st18 m c)) = nextKept ((STEP^[k] (st18 m c)) (Proc.devRef .tc main_v90_4)) ((STEP^[k] (st18 m c)) (Proc.devRef .tc main_v90_3)) (fun _ => Scf.iv 0#32 1#32 k) := by
        have e : step_main_v90_4 (STEP^[k] (st18 m c)) = nextKept ((STEP^[k] (st18 m c)) (Proc.devRef .tc main_v90_4)) ((STEP^[k] (st18 m c)) (Proc.devRef .tc main_v90_3))
            ((STEP^[k] (st18 m c)) (Proc.devRef .tc main_v90_2)) := rfl
        rw [e]
        exact congrArg (nextKept _ _) hc
      rw [h2]
      refine (putA_apply _ _ ⟨k, by omega⟩ j b g e p n).trans ?_
      by_cases hjk : j = ⟨k, by omega⟩
      · rw [if_pos hjk, show j.val = k from congrArg Fin.val hjk]
        exact (spread6_apply _ b g e p n).trans (i3 b g e p n)
      · rw [if_neg hjk]
        exact i4 j b g e p n (by have : j.val ≠ k := fun h' => hjk (Fin.ext h'); omega)

end Cert.SsdRefIdeal.Hand
-- ==== Proof.SsdRefEnd.lean ====
/-
  The reference's result, of the arrays before its loop and of the states the loop keeps.
-/
module

public import proofs.«01_k».proof.Proof.SsdRefLoop

@[expose] public section

set_option maxRecDepth 65536

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Idealize.SL.Sem Idealize.ShloMosaic.StableHlo

/-- The gate alone. -/
def siluR (x0 : FVec Ideal S8x4096x1024 .f32) : FVec Ideal S8x4096x1024 .f32 :=
  (mulf x0 (Host.divf ((broadcastInDim S8x4096x1024 ![] bcast_S_S8x4096x1024) (constant (F := Ideal) S_ .f32 0x3F800000#32)) (addf ((broadcastInDim S8x4096x1024 ![] bcast_S_S8x4096x1024) (constant (F := Ideal) S_ .f32 0x3F800000#32)) (Host.exp (Host.negf x0)))))

theorem res_v106 (V : Valuation τ sig (Elt Ideal)) : after hostOps0_18 V (Proc.devRef .tc main_v106)
    = joinR (V (Proc.devRef .tc main_v73)) (offR (V (Proc.devRef .tc main_v90_4)) (V (Proc.devRef .tc main_v56)) (V (Proc.devRef .tc main_v57))) (V (Proc.devRef .tc main_v37)) (V (Proc.devRef .tc main_arg7)) := by
  after_results_simp <;> rfl

theorem res_v107 (V : Valuation τ sig (Elt Ideal)) : after hostOps0_19 V (Proc.devRef .tc main_v107) = siluR (V (Proc.devRef .tc main_arg0)) := by
  after_results_simp <;> rfl

theorem res_v122 (V : Valuation τ sig (Elt Ideal)) : after hostOps0_20 V (Proc.devRef .tc main_v122)
    = normR (mulf (F := Ideal) (s := S8x4096x1024) (φ := .f32) (V (Proc.devRef .tc main_v106)) (V (Proc.devRef .tc main_v107))) (V (Proc.devRef .tc main_arg8)) := by
  after_results_simp <;> rfl

/-- The references stretch 18 writes. -/
abbrev post18_W : List (Ref sig .tc) := [main_v91, main_v92, main_v93, main_v94, main_v95, main_v96, main_v97, main_v98, main_v99, main_v100, main_v101, main_v102, main_v103, main_v104, main_v105, main_v106]

theorem post18_writes : (hostOps0_18 : List (HloOp τ sig (Elt Ideal))).Forall fun op => op.writes ⊆ (post18_W.map (Proc.devRef (τ := τ) .tc)).toFinset :=
  StableHlo.forall_writes_sub_of_map rfl

/-- The references stretch 19 writes. -/
abbrev post19_W : List (Ref sig .tc) := [main_call12_v0, main_call12_v1, main_call12_cst, main_call12_v2, main_call12_v3, main_call12_cst_0, main_call12_v4, main_call12_v5, main_v107]

theorem post19_writes : (hostOps0_19 : List (HloOp τ sig (Elt Ideal))).Forall fun op => op.writes ⊆ (post19_W.map (Proc.devRef (τ := τ) .tc)).toFinset :=
  StableHlo.forall_writes_sub_of_map rfl

variable (m : (ℓ : Loc nD τ sig) → Buf (Elt Ideal) ℓ) (c : Dev nD)

/-- The contents after the loop. -/
def atEnd : Valuation τ sig (Elt Ideal) := after condOps (atK m 32 c)

theorem loop_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    ∀ k, atK m k c (Proc.devRef .tc r) = st18 m c (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0,
      after_of_writes_sub condOps _ condOps_writes hc]
    exact loop_keep r hc h0 h1 h2 h3 h4 k

theorem end_keep (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    atEnd m c (Proc.devRef .tc r) = st18 m c (Proc.devRef .tc r) :=
  (after_of_writes_sub condOps _ condOps_writes hc).trans (loop_keep m c r hc h0 h1 h2 h3 h4 32)

theorem end_v56 : atEnd m c (Proc.devRef .tc main_v56) = val_v56 m c :=
  (end_keep m c main_v56 (by decide +kernel) (by decide +kernel) (by decide +kernel) (by decide +kernel) (by decide +kernel) (by decide +kernel)).trans (at18_v56 m c)

theorem end_v57 : atEnd m c (Proc.devRef .tc main_v57) = val_v57 m c :=
  (end_keep m c main_v57 (by decide +kernel) (by decide +kernel) (by decide +kernel) (by decide +kernel) (by decide +kernel) (by decide +kernel)).trans (at18_v57 m c)

theorem end_v73 : atEnd m c (Proc.devRef .tc main_v73) = val_v73 m c :=
  (end_keep m c main_v73 (by decide +kernel) (by decide +kernel) (by decide +kernel) (by decide +kernel) (by decide +kernel) (by decide +kernel)).trans (at18_v73 m c)

theorem end_v37 : atEnd m c (Proc.devRef .tc main_v37) = val_v37 m c :=
  (end_keep m c main_v37 (by decide +kernel) (by decide +kernel) (by decide +kernel) (by decide +kernel) (by decide +kernel) (by decide +kernel)).trans (at18_v37 m c)

theorem end_arg7 : atEnd m c (Proc.devRef .tc main_arg7) = a7 m c :=
  (end_keep m c main_arg7 (by decide +kernel) (by decide +kernel) (by decide +kernel) (by decide +kernel) (by decide +kernel) (by decide +kernel)).trans (at18_arg7 m c)

theorem end_arg0 : atEnd m c (Proc.devRef .tc main_arg0) = a0 m c :=
  (end_keep m c main_arg0 (by decide +kernel) (by decide +kernel) (by decide +kernel) (by decide +kernel) (by decide +kernel) (by decide +kernel)).trans (at18_arg0 m c)

theorem end_arg8 : atEnd m c (Proc.devRef .tc main_arg8) = a8 m c :=
  (end_keep m c main_arg8 (by decide +kernel) (by decide +kernel) (by decide +kernel) (by decide +kernel) (by decide +kernel) (by decide +kernel)).trans (at18_arg8 m c)

/-- The states the loop keeps. -/
def kept : FVec Ideal S32x8x2x8x64x128 .f32 := atEnd m c (Proc.devRef .tc main_v90_4)

theorem kept_apply (j : Fin 32) (b : Fin 8) (g : Fin 2) (e : Fin 8) (p : Fin 64) (n : Fin 128) :
    kept m c (ix6 j b g e p n) = stateAt m c b g e p n j.val := by
  have h1 : atEnd m c (Proc.devRef .tc main_v90_4) = (STEP^[32] (st18 m c)) (Proc.devRef .tc main_v90_4) :=
    (after_of_writes_sub condOps _ condOps_writes (by decide +kernel)).trans (atK_agree m c 32 main_v90_4 (by decide))
  exact (congrFun h1 _).trans ((loop_inv m c 32 le_rfl).2.2.2 j b g e p n j.isLt)

theorem final_value : finalContents condOps preI bodyI postI 32 m c (Proc.devRef .tc main_v122)
    = normR (gateR (joinR (val_v73 m c) (offR (kept m c) (val_v56 m c) (val_v57 m c)) (val_v37 m c) (a7 m c)) (a0 m c)) (a8 m c) := by
  have hA : finalContents condOps preI bodyI postI 32 m c = after hostOps0_20 (after hostOps0_19 (after hostOps0_18 (atEnd m c))) := rfl
  rw [hA, res_v122, res_v107,
    after_of_writes_sub hostOps0_19 _ post19_writes (r := main_v106) (by decide +kernel), res_v106,
    after_of_writes_sub hostOps0_19 _ post19_writes (r := main_arg8) (by decide +kernel),
    after_of_writes_sub hostOps0_18 _ post18_writes (r := main_arg8) (by decide +kernel),
    after_of_writes_sub hostOps0_18 _ post18_writes (r := main_arg0) (by decide +kernel),
    end_v56, end_v57, end_v73, end_v37, end_arg7, end_arg0, end_arg8]
  rfl

end Cert.SsdRefIdeal.Hand
-- ==== Proof.SsdRefValue.lean ====
/-
  The recurrence's reference at an index: the chunked recurrence of each sequence.
-/
module

public import proofs.«01_k».proof.Proof.SsdRefEnd
public import proofs.«01_k».proof.Proof.SsdSpec

@[expose] public section

set_option maxRecDepth 65536

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Cert.Rows Cert.Ssd Idealize.SL.Sem Idealize.ShloMosaic.StableHlo

variable (m : (ℓ : Loc nD τ sig) → Buf (Elt Ideal) ℓ) (c : Dev nD)

theorem zero_bits : Ideal.ofBits .f32 0x00000000#32 = 0 := by
  simp [Ideal.ofBits, Ideal.ieee]

/-- A sequence's convolved and activated rows. -/
def XCr (b : Fin 8) (p : ℕ) (q : Fin 1536) : EReal :=
  siluL (convAt (fun t n => a1 m c (ix3 b t n)) (fun i n => a3 m c (ix2 i n)) (fun n => a4 m c (ix1 n)) (tok p) q)

/-- A sequence's steps. -/
def DTr (b : Fin 8) (p : ℕ) (h : Fin 16) : EReal := soft (a2 m c (ix3 b (tok p) h) + a5 m c (ix1 h))

/-- The heads' rates. -/
def Ar (h : Fin 16) : EReal := -Ideal.exp (a6 m c (ix1 h))

theorem v33_at (b : Fin 8) (s : Fin 4096) (q : Fin 1536) : val_v33 m c (ix3 b s q) = XCr m c b s.val q := by
  have e0 : val_v0 m c = padded (a1 m c) := rfl
  have hs : tok s.val = s := Fin.ext (Nat.mod_eq_of_lt s.isLt)
  unfold XCr
  rw [hs, val_v33, gated_apply, val_v32, mixed_apply, e0, padded_apply, padded_apply, padded_apply, padded_apply]
  refine congrArg siluL ?_
  unfold convAt back
  have step : ∀ (d : ℕ) (k : ℕ) (hk : k + d = 3) (hlt : k + s.val < 4099),
      (if h : 3 ≤ (⟨k + s.val, hlt⟩ : Fin 4099).val then a1 m c (ix3 b ⟨(⟨k + s.val, hlt⟩ : Fin 4099).val - 3, by dsimp only; omega⟩ q) else 0)
        = (if d ≤ s.val then a1 m c (ix3 b ⟨s.val - d, by omega⟩ q) else 0 : EReal) := by
    intro d k hk hlt
    by_cases h : d ≤ s.val
    · rw [if_pos h, dif_pos (show 3 ≤ k + s.val by omega)]
      exact congrArg (fun z => a1 m c (ix3 b z q)) (Fin.ext (by dsimp only; omega))
    · rw [if_neg h, dif_neg (show ¬ 3 ≤ k + s.val by omega)]
  have h0 := step 3 0 rfl (by omega)
  have h1 := step 2 1 rfl (by omega)
  have h2 := step 1 2 rfl (by omega)
  have h3 := step 0 3 rfl (by omega)
  simp only [Nat.zero_add] at h0
  rw [h0, h1, h2, h3, if_pos (Nat.zero_le _)]
  rfl

theorem v43_at (b : Fin 8) (s : Fin 4096) (h : Fin 16) : val_v43 m c (ix3 b s h) = DTr m c b s.val h := by
  have e0 : val_v43 m c = stepR (a2 m c) (a5 m c) := rfl
  have hs : tok s.val = s := Fin.ext (Nat.mod_eq_of_lt s.isLt)
  unfold DTr
  rw [hs, e0, stepR_apply]
  rfl

/-- The token `l` of chunk `k`. -/
abbrev tk (k : Fin 32) (l : Fin 128) : Fin 4096 := ⟨128 * k.val + l.val, by omega⟩

/-- The head `e` of group `g`. -/
abbrev hh (g : Fin 2) (e : Fin 8) : Fin 16 := ⟨8 * g.val + e.val, by omega⟩

/-- The channel `p` of it. -/
abbrev qq (g : Fin 2) (e : Fin 8) (p : Fin 64) : Fin 1024 := ⟨64 * (8 * g.val + e.val) + p.val, by omega⟩

theorem hd_qq (g : Fin 2) (e : Fin 8) (p : Fin 64) : hd (qq g e p) = hh g e := Fin.ext (by dsimp only; omega)

theorem v37_at (b : Fin 8) (s : Fin 4096) (g : Fin 2) (e : Fin 8) (p : Fin 64) :
    val_v37 m c (ix4 b s (hh g e) p) = XCr m c b s.val ⟨(qq g e p).val, by omega⟩ := by
  rw [val_v37, headsR_apply _ b s (hh g e) p ⟨(qq g e p).val, by omega⟩ rfl, v33_at]

theorem v52_at (b : Fin 8) (k : Fin 32) (l : Fin 128) (g : Fin 2) (e : Fin 8) (p : Fin 64) :
    val_v52 m c (ix6 b k l g e p) = xin (XCr m c b) (DTr m c b) (128 * k.val + l.val) (qq g e p) := by
  rw [val_v52, inR_apply _ _ b k l g e p (tk k l) rfl (hh g e) rfl, v37_at, v43_at, xin, hd_qq]

theorem v54_at (b : Fin 8) (g : Fin 2) (e : Fin 8) (k : Fin 32) (l : Fin 128) :
    val_v54 m c (ix5 b g e k l) = DTr m c b (128 * k.val + l.val) (hh g e) * Ar m c (hh g e) := by
  rw [val_v54, logR_apply _ _ b k l g e (tk k l) rfl (hh g e) rfl, v43_at]
  rfl

theorem v57_at (b : Fin 8) (g : Fin 2) (e : Fin 8) (k : Fin 32) (l : Fin 128) :
    val_v57 m c (ix5 b g e k l) = la (DTr m c b) (Ar m c) k.val l (hh g e) := by
  rw [val_v57, accR_apply]
  unfold la
  refine Finset.sum_congr rfl fun i _ => ?_
  rw [v54_at]

theorem v55_at (b : Fin 8) (k : Fin 32) (l : Fin 128) (g : Fin 2) (e : Fin 8) (p : Fin 64) (n : Fin 128) :
    val_v55 m c (ix5 b k l g n) = bdir (XCr m c b) (128 * k.val + l.val) (qq g e p) n := by
  have e0 : val_v55 m c = bR (val_v33 m c) := rfl
  rw [e0, bR_apply _ b k l g n (tk k l) rfl ⟨1024 + 128 * g.val + n.val, by omega⟩ rfl, v33_at]
  unfold bdir
  exact congrArg _ (Fin.ext (by dsimp only; omega))

theorem v56_at (b : Fin 8) (k : Fin 32) (l : Fin 128) (g : Fin 2) (e : Fin 8) (p : Fin 64) (n : Fin 128) :
    val_v56 m c (ix5 b k l g n) = cdir (XCr m c b) (128 * k.val + l.val) (qq g e p) n := by
  have e0 : val_v56 m c = cR (val_v33 m c) := rfl
  rw [e0, cR_apply _ b k l g n (tk k l) rfl ⟨1280 + 128 * g.val + n.val, by omega⟩ rfl, v33_at]
  unfold cdir
  exact congrArg _ (Fin.ext (by dsimp only; omega))

/-- The states the loop keeps are the recurrence's. -/
theorem state_at (b : Fin 8) (g : Fin 2) (e : Fin 8) (p : Fin 64) (n : Fin 128) :
    ∀ k : ℕ, k ≤ 32 → stateAt m c b g e p n k = St (XCr m c b) (DTr m c b) (Ar m c) k n (qq g e p)
  | 0, _ => by
    rw [stateAt, St]
    show Ideal.ofBits .f32 0x00000000#32 = 0
    exact zero_bits
  | k + 1, hk => by
    have e0 : val_v90_1 m c = decayR (val_v57 m c) := rfl
    have e1 : val_v90_0 m c = stateR (endR (val_v57 m c)) (val_v52 m c) (val_v55 m c) := rfl
    rw [stateAt, dif_pos (show k < 32 by omega), state_at b g e p n k (by omega), St, e0, e1, decayR_apply, stateR_apply, v57_at, hd_qq]
    refine congrArg _ (Finset.sum_congr rfl fun l _ => ?_)
    rw [endR_apply, v57_at, v57_at, v52_at, v55_at m c b _ l g e p n]
    exact mul_comm _ _

/-- The masked sums between two tokens. -/
theorem v66_at (b : Fin 8) (hDT : ∀ p h, IsReal (DTr m c b p h)) (hA : ∀ h, IsReal (Ar m c h)) (g : Fin 2) (e : Fin 8) (k : Fin 32) (l s : Fin 128) :
    val_v66 m c (ix6 b g e k l s) = if s.val ≤ l.val
      then la (DTr m c b) (Ar m c) k.val l (hh g e) - la (DTr m c b) (Ar m c) k.val s (hh g e) else ⊥ := by
  have e0 : val_v66 m c = segmentR (segR (val_v54 m c)) := rfl
  rw [e0, segmentR_apply]
  split
  · next h =>
    rw [segR_apply]
    simp only [v54_at]
    exact seg_eq (fun i => DTr m c b (128 * k.val + i.val) (hh g e) * Ar m c (hh g e)) (fun i => (hDT _ _).mul (hA _)) l s h
  · rfl

theorem v106_at (b : Fin 8) (hDT : ∀ p h, IsReal (DTr m c b p h)) (hA : ∀ h, IsReal (Ar m c h)) (g : Fin 2) (e : Fin 8) (p : Fin 64) (k : Fin 32) (l : Fin 128) :
    joinR (val_v73 m c) (offR (kept m c) (val_v56 m c) (val_v57 m c)) (val_v37 m c) (a7 m c) (ix3 b (tk k l) (qq g e p))
      = Yo (XCr m c b) (DTr m c b) (Ar m c) k.val l (qq g e p)
        + XCr m c b (128 * k.val + l.val) ⟨(qq g e p).val, by omega⟩ * a7 m c (ix1 (hd (qq g e p))) := by
  rw [joinR_apply _ _ _ _ b k l g e p (tk k l) rfl (hh g e) rfl (qq g e p) rfl, v37_at, hd_qq]
  have e0 : val_v73 m c = diagR (val_v66 m c) (pairR (val_v56 m c) (val_v55 m c)) (val_v52 m c) := rfl
  have h1 : val_v73 m c (ix6 b k l g e p)
      = ∑ s : Fin 128, (∑ n : Fin 128, cdir (XCr m c b) (128 * k.val + l.val) (qq g e p) n * bdir (XCr m c b) (128 * k.val + s.val) (qq g e p) n)
        * Ideal.exp (if s.val ≤ l.val then la (DTr m c b) (Ar m c) k.val l (hh g e) - la (DTr m c b) (Ar m c) k.val s (hh g e) else ⊥)
        * xin (XCr m c b) (DTr m c b) (128 * k.val + s.val) (qq g e p) := by
    rw [e0, diagR_apply]
    apply Finset.sum_congr rfl
    intro s _
    rw [pairR_apply, v66_at m c b hDT hA, v52_at]
    rw [Finset.sum_congr rfl fun n _ => congrArg₂ (· * ·) (v56_at m c b k l g e p n) (v55_at m c b k s g e p n)]
    exact mul_comm _ _
  have h2 : offR (kept m c) (val_v56 m c) (val_v57 m c) (ix6 b k l g e p)
      = (∑ n : Fin 128, cdir (XCr m c b) (128 * k.val + l.val) (qq g e p) n * St (XCr m c b) (DTr m c b) (Ar m c) k.val n (qq g e p))
        * Ideal.exp (la (DTr m c b) (Ar m c) k.val l (hh g e)) := by
    rw [offR_apply, v57_at]
    apply congrArg (fun z => z * Ideal.exp (la (DTr m c b) (Ar m c) k.val l (hh g e)))
    apply Finset.sum_congr rfl
    intro n _
    rw [kept_apply, state_at m c b g e p n k.val (by omega), v56_at m c b k l g e p n]
    exact mul_comm _ _
  rw [h1, h2]
  unfold Yo
  rw [hd_qq]

/-- The reference's result at an index. -/
theorem result_at (b : Fin 8) (hDT : ∀ p h, IsReal (DTr m c b p h)) (hA : ∀ h, IsReal (Ar m c h)) (k : Fin 32) (l : Fin 128)
    (r : Fin 32768) (hr : r.val = 4096 * b.val + (128 * k.val + l.val)) (q : Fin 1024) :
    finalContents condOps preI bodyI postI 32 m c (Proc.devRef .tc main_v122) (ix2 r q)
      = Out (XCr m c b) (DTr m c b) (Ar m c) (fun p j => a0 m c (ix3 b (tok p) j)) (fun h => a7 m c (ix1 h)) (fun j => a8 m c (ix1 j)) k.val l q := by
  refine (congrFun (final_value m c) (ix2 r q)).trans ?_
  rw [normR_apply]
  unfold Out
  refine congrArg (fun f => rms f (fun j => a8 m c (ix1 j)) q) (funext fun j => ?_)
  rw [show (⟨r.val / 4096, by omega⟩ : Fin 8) = b from Fin.ext (by dsimp only; omega),
    show (⟨r.val % 4096, by omega⟩ : Fin 4096) = tk k l from Fin.ext (by dsimp only; omega), gateR_apply]
  obtain ⟨g, e, p, hj⟩ : ∃ g e p, j = qq g e p :=
    ⟨⟨j.val / 512, by omega⟩, ⟨j.val / 64 % 8, by omega⟩, ⟨j.val % 64, by omega⟩, Fin.ext (by dsimp only; omega)⟩
  subst hj
  have ht : tok (128 * k.val + l.val) = tk k l := Fin.ext (by dsimp only; omega)
  dsimp only
  rw [ht]
  rw [v106_at m c b hDT hA g e p k l]

end Cert.SsdRefIdeal.Hand
-- ==== Proof.SsdValue.lean ====
/-
  The recurrence's value: the pipelined kernel's result array is the reference's.
-/
module

public import proofs.«01_k».proof.Proof.SsdGrid
public import proofs.«01_k».proof.Proof.SsdFin
public import proofs.«01_k».proof.Proof.SsdRefValue

@[expose] public section

set_option maxRecDepth 16384

noncomputable section

namespace Cert.SsdRefIdeal.Hand

open Cert.SsdRefIdeal Cert.SsdRefIdeal.Gen Cert.SsdRefIdeal.Value Idealize.ShloMosaic Idealize.ShloMosaic.TcCoe Idealize.ShloMosaic.Tactic
open Idealize.SL.Sem Idealize.ShloMosaic.StableHlo Cert

/-- The references stretch 20 writes. -/
abbrev post20_W : List (Ref sig .tc) := [main_v108, main_v109, main_cst_7, main_v110, main_v111, main_cst_8, main_v112, main_v113, main_cst_9, main_v114, main_v115, main_v116, main_v117, main_v118, main_v119, main_v120, main_v121, main_v122]

theorem post20_writes : (hostOps0_20 : List (HloOp τ sig (Elt Ideal))).Forall fun op => op.writes ⊆ (post20_W.map (Proc.devRef (τ := τ) .tc)).toFinset :=
  StableHlo.forall_writes_sub_of_map rfl

variable (m : (ℓ : Loc nD τ sig) → Buf (Elt Ideal) ℓ) (ρ : Dev nD → PrngReg)

/-- A reference no stretch writes: neither one before the loop, nor the loop, nor one after. -/
def Untouched (r : Ref sig .tc) : Prop :=
  (r ∉ post20_W ∧ r ∉ post19_W ∧ r ∉ post18_W) ∧ (r ∉ condOps_W ∧ r ∉ while0Ops0_W ∧ r ∉ while0Ops0_1_W ∧ r ∉ while0Ops0_2_W ∧ r ∉ while0Ops0_3_W ∧ r ∉ while0Ops0_4_W)
    ∧ r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps0_13_W ∧ r ∉ hostOps0_14_W ∧ r ∉ hostOps0_15_W ∧ r ∉ hostOps0_16_W ∧ r ∉ hostOps0_17_W

set_option synthInstance.maxHeartbeats 400000 in
set_option synthInstance.maxSize 2048 in
instance (r : Ref sig .tc) : Decidable (Untouched r) := by unfold Untouched; infer_instance

/-- Such a reference ends as it began. -/
theorem arg_keep (c : Dev nD) (r : Ref sig .tc) (h : Untouched r) : finalContents condOps preI bodyI postI 32 m c (Proc.devRef .tc r) = st0 m c (Proc.devRef .tc r) := by
  obtain ⟨⟨p20, p19, p18⟩, ⟨hc, w0, w1, w2, w3, w4⟩, k0, k1, k2, k3, k4, k5, k6, k7, k8, k9, k10, k11, k12, k13, k14, k15, k16, k17⟩ := h
  have hA : finalContents condOps preI bodyI postI 32 m c = after hostOps0_20 (after hostOps0_19 (after hostOps0_18 (atEnd m c))) := rfl
  rw [hA, after_of_writes_sub hostOps0_20 _ post20_writes p20, after_of_writes_sub hostOps0_19 _ post19_writes p19, after_of_writes_sub hostOps0_18 _ post18_writes p18,
    end_keep m c r hc w0 w1 w2 w3 w4, keep17 m c r k17, keep16 m c r k16, keep15 m c r k15, keep14 m c r k14, keep13 m c r k13, keep12 m c r k12, keep11 m c r k11, keep10 m c r k10, keep9 m c r k9, keep8 m c r k8, keep7 m c r k7, keep6 m c r k6, keep5 m c r k5, keep4 m c r k4, keep3 m c r k3, keep2 m c r k2, keep1 m c r k1, keep0 m c r k0]

/-- The reference's run: its result, its arguments unchanged. -/
theorem run : θ_run (defs (F := Ideal)) (onTc (τ := τ) (main (F := Ideal))) ⟨m, fun _ => 0, ρ⟩ fun r => ∀ c : Dev nD,
      r.2.mem ((c.tc : Thread nD τ).loc main_v122) = finalContents condOps preI bodyI postI 32 m c (Proc.devRef .tc main_v122)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨h c main_v122 rfl,
    (h c main_arg0 rfl).trans (arg_keep m c main_arg0 (by decide +kernel)),
    (h c main_arg1 rfl).trans (arg_keep m c main_arg1 (by decide +kernel)),
    (h c main_arg2 rfl).trans (arg_keep m c main_arg2 (by decide +kernel)),
    (h c main_arg3 rfl).trans (arg_keep m c main_arg3 (by decide +kernel)),
    (h c main_arg4 rfl).trans (arg_keep m c main_arg4 (by decide +kernel)),
    (h c main_arg5 rfl).trans (arg_keep m c main_arg5 (by decide +kernel)),
    (h c main_arg6 rfl).trans (arg_keep m c main_arg6 (by decide +kernel)),
    (h c main_arg7 rfl).trans (arg_keep m c main_arg7 (by decide +kernel)),
    (h c main_arg8 rfl).trans (arg_keep m c main_arg8 (by decide +kernel))⟩) (run_fold m ρ)

end Cert.SsdRefIdeal.Hand

namespace Cert.SsdIdeal.Hand

open Cert.SsdIdeal Cert.SsdIdeal.Gen Idealize.ShloMosaic Idealize.ShloMosaic.TcCoe Idealize.SL.Sem Cert Cert.Rows Cert.Ssd

variable (m : (ℓ : Loc nD τ sig) → Buf (Elt Ideal) ℓ)

/-- The result array, row by row. -/
def G (c : Dev nD) : Buf (Elt Ideal) ((c : Thread nD τ).loc main_v30) := fun i =>
  (Outk m c ⟨(i 0).val / 4096, by have h := (i 0).isLt; change _ < 32768 at h; omega⟩ ((i 0).val % 4096 / 128)
    ⟨(i 0).val % 128, Nat.mod_lt _ (by decide)⟩ (i 1) : EReal)

theorem outk_at {c : Dev nD} (b b' : Fin 8) (k k' : ℕ) (l l' q q') (hb : b = b') (hk : k = k') (hl : l = l') (hq : q = q') :
    Outk m c b k l q = Outk m c b' k' l' q' := by
  rw [hb, hk, hl, hq]

/-- The launch leaves it in the result array. -/
theorem final (c : Dev nD) (H : Fin' m c) : (dats m 0 c).arrAt 13 cfg0.N = G m c := by
  refine (dats m 0 c).arrAt_eq_of_covers 13 _ (by decide +kernel) fun t hf y => ?_
  have ht : t.val < 32 := lt_of_lt_of_eq t.isLt (by decide +kernel)
  blk_simp
  rw [after0_13]
  idx_vars y
  have h0 : ((((View.whole main_v30).slice (win0_13.rect t)).emb (ix2 y0 y1)) 0).val = t.val * 1024 + y0.val := by
    blk_simp [(idx t).2.2.2.2.2.2.2.2.2.2.2.2.2]
  have h1 : (((View.whole main_v30).slice (win0_13.rect t)).emb (ix2 y0 y1)) 1 = y1 := by
    apply Fin.ext
    blk_simp [(idx t).2.2.2.2.2.2.2.2.2.2.2.2.2]
  refine (stores H t y0 y1).trans ?_
  unfold G
  refine outk_at m _ _ _ _ _ _ _ _ ?_ ?_ ?_ h1.symm
  · exact Fin.ext (by dsimp only; omega)
  · omega
  · exact Fin.ext (by dsimp only; omega)

/-- The kernel computes the reference's function. -/
theorem algebraic : algebraic_SsdIdeal_SsdRefIdeal_pre_finite_ssd := by
  intro m g m' g' hpre hagree
  refine ⟨fun c => G m c, ?_, ?_⟩
  · exact (θ_run defs _ _).mono (fun r h c => ⟨(h c).1.trans (final m c (fin_of_pre m hpre c)), (h c).2⟩) (Value.run_blocks m g)
  · refine (θ_run Cert.SsdRefIdeal.defs _ _).mono (fun r h c => ⟨(h c).1.trans ?_, (h c).2⟩) (Cert.SsdRefIdeal.Hand.run m' g')
    obtain ⟨h0, h1, h2, h3, h4, h5, h6, h7, h8⟩ := hagree c
    have H := fin_of_pre m hpre c
    have eX : Cert.SsdRefIdeal.Hand.XCr m' c = XCk m c := by
      unfold Cert.SsdRefIdeal.Hand.XCr XCk xb Cert.SsdRefIdeal.Hand.a1 Cert.SsdRefIdeal.Hand.a3 Cert.SsdRefIdeal.Hand.a4
      rw [h1, h3, h4]
    have eD : Cert.SsdRefIdeal.Hand.DTr m' c = DTk m c := by
      unfold Cert.SsdRefIdeal.Hand.DTr DTk Cert.SsdRefIdeal.Hand.a2 Cert.SsdRefIdeal.Hand.a5
      rw [h2, h5]
    have eA : Cert.SsdRefIdeal.Hand.Ar m' c = Ak m c := by
      unfold Cert.SsdRefIdeal.Hand.Ar Ak Cert.SsdRefIdeal.Hand.a6
      rw [h6]
    funext i
    idx_vars i
    refine (Cert.SsdRefIdeal.Hand.result_at m' c ⟨i0.val / 4096, by omega⟩ (by rw [eD]; exact DTk_real H _) (by rw [eA]; exact Ak_real H)
      ⟨i0.val % 4096 / 128, by omega⟩ ⟨i0.val % 128, by omega⟩ i0 (by dsimp only; omega) i1).trans ?_
    rw [eX, eD, eA]
    unfold Cert.SsdRefIdeal.Hand.a0 Cert.SsdRefIdeal.Hand.a7 Cert.SsdRefIdeal.Hand.a8
    rw [h0, h7, h8]
    rfl

end Cert.SsdIdeal.Hand

end
-- ==== Proof.lean ====
module

public import proofs.«01_k».proof.Defs
public import proofs.«01_k».proof.Proof.Gen.FfnOne
public import proofs.«01_k».proof.Proof.Gen.FfnOne.Skeleton
public import proofs.«01_k».proof.Proof.Gen.FfnOne.Launch
public import proofs.«01_k».proof.Proof.Gen.FfnOne.Points
public import proofs.«01_k».proof.Proof.Gen.FfnOne.Frame
public import proofs.«01_k».proof.Proof.Gen.FfnOneIdeal
public import proofs.«01_k».proof.Proof.Gen.FfnOneIdeal.Skeleton
public import proofs.«01_k».proof.Proof.Gen.FfnOneIdeal.Launch
public import proofs.«01_k».proof.Proof.Gen.FfnOneIdeal.Points
public import proofs.«01_k».proof.Proof.Gen.FfnOneIdeal.Frame
public import proofs.«01_k».proof.Proof.Gen.FfnOneRefIdeal
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.Pre_finite_gate1
public import proofs.«01_k».proof.Proof.Gen.Pre_finite_gate2
public import proofs.«01_k».proof.Proof.Gen.Pre_finite_pool
public import proofs.«01_k».proof.Proof.Gen.Pre_finite_ssd
public import proofs.«01_k».proof.Proof.Gen.FfnOneIdeal.Value
public import proofs.«01_k».proof.Proof.Gen.FfnOneRefIdeal.Run
public import proofs.«01_k».proof.Proof.Gen.FfnTwoIdeal.Value
public import proofs.«01_k».proof.Proof.Gen.FfnTwoRefIdeal.Run
public import proofs.«01_k».proof.Proof.Gen.InprojIdeal.Value
public import proofs.«01_k».proof.Proof.Gen.InprojRefIdeal.Run
public import proofs.«01_k».proof.Proof.Gen.MergeIdeal.Value
public import proofs.«01_k».proof.Proof.Gen.MergeRefIdeal.Run
public import proofs.«01_k».proof.Proof.Gen.SsdIdeal.Value
public import proofs.«01_k».proof.Proof.Gen.SsdRefIdeal.Run
public import proofs.«01_k».proof.Proof.FfnOneValue
public import proofs.«01_k».proof.Proof.FfnTwoValue
public import proofs.«01_k».proof.Proof.InprojValue
public import proofs.«01_k».proof.Proof.MergeValue
public import proofs.«01_k».proof.Proof.SsdValue
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.FfnOne.Gen.facts, Cert.FfnOneIdeal.Gen.facts, Cert.FfnOneRefIdeal.Gen.facts, Cert.FfnTwo.Gen.facts, Cert.FfnTwoIdeal.Gen.facts, Cert.FfnTwoRefIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Ssd.Gen.facts, Cert.SsdIdeal.Gen.facts, Cert.SsdRefIdeal.Gen.facts, Cert.Pre_finite_gate1.Gen.facts, Cert.Pre_finite_gate2.Gen.facts, Cert.Pre_finite_pool.Gen.facts, Cert.Pre_finite_ssd.Gen.facts,
  fun m ρ _ => Cert.FfnOne.Gen.frame m ρ,
  fun m ρ _ => Cert.FfnOneIdeal.Gen.frame m ρ,
  fun m ρ _ => Cert.FfnOneIdeal.Gen.frame m ρ,
  fun m ρ _ => (θ_run _ _ _).mono (fun r h => ⟨fun c => (h c).2, sem_eq_zero_of_no_sems rfl _⟩)
    (Cert.FfnOneRefIdeal.Value.run m ρ),
  fun m ρ _ => (θ_run _ _ _).mono (fun r h => ⟨fun c => (h c).2, sem_eq_zero_of_no_sems rfl _⟩)
    (Cert.FfnOneRefIdeal.Value.run m ρ),
  fun m ρ _ => Cert.FfnTwo.Gen.frame m ρ,
  fun m ρ _ => Cert.FfnTwoIdeal.Gen.frame m ρ,
  fun m ρ _ => Cert.FfnTwoIdeal.Gen.frame m ρ,
  fun m ρ _ => (θ_run _ _ _).mono (fun r h => ⟨fun c => (h c).2, sem_eq_zero_of_no_sems rfl _⟩)
    (Cert.FfnTwoRefIdeal.Value.run m ρ),
  fun m ρ _ => (θ_run _ _ _).mono (fun r h => ⟨fun c => (h c).2, sem_eq_zero_of_no_sems rfl _⟩)
    (Cert.FfnTwoRefIdeal.Value.run m ρ),
  fun m ρ _ => Cert.Inproj.Gen.frame m ρ,
  fun m ρ _ => Cert.InprojIdeal.Gen.frame m ρ,
  fun m ρ _ => (θ_run _ _ _).mono (fun r h => ⟨fun c => (h c).2.2.2.2.2, sem_eq_zero_of_no_sems rfl _⟩)
    (Cert.InprojRefIdeal.Value.run m ρ),
  fun m ρ _ => Cert.Merge.Gen.frame m ρ,
  fun m ρ _ => Cert.MergeIdeal.Gen.frame m ρ,
  fun m ρ _ => Cert.MergeIdeal.Gen.frame m ρ,
  fun m ρ _ => (θ_run _ _ _).mono (fun r h => ⟨fun c => (h c).2, sem_eq_zero_of_no_sems rfl _⟩)
    (Cert.MergeRefIdeal.Value.run m ρ),
  fun m ρ _ => (θ_run _ _ _).mono (fun r h => ⟨fun c => (h c).2, sem_eq_zero_of_no_sems rfl _⟩)
    (Cert.MergeRefIdeal.Value.run m ρ),
  fun m ρ _ => Cert.Ssd.Gen.frame m ρ,
  fun m ρ _ => Cert.SsdIdeal.Gen.frame m ρ,
  fun m ρ _ => Cert.SsdIdeal.Gen.frame m ρ,
  fun m ρ _ => (θ_run _ _ _).mono (fun r h => ⟨fun c => (h c).2, sem_eq_zero_of_no_sems rfl _⟩)
    (Cert.SsdRefIdeal.Hand.run m ρ),
  fun m ρ _ => (θ_run _ _ _).mono (fun r h => ⟨fun c => (h c).2, sem_eq_zero_of_no_sems rfl _⟩)
    (Cert.SsdRefIdeal.Hand.run m ρ),
  trivial,
  Cert.FfnOneIdeal.Hand.algebraic,
  trivial,
  Cert.FfnTwoIdeal.Hand.algebraic,
  trivial,
  Cert.InprojIdeal.Hand.algebraic,
  trivial,
  Cert.MergeIdeal.Hand.algebraic,
  trivial,
  Cert.SsdIdeal.Hand.algebraic⟩

end Cert.Proof

end
